-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Hy (m : (ℓ : Loc Cert.Hy.nD Cert.Hy.τ Cert.Hy.sig) → Buf (Elt Bits) ℓ) : Prop :=
  True

def Pre_HyIdeal (m : (ℓ : Loc Cert.HyIdeal.nD Cert.HyIdeal.τ Cert.HyIdeal.sig) → Buf (Elt Ideal) ℓ) : Prop :=
  True

def Pre_HyReferenceIdeal (m : (ℓ : Loc Cert.HyReferenceIdeal.nD Cert.HyReferenceIdeal.τ Cert.HyReferenceIdeal.sig) → Buf (Elt Ideal) ℓ) : Prop :=
  True

def Pre_Ml (m : (ℓ : Loc Cert.Ml.nD Cert.Ml.τ Cert.Ml.sig) → Buf (Elt Bits) ℓ) : Prop :=
  True

def Pre_MlIdeal (m : (ℓ : Loc Cert.MlIdeal.nD Cert.MlIdeal.τ Cert.MlIdeal.sig) → Buf (Elt Ideal) ℓ) : Prop :=
  True

def Pre_MlReferenceIdeal (m : (ℓ : Loc Cert.MlReferenceIdeal.nD Cert.MlReferenceIdeal.τ Cert.MlReferenceIdeal.sig) → Buf (Elt Ideal) ℓ) : Prop :=
  True

def Pre_Gt (m : (ℓ : Loc Cert.Gt.nD Cert.Gt.τ Cert.Gt.sig) → Buf (Elt Bits) ℓ) : Prop :=
  True

def Pre_GtIdeal (m : (ℓ : Loc Cert.GtIdeal.nD Cert.GtIdeal.τ Cert.GtIdeal.sig) → Buf (Elt Ideal) ℓ) : Prop :=
  True

def Pre_GtReferenceIdeal (m : (ℓ : Loc Cert.GtReferenceIdeal.nD Cert.GtReferenceIdeal.τ Cert.GtReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_If (m : (ℓ : Loc Cert.If.nD Cert.If.τ Cert.If.sig) → Buf (Elt Bits) ℓ) : Prop :=
  True

def Pre_IfIdeal (m : (ℓ : Loc Cert.IfIdeal.nD Cert.IfIdeal.τ Cert.IfIdeal.sig) → Buf (Elt Ideal) ℓ) : Prop :=
  True

def Pre_IfReferenceIdeal (m : (ℓ : Loc Cert.IfReferenceIdeal.nD Cert.IfReferenceIdeal.τ Cert.IfReferenceIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite_bwd [hPre_finite_bwd : Cert.Pre_finite_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3))).1 = (fun _ => 1#1)
    ∧ (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3))).2 = (fun _ => 1#1)

def Pre_BwdReferenceIdeal (m : (ℓ : Loc Cert.BwdReferenceIdeal.nD Cert.BwdReferenceIdeal.τ Cert.BwdReferenceIdeal.sig) → Buf (Elt Ideal) ℓ) : Prop :=
  True

def Pre_BwdReferenceIdeal_finite_bwd [hPre_finite_bwd : Cert.Pre_finite_bwd.Facts] (m : (ℓ : Loc Cert.BwdReferenceIdeal.nD Cert.BwdReferenceIdeal.τ Cert.BwdReferenceIdeal.sig) → Buf (Elt Ideal) ℓ) : Prop :=
  ∀ c : Dev Cert.BwdReferenceIdeal.nD,
    (Cert.Pre_finite_bwd.fn (F := Ideal) (m ((c.tc : Thread Cert.BwdReferenceIdeal.nD Cert.BwdReferenceIdeal.τ).loc Cert.BwdReferenceIdeal.main_arg0)) (m ((c.tc : Thread Cert.BwdReferenceIdeal.nD Cert.BwdReferenceIdeal.τ).loc Cert.BwdReferenceIdeal.main_arg1)) (m ((c.tc : Thread Cert.BwdReferenceIdeal.nD Cert.BwdReferenceIdeal.τ).loc Cert.BwdReferenceIdeal.main_arg2)) (m ((c.tc : Thread Cert.BwdReferenceIdeal.nD Cert.BwdReferenceIdeal.τ).loc Cert.BwdReferenceIdeal.main_arg3))).1 = (fun _ => 1#1)
    ∧ (Cert.Pre_finite_bwd.fn (F := Ideal) (m ((c.tc : Thread Cert.BwdReferenceIdeal.nD Cert.BwdReferenceIdeal.τ).loc Cert.BwdReferenceIdeal.main_arg0)) (m ((c.tc : Thread Cert.BwdReferenceIdeal.nD Cert.BwdReferenceIdeal.τ).loc Cert.BwdReferenceIdeal.main_arg1)) (m ((c.tc : Thread Cert.BwdReferenceIdeal.nD Cert.BwdReferenceIdeal.τ).loc Cert.BwdReferenceIdeal.main_arg2)) (m ((c.tc : Thread Cert.BwdReferenceIdeal.nD Cert.BwdReferenceIdeal.τ).loc Cert.BwdReferenceIdeal.main_arg3))).2 = (fun _ => 1#1)

def Pre_Filt (m : (ℓ : Loc Cert.Filt.nD Cert.Filt.τ Cert.Filt.sig) → Buf (Elt Bits) ℓ) : Prop :=
  True

def Pre_FiltIdeal (m : (ℓ : Loc Cert.FiltIdeal.nD Cert.FiltIdeal.τ Cert.FiltIdeal.sig) → Buf (Elt Ideal) ℓ) : Prop :=
  True

def Pre_FiltIdeal_finite_filt [hPre_finite_filt : Cert.Pre_finite_filt.Facts] (m : (ℓ : Loc Cert.FiltIdeal.nD Cert.FiltIdeal.τ Cert.FiltIdeal.sig) → Buf (Elt Ideal) ℓ) : Prop :=
  ∀ c : Dev Cert.FiltIdeal.nD,
    (Cert.Pre_finite_filt.fn (F := Ideal) (m ((c.tc : Thread Cert.FiltIdeal.nD Cert.FiltIdeal.τ).loc Cert.FiltIdeal.main_arg0)) (m ((c.tc : Thread Cert.FiltIdeal.nD Cert.FiltIdeal.τ).loc Cert.FiltIdeal.main_arg1)) (m ((c.tc : Thread Cert.FiltIdeal.nD Cert.FiltIdeal.τ).loc Cert.FiltIdeal.main_arg2))).1 = (fun _ => 1#1)
    ∧ (Cert.Pre_finite_filt.fn (F := Ideal) (m ((c.tc : Thread Cert.FiltIdeal.nD Cert.FiltIdeal.τ).loc Cert.FiltIdeal.main_arg0)) (m ((c.tc : Thread Cert.FiltIdeal.nD Cert.FiltIdeal.τ).loc Cert.FiltIdeal.main_arg1)) (m ((c.tc : Thread Cert.FiltIdeal.nD Cert.FiltIdeal.τ).loc Cert.FiltIdeal.main_arg2))).2 = (fun _ => 1#1)

def Pre_FiltReferenceIdeal (m : (ℓ : Loc Cert.FiltReferenceIdeal.nD Cert.FiltReferenceIdeal.τ Cert.FiltReferenceIdeal.sig) → Buf (Elt Ideal) ℓ) : Prop :=
  True

def Pre_FiltReferenceIdeal_finite_filt [hPre_finite_filt : Cert.Pre_finite_filt.Facts] (m : (ℓ : Loc Cert.FiltReferenceIdeal.nD Cert.FiltReferenceIdeal.τ Cert.FiltReferenceIdeal.sig) → Buf (Elt Ideal) ℓ) : Prop :=
  ∀ c : Dev Cert.FiltReferenceIdeal.nD,
    (Cert.Pre_finite_filt.fn (F := Ideal) (m ((c.tc : Thread Cert.FiltReferenceIdeal.nD Cert.FiltReferenceIdeal.τ).loc Cert.FiltReferenceIdeal.main_arg0)) (m ((c.tc : Thread Cert.FiltReferenceIdeal.nD Cert.FiltReferenceIdeal.τ).loc Cert.FiltReferenceIdeal.main_arg1)) (m ((c.tc : Thread Cert.FiltReferenceIdeal.nD Cert.FiltReferenceIdeal.τ).loc Cert.FiltReferenceIdeal.main_arg2))).1 = (fun _ => 1#1)
    ∧ (Cert.Pre_finite_filt.fn (F := Ideal) (m ((c.tc : Thread Cert.FiltReferenceIdeal.nD Cert.FiltReferenceIdeal.τ).loc Cert.FiltReferenceIdeal.main_arg0)) (m ((c.tc : Thread Cert.FiltReferenceIdeal.nD Cert.FiltReferenceIdeal.τ).loc Cert.FiltReferenceIdeal.main_arg1)) (m ((c.tc : Thread Cert.FiltReferenceIdeal.nD Cert.FiltReferenceIdeal.τ).loc Cert.FiltReferenceIdeal.main_arg2))).2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnReferenceIdeal (m : (ℓ : Loc Cert.LnReferenceIdeal.nD Cert.LnReferenceIdeal.τ Cert.LnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Hy [hHy : Cert.Hy.Facts] : Prop :=
  ∀ (m : (ℓ : Loc Cert.Hy.nD Cert.Hy.τ Cert.Hy.sig) → Buf (Elt Bits) ℓ) (g : Dev Cert.Hy.nD → PrngReg), Pre_Hy m →
    θ_run (Cert.Hy.defs (F := Bits)) (onTc (τ := Cert.Hy.τ) (Cert.Hy.main (F := Bits))) ⟨m, fun _ => 0, g⟩ (fun r => (∀ c : Dev Cert.Hy.nD,
      r.2.mem ((c.tc : Thread Cert.Hy.nD Cert.Hy.τ).loc Cert.Hy.main_arg0) = m ((c.tc : Thread Cert.Hy.nD Cert.Hy.τ).loc Cert.Hy.main_arg0)
      ∧ r.2.mem ((c.tc : Thread Cert.Hy.nD Cert.Hy.τ).loc Cert.Hy.main_arg1) = m ((c.tc : Thread Cert.Hy.nD Cert.Hy.τ).loc Cert.Hy.main_arg1))
      ∧ r.2.sem = fun _ => 0)

def quiescent_HyIdeal [hHyIdeal : Cert.HyIdeal.Facts] : Prop :=
  ∀ (m : (ℓ : Loc Cert.HyIdeal.nD Cert.HyIdeal.τ Cert.HyIdeal.sig) → Buf (Elt Ideal) ℓ) (g : Dev Cert.HyIdeal.nD → PrngReg), Pre_HyIdeal m →
    θ_run (Cert.HyIdeal.defs (F := Ideal)) (onTc (τ := Cert.HyIdeal.τ) (Cert.HyIdeal.main (F := Ideal))) ⟨m, fun _ => 0, g⟩ (fun r => (∀ c : Dev Cert.HyIdeal.nD,
      r.2.mem ((c.tc : Thread Cert.HyIdeal.nD Cert.HyIdeal.τ).loc Cert.HyIdeal.main_arg0) = m ((c.tc : Thread Cert.HyIdeal.nD Cert.HyIdeal.τ).loc Cert.HyIdeal.main_arg0)
      ∧ r.2.mem ((c.tc : Thread Cert.HyIdeal.nD Cert.HyIdeal.τ).loc Cert.HyIdeal.main_arg1) = m ((c.tc : Thread Cert.HyIdeal.nD Cert.HyIdeal.τ).loc Cert.HyIdeal.main_arg1))
      ∧ r.2.sem = fun _ => 0)

def quiescent_HyReferenceIdeal [hHyReferenceIdeal : Cert.HyReferenceIdeal.Facts] : Prop :=
  ∀ (m : (ℓ : Loc Cert.HyReferenceIdeal.nD Cert.HyReferenceIdeal.τ Cert.HyReferenceIdeal.sig) → Buf (Elt Ideal) ℓ) (g : Dev Cert.HyReferenceIdeal.nD → PrngReg), Pre_HyReferenceIdeal m →
    θ_run (Cert.HyReferenceIdeal.defs (F := Ideal)) (onTc (τ := Cert.HyReferenceIdeal.τ) (Cert.HyReferenceIdeal.main (F := Ideal))) ⟨m, fun _ => 0, g⟩ (fun r => (∀ c : Dev Cert.HyReferenceIdeal.nD,
      r.2.mem ((c.tc : Thread Cert.HyReferenceIdeal.nD Cert.HyReferenceIdeal.τ).loc Cert.HyReferenceIdeal.main_arg0) = m ((c.tc : Thread Cert.HyReferenceIdeal.nD Cert.HyReferenceIdeal.τ).loc Cert.HyReferenceIdeal.main_arg0)
      ∧ r.2.mem ((c.tc : Thread Cert.HyReferenceIdeal.nD Cert.HyReferenceIdeal.τ).loc Cert.HyReferenceIdeal.main_arg1) = m ((c.tc : Thread Cert.HyReferenceIdeal.nD Cert.HyReferenceIdeal.τ).loc Cert.HyReferenceIdeal.main_arg1))
      ∧ r.2.sem = fun _ => 0)

def quiescent_Ml [hMl : Cert.Ml.Facts] : Prop :=
  ∀ (m : (ℓ : Loc Cert.Ml.nD Cert.Ml.τ Cert.Ml.sig) → Buf (Elt Bits) ℓ) (g : Dev Cert.Ml.nD → PrngReg), Pre_Ml m →
    θ_run (Cert.Ml.defs (F := Bits)) (onTc (τ := Cert.Ml.τ) (Cert.Ml.main (F := Bits))) ⟨m, fun _ => 0, g⟩ (fun r => (∀ c : Dev Cert.Ml.nD,
      r.2.mem ((c.tc : Thread Cert.Ml.nD Cert.Ml.τ).loc Cert.Ml.main_arg0) = m ((c.tc : Thread Cert.Ml.nD Cert.Ml.τ).loc Cert.Ml.main_arg0)
      ∧ r.2.mem ((c.tc : Thread Cert.Ml.nD Cert.Ml.τ).loc Cert.Ml.main_arg1) = m ((c.tc : Thread Cert.Ml.nD Cert.Ml.τ).loc Cert.Ml.main_arg1))
      ∧ r.2.sem = fun _ => 0)

def quiescent_MlIdeal [hMlIdeal : Cert.MlIdeal.Facts] : Prop :=
  ∀ (m : (ℓ : Loc Cert.MlIdeal.nD Cert.MlIdeal.τ Cert.MlIdeal.sig) → Buf (Elt Ideal) ℓ) (g : Dev Cert.MlIdeal.nD → PrngReg), Pre_MlIdeal m →
    θ_run (Cert.MlIdeal.defs (F := Ideal)) (onTc (τ := Cert.MlIdeal.τ) (Cert.MlIdeal.main (F := Ideal))) ⟨m, fun _ => 0, g⟩ (fun r => (∀ c : Dev Cert.MlIdeal.nD,
      r.2.mem ((c.tc : Thread Cert.MlIdeal.nD Cert.MlIdeal.τ).loc Cert.MlIdeal.main_arg0) = m ((c.tc : Thread Cert.MlIdeal.nD Cert.MlIdeal.τ).loc Cert.MlIdeal.main_arg0)
      ∧ r.2.mem ((c.tc : Thread Cert.MlIdeal.nD Cert.MlIdeal.τ).loc Cert.MlIdeal.main_arg1) = m ((c.tc : Thread Cert.MlIdeal.nD Cert.MlIdeal.τ).loc Cert.MlIdeal.main_arg1))
      ∧ r.2.sem = fun _ => 0)

def quiescent_MlReferenceIdeal [hMlReferenceIdeal : Cert.MlReferenceIdeal.Facts] : Prop :=
  ∀ (m : (ℓ : Loc Cert.MlReferenceIdeal.nD Cert.MlReferenceIdeal.τ Cert.MlReferenceIdeal.sig) → Buf (Elt Ideal) ℓ) (g : Dev Cert.MlReferenceIdeal.nD → PrngReg), Pre_MlReferenceIdeal m →
    θ_run (Cert.MlReferenceIdeal.defs (F := Ideal)) (onTc (τ := Cert.MlReferenceIdeal.τ) (Cert.MlReferenceIdeal.main (F := Ideal))) ⟨m, fun _ => 0, g⟩ (fun r => (∀ c : Dev Cert.MlReferenceIdeal.nD,
      r.2.mem ((c.tc : Thread Cert.MlReferenceIdeal.nD Cert.MlReferenceIdeal.τ).loc Cert.MlReferenceIdeal.main_arg0) = m ((c.tc : Thread Cert.MlReferenceIdeal.nD Cert.MlReferenceIdeal.τ).loc Cert.MlReferenceIdeal.main_arg0)
      ∧ r.2.mem ((c.tc : Thread Cert.MlReferenceIdeal.nD Cert.MlReferenceIdeal.τ).loc Cert.MlReferenceIdeal.main_arg1) = m ((c.tc : Thread Cert.MlReferenceIdeal.nD Cert.MlReferenceIdeal.τ).loc Cert.MlReferenceIdeal.main_arg1))
      ∧ r.2.sem = fun _ => 0)

def quiescent_Gt [hGt : Cert.Gt.Facts] : Prop :=
  ∀ (m : (ℓ : Loc Cert.Gt.nD Cert.Gt.τ Cert.Gt.sig) → Buf (Elt Bits) ℓ) (g : Dev Cert.Gt.nD → PrngReg), Pre_Gt m →
    θ_run (Cert.Gt.defs (F := Bits)) (onTc (τ := Cert.Gt.τ) (Cert.Gt.main (F := Bits))) ⟨m, fun _ => 0, g⟩ (fun r => (∀ c : Dev Cert.Gt.nD,
      r.2.mem ((c.tc : Thread Cert.Gt.nD Cert.Gt.τ).loc Cert.Gt.main_arg0) = m ((c.tc : Thread Cert.Gt.nD Cert.Gt.τ).loc Cert.Gt.main_arg0)
      ∧ r.2.mem ((c.tc : Thread Cert.Gt.nD Cert.Gt.τ).loc Cert.Gt.main_arg1) = m ((c.tc : Thread Cert.Gt.nD Cert.Gt.τ).loc Cert.Gt.main_arg1))
      ∧ r.2.sem = fun _ => 0)

def quiescent_GtIdeal [hGtIdeal : Cert.GtIdeal.Facts] : Prop :=
  ∀ (m : (ℓ : Loc Cert.GtIdeal.nD Cert.GtIdeal.τ Cert.GtIdeal.sig) → Buf (Elt Ideal) ℓ) (g : Dev Cert.GtIdeal.nD → PrngReg), Pre_GtIdeal m →
    θ_run (Cert.GtIdeal.defs (F := Ideal)) (onTc (τ := Cert.GtIdeal.τ) (Cert.GtIdeal.main (F := Ideal))) ⟨m, fun _ => 0, g⟩ (fun r => (∀ c : Dev Cert.GtIdeal.nD,
      r.2.mem ((c.tc : Thread Cert.GtIdeal.nD Cert.GtIdeal.τ).loc Cert.GtIdeal.main_arg0) = m ((c.tc : Thread Cert.GtIdeal.nD Cert.GtIdeal.τ).loc Cert.GtIdeal.main_arg0)
      ∧ r.2.mem ((c.tc : Thread Cert.GtIdeal.nD Cert.GtIdeal.τ).loc Cert.GtIdeal.main_arg1) = m ((c.tc : Thread Cert.GtIdeal.nD Cert.GtIdeal.τ).loc Cert.GtIdeal.main_arg1))
      ∧ r.2.sem = fun _ => 0)

def quiescent_GtReferenceIdeal [hGtReferenceIdeal : Cert.GtReferenceIdeal.Facts] : Prop :=
  ∀ (m : (ℓ : Loc Cert.GtReferenceIdeal.nD Cert.GtReferenceIdeal.τ Cert.GtReferenceIdeal.sig) → Buf (Elt Ideal) ℓ) (g : Dev Cert.GtReferenceIdeal.nD → PrngReg), Pre_GtReferenceIdeal m →
    θ_run (Cert.GtReferenceIdeal.defs (F := Ideal)) (onTc (τ := Cert.GtReferenceIdeal.τ) (Cert.GtReferenceIdeal.main (F := Ideal))) ⟨m, fun _ => 0, g⟩ (fun r => (∀ c : Dev Cert.GtReferenceIdeal.nD,
      r.2.mem ((c.tc : Thread Cert.GtReferenceIdeal.nD Cert.GtReferenceIdeal.τ).loc Cert.GtReferenceIdeal.main_arg0) = m ((c.tc : Thread Cert.GtReferenceIdeal.nD Cert.GtReferenceIdeal.τ).loc Cert.GtReferenceIdeal.main_arg0)
      ∧ r.2.mem ((c.tc : Thread Cert.GtReferenceIdeal.nD Cert.GtReferenceIdeal.τ).loc Cert.GtReferenceIdeal.main_arg1) = m ((c.tc : Thread Cert.GtReferenceIdeal.nD Cert.GtReferenceIdeal.τ).loc Cert.GtReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_If [hIf : Cert.If.Facts] : Prop :=
  ∀ (m : (ℓ : Loc Cert.If.nD Cert.If.τ Cert.If.sig) → Buf (Elt Bits) ℓ) (g : Dev Cert.If.nD → PrngReg), Pre_If m →
    θ_run (Cert.If.defs (F := Bits)) (onTc (τ := Cert.If.τ) (Cert.If.main (F := Bits))) ⟨m, fun _ => 0, g⟩ (fun r => (∀ c : Dev Cert.If.nD,
      r.2.mem ((c.tc : Thread Cert.If.nD Cert.If.τ).loc Cert.If.main_arg0) = m ((c.tc : Thread Cert.If.nD Cert.If.τ).loc Cert.If.main_arg0)
      ∧ r.2.mem ((c.tc : Thread Cert.If.nD Cert.If.τ).loc Cert.If.main_arg1) = m ((c.tc : Thread Cert.If.nD Cert.If.τ).loc Cert.If.main_arg1))
      ∧ r.2.sem = fun _ => 0)

def quiescent_IfIdeal [hIfIdeal : Cert.IfIdeal.Facts] : Prop :=
  ∀ (m : (ℓ : Loc Cert.IfIdeal.nD Cert.IfIdeal.τ Cert.IfIdeal.sig) → Buf (Elt Ideal) ℓ) (g : Dev Cert.IfIdeal.nD → PrngReg), Pre_IfIdeal m →
    θ_run (Cert.IfIdeal.defs (F := Ideal)) (onTc (τ := Cert.IfIdeal.τ) (Cert.IfIdeal.main (F := Ideal))) ⟨m, fun _ => 0, g⟩ (fun r => (∀ c : Dev Cert.IfIdeal.nD,
      r.2.mem ((c.tc : Thread Cert.IfIdeal.nD Cert.IfIdeal.τ).loc Cert.IfIdeal.main_arg0) = m ((c.tc : Thread Cert.IfIdeal.nD Cert.IfIdeal.τ).loc Cert.IfIdeal.main_arg0)
      ∧ r.2.mem ((c.tc : Thread Cert.IfIdeal.nD Cert.IfIdeal.τ).loc Cert.IfIdeal.main_arg1) = m ((c.tc : Thread Cert.IfIdeal.nD Cert.IfIdeal.τ).loc Cert.IfIdeal.main_arg1))
      ∧ r.2.sem = fun _ => 0)

def quiescent_IfReferenceIdeal [hIfReferenceIdeal : Cert.IfReferenceIdeal.Facts] : Prop :=
  ∀ (m : (ℓ : Loc Cert.IfReferenceIdeal.nD Cert.IfReferenceIdeal.τ Cert.IfReferenceIdeal.sig) → Buf (Elt Ideal) ℓ) (g : Dev Cert.IfReferenceIdeal.nD → PrngReg), Pre_IfReferenceIdeal m →
    θ_run (Cert.IfReferenceIdeal.defs (F := Ideal)) (onTc (τ := Cert.IfReferenceIdeal.τ) (Cert.IfReferenceIdeal.main (F := Ideal))) ⟨m, fun _ => 0, g⟩ (fun r => (∀ c : Dev Cert.IfReferenceIdeal.nD,
      r.2.mem ((c.tc : Thread Cert.IfReferenceIdeal.nD Cert.IfReferenceIdeal.τ).loc Cert.IfReferenceIdeal.main_arg0) = m ((c.tc : Thread Cert.IfReferenceIdeal.nD Cert.IfReferenceIdeal.τ).loc Cert.IfReferenceIdeal.main_arg0)
      ∧ r.2.mem ((c.tc : Thread Cert.IfReferenceIdeal.nD Cert.IfReferenceIdeal.τ).loc Cert.IfReferenceIdeal.main_arg1) = m ((c.tc : Thread Cert.IfReferenceIdeal.nD Cert.IfReferenceIdeal.τ).loc Cert.IfReferenceIdeal.main_arg1))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdIdeal_pre_finite_bwd [hBwdIdeal : Cert.BwdIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite_bwd m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdReferenceIdeal [hBwdReferenceIdeal : Cert.BwdReferenceIdeal.Facts] : Prop :=
  ∀ (m : (ℓ : Loc Cert.BwdReferenceIdeal.nD Cert.BwdReferenceIdeal.τ Cert.BwdReferenceIdeal.sig) → Buf (Elt Ideal) ℓ) (g : Dev Cert.BwdReferenceIdeal.nD → PrngReg), Pre_BwdReferenceIdeal m →
    θ_run (Cert.BwdReferenceIdeal.defs (F := Ideal)) (onTc (τ := Cert.BwdReferenceIdeal.τ) (Cert.BwdReferenceIdeal.main (F := Ideal))) ⟨m, fun _ => 0, g⟩ (fun r => (∀ c : Dev Cert.BwdReferenceIdeal.nD,
      r.2.mem ((c.tc : Thread Cert.BwdReferenceIdeal.nD Cert.BwdReferenceIdeal.τ).loc Cert.BwdReferenceIdeal.main_arg0) = m ((c.tc : Thread Cert.BwdReferenceIdeal.nD Cert.BwdReferenceIdeal.τ).loc Cert.BwdReferenceIdeal.main_arg0)
      ∧ r.2.mem ((c.tc : Thread Cert.BwdReferenceIdeal.nD Cert.BwdReferenceIdeal.τ).loc Cert.BwdReferenceIdeal.main_arg1) = m ((c.tc : Thread Cert.BwdReferenceIdeal.nD Cert.BwdReferenceIdeal.τ).loc Cert.BwdReferenceIdeal.main_arg1)
      ∧ r.2.mem ((c.tc : Thread Cert.BwdReferenceIdeal.nD Cert.BwdReferenceIdeal.τ).loc Cert.BwdReferenceIdeal.main_arg2) = m ((c.tc : Thread Cert.BwdReferenceIdeal.nD Cert.BwdReferenceIdeal.τ).loc Cert.BwdReferenceIdeal.main_arg2)
      ∧ r.2.mem ((c.tc : Thread Cert.BwdReferenceIdeal.nD Cert.BwdReferenceIdeal.τ).loc Cert.BwdReferenceIdeal.main_arg3) = m ((c.tc : Thread Cert.BwdReferenceIdeal.nD Cert.BwdReferenceIdeal.τ).loc Cert.BwdReferenceIdeal.main_arg3))
      ∧ r.2.sem = fun _ => 0)

def quiescent_BwdReferenceIdeal_pre_finite_bwd [hBwdReferenceIdeal : Cert.BwdReferenceIdeal.Facts] [hPre_finite_bwd : Cert.Pre_finite_bwd.Facts] : Prop :=
  ∀ (m : (ℓ : Loc Cert.BwdReferenceIdeal.nD Cert.BwdReferenceIdeal.τ Cert.BwdReferenceIdeal.sig) → Buf (Elt Ideal) ℓ) (g : Dev Cert.BwdReferenceIdeal.nD → PrngReg), Pre_BwdReferenceIdeal_finite_bwd m →
    θ_run (Cert.BwdReferenceIdeal.defs (F := Ideal)) (onTc (τ := Cert.BwdReferenceIdeal.τ) (Cert.BwdReferenceIdeal.main (F := Ideal))) ⟨m, fun _ => 0, g⟩ (fun r => (∀ c : Dev Cert.BwdReferenceIdeal.nD,
      r.2.mem ((c.tc : Thread Cert.BwdReferenceIdeal.nD Cert.BwdReferenceIdeal.τ).loc Cert.BwdReferenceIdeal.main_arg0) = m ((c.tc : Thread Cert.BwdReferenceIdeal.nD Cert.BwdReferenceIdeal.τ).loc Cert.BwdReferenceIdeal.main_arg0)
      ∧ r.2.mem ((c.tc : Thread Cert.BwdReferenceIdeal.nD Cert.BwdReferenceIdeal.τ).loc Cert.BwdReferenceIdeal.main_arg1) = m ((c.tc : Thread Cert.BwdReferenceIdeal.nD Cert.BwdReferenceIdeal.τ).loc Cert.BwdReferenceIdeal.main_arg1)
      ∧ r.2.mem ((c.tc : Thread Cert.BwdReferenceIdeal.nD Cert.BwdReferenceIdeal.τ).loc Cert.BwdReferenceIdeal.main_arg2) = m ((c.tc : Thread Cert.BwdReferenceIdeal.nD Cert.BwdReferenceIdeal.τ).loc Cert.BwdReferenceIdeal.main_arg2)
      ∧ r.2.mem ((c.tc : Thread Cert.BwdReferenceIdeal.nD Cert.BwdReferenceIdeal.τ).loc Cert.BwdReferenceIdeal.main_arg3) = m ((c.tc : Thread Cert.BwdReferenceIdeal.nD Cert.BwdReferenceIdeal.τ).loc Cert.BwdReferenceIdeal.main_arg3))
      ∧ r.2.sem = fun _ => 0)

def quiescent_Filt [hFilt : Cert.Filt.Facts] : Prop :=
  ∀ (m : (ℓ : Loc Cert.Filt.nD Cert.Filt.τ Cert.Filt.sig) → Buf (Elt Bits) ℓ) (g : Dev Cert.Filt.nD → PrngReg), Pre_Filt m →
    θ_run (Cert.Filt.defs (F := Bits)) (onTc (τ := Cert.Filt.τ) (Cert.Filt.main (F := Bits))) ⟨m, fun _ => 0, g⟩ (fun r => (∀ c : Dev Cert.Filt.nD,
      r.2.mem ((c.tc : Thread Cert.Filt.nD Cert.Filt.τ).loc Cert.Filt.main_arg0) = m ((c.tc : Thread Cert.Filt.nD Cert.Filt.τ).loc Cert.Filt.main_arg0)
      ∧ r.2.mem ((c.tc : Thread Cert.Filt.nD Cert.Filt.τ).loc Cert.Filt.main_arg1) = m ((c.tc : Thread Cert.Filt.nD Cert.Filt.τ).loc Cert.Filt.main_arg1)
      ∧ r.2.mem ((c.tc : Thread Cert.Filt.nD Cert.Filt.τ).loc Cert.Filt.main_arg2) = m ((c.tc : Thread Cert.Filt.nD Cert.Filt.τ).loc Cert.Filt.main_arg2))
      ∧ r.2.sem = fun _ => 0)

def quiescent_FiltIdeal [hFiltIdeal : Cert.FiltIdeal.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
      ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2))
      ∧ r.2.sem = fun _ => 0)

def quiescent_FiltIdeal_pre_finite_filt [hFiltIdeal : Cert.FiltIdeal.Facts] [hPre_finite_filt : Cert.Pre_finite_filt.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal_finite_filt m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
      ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2))
      ∧ r.2.sem = fun _ => 0)

def quiescent_FiltReferenceIdeal [hFiltReferenceIdeal : Cert.FiltReferenceIdeal.Facts] : Prop :=
  ∀ (m : (ℓ : Loc Cert.FiltReferenceIdeal.nD Cert.FiltReferenceIdeal.τ Cert.FiltReferenceIdeal.sig) → Buf (Elt Ideal) ℓ) (g : Dev Cert.FiltReferenceIdeal.nD → PrngReg), Pre_FiltReferenceIdeal m →
    θ_run (Cert.FiltReferenceIdeal.defs (F := Ideal)) (onTc (τ := Cert.FiltReferenceIdeal.τ) (Cert.FiltReferenceIdeal.main (F := Ideal))) ⟨m, fun _ => 0, g⟩ (fun r => (∀ c : Dev Cert.FiltReferenceIdeal.nD,
      r.2.mem ((c.tc : Thread Cert.FiltReferenceIdeal.nD Cert.FiltReferenceIdeal.τ).loc Cert.FiltReferenceIdeal.main_arg0) = m ((c.tc : Thread Cert.FiltReferenceIdeal.nD Cert.FiltReferenceIdeal.τ).loc Cert.FiltReferenceIdeal.main_arg0)
      ∧ r.2.mem ((c.tc : Thread Cert.FiltReferenceIdeal.nD Cert.FiltReferenceIdeal.τ).loc Cert.FiltReferenceIdeal.main_arg1) = m ((c.tc : Thread Cert.FiltReferenceIdeal.nD Cert.FiltReferenceIdeal.τ).loc Cert.FiltReferenceIdeal.main_arg1)
      ∧ r.2.mem ((c.tc : Thread Cert.FiltReferenceIdeal.nD Cert.FiltReferenceIdeal.τ).loc Cert.FiltReferenceIdeal.main_arg2) = m ((c.tc : Thread Cert.FiltReferenceIdeal.nD Cert.FiltReferenceIdeal.τ).loc Cert.FiltReferenceIdeal.main_arg2))
      ∧ r.2.sem = fun _ => 0)

def quiescent_FiltReferenceIdeal_pre_finite_filt [hFiltReferenceIdeal : Cert.FiltReferenceIdeal.Facts] [hPre_finite_filt : Cert.Pre_finite_filt.Facts] : Prop :=
  ∀ (m : (ℓ : Loc Cert.FiltReferenceIdeal.nD Cert.FiltReferenceIdeal.τ Cert.FiltReferenceIdeal.sig) → Buf (Elt Ideal) ℓ) (g : Dev Cert.FiltReferenceIdeal.nD → PrngReg), Pre_FiltReferenceIdeal_finite_filt m →
    θ_run (Cert.FiltReferenceIdeal.defs (F := Ideal)) (onTc (τ := Cert.FiltReferenceIdeal.τ) (Cert.FiltReferenceIdeal.main (F := Ideal))) ⟨m, fun _ => 0, g⟩ (fun r => (∀ c : Dev Cert.FiltReferenceIdeal.nD,
      r.2.mem ((c.tc : Thread Cert.FiltReferenceIdeal.nD Cert.FiltReferenceIdeal.τ).loc Cert.FiltReferenceIdeal.main_arg0) = m ((c.tc : Thread Cert.FiltReferenceIdeal.nD Cert.FiltReferenceIdeal.τ).loc Cert.FiltReferenceIdeal.main_arg0)
      ∧ r.2.mem ((c.tc : Thread Cert.FiltReferenceIdeal.nD Cert.FiltReferenceIdeal.τ).loc Cert.FiltReferenceIdeal.main_arg1) = m ((c.tc : Thread Cert.FiltReferenceIdeal.nD Cert.FiltReferenceIdeal.τ).loc Cert.FiltReferenceIdeal.main_arg1)
      ∧ r.2.mem ((c.tc : Thread Cert.FiltReferenceIdeal.nD Cert.FiltReferenceIdeal.τ).loc Cert.FiltReferenceIdeal.main_arg2) = m ((c.tc : Thread Cert.FiltReferenceIdeal.nD Cert.FiltReferenceIdeal.τ).loc Cert.FiltReferenceIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5)
      ∧ r.2.mem ((c.tc : Thread Cert.Ln.nD Cert.Ln.τ).loc Cert.Ln.main_arg6) = m ((c.tc : Thread Cert.Ln.nD Cert.Ln.τ).loc Cert.Ln.main_arg6)
      ∧ r.2.mem ((c.tc : Thread Cert.Ln.nD Cert.Ln.τ).loc Cert.Ln.main_arg7) = m ((c.tc : Thread Cert.Ln.nD Cert.Ln.τ).loc Cert.Ln.main_arg7))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
      ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
      ∧ r.2.mem ((c.tc : Thread Cert.LnIdeal.nD Cert.LnIdeal.τ).loc Cert.LnIdeal.main_arg7) = m ((c.tc : Thread Cert.LnIdeal.nD Cert.LnIdeal.τ).loc Cert.LnIdeal.main_arg7))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4)
      ∧ r.2.mem ((c.tc : Thread Cert.LnReferenceIdeal.nD Cert.LnReferenceIdeal.τ).loc Cert.LnReferenceIdeal.main_arg5) = m ((c.tc : Thread Cert.LnReferenceIdeal.nD Cert.LnReferenceIdeal.τ).loc Cert.LnReferenceIdeal.main_arg5)
      ∧ r.2.mem ((c.tc : Thread Cert.LnReferenceIdeal.nD Cert.LnReferenceIdeal.τ).loc Cert.LnReferenceIdeal.main_arg6) = m ((c.tc : Thread Cert.LnReferenceIdeal.nD Cert.LnReferenceIdeal.τ).loc Cert.LnReferenceIdeal.main_arg6)
      ∧ r.2.mem ((c.tc : Thread Cert.LnReferenceIdeal.nD Cert.LnReferenceIdeal.τ).loc Cert.LnReferenceIdeal.main_arg7) = m ((c.tc : Thread Cert.LnReferenceIdeal.nD Cert.LnReferenceIdeal.τ).loc Cert.LnReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Hy_HyIdeal : Prop :=
  True

def algebraic_HyIdeal_HyReferenceIdeal [hHyIdeal : Cert.HyIdeal.Facts] [hHyReferenceIdeal : Cert.HyReferenceIdeal.Facts] : Prop :=
  ∀ (m : (ℓ : Loc Cert.HyIdeal.nD Cert.HyIdeal.τ Cert.HyIdeal.sig) → Buf (Elt Ideal) ℓ) (g : Dev Cert.HyIdeal.nD → PrngReg)
    (m' : (ℓ : Loc Cert.HyReferenceIdeal.nD Cert.HyReferenceIdeal.τ Cert.HyReferenceIdeal.sig) → Buf (Elt Ideal) ℓ) (g' : Dev Cert.HyReferenceIdeal.nD → PrngReg), Pre_HyIdeal m →
    (∀ c : Dev Cert.HyIdeal.nD,
      m' ((c.tc : Thread Cert.HyReferenceIdeal.nD Cert.HyReferenceIdeal.τ).loc Cert.HyReferenceIdeal.main_arg0) = m ((c.tc : Thread Cert.HyIdeal.nD Cert.HyIdeal.τ).loc Cert.HyIdeal.main_arg0)
      ∧ m' ((c.tc : Thread Cert.HyReferenceIdeal.nD Cert.HyReferenceIdeal.τ).loc Cert.HyReferenceIdeal.main_arg1) = m ((c.tc : Thread Cert.HyIdeal.nD Cert.HyIdeal.τ).loc Cert.HyIdeal.main_arg1)) →
    ∃ (v0 : (c : Dev Cert.HyIdeal.nD) → Buf (Elt Ideal) ((c.tc : Thread Cert.HyIdeal.nD Cert.HyIdeal.τ).loc Cert.HyIdeal.main_v4)),
      θ_run (Cert.HyIdeal.defs (F := Ideal)) (onTc (τ := Cert.HyIdeal.τ) (Cert.HyIdeal.main (F := Ideal))) ⟨m, fun _ => 0, g⟩ (fun r => ∀ c : Dev Cert.HyIdeal.nD,
          r.2.mem ((c.tc : Thread Cert.HyIdeal.nD Cert.HyIdeal.τ).loc Cert.HyIdeal.main_v4) = v0 c
          ∧ r.2.mem ((c.tc : Thread Cert.HyIdeal.nD Cert.HyIdeal.τ).loc Cert.HyIdeal.main_arg0) = m ((c.tc : Thread Cert.HyIdeal.nD Cert.HyIdeal.τ).loc Cert.HyIdeal.main_arg0)
          ∧ r.2.mem ((c.tc : Thread Cert.HyIdeal.nD Cert.HyIdeal.τ).loc Cert.HyIdeal.main_arg1) = m ((c.tc : Thread Cert.HyIdeal.nD Cert.HyIdeal.τ).loc Cert.HyIdeal.main_arg1))
      ∧ θ_run (Cert.HyReferenceIdeal.defs (F := Ideal)) (onTc (τ := Cert.HyReferenceIdeal.τ) (Cert.HyReferenceIdeal.main (F := Ideal))) ⟨m', fun _ => 0, g'⟩ (fun r => ∀ c : Dev Cert.HyReferenceIdeal.nD,
          r.2.mem ((c.tc : Thread Cert.HyReferenceIdeal.nD Cert.HyReferenceIdeal.τ).loc Cert.HyReferenceIdeal.main_v2) = v0 c
          ∧ r.2.mem ((c.tc : Thread Cert.HyReferenceIdeal.nD Cert.HyReferenceIdeal.τ).loc Cert.HyReferenceIdeal.main_arg0) = m' ((c.tc : Thread Cert.HyReferenceIdeal.nD Cert.HyReferenceIdeal.τ).loc Cert.HyReferenceIdeal.main_arg0)
          ∧ r.2.mem ((c.tc : Thread Cert.HyReferenceIdeal.nD Cert.HyReferenceIdeal.τ).loc Cert.HyReferenceIdeal.main_arg1) = m' ((c.tc : Thread Cert.HyReferenceIdeal.nD Cert.HyReferenceIdeal.τ).loc Cert.HyReferenceIdeal.main_arg1))

def preserves_Ml_MlIdeal : Prop :=
  True

def algebraic_MlIdeal_MlReferenceIdeal [hMlIdeal : Cert.MlIdeal.Facts] [hMlReferenceIdeal : Cert.MlReferenceIdeal.Facts] : Prop :=
  ∀ (m : (ℓ : Loc Cert.MlIdeal.nD Cert.MlIdeal.τ Cert.MlIdeal.sig) → Buf (Elt Ideal) ℓ) (g : Dev Cert.MlIdeal.nD → PrngReg)
    (m' : (ℓ : Loc Cert.MlReferenceIdeal.nD Cert.MlReferenceIdeal.τ Cert.MlReferenceIdeal.sig) → Buf (Elt Ideal) ℓ) (g' : Dev Cert.MlReferenceIdeal.nD → PrngReg), Pre_MlIdeal m →
    (∀ c : Dev Cert.MlIdeal.nD,
      m' ((c.tc : Thread Cert.MlReferenceIdeal.nD Cert.MlReferenceIdeal.τ).loc Cert.MlReferenceIdeal.main_arg0) = m ((c.tc : Thread Cert.MlIdeal.nD Cert.MlIdeal.τ).loc Cert.MlIdeal.main_arg0)
      ∧ m' ((c.tc : Thread Cert.MlReferenceIdeal.nD Cert.MlReferenceIdeal.τ).loc Cert.MlReferenceIdeal.main_arg1) = m ((c.tc : Thread Cert.MlIdeal.nD Cert.MlIdeal.τ).loc Cert.MlIdeal.main_arg1)) →
    ∃ (v0 : (c : Dev Cert.MlIdeal.nD) → Buf (Elt Ideal) ((c.tc : Thread Cert.MlIdeal.nD Cert.MlIdeal.τ).loc Cert.MlIdeal.main_v4)),
      θ_run (Cert.MlIdeal.defs (F := Ideal)) (onTc (τ := Cert.MlIdeal.τ) (Cert.MlIdeal.main (F := Ideal))) ⟨m, fun _ => 0, g⟩ (fun r => ∀ c : Dev Cert.MlIdeal.nD,
          r.2.mem ((c.tc : Thread Cert.MlIdeal.nD Cert.MlIdeal.τ).loc Cert.MlIdeal.main_v4) = v0 c
          ∧ r.2.mem ((c.tc : Thread Cert.MlIdeal.nD Cert.MlIdeal.τ).loc Cert.MlIdeal.main_arg0) = m ((c.tc : Thread Cert.MlIdeal.nD Cert.MlIdeal.τ).loc Cert.MlIdeal.main_arg0)
          ∧ r.2.mem ((c.tc : Thread Cert.MlIdeal.nD Cert.MlIdeal.τ).loc Cert.MlIdeal.main_arg1) = m ((c.tc : Thread Cert.MlIdeal.nD Cert.MlIdeal.τ).loc Cert.MlIdeal.main_arg1))
      ∧ θ_run (Cert.MlReferenceIdeal.defs (F := Ideal)) (onTc (τ := Cert.MlReferenceIdeal.τ) (Cert.MlReferenceIdeal.main (F := Ideal))) ⟨m', fun _ => 0, g'⟩ (fun r => ∀ c : Dev Cert.MlReferenceIdeal.nD,
          r.2.mem ((c.tc : Thread Cert.MlReferenceIdeal.nD Cert.MlReferenceIdeal.τ).loc Cert.MlReferenceIdeal.main_v3) = v0 c
          ∧ r.2.mem ((c.tc : Thread Cert.MlReferenceIdeal.nD Cert.MlReferenceIdeal.τ).loc Cert.MlReferenceIdeal.main_arg0) = m' ((c.tc : Thread Cert.MlReferenceIdeal.nD Cert.MlReferenceIdeal.τ).loc Cert.MlReferenceIdeal.main_arg0)
          ∧ r.2.mem ((c.tc : Thread Cert.MlReferenceIdeal.nD Cert.MlReferenceIdeal.τ).loc Cert.MlReferenceIdeal.main_arg1) = m' ((c.tc : Thread Cert.MlReferenceIdeal.nD Cert.MlReferenceIdeal.τ).loc Cert.MlReferenceIdeal.main_arg1))

def preserves_Gt_GtIdeal : Prop :=
  True

def algebraic_GtIdeal_GtReferenceIdeal [hGtIdeal : Cert.GtIdeal.Facts] [hGtReferenceIdeal : Cert.GtReferenceIdeal.Facts] : Prop :=
  ∀ (m : (ℓ : Loc Cert.GtIdeal.nD Cert.GtIdeal.τ Cert.GtIdeal.sig) → Buf (Elt Ideal) ℓ) (g : Dev Cert.GtIdeal.nD → PrngReg)
    (m' : (ℓ : Loc Cert.GtReferenceIdeal.nD Cert.GtReferenceIdeal.τ Cert.GtReferenceIdeal.sig) → Buf (Elt Ideal) ℓ) (g' : Dev Cert.GtReferenceIdeal.nD → PrngReg), Pre_GtIdeal m →
    (∀ c : Dev Cert.GtIdeal.nD,
      m' ((c.tc : Thread Cert.GtReferenceIdeal.nD Cert.GtReferenceIdeal.τ).loc Cert.GtReferenceIdeal.main_arg0) = m ((c.tc : Thread Cert.GtIdeal.nD Cert.GtIdeal.τ).loc Cert.GtIdeal.main_arg0)
      ∧ m' ((c.tc : Thread Cert.GtReferenceIdeal.nD Cert.GtReferenceIdeal.τ).loc Cert.GtReferenceIdeal.main_arg1) = m ((c.tc : Thread Cert.GtIdeal.nD Cert.GtIdeal.τ).loc Cert.GtIdeal.main_arg1)) →
    ∃ (v0 : (c : Dev Cert.GtIdeal.nD) → Buf (Elt Ideal) ((c.tc : Thread Cert.GtIdeal.nD Cert.GtIdeal.τ).loc Cert.GtIdeal.main_v4)),
      θ_run (Cert.GtIdeal.defs (F := Ideal)) (onTc (τ := Cert.GtIdeal.τ) (Cert.GtIdeal.main (F := Ideal))) ⟨m, fun _ => 0, g⟩ (fun r => ∀ c : Dev Cert.GtIdeal.nD,
          r.2.mem ((c.tc : Thread Cert.GtIdeal.nD Cert.GtIdeal.τ).loc Cert.GtIdeal.main_v4) = v0 c
          ∧ r.2.mem ((c.tc : Thread Cert.GtIdeal.nD Cert.GtIdeal.τ).loc Cert.GtIdeal.main_arg0) = m ((c.tc : Thread Cert.GtIdeal.nD Cert.GtIdeal.τ).loc Cert.GtIdeal.main_arg0)
          ∧ r.2.mem ((c.tc : Thread Cert.GtIdeal.nD Cert.GtIdeal.τ).loc Cert.GtIdeal.main_arg1) = m ((c.tc : Thread Cert.GtIdeal.nD Cert.GtIdeal.τ).loc Cert.GtIdeal.main_arg1))
      ∧ θ_run (Cert.GtReferenceIdeal.defs (F := Ideal)) (onTc (τ := Cert.GtReferenceIdeal.τ) (Cert.GtReferenceIdeal.main (F := Ideal))) ⟨m', fun _ => 0, g'⟩ (fun r => ∀ c : Dev Cert.GtReferenceIdeal.nD,
          r.2.mem ((c.tc : Thread Cert.GtReferenceIdeal.nD Cert.GtReferenceIdeal.τ).loc Cert.GtReferenceIdeal.main_v3) = v0 c
          ∧ r.2.mem ((c.tc : Thread Cert.GtReferenceIdeal.nD Cert.GtReferenceIdeal.τ).loc Cert.GtReferenceIdeal.main_arg0) = m' ((c.tc : Thread Cert.GtReferenceIdeal.nD Cert.GtReferenceIdeal.τ).loc Cert.GtReferenceIdeal.main_arg0)
          ∧ r.2.mem ((c.tc : Thread Cert.GtReferenceIdeal.nD Cert.GtReferenceIdeal.τ).loc Cert.GtReferenceIdeal.main_arg1) = m' ((c.tc : Thread Cert.GtReferenceIdeal.nD Cert.GtReferenceIdeal.τ).loc Cert.GtReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_If_IfIdeal : Prop :=
  True

def algebraic_IfIdeal_IfReferenceIdeal [hIfIdeal : Cert.IfIdeal.Facts] [hIfReferenceIdeal : Cert.IfReferenceIdeal.Facts] : Prop :=
  ∀ (m : (ℓ : Loc Cert.IfIdeal.nD Cert.IfIdeal.τ Cert.IfIdeal.sig) → Buf (Elt Ideal) ℓ) (g : Dev Cert.IfIdeal.nD → PrngReg)
    (m' : (ℓ : Loc Cert.IfReferenceIdeal.nD Cert.IfReferenceIdeal.τ Cert.IfReferenceIdeal.sig) → Buf (Elt Ideal) ℓ) (g' : Dev Cert.IfReferenceIdeal.nD → PrngReg), Pre_IfIdeal m →
    (∀ c : Dev Cert.IfIdeal.nD,
      m' ((c.tc : Thread Cert.IfReferenceIdeal.nD Cert.IfReferenceIdeal.τ).loc Cert.IfReferenceIdeal.main_arg0) = m ((c.tc : Thread Cert.IfIdeal.nD Cert.IfIdeal.τ).loc Cert.IfIdeal.main_arg0)
      ∧ m' ((c.tc : Thread Cert.IfReferenceIdeal.nD Cert.IfReferenceIdeal.τ).loc Cert.IfReferenceIdeal.main_arg1) = m ((c.tc : Thread Cert.IfIdeal.nD Cert.IfIdeal.τ).loc Cert.IfIdeal.main_arg1)) →
    ∃ (v0 : (c : Dev Cert.IfIdeal.nD) → Buf (Elt Ideal) ((c.tc : Thread Cert.IfIdeal.nD Cert.IfIdeal.τ).loc Cert.IfIdeal.main_v7)),
      θ_run (Cert.IfIdeal.defs (F := Ideal)) (onTc (τ := Cert.IfIdeal.τ) (Cert.IfIdeal.main (F := Ideal))) ⟨m, fun _ => 0, g⟩ (fun r => ∀ c : Dev Cert.IfIdeal.nD,
          r.2.mem ((c.tc : Thread Cert.IfIdeal.nD Cert.IfIdeal.τ).loc Cert.IfIdeal.main_v7) = v0 c
          ∧ r.2.mem ((c.tc : Thread Cert.IfIdeal.nD Cert.IfIdeal.τ).loc Cert.IfIdeal.main_arg0) = m ((c.tc : Thread Cert.IfIdeal.nD Cert.IfIdeal.τ).loc Cert.IfIdeal.main_arg0)
          ∧ r.2.mem ((c.tc : Thread Cert.IfIdeal.nD Cert.IfIdeal.τ).loc Cert.IfIdeal.main_arg1) = m ((c.tc : Thread Cert.IfIdeal.nD Cert.IfIdeal.τ).loc Cert.IfIdeal.main_arg1))
      ∧ θ_run (Cert.IfReferenceIdeal.defs (F := Ideal)) (onTc (τ := Cert.IfReferenceIdeal.τ) (Cert.IfReferenceIdeal.main (F := Ideal))) ⟨m', fun _ => 0, g'⟩ (fun r => ∀ c : Dev Cert.IfReferenceIdeal.nD,
          r.2.mem ((c.tc : Thread Cert.IfReferenceIdeal.nD Cert.IfReferenceIdeal.τ).loc Cert.IfReferenceIdeal.main_v3) = v0 c
          ∧ r.2.mem ((c.tc : Thread Cert.IfReferenceIdeal.nD Cert.IfReferenceIdeal.τ).loc Cert.IfReferenceIdeal.main_arg0) = m' ((c.tc : Thread Cert.IfReferenceIdeal.nD Cert.IfReferenceIdeal.τ).loc Cert.IfReferenceIdeal.main_arg0)
          ∧ r.2.mem ((c.tc : Thread Cert.IfReferenceIdeal.nD Cert.IfReferenceIdeal.τ).loc Cert.IfReferenceIdeal.main_arg1) = m' ((c.tc : Thread Cert.IfReferenceIdeal.nD Cert.IfReferenceIdeal.τ).loc Cert.IfReferenceIdeal.main_arg1))

def preserves_Bwd_BwdIdeal : Prop :=
  True

def algebraic_BwdIdeal_BwdReferenceIdeal_pre_finite_bwd [hBwdIdeal : Cert.BwdIdeal.Facts] [hBwdReferenceIdeal : Cert.BwdReferenceIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdReferenceIdeal.nD Cert.BwdReferenceIdeal.τ Cert.BwdReferenceIdeal.sig) → Buf (Elt Ideal) ℓ) (g' : Dev Cert.BwdReferenceIdeal.nD → PrngReg), Pre_BwdIdeal_finite_bwd m →
    (∀ c : Dev Cert.BwdIdeal.nD,
      m' ((c.tc : Thread Cert.BwdReferenceIdeal.nD Cert.BwdReferenceIdeal.τ).loc Cert.BwdReferenceIdeal.main_arg0) = m ((c.tc : Thread Cert.BwdIdeal.nD Cert.BwdIdeal.τ).loc Cert.BwdIdeal.main_arg0)
      ∧ m' ((c.tc : Thread Cert.BwdReferenceIdeal.nD Cert.BwdReferenceIdeal.τ).loc Cert.BwdReferenceIdeal.main_arg1) = m ((c.tc : Thread Cert.BwdIdeal.nD Cert.BwdIdeal.τ).loc Cert.BwdIdeal.main_arg1)
      ∧ m' ((c.tc : Thread Cert.BwdReferenceIdeal.nD Cert.BwdReferenceIdeal.τ).loc Cert.BwdReferenceIdeal.main_arg2) = m ((c.tc : Thread Cert.BwdIdeal.nD Cert.BwdIdeal.τ).loc Cert.BwdIdeal.main_arg2)
      ∧ m' ((c.tc : Thread Cert.BwdReferenceIdeal.nD Cert.BwdReferenceIdeal.τ).loc Cert.BwdReferenceIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v12)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v12) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.BwdReferenceIdeal.defs (F := Ideal)) (onTc (τ := Cert.BwdReferenceIdeal.τ) (Cert.BwdReferenceIdeal.main (F := Ideal))) ⟨m', fun _ => 0, g'⟩ (fun r => ∀ c : Dev Cert.BwdReferenceIdeal.nD,
          r.2.mem ((c.tc : Thread Cert.BwdReferenceIdeal.nD Cert.BwdReferenceIdeal.τ).loc Cert.BwdReferenceIdeal.main_v83) = v0 c
          ∧ r.2.mem ((c.tc : Thread Cert.BwdReferenceIdeal.nD Cert.BwdReferenceIdeal.τ).loc Cert.BwdReferenceIdeal.main_arg0) = m' ((c.tc : Thread Cert.BwdReferenceIdeal.nD Cert.BwdReferenceIdeal.τ).loc Cert.BwdReferenceIdeal.main_arg0)
          ∧ r.2.mem ((c.tc : Thread Cert.BwdReferenceIdeal.nD Cert.BwdReferenceIdeal.τ).loc Cert.BwdReferenceIdeal.main_arg1) = m' ((c.tc : Thread Cert.BwdReferenceIdeal.nD Cert.BwdReferenceIdeal.τ).loc Cert.BwdReferenceIdeal.main_arg1)
          ∧ r.2.mem ((c.tc : Thread Cert.BwdReferenceIdeal.nD Cert.BwdReferenceIdeal.τ).loc Cert.BwdReferenceIdeal.main_arg2) = m' ((c.tc : Thread Cert.BwdReferenceIdeal.nD Cert.BwdReferenceIdeal.τ).loc Cert.BwdReferenceIdeal.main_arg2)
          ∧ r.2.mem ((c.tc : Thread Cert.BwdReferenceIdeal.nD Cert.BwdReferenceIdeal.τ).loc Cert.BwdReferenceIdeal.main_arg3) = m' ((c.tc : Thread Cert.BwdReferenceIdeal.nD Cert.BwdReferenceIdeal.τ).loc Cert.BwdReferenceIdeal.main_arg3))

def preserves_Filt_FiltIdeal : Prop :=
  True

def algebraic_FiltIdeal_FiltReferenceIdeal_pre_finite_filt [hFiltIdeal : Cert.FiltIdeal.Facts] [hFiltReferenceIdeal : Cert.FiltReferenceIdeal.Facts] [hPre_finite_filt : Cert.Pre_finite_filt.Facts] : Prop :=
  ∀ (m : (ℓ : Loc Cert.FiltIdeal.nD Cert.FiltIdeal.τ Cert.FiltIdeal.sig) → Buf (Elt Ideal) ℓ) (g : Dev Cert.FiltIdeal.nD → PrngReg)
    (m' : (ℓ : Loc Cert.FiltReferenceIdeal.nD Cert.FiltReferenceIdeal.τ Cert.FiltReferenceIdeal.sig) → Buf (Elt Ideal) ℓ) (g' : Dev Cert.FiltReferenceIdeal.nD → PrngReg), Pre_FiltIdeal_finite_filt m →
    (∀ c : Dev Cert.FiltIdeal.nD,
      m' ((c.tc : Thread Cert.FiltReferenceIdeal.nD Cert.FiltReferenceIdeal.τ).loc Cert.FiltReferenceIdeal.main_arg0) = m ((c.tc : Thread Cert.FiltIdeal.nD Cert.FiltIdeal.τ).loc Cert.FiltIdeal.main_arg0)
      ∧ m' ((c.tc : Thread Cert.FiltReferenceIdeal.nD Cert.FiltReferenceIdeal.τ).loc Cert.FiltReferenceIdeal.main_arg1) = m ((c.tc : Thread Cert.FiltIdeal.nD Cert.FiltIdeal.τ).loc Cert.FiltIdeal.main_arg1)
      ∧ m' ((c.tc : Thread Cert.FiltReferenceIdeal.nD Cert.FiltReferenceIdeal.τ).loc Cert.FiltReferenceIdeal.main_arg2) = m ((c.tc : Thread Cert.FiltIdeal.nD Cert.FiltIdeal.τ).loc Cert.FiltIdeal.main_arg2)) →
    ∃ (v0 : (c : Dev Cert.FiltIdeal.nD) → Buf (Elt Ideal) ((c.tc : Thread Cert.FiltIdeal.nD Cert.FiltIdeal.τ).loc Cert.FiltIdeal.main_v11)),
      θ_run (Cert.FiltIdeal.defs (F := Ideal)) (onTc (τ := Cert.FiltIdeal.τ) (Cert.FiltIdeal.main (F := Ideal))) ⟨m, fun _ => 0, g⟩ (fun r => ∀ c : Dev Cert.FiltIdeal.nD,
          r.2.mem ((c.tc : Thread Cert.FiltIdeal.nD Cert.FiltIdeal.τ).loc Cert.FiltIdeal.main_v11) = v0 c
          ∧ r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
          ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
          ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2))
      ∧ θ_run (Cert.FiltReferenceIdeal.defs (F := Ideal)) (onTc (τ := Cert.FiltReferenceIdeal.τ) (Cert.FiltReferenceIdeal.main (F := Ideal))) ⟨m', fun _ => 0, g'⟩ (fun r => ∀ c : Dev Cert.FiltReferenceIdeal.nD,
          r.2.mem ((c.tc : Thread Cert.FiltReferenceIdeal.nD Cert.FiltReferenceIdeal.τ).loc Cert.FiltReferenceIdeal.main_v30) = v0 c
          ∧ r.2.mem ((c.tc : Thread Cert.FiltReferenceIdeal.nD Cert.FiltReferenceIdeal.τ).loc Cert.FiltReferenceIdeal.main_arg0) = m' ((c.tc : Thread Cert.FiltReferenceIdeal.nD Cert.FiltReferenceIdeal.τ).loc Cert.FiltReferenceIdeal.main_arg0)
          ∧ r.2.mem ((c.tc : Thread Cert.FiltReferenceIdeal.nD Cert.FiltReferenceIdeal.τ).loc Cert.FiltReferenceIdeal.main_arg1) = m' ((c.tc : Thread Cert.FiltReferenceIdeal.nD Cert.FiltReferenceIdeal.τ).loc Cert.FiltReferenceIdeal.main_arg1)
          ∧ r.2.mem ((c.tc : Thread Cert.FiltReferenceIdeal.nD Cert.FiltReferenceIdeal.τ).loc Cert.FiltReferenceIdeal.main_arg2) = m' ((c.tc : Thread Cert.FiltReferenceIdeal.nD Cert.FiltReferenceIdeal.τ).loc Cert.FiltReferenceIdeal.main_arg2))

def preserves_Ln_LnIdeal : Prop :=
  True

def algebraic_LnIdeal_LnReferenceIdeal [hLnIdeal : Cert.LnIdeal.Facts] [hLnReferenceIdeal : Cert.LnReferenceIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnIdeal m →
    (∀ c : Dev Cert.LnIdeal.nD,
      m' ((c.tc : Thread Cert.LnReferenceIdeal.nD Cert.LnReferenceIdeal.τ).loc Cert.LnReferenceIdeal.main_arg0) = m ((c.tc : Thread Cert.LnIdeal.nD Cert.LnIdeal.τ).loc Cert.LnIdeal.main_arg0)
      ∧ m' ((c.tc : Thread Cert.LnReferenceIdeal.nD Cert.LnReferenceIdeal.τ).loc Cert.LnReferenceIdeal.main_arg1) = m ((c.tc : Thread Cert.LnIdeal.nD Cert.LnIdeal.τ).loc Cert.LnIdeal.main_arg1)
      ∧ m' ((c.tc : Thread Cert.LnReferenceIdeal.nD Cert.LnReferenceIdeal.τ).loc Cert.LnReferenceIdeal.main_arg2) = m ((c.tc : Thread Cert.LnIdeal.nD Cert.LnIdeal.τ).loc Cert.LnIdeal.main_arg2)
      ∧ m' ((c.tc : Thread Cert.LnReferenceIdeal.nD Cert.LnReferenceIdeal.τ).loc Cert.LnReferenceIdeal.main_arg3) = m ((c.tc : Thread Cert.LnIdeal.nD Cert.LnIdeal.τ).loc Cert.LnIdeal.main_arg3)
      ∧ m' ((c.tc : Thread Cert.LnReferenceIdeal.nD Cert.LnReferenceIdeal.τ).loc Cert.LnReferenceIdeal.main_arg4) = m ((c.tc : Thread Cert.LnIdeal.nD Cert.LnIdeal.τ).loc Cert.LnIdeal.main_arg4)
      ∧ m' ((c.tc : Thread Cert.LnReferenceIdeal.nD Cert.LnReferenceIdeal.τ).loc Cert.LnReferenceIdeal.main_arg5) = m ((c.tc : Thread Cert.LnIdeal.nD Cert.LnIdeal.τ).loc Cert.LnIdeal.main_arg5)
      ∧ m' ((c.tc : Thread Cert.LnReferenceIdeal.nD Cert.LnReferenceIdeal.τ).loc Cert.LnReferenceIdeal.main_arg6) = m ((c.tc : Thread Cert.LnIdeal.nD Cert.LnIdeal.τ).loc Cert.LnIdeal.main_arg6)
      ∧ m' ((c.tc : Thread Cert.LnReferenceIdeal.nD Cert.LnReferenceIdeal.τ).loc Cert.LnReferenceIdeal.main_arg7) = m ((c.tc : Thread Cert.LnIdeal.nD Cert.LnIdeal.τ).loc Cert.LnIdeal.main_arg7)) →
    ∃ (v0 : (c : Dev Cert.LnIdeal.nD) → Buf (Elt Ideal) ((c.tc : Thread Cert.LnIdeal.nD Cert.LnIdeal.τ).loc Cert.LnIdeal.main_v16_0)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v16_0) = v0 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5)
          ∧ r.2.mem ((c.tc : Thread Cert.LnIdeal.nD Cert.LnIdeal.τ).loc Cert.LnIdeal.main_arg6) = m ((c.tc : Thread Cert.LnIdeal.nD Cert.LnIdeal.τ).loc Cert.LnIdeal.main_arg6)
          ∧ r.2.mem ((c.tc : Thread Cert.LnIdeal.nD Cert.LnIdeal.τ).loc Cert.LnIdeal.main_arg7) = m ((c.tc : Thread Cert.LnIdeal.nD Cert.LnIdeal.τ).loc Cert.LnIdeal.main_arg7))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v27) = v0 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3)
          ∧ r.2.mem ((c.tc : Thread Cert.LnReferenceIdeal.nD Cert.LnReferenceIdeal.τ).loc Cert.LnReferenceIdeal.main_arg4) = m' ((c.tc : Thread Cert.LnReferenceIdeal.nD Cert.LnReferenceIdeal.τ).loc Cert.LnReferenceIdeal.main_arg4)
          ∧ r.2.mem ((c.tc : Thread Cert.LnReferenceIdeal.nD Cert.LnReferenceIdeal.τ).loc Cert.LnReferenceIdeal.main_arg5) = m' ((c.tc : Thread Cert.LnReferenceIdeal.nD Cert.LnReferenceIdeal.τ).loc Cert.LnReferenceIdeal.main_arg5)
          ∧ r.2.mem ((c.tc : Thread Cert.LnReferenceIdeal.nD Cert.LnReferenceIdeal.τ).loc Cert.LnReferenceIdeal.main_arg6) = m' ((c.tc : Thread Cert.LnReferenceIdeal.nD Cert.LnReferenceIdeal.τ).loc Cert.LnReferenceIdeal.main_arg6)
          ∧ r.2.mem ((c.tc : Thread Cert.LnReferenceIdeal.nD Cert.LnReferenceIdeal.τ).loc Cert.LnReferenceIdeal.main_arg7) = m' ((c.tc : Thread Cert.LnReferenceIdeal.nD Cert.LnReferenceIdeal.τ).loc Cert.LnReferenceIdeal.main_arg7))

def Claim : Prop :=
  ∃ (hKernel : Cert.Kernel.Facts) (hKernelIdeal : Cert.KernelIdeal.Facts) (hReferenceIdeal : Cert.ReferenceIdeal.Facts) (hHy : Cert.Hy.Facts) (hHyIdeal : Cert.HyIdeal.Facts) (hHyReferenceIdeal : Cert.HyReferenceIdeal.Facts) (hMl : Cert.Ml.Facts) (hMlIdeal : Cert.MlIdeal.Facts) (hMlReferenceIdeal : Cert.MlReferenceIdeal.Facts) (hGt : Cert.Gt.Facts) (hGtIdeal : Cert.GtIdeal.Facts) (hGtReferenceIdeal : Cert.GtReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hIf : Cert.If.Facts) (hIfIdeal : Cert.IfIdeal.Facts) (hIfReferenceIdeal : Cert.IfReferenceIdeal.Facts) (hBwd : Cert.Bwd.Facts) (hBwdIdeal : Cert.BwdIdeal.Facts) (hBwdReferenceIdeal : Cert.BwdReferenceIdeal.Facts) (hFilt : Cert.Filt.Facts) (hFiltIdeal : Cert.FiltIdeal.Facts) (hFiltReferenceIdeal : Cert.FiltReferenceIdeal.Facts) (hLn : Cert.Ln.Facts) (hLnIdeal : Cert.LnIdeal.Facts) (hLnReferenceIdeal : Cert.LnReferenceIdeal.Facts) (hPre_finite : Cert.Pre_finite.Facts) (hPre_finite_bwd : Cert.Pre_finite_bwd.Facts) (hPre_finite_filt : Cert.Pre_finite_filt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hy (hHy := hHy)
    ∧ quiescent_HyIdeal (hHyIdeal := hHyIdeal)
    ∧ quiescent_HyReferenceIdeal (hHyReferenceIdeal := hHyReferenceIdeal)
    ∧ quiescent_Ml (hMl := hMl)
    ∧ quiescent_MlIdeal (hMlIdeal := hMlIdeal)
    ∧ quiescent_MlReferenceIdeal (hMlReferenceIdeal := hMlReferenceIdeal)
    ∧ quiescent_Gt (hGt := hGt)
    ∧ quiescent_GtIdeal (hGtIdeal := hGtIdeal)
    ∧ quiescent_GtReferenceIdeal (hGtReferenceIdeal := hGtReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_If (hIf := hIf)
    ∧ quiescent_IfIdeal (hIfIdeal := hIfIdeal)
    ∧ quiescent_IfReferenceIdeal (hIfReferenceIdeal := hIfReferenceIdeal)
    ∧ quiescent_Bwd (hBwd := hBwd)
    ∧ quiescent_BwdIdeal (hBwdIdeal := hBwdIdeal)
    ∧ quiescent_BwdIdeal_pre_finite_bwd (hBwdIdeal := hBwdIdeal) (hPre_finite_bwd := hPre_finite_bwd)
    ∧ quiescent_BwdReferenceIdeal (hBwdReferenceIdeal := hBwdReferenceIdeal)
    ∧ quiescent_BwdReferenceIdeal_pre_finite_bwd (hBwdReferenceIdeal := hBwdReferenceIdeal) (hPre_finite_bwd := hPre_finite_bwd)
    ∧ quiescent_Filt (hFilt := hFilt)
    ∧ quiescent_FiltIdeal (hFiltIdeal := hFiltIdeal)
    ∧ quiescent_FiltIdeal_pre_finite_filt (hFiltIdeal := hFiltIdeal) (hPre_finite_filt := hPre_finite_filt)
    ∧ quiescent_FiltReferenceIdeal (hFiltReferenceIdeal := hFiltReferenceIdeal)
    ∧ quiescent_FiltReferenceIdeal_pre_finite_filt (hFiltReferenceIdeal := hFiltReferenceIdeal) (hPre_finite_filt := hPre_finite_filt)
    ∧ quiescent_Ln (hLn := hLn)
    ∧ quiescent_LnIdeal (hLnIdeal := hLnIdeal)
    ∧ quiescent_LnReferenceIdeal (hLnReferenceIdeal := hLnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hy_HyIdeal
    ∧ algebraic_HyIdeal_HyReferenceIdeal (hHyIdeal := hHyIdeal) (hHyReferenceIdeal := hHyReferenceIdeal)
    ∧ preserves_Ml_MlIdeal
    ∧ algebraic_MlIdeal_MlReferenceIdeal (hMlIdeal := hMlIdeal) (hMlReferenceIdeal := hMlReferenceIdeal)
    ∧ preserves_Gt_GtIdeal
    ∧ algebraic_GtIdeal_GtReferenceIdeal (hGtIdeal := hGtIdeal) (hGtReferenceIdeal := hGtReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_If_IfIdeal
    ∧ algebraic_IfIdeal_IfReferenceIdeal (hIfIdeal := hIfIdeal) (hIfReferenceIdeal := hIfReferenceIdeal)
    ∧ preserves_Bwd_BwdIdeal
    ∧ algebraic_BwdIdeal_BwdReferenceIdeal_pre_finite_bwd (hBwdIdeal := hBwdIdeal) (hBwdReferenceIdeal := hBwdReferenceIdeal) (hPre_finite_bwd := hPre_finite_bwd)
    ∧ preserves_Filt_FiltIdeal
    ∧ algebraic_FiltIdeal_FiltReferenceIdeal_pre_finite_filt (hFiltIdeal := hFiltIdeal) (hFiltReferenceIdeal := hFiltReferenceIdeal) (hPre_finite_filt := hPre_finite_filt)
    ∧ preserves_Ln_LnIdeal
    ∧ algebraic_LnIdeal_LnReferenceIdeal (hLnIdeal := hLnIdeal) (hLnReferenceIdeal := hLnReferenceIdeal)
-- ==== Pre_finite.lean ====
abbrev S4x4096x20512 : Shape := ⟨3, ![4, 4096, 20512]⟩
abbrev S4x8 : Shape := ⟨2, ![4, 8]⟩
abbrev S_ : Shape := ⟨0, ![]⟩

class Facts : Prop where
  bcast_S_S4x4096x20512 : S_.BroadcastsInDim S4x4096x20512 (![] : Fin 0 → Fin S4x4096x20512.rank)
  bcast_S_S4x8 : S_.BroadcastsInDim S4x8 (![] : Fin 0 → Fin S4x8.rank)

variable [Facts]

def fn {F : FTy → Type} [FloatOps F] (main_arg0 : FVec F S4x4096x20512 .f32) (main_arg1 : FVec F S4x8 .f32) : IVec S4x4096x20512 1 × IVec S4x8 1 :=
  let main_v0 : FVec F S4x4096x20512 .f32 := Host.absf main_arg0
  let main_cst : FVec F S_ .f32 := constant S_ .f32 0x7F800000#32
  let main_v1 : FVec F S4x4096x20512 .f32 := broadcastInDim S4x4096x20512 ![] bcast_S_S4x4096x20512 main_cst
  let main_v2 : IVec S4x4096x20512 1 := cmpf .olt main_v0 main_v1
  let main_v3 : FVec F S4x8 .f32 := Host.absf main_arg1
  let main_cst_0 : FVec F S_ .f32 := constant S_ .f32 0x7F800000#32
  let main_v4 : FVec F S4x8 .f32 := broadcastInDim S4x8 ![] bcast_S_S4x8 main_cst_0
  let main_v5 : IVec S4x8 1 := cmpf .olt main_v3 main_v4
  (main_v2, main_v5)
-- ==== Pre_finite_bwd.lean ====
abbrev S4x4096x20512 : Shape := ⟨3, ![4, 4096, 20512]⟩
abbrev S4x8 : Shape := ⟨2, ![4, 8]⟩
abbrev S16384x2048 : Shape := ⟨2, ![16384, 2048]⟩
abbrev S2048 : Shape := ⟨1, ![2048]⟩
abbrev S_ : Shape := ⟨0, ![]⟩

class Facts : Prop where
  bcast_S_S4x4096x20512 : S_.BroadcastsInDim S4x4096x20512 (![] : Fin 0 → Fin S4x4096x20512.rank)
  bcast_S_S4x8 : S_.BroadcastsInDim S4x8 (![] : Fin 0 → Fin S4x8.rank)

variable [Facts]

def fn {F : FTy → Type} [FloatOps F] (main_arg0 : FVec F S4x4096x20512 .f32) (main_arg1 : FVec F S4x8 .f32) (main_arg2 : FVec F S16384x2048 .f32) (main_arg3 : FVec F S2048 .f32) : IVec S4x4096x20512 1 × IVec S4x8 1 :=
  let main_v0 : FVec F S4x4096x20512 .f32 := Host.absf main_arg0
  let main_cst : FVec F S_ .f32 := constant S_ .f32 0x7F800000#32
  let main_v1 : FVec F S4x4096x20512 .f32 := broadcastInDim S4x4096x20512 ![] bcast_S_S4x4096x20512 main_cst
  let main_v2 : IVec S4x4096x20512 1 := cmpf .olt main_v0 main_v1
  let main_v3 : FVec F S4x8 .f32 := Host.absf main_arg1
  let main_cst_0 : FVec F S_ .f32 := constant S_ .f32 0x7F800000#32
  let main_v4 : FVec F S4x8 .f32 := broadcastInDim S4x8 ![] bcast_S_S4x8 main_cst_0
  let main_v5 : IVec S4x8 1 := cmpf .olt main_v3 main_v4
  (main_v2, main_v5)
-- ==== Pre_finite_filt.lean ====
abbrev S4096x64 : Shape := ⟨2, ![4096, 64]⟩
abbrev S64x8192 : Shape := ⟨2, ![64, 8192]⟩
abbrev S2x2048 : Shape := ⟨2, ![2, 2048]⟩
abbrev S_ : Shape := ⟨0, ![]⟩

class Facts : Prop where
  bcast_S_S4096x64 : S_.BroadcastsInDim S4096x64 (![] : Fin 0 → Fin S4096x64.rank)
  bcast_S_S64x8192 : S_.BroadcastsInDim S64x8192 (![] : Fin 0 → Fin S64x8192.rank)

variable [Facts]

def fn {F : FTy → Type} [FloatOps F] (main_arg0 : FVec F S4096x64 .f32) (main_arg1 : FVec F S64x8192 .f32) (main_arg2 : FVec F S2x2048 .f32) : IVec S4096x64 1 × IVec S64x8192 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_v3 : FVec F S64x8192 .f32 := Host.absf main_arg1
  let main_cst_0 : FVec F S_ .f32 := constant S_ .f32 0x7F800000#32
  let main_v4 : FVec F S64x8192 .f32 := broadcastInDim S64x8192 ![] bcast_S_S64x8192 main_cst_0
  let main_v5 : IVec S64x8192 1 := cmpf .olt main_v3 main_v4
  (main_v2, main_v5)
-- ==== Kernel.lean ====
abbrev S4x4096x20512 : Shape := ⟨3, ![4, 4096, 20512]⟩
abbrev S4x8 : Shape := ⟨2, ![4, 8]⟩
abbrev S4x4096x6144 : Shape := ⟨3, ![4, 4096, 6144]⟩
abbrev S16384x6144 : Shape := ⟨2, ![16384, 6144]⟩
abbrev S4x4096x32 : Shape := ⟨3, ![4, 4096, 32]⟩
abbrev S4x4096x4x8 : Shape := ⟨4, ![4, 4096, 4, 8]⟩
abbrev S4x8x4096x4 : Shape := ⟨4, ![4, 8, 4096, 4]⟩
abbrev S4x8x4x4096 : Shape := ⟨4, ![4, 8, 4, 4096]⟩
abbrev S8x4 : Shape := ⟨2, ![8, 4]⟩
abbrev S8x1x4 : Shape := ⟨3, ![8, 1, 4]⟩
abbrev S8x4x1 : Shape := ⟨3, ![8, 4, 1]⟩
abbrev S16384x2048 : Shape := ⟨2, ![16384, 2048]⟩
abbrev S1024x128 : Shape := ⟨2, ![1024, 128]⟩
abbrev S1024x256 : Shape := ⟨2, ![1024, 256]⟩
abbrev S1x1x1024x4 : Shape := ⟨4, ![1, 1, 1024, 4]⟩
abbrev S1x1x4x1024 : Shape := ⟨4, ![1, 1, 4, 1024]⟩
abbrev S1x1x4 : Shape := ⟨3, ![1, 1, 4]⟩
abbrev S1x4x1 : Shape := ⟨3, ![1, 4, 1]⟩
abbrev S128x256 : Shape := ⟨2, ![128, 256]⟩
abbrev S1x128 : Shape := ⟨2, ![1, 128]⟩
abbrev S1x1 : Shape := ⟨2, ![1, 1]⟩
abbrev S256x256 : Shape := ⟨2, ![256, 256]⟩
abbrev S1x1x256x4 : Shape := ⟨4, ![1, 1, 256, 4]⟩
abbrev S256x4 : Shape := ⟨2, ![256, 4]⟩
abbrev S1x4 : Shape := ⟨2, ![1, 4]⟩
abbrev S1x1x4x256 : Shape := ⟨4, ![1, 1, 4, 256]⟩
abbrev S4x256 : Shape := ⟨2, ![4, 256]⟩
abbrev S4x1 : Shape := ⟨2, ![4, 1]⟩
abbrev S256x1 : Shape := ⟨2, ![256, 1]⟩
abbrev S1x256 : Shape := ⟨2, ![1, 256]⟩
abbrev S256 : Shape := ⟨1, ![256]⟩
abbrev S256x128 : Shape := ⟨2, ![256, 128]⟩
abbrev S1 : Shape := ⟨1, ![1]⟩
abbrev S128 : Shape := ⟨1, ![128]⟩

abbrev nBuf : Space → Nat
  | .hbm => 14
  | .vmem => 19
  | .smem => 0
  | _ => 0

abbrev bufTy : (tb : Table) → Fin (tcTables nBuf tb) → BufTy
  | .hbm, ⟨0, _⟩ => ⟨S4x4096x20512, .f32⟩
  | .hbm, ⟨1, _⟩ => ⟨S4x8, .f32⟩
  | .hbm, ⟨2, _⟩ => ⟨S4x4096x6144, .f32⟩
  | .hbm, ⟨3, _⟩ => ⟨S16384x6144, .f32⟩
  | .hbm, ⟨4, _⟩ => ⟨S16384x6144, .bf16⟩
  | .hbm, ⟨5, _⟩ => ⟨S4x4096x32, .f32⟩
  | .hbm, ⟨6, _⟩ => ⟨S4x4096x4x8, .f32⟩
  | .hbm, ⟨7, _⟩ => ⟨S4x8x4096x4, .f32⟩
  | .hbm, ⟨8, _⟩ => ⟨S4x8x4x4096, .f32⟩
  | .hbm, ⟨9, _⟩ => ⟨S8x4, .f32⟩
  | .hbm, ⟨10, _⟩ => ⟨S8x1x4, .f32⟩
  | .hbm, ⟨11, _⟩ => ⟨S8x4, .f32⟩
  | .hbm, ⟨12, _⟩ => ⟨S8x4x1, .f32⟩
  | .hbm, ⟨13, _⟩ => ⟨S16384x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1x1x1024x4, .f32⟩
  | .local _ .vmem, ⟨7, _⟩ => ⟨S1x1x1024x4, .f32⟩
  | .local _ .vmem, ⟨8, _⟩ => ⟨S1x1x4x1024, .f32⟩
  | .local _ .vmem, ⟨9, _⟩ => ⟨S1x1x4x1024, .f32⟩
  | .local _ .vmem, ⟨10, _⟩ => ⟨S1x1x4, .f32⟩
  | .local _ .vmem, ⟨11, _⟩ => ⟨S1x1x4, .f32⟩
  | .local _ .vmem, ⟨12, _⟩ => ⟨S1x4x1, .f32⟩
  | .local _ .vmem, ⟨13, _⟩ => ⟨S1x4x1, .f32⟩
  | .local _ .vmem, ⟨14, _⟩ => ⟨S1024x256, .f32⟩
  | .local _ .vmem, ⟨15, _⟩ => ⟨S1024x256, .f32⟩
  | .local _ .vmem, ⟨16, _⟩ => ⟨S128x256, .f32⟩
  | .local _ .vmem, ⟨17, _⟩ => ⟨S1x128, .f32⟩
  | .local _ .vmem, ⟨18, _⟩ => ⟨S1x1, .f32⟩
  | _, _ => ⟨S4x4096x20512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x4x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x20512 : Shape := ⟨3, ![4, 4096, 20512]⟩
abbrev S4x8 : Shape := ⟨2, ![4, 8]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S_ : Shape := ⟨0, ![]⟩
abbrev S4x4096x2048 : Shape := ⟨3, ![4, 4096, 2048]⟩
abbrev S4x4096x8x256 : Shape := ⟨4, ![4, 4096, 8, 256]⟩
abbrev S4x8x4096x256 : Shape := ⟨4, ![4, 8, 4096, 256]⟩
abbrev S4x4096x32 : Shape := ⟨3, ![4, 4096, 32]⟩
abbrev S4x4096x4x8 : Shape := ⟨4, ![4, 4096, 4, 8]⟩
abbrev S1x1x4x8 : Shape := ⟨4, ![1, 1, 4, 8]⟩
abbrev S4x4x8x4096 : Shape := ⟨4, ![4, 4, 8, 4096]⟩
abbrev S1x4x8x4096 : Shape := ⟨4, ![1, 4, 8, 4096]⟩
abbrev S4x8x4096 : Shape := ⟨3, ![4, 8, 4096]⟩
abbrev S4x8x64x64x128 : Shape := ⟨5, ![4, 8, 64, 64, 128]⟩
abbrev S64x4x8x64x128 : Shape := ⟨5, ![64, 4, 8, 64, 128]⟩
abbrev S4x8x64x64x256 : Shape := ⟨5, ![4, 8, 64, 64, 256]⟩
abbrev S64x4x8x64x256 : Shape := ⟨5, ![64, 4, 8, 64, 256]⟩
abbrev S4x8x64x64 : Shape := ⟨4, ![4, 8, 64, 64]⟩
abbrev S64x4x8x64 : Shape := ⟨4, ![64, 4, 8, 64]⟩
abbrev S64x64 : Shape := ⟨2, ![64, 64]⟩
abbrev S4x8x128x256 : Shape := ⟨4, ![4, 8, 128, 256]⟩
abbrev S4x8x128 : Shape := ⟨3, ![4, 8, 128]⟩
abbrev S1x4x8x64x128 : Shape := ⟨5, ![1, 4, 8, 64, 128]⟩
abbrev S4x8x64x128 : Shape := ⟨4, ![4, 8, 64, 128]⟩
abbrev S1x4x8x64x256 : Shape := ⟨5, ![1, 4, 8, 64, 256]⟩
abbrev S4x8x64x256 : Shape := ⟨4, ![4, 8, 64, 256]⟩
abbrev S1x4x8x64 : Shape := ⟨4, ![1, 4, 8, 64]⟩
abbrev S4x8x64 : Shape := ⟨3, ![4, 8, 64]⟩
abbrev S4x8x64x1 : Shape := ⟨4, ![4, 8, 64, 1]⟩
abbrev S4x8x1x64 : Shape := ⟨4, ![4, 8, 1, 64]⟩
abbrev S4x8x1 : Shape := ⟨3, ![4, 8, 1]⟩
abbrev S4x8x1x1 : Shape := ⟨4, ![4, 8, 1, 1]⟩
abbrev S16384x2048 : Shape := ⟨2, ![16384, 2048]⟩

abbrev nBuf : Space → Nat
  | .hbm => 202
  | .vmem => 0
  | .smem => 0
  | _ => 0

abbrev hbmTy0_0 (i : Nat) : BufTy := match i % 128 with
  | 0 => ⟨S4x4096x20512, .f32⟩
  | 1 => ⟨S4x8, .f32⟩
  | 2 => ⟨S4x4096x1024, .f32⟩
  | 3 => ⟨S4x4096x8x128, .f32⟩
  | 4 => ⟨S4x8x4096x128, .f32⟩
  | 5 => ⟨S_, .f32⟩
  | 6 => ⟨S4x8x4096x128, .f32⟩
  | 7 => ⟨S4x8x4096x128, .f32⟩
  | 8 => ⟨S4x4096x1024, .f32⟩
  | 9 => ⟨S4x4096x8x128, .f32⟩
  | 10 => ⟨S4x8x4096x128, .f32⟩
  | 11 => ⟨S4x4096x2048, .f32⟩
  | 12 => ⟨S4x4096x8x256, .f32⟩
  | 13 => ⟨S4x8x4096x256, .f32⟩
  | 14 => ⟨S4x4096x32, .f32⟩
  | 15 => ⟨S4x4096x4x8, .f32⟩
  | 16 => ⟨S1x1x4x8, .f32⟩
  | 17 => ⟨S4x4096x4x8, .f32⟩
  | 18 => ⟨S4x4096x4x8, .f32⟩
  | 19 => ⟨S4x4x8x4096, .f32⟩
  | 20 => ⟨S1x4x8x4096, .f32⟩
  | 21 => ⟨S4x8x4096, .f32⟩
  | 22 => ⟨S1x4x8x4096, .f32⟩
  | 23 => ⟨S4x8x4096, .f32⟩
  | 24 => ⟨S4x8x4096, .f32⟩
  | 25 => ⟨S_, .f32⟩
  | 26 => ⟨S4x8x4096, .f32⟩
  | 27 => ⟨S4x8x4096, .f32⟩
  | 28 => ⟨S4x8x4096, .f32⟩
  | 29 => ⟨S4x8x4096, .f32⟩
  | 30 => ⟨S4x8x4096, .i1⟩
  | 31 => ⟨S4x8x4096, .f32⟩
  | 32 => ⟨S4x8x4096, .f32⟩
  | 33 => ⟨S4x8x4096, .f32⟩
  | 34 => ⟨S4x8x4096, .f32⟩
  | 35 => ⟨S4x8x4096, .f32⟩
  | 36 => ⟨S4x8x4096, .f32⟩
  | 37 => ⟨S4x8x4096, .f32⟩
  | 38 => ⟨S4x8x4096, .f32⟩
  | 39 => ⟨S4x8x4096, .f32⟩
  | 40 => ⟨S4x8x64x64x128, .f32⟩
  | 41 => ⟨S64x4x8x64x128, .f32⟩
  | 42 => ⟨S4x8x64x64x128, .f32⟩
  | 43 => ⟨S64x4x8x64x128, .f32⟩
  | 44 => ⟨S4x8x64x64x256, .f32⟩
  | 45 => ⟨S64x4x8x64x256, .f32⟩
  | 46 => ⟨S4x8x64x64, .f32⟩
  | 47 => ⟨S64x4x8x64, .f32⟩
  | 48 => ⟨S4x8x64x64, .f32⟩
  | 49 => ⟨S64x4x8x64, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S_, .f32⟩
  | 62 => ⟨S4x8x128x256, .f32⟩
  | 63 => ⟨S_, .f32⟩
  | 64 => ⟨S4x8x128, .f32⟩
  | 65 => ⟨S_, .f32⟩
  | 66 => ⟨S4x8, .f32⟩
  | 67 => ⟨S_, .f32⟩
  | 68 => ⟨S64x4x8x64x256, .f32⟩
  | 69 => ⟨S_, .i32⟩
  | 70 => ⟨S64x4x8x64x128, .f32⟩
  | 71 => ⟨S64x4x8x64x128, .f32⟩
  | 72 => ⟨S64x4x8x64x256, .f32⟩
  | 73 => ⟨S64x4x8x64, .f32⟩
  | 74 => ⟨S64x4x8x64, .f32⟩
  | 75 => ⟨S64x64, .i1⟩
  | 76 => ⟨S_, .i32⟩
  | 77 => ⟨S4x8x128x256, .f32⟩
  | 78 => ⟨S4x8x128, .f32⟩
  | 79 => ⟨S4x8, .f32⟩
  | 80 => ⟨S64x4x8x64x256, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x4x8x64x128, .f32⟩
  | 88 => ⟨S4x8x64x128, .f32⟩
  | 89 => ⟨S_, .i32⟩
  | 90 => ⟨S_, .i32⟩
  | 91 => ⟨S_, .i32⟩
  | 92 => ⟨S_, .i32⟩
  | 93 => ⟨S1x4x8x64x128, .f32⟩
  | 94 => ⟨S4x8x64x128, .f32⟩
  | 95 => ⟨S_, .i32⟩
  | 96 => ⟨S_, .i32⟩
  | 97 => ⟨S_, .i32⟩
  | 98 => ⟨S_, .i32⟩
  | 99 => ⟨S1x4x8x64x256, .f32⟩
  | 100 => ⟨S4x8x64x256, .f32⟩
  | 101 => ⟨S_, .i32⟩
  | 102 => ⟨S_, .i32⟩
  | 103 => ⟨S_, .i32⟩
  | 104 => ⟨S1x4x8x64, .f32⟩
  | 105 => ⟨S4x8x64, .f32⟩
  | 106 => ⟨S_, .i32⟩
  | 107 => ⟨S_, .i32⟩
  | 108 => ⟨S_, .i32⟩
  | 109 => ⟨S1x4x8x64, .f32⟩
  | 110 => ⟨S4x8x64, .f32⟩
  | 111 => ⟨S_, .f32⟩
  | 112 => ⟨S_, .f32⟩
  | 113 => ⟨S4x8x64, .f32⟩
  | 114 => ⟨S4x8x64x1, .f32⟩
  | 115 => ⟨S4x8x1x64, .f32⟩
  | 116 => ⟨S4x8x64x64, .f32⟩
  | 117 => ⟨S4x8x64x64, .f32⟩
  | 118 => ⟨S4x8x64x64, .f32⟩
  | 119 => ⟨S4x8x1x64, .f32⟩
  | 120 => ⟨S4x8x64x64, .f32⟩
  | 121 => ⟨S4x8x64x64, .f32⟩
  | 122 => ⟨S_, .f32⟩
  | 123 => ⟨S_, .f32⟩
  | 124 => ⟨S4x8x64x64, .i1⟩
  | 125 => ⟨S4x8x64x64, .f32⟩
  | 126 => ⟨S4x8x64x64, .f32⟩
  | 127 => ⟨S4x8x1, .f32⟩
  | _ => ⟨S4x4096x20512, .f32⟩

abbrev hbmTy0_1 (i : Nat) : BufTy := match i % 128 with
  | 0 => ⟨S4x8x64, .f32⟩
  | 1 => ⟨S4x8x64, .f32⟩
  | 2 => ⟨S_, .f32⟩
  | 3 => ⟨S4x8x64, .f32⟩
  | 4 => ⟨S4x8x64, .f32⟩
  | 5 => ⟨S4x8x64x64, .f32⟩
  | 6 => ⟨S4x8x64x1, .f32⟩
  | 7 => ⟨S4x8x64x64, .f32⟩
  | 8 => ⟨S4x8x64x64, .f32⟩
  | 9 => ⟨S4x8x64x64, .f32⟩
  | 10 => ⟨S4x8x64x64, .f32⟩
  | 11 => ⟨S4x8x64, .f32⟩
  | 12 => ⟨S4x8x64, .f32⟩
  | 13 => ⟨S4x8x64x256, .f32⟩
  | 14 => ⟨S4x8x64x1, .f32⟩
  | 15 => ⟨S4x8x64x256, .f32⟩
  | 16 => ⟨S4x8x64x256, .f32⟩
  | 17 => ⟨S4x8x64x256, .f32⟩
  | 18 => ⟨S4x8x64x256, .f32⟩
  | 19 => ⟨S_, .f32⟩
  | 20 => ⟨S4x8x64, .f32⟩
  | 21 => ⟨S4x8x64, .f32⟩
  | 22 => ⟨S4x8x64, .f32⟩
  | 23 => ⟨S4x8x64, .f32⟩
  | 24 => ⟨S4x8x64, .f32⟩
  | 25 => ⟨S4x8x64, .f32⟩
  | 26 => ⟨S4x8x64, .f32⟩
  | 27 => ⟨S4x8x64, .f32⟩
  | 28 => ⟨S4x8x64x1, .f32⟩
  | 29 => ⟨S4x8x64x256, .f32⟩
  | 30 => ⟨S4x8x64x256, .f32⟩
  | 31 => ⟨S4x8x1, .f32⟩
  | 32 => ⟨S4x8, .f32⟩
  | 33 => ⟨S4x8x1, .f32⟩
  | 34 => ⟨S4x8x64, .f32⟩
  | 35 => ⟨S4x8x64, .f32⟩
  | 36 => ⟨S4x8x64, .f32⟩
  | 37 => ⟨S4x8, .f32⟩
  | 38 => ⟨S_, .f32⟩
  | 39 => ⟨S4x8, .f32⟩
  | 40 => ⟨S4x8, .f32⟩
  | 41 => ⟨S4x8x1, .f32⟩
  | 42 => ⟨S4x8x64, .f32⟩
  | 43 => ⟨S4x8x64, .f32⟩
  | 44 => ⟨S4x8x64, .f32⟩
  | 45 => ⟨S4x8x64x1, .f32⟩
  | 46 => ⟨S4x8x64x128, .f32⟩
  | 47 => ⟨S4x8x64x128, .f32⟩
  | 48 => ⟨S4x8, .f32⟩
  | 49 => ⟨S4x8, .f32⟩
  | 50 => ⟨S4x8, .f32⟩
  | 51 => ⟨S4x8x1x1, .f32⟩
  | 52 => ⟨S4x8x128x256, .f32⟩
  | 53 => ⟨S4x8x128x256, .f32⟩
  | 54 => ⟨S4x8x128x256, .f32⟩
  | 55 => ⟨S4x8x128x256, .f32⟩
  | 56 => ⟨S4x8x1, .f32⟩
  | 57 => ⟨S4x8x128, .f32⟩
  | 58 => ⟨S4x8x128, .f32⟩
  | 59 => ⟨S_, .f32⟩
  | 60 => ⟨S4x8x128, .f32⟩
  | 61 => ⟨S4x8x128, .f32⟩
  | 62 => ⟨S1x4x8x64x256, .f32⟩
  | 63 => ⟨S_, .i32⟩
  | 64 => ⟨S_, .i32⟩
  | 65 => ⟨S_, .i32⟩
  | 66 => ⟨S_, .i32⟩
  | 67 => ⟨S64x4x8x64x256, .f32⟩
  | 68 => ⟨S_, .i32⟩
  | 69 => ⟨S_, .i32⟩
  | 70 => ⟨S4x8x64x64x256, .f32⟩
  | 71 => ⟨S4x8x4096x256, .f32⟩
  | 72 => ⟨S4x4096x8x256, .f32⟩
  | 73 => ⟨S16384x2048, .f32⟩
  | _ => ⟨S4x4096x20512, .f32⟩

abbrev hbmTy (i : Nat) : BufTy := match i / 128 with
  | 0 => hbmTy0_0 i
  | 1 => hbmTy0_1 i
  | _ => ⟨S4x4096x20512, .f32⟩

abbrev bufTy : (tb : Table) → Fin (tcTables nBuf tb) → BufTy
  | .hbm, ⟨i, _⟩ => hbmTy i
  | _, _ => ⟨S4x4096x20512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_0 : Ref sig .tc := ⟨.hbm, 58, rfl⟩
abbrev main_call1_v5 : Ref sig .tc := ⟨.hbm, 59, rfl⟩
abbrev main_v33 : Ref sig .tc := ⟨.hbm, 60, rfl⟩
abbrev main_cst_0 : Ref sig .tc := ⟨.hbm, 61, rfl⟩
abbrev main_v34 : Ref sig .tc := ⟨.hbm, 62, rfl⟩
abbrev main_cst_1 : Ref sig .tc := ⟨.hbm, 63, rfl⟩
abbrev main_v35 : Ref sig .tc := ⟨.hbm, 64, rfl⟩
abbrev main_cst_2 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_c_4 : Ref sig .tc := ⟨.hbm, 69, rfl⟩
abbrev main_v38_0 : Ref sig .tc := ⟨.hbm, 70, rfl⟩
abbrev main_v38_1 : Ref sig .tc := ⟨.hbm, 71, rfl⟩
abbrev main_v38_2 : Ref sig .tc := ⟨.hbm, 72, rfl⟩
abbrev main_v38_3 : Ref sig .tc := ⟨.hbm, 73, rfl⟩
abbrev main_v38_4 : Ref sig .tc := ⟨.hbm, 74, rfl⟩
abbrev main_v38_5 : Ref sig .tc := ⟨.hbm, 75, rfl⟩
abbrev main_v38_6 : Ref sig .tc := ⟨.hbm, 76, rfl⟩
abbrev main_v38_7 : Ref sig .tc := ⟨.hbm, 77, rfl⟩
abbrev main_v38_8 : Ref sig .tc := ⟨.hbm, 78, rfl⟩
abbrev main_v38_9 : Ref sig .tc := ⟨.hbm, 79, rfl⟩
abbrev main_v38_10 : Ref sig .tc := ⟨.hbm, 80, rfl⟩
abbrev main_while0c_c_15 : Ref sig .tc := ⟨.hbm, 81, rfl⟩
abbrev main_while0c_v43 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v43 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v44 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v45 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_v0 : Ref sig .tc := ⟨.hbm, 104, rfl⟩
abbrev main_while0b_v46 : Ref sig .tc := ⟨.hbm, 105, rfl⟩
abbrev main_while0b_call6_c : Ref sig .tc := ⟨.hbm, 106, rfl⟩
abbrev main_while0b_call6_c_0 : Ref sig .tc := ⟨.hbm, 107, rfl⟩
abbrev main_while0b_call6_c_1 : Ref sig .tc := ⟨.hbm, 108, rfl⟩
abbrev main_while0b_call6_v0 : Ref sig .tc := ⟨.hbm, 109, rfl⟩
abbrev main_while0b_v47 : Ref sig .tc := ⟨.hbm, 110, rfl⟩
abbrev main_while0b_call7_call0_cst : Ref sig .tc := ⟨.hbm, 111, rfl⟩
abbrev main_while0b_call7_call0_v0 : Ref sig .tc := ⟨.hbm, 112, rfl⟩
abbrev main_while0b_v48 : Ref sig .tc := ⟨.hbm, 113, rfl⟩
abbrev main_while0b_v49 : Ref sig .tc := ⟨.hbm, 114, rfl⟩
abbrev main_while0b_v50 : Ref sig .tc := ⟨.hbm, 115, rfl⟩
abbrev main_while0b_v51 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_cst_15 : Ref sig .tc := ⟨.hbm, 122, rfl⟩
abbrev main_while0b_call8_v0 : Ref sig .tc := ⟨.hbm, 123, rfl⟩
abbrev main_while0b_call8_v1 : Ref sig .tc := ⟨.hbm, 124, rfl⟩
abbrev main_while0b_call8_v2 : Ref sig .tc := ⟨.hbm, 125, rfl⟩
abbrev main_while0b_v57 : Ref sig .tc := ⟨.hbm, 126, rfl⟩
abbrev main_while0b_v58 : Ref sig .tc := ⟨.hbm, 127, rfl⟩
abbrev main_while0b_v59 : Ref sig .tc := ⟨.hbm, 128, rfl⟩
abbrev main_while0b_v60 : Ref sig .tc := ⟨.hbm, 129, rfl⟩
abbrev main_while0b_cst_16 : Ref sig .tc := ⟨.hbm, 130, rfl⟩
abbrev main_while0b_v61 : Ref sig .tc := ⟨.hbm, 131, rfl⟩
abbrev main_while0b_v62 : Ref sig .tc := ⟨.hbm, 132, rfl⟩
abbrev main_while0b_v63 : Ref sig .tc := ⟨.hbm, 133, rfl⟩
abbrev main_while0b_v64 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_cst_17 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_v80 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_cst_18 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_cst_19 : Ref sig .tc := ⟨.hbm, 187, rfl⟩
abbrev main_while0b_v115 : Ref sig .tc := ⟨.hbm, 188, rfl⟩
abbrev main_while0b_v116 : Ref sig .tc := ⟨.hbm, 189, rfl⟩
abbrev main_while0b_call9_v0 : Ref sig .tc := ⟨.hbm, 190, rfl⟩
abbrev main_while0b_call9_c : Ref sig .tc := ⟨.hbm, 191, rfl⟩
abbrev main_while0b_call9_c_0 : Ref sig .tc := ⟨.hbm, 192, rfl⟩
abbrev main_while0b_call9_c_1 : Ref sig .tc := ⟨.hbm, 193, rfl⟩
abbrev main_while0b_call9_c_2 : Ref sig .tc := ⟨.hbm, 194, rfl⟩
abbrev main_while0b_v117 : Ref sig .tc := ⟨.hbm, 195, rfl⟩
abbrev main_while0b_c_20 : Ref sig .tc := ⟨.hbm, 196, rfl⟩
abbrev main_while0b_v118 : Ref sig .tc := ⟨.hbm, 197, rfl⟩
abbrev main_v39 : Ref sig .tc := ⟨.hbm, 198, rfl⟩
abbrev main_v40 : Ref sig .tc := ⟨.hbm, 199, rfl⟩
abbrev main_v41 : Ref sig .tc := ⟨.hbm, 200, rfl⟩
abbrev main_v42 : Ref sig .tc := ⟨.hbm, 201, rfl⟩

abbrev nD : Nat := 1
abbrev τ : Topo := Topo.v7x

variable {F : FTy → Type} [FloatOps F]

abbrev main_while0_count : Scf.Loop 32 := ⟨0#32, 64#32, 1#32⟩
-- ==== Hy.lean ====
abbrev S4x4096x4096 : Shape := ⟨3, ![4, 4096, 4096]⟩
abbrev S4096x20512 : Shape := ⟨2, ![4096, 20512]⟩
abbrev S16384x4096 : Shape := ⟨2, ![16384, 4096]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S16384x4096, .f32⟩
  | .hbm, ⟨3, _⟩ => ⟨S16384x4096, .bf16⟩
  | .hbm, ⟨4, _⟩ => ⟨S4096x6144, .f32⟩
  | .hbm, ⟨5, _⟩ => ⟨S4096x6144, .bf16⟩
  | .hbm, ⟨6, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyReferenceIdeal.lean ====
abbrev S4x4096x4096 : Shape := ⟨3, ![4, 4096, 4096]⟩
abbrev S4096x20512 : Shape := ⟨2, ![4096, 20512]⟩
abbrev S4x4096x20512 : Shape := ⟨3, ![4, 4096, 20512]⟩
abbrev S4x4096x6144 : Shape := ⟨3, ![4, 4096, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S4x4096x20512, .f32⟩
  | .hbm, ⟨3, _⟩ => ⟨S4x4096x6144, .f32⟩
  | .hbm, ⟨4, _⟩ => ⟨S16384x6144, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ml.lean ====
abbrev S4x4096x4096 : Shape := ⟨3, ![4, 4096, 4096]⟩
abbrev S4096x20512 : Shape := ⟨2, ![4096, 20512]⟩
abbrev S16384x4096 : Shape := ⟨2, ![16384, 4096]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S16384x4096, .f32⟩
  | .hbm, ⟨3, _⟩ => ⟨S16384x4096, .bf16⟩
  | .hbm, ⟨4, _⟩ => ⟨S4096x6144, .f32⟩
  | .hbm, ⟨5, _⟩ => ⟨S4096x6144, .bf16⟩
  | .hbm, ⟨6, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlReferenceIdeal.lean ====
abbrev S4x4096x4096 : Shape := ⟨3, ![4, 4096, 4096]⟩
abbrev S4096x20512 : Shape := ⟨2, ![4096, 20512]⟩
abbrev S4x4096x20512 : Shape := ⟨3, ![4, 4096, 20512]⟩
abbrev S4x4096x6144 : Shape := ⟨3, ![4, 4096, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S4x4096x20512, .f32⟩
  | .hbm, ⟨3, _⟩ => ⟨S4x4096x6144, .f32⟩
  | .hbm, ⟨4, _⟩ => ⟨S16384x6144, .f32⟩
  | .hbm, ⟨5, _⟩ => ⟨S16384x6144, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gt.lean ====
abbrev S4x4096x4096 : Shape := ⟨3, ![4, 4096, 4096]⟩
abbrev S4096x20512 : Shape := ⟨2, ![4096, 20512]⟩
abbrev S16384x4096 : Shape := ⟨2, ![16384, 4096]⟩
abbrev S4096x8192 : Shape := ⟨2, ![4096, 8192]⟩
abbrev S16384x8192 : Shape := ⟨2, ![16384, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S16384x4096, .f32⟩
  | .hbm, ⟨3, _⟩ => ⟨S16384x4096, .bf16⟩
  | .hbm, ⟨4, _⟩ => ⟨S4096x8192, .f32⟩
  | .hbm, ⟨5, _⟩ => ⟨S4096x8192, .bf16⟩
  | .hbm, ⟨6, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GtReferenceIdeal.lean ====
abbrev S4x4096x4096 : Shape := ⟨3, ![4, 4096, 4096]⟩
abbrev S4096x20512 : Shape := ⟨2, ![4096, 20512]⟩
abbrev S4x4096x20512 : Shape := ⟨3, ![4, 4096, 20512]⟩
abbrev S4x4096x8192 : Shape := ⟨3, ![4, 4096, 8192]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S4x4096x20512, .f32⟩
  | .hbm, ⟨3, _⟩ => ⟨S4x4096x8192, .f32⟩
  | .hbm, ⟨4, _⟩ => ⟨S16384x8192, .f32⟩
  | .hbm, ⟨5, _⟩ => ⟨S16384x8192, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S4x4096x2048 : Shape := ⟨3, ![4, 4096, 2048]⟩
abbrev S2048x4096 : Shape := ⟨2, ![2048, 4096]⟩
abbrev S4x4096x8192 : Shape := ⟨3, ![4, 4096, 8192]⟩
abbrev S16384x2048 : Shape := ⟨2, ![16384, 2048]⟩
abbrev S16384x8192 : Shape := ⟨2, ![16384, 8192]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x4096, .f32⟩
  | .hbm, ⟨3, _⟩ => ⟨S2048x4096, .f32⟩
  | .hbm, ⟨4, _⟩ => ⟨S4x4096x8192, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S2048x4096, .bf16⟩
  | .hbm, ⟨10, _⟩ => ⟨S2048x4096, .bf16⟩
  | .hbm, ⟨11, _⟩ => ⟨S16384x8192, .f32⟩
  | .hbm, ⟨12, _⟩ => ⟨S16384x8192, .bf16⟩
  | .hbm, ⟨13, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S4x4096x2048 : Shape := ⟨3, ![4, 4096, 2048]⟩
abbrev S2048x4096 : Shape := ⟨2, ![2048, 4096]⟩
abbrev S4x4096x8192 : Shape := ⟨3, ![4, 4096, 8192]⟩
abbrev S4x4096x4096 : Shape := ⟨3, ![4, 4096, 4096]⟩
abbrev S_ : Shape := ⟨0, ![]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x4096, .f32⟩
  | .hbm, ⟨3, _⟩ => ⟨S2048x4096, .f32⟩
  | .hbm, ⟨4, _⟩ => ⟨S4x4096x8192, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S16384x4096, .f32⟩
  | .hbm, ⟨29, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Out.lean ====
abbrev S4x4096x4096 : Shape := ⟨3, ![4, 4096, 4096]⟩
abbrev S4096x4096 : Shape := ⟨2, ![4096, 4096]⟩
abbrev S16384x4096 : Shape := ⟨2, ![16384, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S4x4096x4096 : Shape := ⟨3, ![4, 4096, 4096]⟩
abbrev S4096x4096 : Shape := ⟨2, ![4096, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x4096, .f32⟩
  | .hbm, ⟨3, _⟩ => ⟨S16384x4096, .f32⟩
  | .hbm, ⟨4, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== If.lean ====
abbrev S4x4096x4096 : Shape := ⟨3, ![4, 4096, 4096]⟩
abbrev S4096x20512 : Shape := ⟨2, ![4096, 20512]⟩
abbrev S_ : Shape := ⟨0, ![]⟩
abbrev S4096x128 : Shape := ⟨2, ![4096, 128]⟩
abbrev S4096x32 : Shape := ⟨2, ![4096, 32]⟩
abbrev S1 : Shape := ⟨1, ![1]⟩
abbrev S16384x4096 : Shape := ⟨2, ![16384, 4096]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 12
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S_, .bf16⟩
  | .hbm, ⟨3, _⟩ => ⟨S4096x128, .bf16⟩
  | .hbm, ⟨4, _⟩ => ⟨S4096x32, .f32⟩
  | .hbm, ⟨5, _⟩ => ⟨S4096x32, .bf16⟩
  | .hbm, ⟨6, _⟩ => ⟨S_, .i32⟩
  | .hbm, ⟨7, _⟩ => ⟨S1, .i32⟩
  | .hbm, ⟨8, _⟩ => ⟨S4096x128, .bf16⟩
  | .hbm, ⟨9, _⟩ => ⟨S16384x4096, .f32⟩
  | .hbm, ⟨10, _⟩ => ⟨S16384x4096, .bf16⟩
  | .hbm, ⟨11, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IfReferenceIdeal.lean ====
abbrev S4x4096x4096 : Shape := ⟨3, ![4, 4096, 4096]⟩
abbrev S4096x20512 : Shape := ⟨2, ![4096, 20512]⟩
abbrev S4x4096x20512 : Shape := ⟨3, ![4, 4096, 20512]⟩
abbrev S4x4096x32 : Shape := ⟨3, ![4, 4096, 32]⟩
abbrev S16384x32 : Shape := ⟨2, ![16384, 32]⟩
abbrev S_ : Shape := ⟨0, ![]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x20512, .f32⟩
  | .hbm, ⟨2, _⟩ => ⟨S4x4096x20512, .f32⟩
  | .hbm, ⟨3, _⟩ => ⟨S4x4096x32, .f32⟩
  | .hbm, ⟨4, _⟩ => ⟨S16384x32, .f32⟩
  | .hbm, ⟨5, _⟩ => ⟨S_, .i32⟩
  | .hbm, ⟨6, _⟩ => ⟨S_, .f32⟩
  | .hbm, ⟨7, _⟩ => ⟨S16384x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Bwd.lean ====
abbrev S4x4096x20512 : Shape := ⟨3, ![4, 4096, 20512]⟩
abbrev S4x8 : Shape := ⟨2, ![4, 8]⟩
abbrev S16384x2048 : Shape := ⟨2, ![16384, 2048]⟩
abbrev S2048 : Shape := ⟨1, ![2048]⟩
abbrev S4x4096x6144 : Shape := ⟨3, ![4, 4096, 6144]⟩
abbrev S16384x6144 : Shape := ⟨2, ![16384, 6144]⟩
abbrev S4x4096x32 : Shape := ⟨3, ![4, 4096, 32]⟩
abbrev S4x4096x4x8 : Shape := ⟨4, ![4, 4096, 4, 8]⟩
abbrev S4x8x4096x4 : Shape := ⟨4, ![4, 8, 4096, 4]⟩
abbrev S4x8x4x4096 : Shape := ⟨4, ![4, 8, 4, 4096]⟩
abbrev S8x4 : Shape := ⟨2, ![8, 4]⟩
abbrev S8x1x4 : Shape := ⟨3, ![8, 1, 4]⟩
abbrev S8x4x1 : Shape := ⟨3, ![8, 4, 1]⟩
abbrev S1x2048 : Shape := ⟨2, ![1, 2048]⟩
abbrev S1024x128 : Shape := ⟨2, ![1024, 128]⟩
abbrev S1024x256 : Shape := ⟨2, ![1024, 256]⟩
abbrev S1x1x1024x4 : Shape := ⟨4, ![1, 1, 1024, 4]⟩
abbrev S1x1x4x1024 : Shape := ⟨4, ![1, 1, 4, 1024]⟩
abbrev S1x1x4 : Shape := ⟨3, ![1, 1, 4]⟩
abbrev S1x4x1 : Shape := ⟨3, ![1, 4, 1]⟩
abbrev S1x256 : Shape := ⟨2, ![1, 256]⟩
abbrev S128x256 : Shape := ⟨2, ![128, 256]⟩
abbrev S1x128 : Shape := ⟨2, ![1, 128]⟩
abbrev S1x1 : Shape := ⟨2, ![1, 1]⟩
abbrev S256x256 : Shape := ⟨2, ![256, 256]⟩
abbrev S1x1x256x4 : Shape := ⟨4, ![1, 1, 256, 4]⟩
abbrev S256x4 : Shape := ⟨2, ![256, 4]⟩
abbrev S1x4 : Shape := ⟨2, ![1, 4]⟩
abbrev S1x1x4x256 : Shape := ⟨4, ![1, 1, 4, 256]⟩
abbrev S4x256 : Shape := ⟨2, ![4, 256]⟩
abbrev S4x1 : Shape := ⟨2, ![4, 1]⟩
abbrev S256x1 : Shape := ⟨2, ![256, 1]⟩
abbrev S256 : Shape := ⟨1, ![256]⟩
abbrev S256x128 : Shape := ⟨2, ![256, 128]⟩
abbrev S1 : Shape := ⟨1, ![1]⟩
abbrev S128 : Shape := ⟨1, ![128]⟩

abbrev nBuf : Space → Nat
  | .hbm => 17
  | .vmem => 25
  | .smem => 0
  | _ => 0

abbrev bufTy : (tb : Table) → Fin (tcTables nBuf tb) → BufTy
  | .hbm, ⟨0, _⟩ => ⟨S4x4096x20512, .f32⟩
  | .hbm, ⟨1, _⟩ => ⟨S4x8, .f32⟩
  | .hbm, ⟨2, _⟩ => ⟨S16384x2048, .f32⟩
  | .hbm, ⟨3, _⟩ => ⟨S2048, .f32⟩
  | .hbm, ⟨4, _⟩ => ⟨S4x4096x6144, .f32⟩
  | .hbm, ⟨5, _⟩ => ⟨S16384x6144, .f32⟩
  | .hbm, ⟨6, _⟩ => ⟨S16384x6144, .bf16⟩
  | .hbm, ⟨7, _⟩ => ⟨S4x4096x32, .f32⟩
  | .hbm, ⟨8, _⟩ => ⟨S4x4096x4x8, .f32⟩
  | .hbm, ⟨9, _⟩ => ⟨S4x8x4096x4, .f32⟩
  | .hbm, ⟨10, _⟩ => ⟨S4x8x4x4096, .f32⟩
  | .hbm, ⟨11, _⟩ => ⟨S8x4, .f32⟩
  | .hbm, ⟨12, _⟩ => ⟨S8x1x4, .f32⟩
  | .hbm, ⟨13, _⟩ => ⟨S8x4, .f32⟩
  | .hbm, ⟨14, _⟩ => ⟨S8x4x1, .f32⟩
  | .hbm, ⟨15, _⟩ => ⟨S1x2048, .f32⟩
  | .hbm, ⟨16, _⟩ => ⟨S16384x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1x1x1024x4, .f32⟩
  | .local _ .vmem, ⟨7, _⟩ => ⟨S1x1x1024x4, .f32⟩
  | .local _ .vmem, ⟨8, _⟩ => ⟨S1x1x4x1024, .f32⟩
  | .local _ .vmem, ⟨9, _⟩ => ⟨S1x1x4x1024, .f32⟩
  | .local _ .vmem, ⟨10, _⟩ => ⟨S1x1x4, .f32⟩
  | .local _ .vmem, ⟨11, _⟩ => ⟨S1x1x4, .f32⟩
  | .local _ .vmem, ⟨12, _⟩ => ⟨S1x4x1, .f32⟩
  | .local _ .vmem, ⟨13, _⟩ => ⟨S1x4x1, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | .local _ .vmem, ⟨18, _⟩ => ⟨S1x256, .f32⟩
  | .local _ .vmem, ⟨19, _⟩ => ⟨S1x256, .f32⟩
  | .local _ .vmem, ⟨20, _⟩ => ⟨S1024x256, .bf16⟩
  | .local _ .vmem, ⟨21, _⟩ => ⟨S1024x256, .bf16⟩
  | .local _ .vmem, ⟨22, _⟩ => ⟨S128x256, .f32⟩
  | .local _ .vmem, ⟨23, _⟩ => ⟨S1x128, .f32⟩
  | .local _ .vmem, ⟨24, _⟩ => ⟨S1x1, .f32⟩
  | _, _ => ⟨S4x4096x20512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c8_i32 : BitVec 32 := 8#32
  let v3 : BitVec 32 := Scalar.addi c8_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c8_i32 : BitVec 32 := 8#32
  let v3 : BitVec 32 := Scalar.addi c8_i32 arg1
  let c0_i32 : BitVec 32 := 0#32
  ![v2.toNat, v3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  ![arg0.toNat, arg1.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  ![arg0.toNat, arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c16_i32 : BitVec 32 := 16#32
  let v3 : BitVec 32 := Scalar.addi c16_i32 arg1
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.subi c3_i32 arg2
  let v2 : BitVec 32 := Scalar.addi v0 v1
  let c0_i32 : BitVec 32 := 0#32
  ![v2.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x4x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== BwdReferenceIdeal.lean ====
abbrev S4x4096x20512 : Shape := ⟨3, ![4, 4096, 20512]⟩
abbrev S4x8 : Shape := ⟨2, ![4, 8]⟩
abbrev S16384x2048 : Shape := ⟨2, ![16384, 2048]⟩
abbrev S2048 : Shape := ⟨1, ![2048]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S_ : Shape := ⟨0, ![]⟩
abbrev S4x4096x2048 : Shape := ⟨3, ![4, 4096, 2048]⟩
abbrev S4x4096x8x256 : Shape := ⟨4, ![4, 4096, 8, 256]⟩
abbrev S4x8x4096x256 : Shape := ⟨4, ![4, 8, 4096, 256]⟩
abbrev S4x4096x32 : Shape := ⟨3, ![4, 4096, 32]⟩
abbrev S4x4096x4x8 : Shape := ⟨4, ![4, 4096, 4, 8]⟩
abbrev S1x1x4x8 : Shape := ⟨4, ![1, 1, 4, 8]⟩
abbrev S4x4x8x4096 : Shape := ⟨4, ![4, 4, 8, 4096]⟩
abbrev S1x4x8x4096 : Shape := ⟨4, ![1, 4, 8, 4096]⟩
abbrev S4x8x4096 : Shape := ⟨3, ![4, 8, 4096]⟩
abbrev S4x8x64x64x128 : Shape := ⟨5, ![4, 8, 64, 64, 128]⟩
abbrev S64x4x8x64x128 : Shape := ⟨5, ![64, 4, 8, 64, 128]⟩
abbrev S4x8x64x64x256 : Shape := ⟨5, ![4, 8, 64, 64, 256]⟩
abbrev S64x4x8x64x256 : Shape := ⟨5, ![64, 4, 8, 64, 256]⟩
abbrev S4x8x64x64 : Shape := ⟨4, ![4, 8, 64, 64]⟩
abbrev S64x4x8x64 : Shape := ⟨4, ![64, 4, 8, 64]⟩
abbrev S64x64 : Shape := ⟨2, ![64, 64]⟩
abbrev S4x8x128x256 : Shape := ⟨4, ![4, 8, 128, 256]⟩
abbrev S4x8x128 : Shape := ⟨3, ![4, 8, 128]⟩
abbrev S1x4x8x64x128 : Shape := ⟨5, ![1, 4, 8, 64, 128]⟩
abbrev S4x8x64x128 : Shape := ⟨4, ![4, 8, 64, 128]⟩
abbrev S1x4x8x64x256 : Shape := ⟨5, ![1, 4, 8, 64, 256]⟩
abbrev S4x8x64x256 : Shape := ⟨4, ![4, 8, 64, 256]⟩
abbrev S1x4x8x64 : Shape := ⟨4, ![1, 4, 8, 64]⟩
abbrev S4x8x64 : Shape := ⟨3, ![4, 8, 64]⟩
abbrev S4x8x64x1 : Shape := ⟨4, ![4, 8, 64, 1]⟩
abbrev S4x8x1x64 : Shape := ⟨4, ![4, 8, 1, 64]⟩
abbrev S4x8x1 : Shape := ⟨3, ![4, 8, 1]⟩
abbrev S4x8x1x1 : Shape := ⟨4, ![4, 8, 1, 1]⟩
abbrev S4x8x4096x1 : Shape := ⟨4, ![4, 8, 4096, 1]⟩
abbrev S1x1x2048 : Shape := ⟨3, ![1, 1, 2048]⟩

abbrev nBuf : Space → Nat
  | .hbm => 252
  | .vmem => 0
  | .smem => 0
  | _ => 0

abbrev hbmTy0_0 (i : Nat) : BufTy := match i % 128 with
  | 0 => ⟨S4x4096x20512, .f32⟩
  | 1 => ⟨S4x8, .f32⟩
  | 2 => ⟨S16384x2048, .f32⟩
  | 3 => ⟨S2048, .f32⟩
  | 4 => ⟨S4x4096x1024, .f32⟩
  | 5 => ⟨S4x4096x8x128, .f32⟩
  | 6 => ⟨S4x8x4096x128, .f32⟩
  | 7 => ⟨S_, .f32⟩
  | 8 => ⟨S4x8x4096x128, .f32⟩
  | 9 => ⟨S4x8x4096x128, .f32⟩
  | 10 => ⟨S4x4096x1024, .f32⟩
  | 11 => ⟨S4x4096x8x128, .f32⟩
  | 12 => ⟨S4x8x4096x128, .f32⟩
  | 13 => ⟨S4x4096x2048, .f32⟩
  | 14 => ⟨S4x4096x8x256, .f32⟩
  | 15 => ⟨S4x8x4096x256, .f32⟩
  | 16 => ⟨S4x4096x32, .f32⟩
  | 17 => ⟨S4x4096x4x8, .f32⟩
  | 18 => ⟨S1x1x4x8, .f32⟩
  | 19 => ⟨S4x4096x4x8, .f32⟩
  | 20 => ⟨S4x4096x4x8, .f32⟩
  | 21 => ⟨S4x4x8x4096, .f32⟩
  | 22 => ⟨S4x8x4096x128, .f32⟩
  | 23 => ⟨S4x8x4096x128, .f32⟩
  | 24 => ⟨S4x8x4096x256, .f32⟩
  | 25 => ⟨S1x4x8x4096, .f32⟩
  | 26 => ⟨S4x8x4096, .f32⟩
  | 27 => ⟨S4x8x4096, .f32⟩
  | 28 => ⟨S1x4x8x4096, .f32⟩
  | 29 => ⟨S4x8x4096, .f32⟩
  | 30 => ⟨S4x8x4096, .f32⟩
  | 31 => ⟨S_, .f32⟩
  | 32 => ⟨S4x8x4096, .f32⟩
  | 33 => ⟨S4x8x4096, .f32⟩
  | 34 => ⟨S4x8x4096, .f32⟩
  | 35 => ⟨S4x8x4096, .f32⟩
  | 36 => ⟨S4x8x4096, .i1⟩
  | 37 => ⟨S4x8x4096, .f32⟩
  | 38 => ⟨S4x8x4096, .f32⟩
  | 39 => ⟨S4x8x4096, .f32⟩
  | 40 => ⟨S4x8x4096, .f32⟩
  | 41 => ⟨S4x8x4096, .f32⟩
  | 42 => ⟨S4x8x4096, .f32⟩
  | 43 => ⟨S4x8x4096, .f32⟩
  | 44 => ⟨S4x8x4096, .f32⟩
  | 45 => ⟨S4x8x4096, .f32⟩
  | 46 => ⟨S4x8x4096, .f32⟩
  | 47 => ⟨S4x8x64x64x128, .f32⟩
  | 48 => ⟨S64x4x8x64x128, .f32⟩
  | 49 => ⟨S4x8x64x64x128, .f32⟩
  | 50 => ⟨S64x4x8x64x128, .f32⟩
  | 51 => ⟨S4x8x64x64x256, .f32⟩
  | 52 => ⟨S64x4x8x64x256, .f32⟩
  | 53 => ⟨S4x8x64x64, .f32⟩
  | 54 => ⟨S64x4x8x64, .f32⟩
  | 55 => ⟨S4x8x64x64, .f32⟩
  | 56 => ⟨S64x4x8x64, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S_, .f32⟩
  | 69 => ⟨S4x8x128x256, .f32⟩
  | 70 => ⟨S_, .f32⟩
  | 71 => ⟨S4x8x128, .f32⟩
  | 72 => ⟨S_, .f32⟩
  | 73 => ⟨S4x8, .f32⟩
  | 74 => ⟨S_, .f32⟩
  | 75 => ⟨S64x4x8x64x256, .f32⟩
  | 76 => ⟨S_, .i32⟩
  | 77 => ⟨S64x4x8x64x128, .f32⟩
  | 78 => ⟨S64x4x8x64x128, .f32⟩
  | 79 => ⟨S64x4x8x64x256, .f32⟩
  | 80 => ⟨S64x4x8x64, .f32⟩
  | 81 => ⟨S64x4x8x64, .f32⟩
  | 82 => ⟨S64x64, .i1⟩
  | 83 => ⟨S_, .i32⟩
  | 84 => ⟨S4x8x128x256, .f32⟩
  | 85 => ⟨S4x8x128, .f32⟩
  | 86 => ⟨S4x8, .f32⟩
  | 87 => ⟨S64x4x8x64x256, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x4x8x64x128, .f32⟩
  | 95 => ⟨S4x8x64x128, .f32⟩
  | 96 => ⟨S_, .i32⟩
  | 97 => ⟨S_, .i32⟩
  | 98 => ⟨S_, .i32⟩
  | 99 => ⟨S_, .i32⟩
  | 100 => ⟨S1x4x8x64x128, .f32⟩
  | 101 => ⟨S4x8x64x128, .f32⟩
  | 102 => ⟨S_, .i32⟩
  | 103 => ⟨S_, .i32⟩
  | 104 => ⟨S_, .i32⟩
  | 105 => ⟨S_, .i32⟩
  | 106 => ⟨S1x4x8x64x256, .f32⟩
  | 107 => ⟨S4x8x64x256, .f32⟩
  | 108 => ⟨S_, .i32⟩
  | 109 => ⟨S_, .i32⟩
  | 110 => ⟨S_, .i32⟩
  | 111 => ⟨S1x4x8x64, .f32⟩
  | 112 => ⟨S4x8x64, .f32⟩
  | 113 => ⟨S_, .i32⟩
  | 114 => ⟨S_, .i32⟩
  | 115 => ⟨S_, .i32⟩
  | 116 => ⟨S1x4x8x64, .f32⟩
  | 117 => ⟨S4x8x64, .f32⟩
  | 118 => ⟨S_, .f32⟩
  | 119 => ⟨S_, .f32⟩
  | 120 => ⟨S4x8x64, .f32⟩
  | 121 => ⟨S4x8x64x1, .f32⟩
  | 122 => ⟨S4x8x1x64, .f32⟩
  | 123 => ⟨S4x8x64x64, .f32⟩
  | 124 => ⟨S4x8x64x64, .f32⟩
  | 125 => ⟨S4x8x64x64, .f32⟩
  | 126 => ⟨S4x8x1x64, .f32⟩
  | 127 => ⟨S4x8x64x64, .f32⟩
  | _ => ⟨S4x4096x20512, .f32⟩

abbrev hbmTy0_1 (i : Nat) : BufTy := match i % 128 with
  | 0 => ⟨S4x8x64x64, .f32⟩
  | 1 => ⟨S_, .f32⟩
  | 2 => ⟨S_, .f32⟩
  | 3 => ⟨S4x8x64x64, .i1⟩
  | 4 => ⟨S4x8x64x64, .f32⟩
  | 5 => ⟨S4x8x64x64, .f32⟩
  | 6 => ⟨S4x8x1, .f32⟩
  | 7 => ⟨S4x8x64, .f32⟩
  | 8 => ⟨S4x8x64, .f32⟩
  | 9 => ⟨S_, .f32⟩
  | 10 => ⟨S4x8x64, .f32⟩
  | 11 => ⟨S4x8x64, .f32⟩
  | 12 => ⟨S4x8x64x64, .f32⟩
  | 13 => ⟨S4x8x64x1, .f32⟩
  | 14 => ⟨S4x8x64x64, .f32⟩
  | 15 => ⟨S4x8x64x64, .f32⟩
  | 16 => ⟨S4x8x64x64, .f32⟩
  | 17 => ⟨S4x8x64x64, .f32⟩
  | 18 => ⟨S4x8x64, .f32⟩
  | 19 => ⟨S4x8x64, .f32⟩
  | 20 => ⟨S4x8x64x256, .f32⟩
  | 21 => ⟨S4x8x64x1, .f32⟩
  | 22 => ⟨S4x8x64x256, .f32⟩
  | 23 => ⟨S4x8x64x256, .f32⟩
  | 24 => ⟨S4x8x64x256, .f32⟩
  | 25 => ⟨S4x8x64x256, .f32⟩
  | 26 => ⟨S_, .f32⟩
  | 27 => ⟨S4x8x64, .f32⟩
  | 28 => ⟨S4x8x64, .f32⟩
  | 29 => ⟨S4x8x64, .f32⟩
  | 30 => ⟨S4x8x64, .f32⟩
  | 31 => ⟨S4x8x64, .f32⟩
  | 32 => ⟨S4x8x64, .f32⟩
  | 33 => ⟨S4x8x64, .f32⟩
  | 34 => ⟨S4x8x64, .f32⟩
  | 35 => ⟨S4x8x64x1, .f32⟩
  | 36 => ⟨S4x8x64x256, .f32⟩
  | 37 => ⟨S4x8x64x256, .f32⟩
  | 38 => ⟨S4x8x1, .f32⟩
  | 39 => ⟨S4x8, .f32⟩
  | 40 => ⟨S4x8x1, .f32⟩
  | 41 => ⟨S4x8x64, .f32⟩
  | 42 => ⟨S4x8x64, .f32⟩
  | 43 => ⟨S4x8x64, .f32⟩
  | 44 => ⟨S4x8, .f32⟩
  | 45 => ⟨S_, .f32⟩
  | 46 => ⟨S4x8, .f32⟩
  | 47 => ⟨S4x8, .f32⟩
  | 48 => ⟨S4x8x1, .f32⟩
  | 49 => ⟨S4x8x64, .f32⟩
  | 50 => ⟨S4x8x64, .f32⟩
  | 51 => ⟨S4x8x64, .f32⟩
  | 52 => ⟨S4x8x64x1, .f32⟩
  | 53 => ⟨S4x8x64x128, .f32⟩
  | 54 => ⟨S4x8x64x128, .f32⟩
  | 55 => ⟨S4x8, .f32⟩
  | 56 => ⟨S4x8, .f32⟩
  | 57 => ⟨S4x8, .f32⟩
  | 58 => ⟨S4x8x1x1, .f32⟩
  | 59 => ⟨S4x8x128x256, .f32⟩
  | 60 => ⟨S4x8x128x256, .f32⟩
  | 61 => ⟨S4x8x128x256, .f32⟩
  | 62 => ⟨S4x8x128x256, .f32⟩
  | 63 => ⟨S4x8x1, .f32⟩
  | 64 => ⟨S4x8x128, .f32⟩
  | 65 => ⟨S4x8x128, .f32⟩
  | 66 => ⟨S_, .f32⟩
  | 67 => ⟨S4x8x128, .f32⟩
  | 68 => ⟨S4x8x128, .f32⟩
  | 69 => ⟨S1x4x8x64x256, .f32⟩
  | 70 => ⟨S_, .i32⟩
  | 71 => ⟨S_, .i32⟩
  | 72 => ⟨S_, .i32⟩
  | 73 => ⟨S_, .i32⟩
  | 74 => ⟨S64x4x8x64x256, .f32⟩
  | 75 => ⟨S_, .i32⟩
  | 76 => ⟨S_, .i32⟩
  | 77 => ⟨S4x8x64x64x256, .f32⟩
  | 78 => ⟨S4x8x4096x256, .f32⟩
  | 79 => ⟨S4x8x4096x256, .f32⟩
  | 80 => ⟨S4x4096x2048, .f32⟩
  | 81 => ⟨S4x4096x8x256, .f32⟩
  | 82 => ⟨S4x8x4096x256, .f32⟩
  | 83 => ⟨S4x8x4096x256, .f32⟩
  | 84 => ⟨S_, .f32⟩
  | 85 => ⟨S4x8x4096, .f32⟩
  | 86 => ⟨S4x8x4096x1, .f32⟩
  | 87 => ⟨S_, .f32⟩
  | 88 => ⟨S4x8x4096x1, .f32⟩
  | 89 => ⟨S4x8x4096x1, .f32⟩
  | 90 => ⟨S4x8x4096x256, .f32⟩
  | 91 => ⟨S4x8x4096x256, .f32⟩
  | 92 => ⟨S4x8x4096x256, .f32⟩
  | 93 => ⟨S_, .f32⟩
  | 94 => ⟨S4x8x4096, .f32⟩
  | 95 => ⟨S4x8x4096x1, .f32⟩
  | 96 => ⟨S_, .f32⟩
  | 97 => ⟨S4x8x4096x1, .f32⟩
  | 98 => ⟨S4x8x4096x1, .f32⟩
  | 99 => ⟨S4x8x4096x256, .f32⟩
  | 100 => ⟨S4x8x4096x256, .f32⟩
  | 101 => ⟨S_, .f32⟩
  | 102 => ⟨S4x8x4096x1, .f32⟩
  | 103 => ⟨S4x8x4096x1, .f32⟩
  | 104 => ⟨S4x8x4096x1, .f32⟩
  | 105 => ⟨S4x8x4096x256, .f32⟩
  | 106 => ⟨S4x8x4096x256, .f32⟩
  | 107 => ⟨S4x4096x8x256, .f32⟩
  | 108 => ⟨S4x4096x2048, .f32⟩
  | 109 => ⟨S1x1x2048, .f32⟩
  | 110 => ⟨S4x4096x2048, .f32⟩
  | 111 => ⟨S4x4096x2048, .f32⟩
  | 112 => ⟨S4x4096x2048, .f32⟩
  | 113 => ⟨S4x4096x2048, .f32⟩
  | 114 => ⟨S4x4096x2048, .f32⟩
  | 115 => ⟨S_, .f32⟩
  | 116 => ⟨S4x4096x2048, .f32⟩
  | 117 => ⟨S4x4096x2048, .f32⟩
  | 118 => ⟨S_, .f32⟩
  | 119 => ⟨S4x4096x2048, .f32⟩
  | 120 => ⟨S4x4096x2048, .f32⟩
  | 121 => ⟨S4x4096x2048, .f32⟩
  | 122 => ⟨S16384x2048, .f32⟩
  | 123 => ⟨S16384x2048, .bf16⟩
  | _ => ⟨S4x4096x20512, .f32⟩

abbrev hbmTy (i : Nat) : BufTy := match i / 128 with
  | 0 => hbmTy0_0 i
  | 1 => hbmTy0_1 i
  | _ => ⟨S4x4096x20512, .f32⟩

abbrev bufTy : (tb : Table) → Fin (tcTables nBuf tb) → BufTy
  | .hbm, ⟨i, _⟩ => hbmTy i
  | _, _ => ⟨S4x4096x20512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call4_v0 : Ref sig .tc := ⟨.hbm, 30, rfl⟩
abbrev main_call4_call0_cst : Ref sig .tc := ⟨.hbm, 31, rfl⟩
abbrev main_call4_call0_v0 : Ref sig .tc := ⟨.hbm, 32, rfl⟩
abbrev main_call4_call0_v1 : Ref sig .tc := ⟨.hbm, 33, rfl⟩
abbrev main_call4_call0_v2 : Ref sig .tc := ⟨.hbm, 34, rfl⟩
abbrev main_call4_call0_v3 : Ref sig .tc := ⟨.hbm, 35, rfl⟩
abbrev main_call4_call0_v4 : Ref sig .tc := ⟨.hbm, 36, rfl⟩
abbrev main_call4_call0_v5 : Ref sig .tc := ⟨.hbm, 37, rfl⟩
abbrev main_call4_call0_v6 : Ref sig .tc := ⟨.hbm, 38, rfl⟩
abbrev main_call4_call0_v7 : Ref sig .tc := ⟨.hbm, 39, rfl⟩
abbrev main_call4_call0_v8 : Ref sig .tc := ⟨.hbm, 40, rfl⟩
abbrev main_call4_call0_v9 : Ref sig .tc := ⟨.hbm, 41, rfl⟩
abbrev main_call4_call0_v10 : Ref sig .tc := ⟨.hbm, 42, rfl⟩
abbrev main_call4_call0_v11 : Ref sig .tc := ⟨.hbm, 43, rfl⟩
abbrev main_call4_v1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c : Ref sig .tc := ⟨.hbm, 57, rfl⟩
abbrev main_v37 : Ref sig .tc := ⟨.hbm, 58, rfl⟩
abbrev main_call6_v0 : Ref sig .tc := ⟨.hbm, 59, rfl⟩
abbrev main_call6_c : Ref sig .tc := ⟨.hbm, 60, rfl⟩
abbrev main_call6_v1 : Ref sig .tc := ⟨.hbm, 61, rfl⟩
abbrev main_call6_v2 : Ref sig .tc := ⟨.hbm, 62, rfl⟩
abbrev main_call6_v3 : Ref sig .tc := ⟨.hbm, 63, rfl⟩
abbrev main_call6_v4 : Ref sig .tc := ⟨.hbm, 64, rfl⟩
abbrev main_call6_c_0 : Ref sig .tc := ⟨.hbm, 65, rfl⟩
abbrev main_call6_v5 : Ref sig .tc := ⟨.hbm, 66, rfl⟩
abbrev main_v38 : Ref sig .tc := ⟨.hbm, 67, rfl⟩
abbrev main_cst_0 : Ref sig .tc := ⟨.hbm, 68, rfl⟩
abbrev main_v39 : Ref sig .tc := ⟨.hbm, 69, rfl⟩
abbrev main_cst_1 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_cst_3 : Ref sig .tc := ⟨.hbm, 74, rfl⟩
abbrev main_v42 : Ref sig .tc := ⟨.hbm, 75, rfl⟩
abbrev main_c_4 : Ref sig .tc := ⟨.hbm, 76, rfl⟩
abbrev main_v43_0 : Ref sig .tc := ⟨.hbm, 77, rfl⟩
abbrev main_v43_1 : Ref sig .tc := ⟨.hbm, 78, rfl⟩
abbrev main_v43_2 : Ref sig .tc := ⟨.hbm, 79, rfl⟩
abbrev main_v43_3 : Ref sig .tc := ⟨.hbm, 80, rfl⟩
abbrev main_v43_4 : Ref sig .tc := ⟨.hbm, 81, rfl⟩
abbrev main_v43_5 : Ref sig .tc := ⟨.hbm, 82, rfl⟩
abbrev main_v43_6 : Ref sig .tc := ⟨.hbm, 83, rfl⟩
abbrev main_v43_7 : Ref sig .tc := ⟨.hbm, 84, rfl⟩
abbrev main_v43_8 : Ref sig .tc := ⟨.hbm, 85, rfl⟩
abbrev main_v43_9 : Ref sig .tc := ⟨.hbm, 86, rfl⟩
abbrev main_v43_10 : Ref sig .tc := ⟨.hbm, 87, rfl⟩
abbrev main_while0c_c_22 : Ref sig .tc := ⟨.hbm, 88, rfl⟩
abbrev main_while0c_v84 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_call7_c_2 : Ref sig .tc := ⟨.hbm, 93, rfl⟩
abbrev main_while0b_call7_v0 : Ref sig .tc := ⟨.hbm, 94, rfl⟩
abbrev main_while0b_v84 : Ref sig .tc := ⟨.hbm, 95, rfl⟩
abbrev main_while0b_call8_c : Ref sig .tc := ⟨.hbm, 96, rfl⟩
abbrev main_while0b_call8_c_0 : Ref sig .tc := ⟨.hbm, 97, rfl⟩
abbrev main_while0b_call8_c_1 : Ref sig .tc := ⟨.hbm, 98, rfl⟩
abbrev main_while0b_call8_c_2 : Ref sig .tc := ⟨.hbm, 99, rfl⟩
abbrev main_while0b_call8_v0 : Ref sig .tc := ⟨.hbm, 100, rfl⟩
abbrev main_while0b_v85 : Ref sig .tc := ⟨.hbm, 101, rfl⟩
abbrev main_while0b_call9_c : Ref sig .tc := ⟨.hbm, 102, rfl⟩
abbrev main_while0b_call9_c_0 : Ref sig .tc := ⟨.hbm, 103, rfl⟩
abbrev main_while0b_call9_c_1 : Ref sig .tc := ⟨.hbm, 104, rfl⟩
abbrev main_while0b_call9_c_2 : Ref sig .tc := ⟨.hbm, 105, rfl⟩
abbrev main_while0b_call9_v0 : Ref sig .tc := ⟨.hbm, 106, rfl⟩
abbrev main_while0b_v86 : Ref sig .tc := ⟨.hbm, 107, rfl⟩
abbrev main_while0b_call10_c : Ref sig .tc := ⟨.hbm, 108, rfl⟩
abbrev main_while0b_call10_c_0 : Ref sig .tc := ⟨.hbm, 109, rfl⟩
abbrev main_while0b_call10_c_1 : Ref sig .tc := ⟨.hbm, 110, rfl⟩
abbrev main_while0b_call10_v0 : Ref sig .tc := ⟨.hbm, 111, rfl⟩
abbrev main_while0b_v87 : Ref sig .tc := ⟨.hbm, 112, rfl⟩
abbrev main_while0b_call11_c : Ref sig .tc := ⟨.hbm, 113, rfl⟩
abbrev main_while0b_call11_c_0 : Ref sig .tc := ⟨.hbm, 114, rfl⟩
abbrev main_while0b_call11_c_1 : Ref sig .tc := ⟨.hbm, 115, rfl⟩
abbrev main_while0b_call11_v0 : Ref sig .tc := ⟨.hbm, 116, rfl⟩
abbrev main_while0b_v88 : Ref sig .tc := ⟨.hbm, 117, rfl⟩
abbrev main_while0b_call12_call0_cst : Ref sig .tc := ⟨.hbm, 118, rfl⟩
abbrev main_while0b_call12_call0_v0 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_v97 : Ref sig .tc := ⟨.hbm, 128, rfl⟩
abbrev main_while0b_cst_22 : Ref sig .tc := ⟨.hbm, 129, rfl⟩
abbrev main_while0b_call13_v0 : Ref sig .tc := ⟨.hbm, 130, rfl⟩
abbrev main_while0b_call13_v1 : Ref sig .tc := ⟨.hbm, 131, rfl⟩
abbrev main_while0b_call13_v2 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_cst_23 : Ref sig .tc := ⟨.hbm, 137, rfl⟩
abbrev main_while0b_v102 : Ref sig .tc := ⟨.hbm, 138, rfl⟩
abbrev main_while0b_v103 : Ref sig .tc := ⟨.hbm, 139, rfl⟩
abbrev main_while0b_v104 : Ref sig .tc := ⟨.hbm, 140, rfl⟩
abbrev main_while0b_v105 : Ref sig .tc := ⟨.hbm, 141, rfl⟩
abbrev main_while0b_v106 : Ref sig .tc := ⟨.hbm, 142, rfl⟩
abbrev main_while0b_v107 : Ref sig .tc := ⟨.hbm, 143, rfl⟩
abbrev main_while0b_v108 : Ref sig .tc := ⟨.hbm, 144, rfl⟩
abbrev main_while0b_v109 : Ref sig .tc := ⟨.hbm, 145, rfl⟩
abbrev main_while0b_v110 : Ref sig .tc := ⟨.hbm, 146, rfl⟩
abbrev main_while0b_v111 : Ref sig .tc := ⟨.hbm, 147, rfl⟩
abbrev main_while0b_v112 : Ref sig .tc := ⟨.hbm, 148, rfl⟩
abbrev main_while0b_v113 : Ref sig .tc := ⟨.hbm, 149, rfl⟩
abbrev main_while0b_v114 : Ref sig .tc := ⟨.hbm, 150, rfl⟩
abbrev main_while0b_v115 : Ref sig .tc := ⟨.hbm, 151, rfl⟩
abbrev main_while0b_v116 : Ref sig .tc := ⟨.hbm, 152, rfl⟩
abbrev main_while0b_v117 : Ref sig .tc := ⟨.hbm, 153, rfl⟩
abbrev main_while0b_cst_24 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_v128 : Ref sig .tc := ⟨.hbm, 165, rfl⟩
abbrev main_while0b_v129 : Ref sig .tc := ⟨.hbm, 166, rfl⟩
abbrev main_while0b_v130 : Ref sig .tc := ⟨.hbm, 167, rfl⟩
abbrev main_while0b_v131 : Ref sig .tc := ⟨.hbm, 168, rfl⟩
abbrev main_while0b_v132 : Ref sig .tc := ⟨.hbm, 169, rfl⟩
abbrev main_while0b_v133 : Ref sig .tc := ⟨.hbm, 170, rfl⟩
abbrev main_while0b_v134 : Ref sig .tc := ⟨.hbm, 171, rfl⟩
abbrev main_while0b_v135 : Ref sig .tc := ⟨.hbm, 172, rfl⟩
abbrev main_while0b_cst_25 : Ref sig .tc := ⟨.hbm, 173, rfl⟩
abbrev main_while0b_v136 : Ref sig .tc := ⟨.hbm, 174, rfl⟩
abbrev main_while0b_v137 : Ref sig .tc := ⟨.hbm, 175, rfl⟩
abbrev main_while0b_v138 : Ref sig .tc := ⟨.hbm, 176, rfl⟩
abbrev main_while0b_v139 : Ref sig .tc := ⟨.hbm, 177, rfl⟩
abbrev main_while0b_v140 : Ref sig .tc := ⟨.hbm, 178, rfl⟩
abbrev main_while0b_v141 : Ref sig .tc := ⟨.hbm, 179, rfl⟩
abbrev main_while0b_v142 : Ref sig .tc := ⟨.hbm, 180, rfl⟩
abbrev main_while0b_v143 : Ref sig .tc := ⟨.hbm, 181, rfl⟩
abbrev main_while0b_v144 : Ref sig .tc := ⟨.hbm, 182, rfl⟩
abbrev main_while0b_v145 : Ref sig .tc := ⟨.hbm, 183, rfl⟩
abbrev main_while0b_v146 : Ref sig .tc := ⟨.hbm, 184, rfl⟩
abbrev main_while0b_v147 : Ref sig .tc := ⟨.hbm, 185, rfl⟩
abbrev main_while0b_v148 : Ref sig .tc := ⟨.hbm, 186, rfl⟩
abbrev main_while0b_v149 : Ref sig .tc := ⟨.hbm, 187, rfl⟩
abbrev main_while0b_v150 : Ref sig .tc := ⟨.hbm, 188, rfl⟩
abbrev main_while0b_v151 : Ref sig .tc := ⟨.hbm, 189, rfl⟩
abbrev main_while0b_v152 : Ref sig .tc := ⟨.hbm, 190, rfl⟩
abbrev main_while0b_v153 : Ref sig .tc := ⟨.hbm, 191, rfl⟩
abbrev main_while0b_v154 : Ref sig .tc := ⟨.hbm, 192, rfl⟩
abbrev main_while0b_v155 : Ref sig .tc := ⟨.hbm, 193, rfl⟩
abbrev main_while0b_cst_26 : Ref sig .tc := ⟨.hbm, 194, rfl⟩
abbrev main_while0b_v156 : Ref sig .tc := ⟨.hbm, 195, rfl⟩
abbrev main_while0b_v157 : Ref sig .tc := ⟨.hbm, 196, rfl⟩
abbrev main_while0b_call14_v0 : Ref sig .tc := ⟨.hbm, 197, rfl⟩
abbrev main_while0b_call14_c : Ref sig .tc := ⟨.hbm, 198, rfl⟩
abbrev main_while0b_call14_c_0 : Ref sig .tc := ⟨.hbm, 199, rfl⟩
abbrev main_while0b_call14_c_1 : Ref sig .tc := ⟨.hbm, 200, rfl⟩
abbrev main_while0b_call14_c_2 : Ref sig .tc := ⟨.hbm, 201, rfl⟩
abbrev main_while0b_v158 : Ref sig .tc := ⟨.hbm, 202, rfl⟩
abbrev main_while0b_c_27 : Ref sig .tc := ⟨.hbm, 203, rfl⟩
abbrev main_while0b_v159 : Ref sig .tc := ⟨.hbm, 204, rfl⟩
abbrev main_v44 : Ref sig .tc := ⟨.hbm, 205, rfl⟩
abbrev main_v45 : Ref sig .tc := ⟨.hbm, 206, rfl⟩
abbrev main_v46 : Ref sig .tc := ⟨.hbm, 207, rfl⟩
abbrev main_v47 : Ref sig .tc := ⟨.hbm, 208, rfl⟩
abbrev main_v48 : Ref sig .tc := ⟨.hbm, 209, rfl⟩
abbrev main_v49 : Ref sig .tc := ⟨.hbm, 210, rfl⟩
abbrev main_v50 : Ref sig .tc := ⟨.hbm, 211, rfl⟩
abbrev main_cst_5 : Ref sig .tc := ⟨.hbm, 212, rfl⟩
abbrev main_v51 : Ref sig .tc := ⟨.hbm, 213, rfl⟩
abbrev main_v52 : Ref sig .tc := ⟨.hbm, 214, rfl⟩
abbrev main_cst_6 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_cst_7 : Ref sig .tc := ⟨.hbm, 221, rfl⟩
abbrev main_v58 : Ref sig .tc := ⟨.hbm, 222, rfl⟩
abbrev main_v59 : Ref sig .tc := ⟨.hbm, 223, rfl⟩
abbrev main_cst_8 : Ref sig .tc := ⟨.hbm, 224, rfl⟩
abbrev main_v60 : Ref sig .tc := ⟨.hbm, 225, rfl⟩
abbrev main_v61 : Ref sig .tc := ⟨.hbm, 226, rfl⟩
abbrev main_v62 : Ref sig .tc := ⟨.hbm, 227, rfl⟩
abbrev main_v63 : Ref sig .tc := ⟨.hbm, 228, rfl⟩
abbrev main_cst_9 : Ref sig .tc := ⟨.hbm, 229, rfl⟩
abbrev main_v64 : Ref sig .tc := ⟨.hbm, 230, rfl⟩
abbrev main_v65 : Ref sig .tc := ⟨.hbm, 231, rfl⟩
abbrev main_v66 : Ref sig .tc := ⟨.hbm, 232, rfl⟩
abbrev main_v67 : Ref sig .tc := ⟨.hbm, 233, rfl⟩
abbrev main_v68 : Ref sig .tc := ⟨.hbm, 234, rfl⟩
abbrev main_v69 : Ref sig .tc := ⟨.hbm, 235, rfl⟩
abbrev main_v70 : Ref sig .tc := ⟨.hbm, 236, rfl⟩
abbrev main_v71 : Ref sig .tc := ⟨.hbm, 237, rfl⟩
abbrev main_v72 : Ref sig .tc := ⟨.hbm, 238, rfl⟩
abbrev main_v73 : Ref sig .tc := ⟨.hbm, 239, rfl⟩
abbrev main_v74 : Ref sig .tc := ⟨.hbm, 240, rfl⟩
abbrev main_v75 : Ref sig .tc := ⟨.hbm, 241, rfl⟩
abbrev main_v76 : Ref sig .tc := ⟨.hbm, 242, rfl⟩
abbrev main_cst_10 : Ref sig .tc := ⟨.hbm, 243, rfl⟩
abbrev main_v77 : Ref sig .tc := ⟨.hbm, 244, rfl⟩
abbrev main_v78 : Ref sig .tc := ⟨.hbm, 245, rfl⟩
abbrev main_cst_11 : Ref sig .tc := ⟨.hbm, 246, rfl⟩
abbrev main_v79 : Ref sig .tc := ⟨.hbm, 247, rfl⟩
abbrev main_v80 : Ref sig .tc := ⟨.hbm, 248, rfl⟩
abbrev main_v81 : Ref sig .tc := ⟨.hbm, 249, rfl⟩
abbrev main_v82 : Ref sig .tc := ⟨.hbm, 250, rfl⟩
abbrev main_v83 : Ref sig .tc := ⟨.hbm, 251, rfl⟩

abbrev nD : Nat := 1
abbrev τ : Topo := Topo.v7x

variable {F : FTy → Type} [FloatOps F]

abbrev main_while0_count : Scf.Loop 32 := ⟨0#32, 64#32, 1#32⟩
-- ==== Filt.lean ====
abbrev S4096x64 : Shape := ⟨2, ![4096, 64]⟩
abbrev S64x8192 : Shape := ⟨2, ![64, 8192]⟩
abbrev S2x2048 : Shape := ⟨2, ![2, 2048]⟩
abbrev S_ : Shape := ⟨0, ![]⟩
abbrev S1x64 : Shape := ⟨2, ![1, 64]⟩
abbrev S4095x64 : Shape := ⟨2, ![4095, 64]⟩
abbrev S8192x64 : Shape := ⟨2, ![8192, 64]⟩
abbrev S64x2x2x2048 : Shape := ⟨4, ![64, 2, 2, 2048]⟩
abbrev S2x2x64x2048 : Shape := ⟨4, ![2, 2, 64, 2048]⟩
abbrev S4x64x2048 : Shape := ⟨3, ![4, 64, 2048]⟩
abbrev S2047 : Shape := ⟨1, ![2047]⟩
abbrev S1 : Shape := ⟨1, ![1]⟩
abbrev S2048 : Shape := ⟨1, ![2048]⟩
abbrev S1x2048 : Shape := ⟨2, ![1, 2048]⟩
abbrev S2x1x2048 : Shape := ⟨3, ![2, 1, 2048]⟩
abbrev S2x8192x2048 : Shape := ⟨3, ![2, 8192, 2048]⟩
abbrev S1x64x512 : Shape := ⟨3, ![1, 64, 512]⟩
abbrev S1x512 : Shape := ⟨2, ![1, 512]⟩
abbrev S1x1x512 : Shape := ⟨3, ![1, 1, 512]⟩
abbrev S1x4096x512 : Shape := ⟨3, ![1, 4096, 512]⟩
abbrev S64x512 : Shape := ⟨2, ![64, 512]⟩
abbrev S4096x512 : Shape := ⟨2, ![4096, 512]⟩
abbrev S4096x1 : Shape := ⟨2, ![4096, 1]⟩

abbrev nBuf : Space → Nat
  | .hbm => 38
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S64x8192, .f32⟩
  | .hbm, ⟨2, _⟩ => ⟨S2x2048, .f32⟩
  | .hbm, ⟨3, _⟩ => ⟨S_, .f32⟩
  | .hbm, ⟨4, _⟩ => ⟨S1x64, .f32⟩
  | .hbm, ⟨5, _⟩ => ⟨S4095x64, .f32⟩
  | .hbm, ⟨6, _⟩ => ⟨S4095x64, .f32⟩
  | .hbm, ⟨7, _⟩ => ⟨S8192x64, .f32⟩
  | .hbm, ⟨8, _⟩ => ⟨S64x2x2x2048, .f32⟩
  | .hbm, ⟨9, _⟩ => ⟨S2x2x64x2048, .f32⟩
  | .hbm, ⟨10, _⟩ => ⟨S4x64x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2047, .f32⟩
  | .hbm, ⟨19, _⟩ => ⟨S_, .f32⟩
  | .hbm, ⟨20, _⟩ => ⟨S2047, .f32⟩
  | .hbm, ⟨21, _⟩ => ⟨S2047, .f32⟩
  | .hbm, ⟨22, _⟩ => ⟨S1, .f32⟩
  | .hbm, ⟨23, _⟩ => ⟨S_, .f32⟩
  | .hbm, ⟨24, _⟩ => ⟨S2047, .f32⟩
  | .hbm, ⟨25, _⟩ => ⟨S2047, .f32⟩
  | .hbm, ⟨26, _⟩ => ⟨S2047, .f32⟩
  | .hbm, ⟨27, _⟩ => ⟨S2047, .f32⟩
  | .hbm, ⟨28, _⟩ => ⟨S1, .f32⟩
  | .hbm, ⟨29, _⟩ => ⟨S2047, .f32⟩
  | .hbm, ⟨30, _⟩ => ⟨S2047, .f32⟩
  | .hbm, ⟨31, _⟩ => ⟨S2047, .f32⟩
  | .hbm, ⟨32, _⟩ => ⟨S1, .f32⟩
  | .hbm, ⟨33, _⟩ => ⟨S2048, .f32⟩
  | .hbm, ⟨34, _⟩ => ⟨S2048, .f32⟩
  | .hbm, ⟨35, _⟩ => ⟨S1x2048, .f32⟩
  | .hbm, ⟨36, _⟩ => ⟨S2x1x2048, .f32⟩
  | .hbm, ⟨37, _⟩ => ⟨S2x8192x2048, .f32⟩
  | .local _ .vmem, ⟨0, _⟩ => ⟨S4096x64, .f32⟩
  | .local _ .vmem, ⟨1, _⟩ => ⟨S4096x64, .f32⟩
  | .local _ .vmem, ⟨2, _⟩ => ⟨S1x64x512, .f32⟩
  | .local _ .vmem, ⟨3, _⟩ => ⟨S1x64x512, .f32⟩
  | .local _ .vmem, ⟨4, _⟩ => ⟨S1x512, .f32⟩
  | .local _ .vmem, ⟨5, _⟩ => ⟨S1x512, .f32⟩
  | .local _ .vmem, ⟨6, _⟩ => ⟨S1x1x512, .f32⟩
  | .local _ .vmem, ⟨7, _⟩ => ⟨S1x1x512, .f32⟩
  | .local _ .vmem, ⟨8, _⟩ => ⟨S1x4096x512, .f32⟩
  | .local _ .vmem, ⟨9, _⟩ => ⟨S1x4096x512, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FiltReferenceIdeal.lean ====
abbrev S4096x64 : Shape := ⟨2, ![4096, 64]⟩
abbrev S64x8192 : Shape := ⟨2, ![64, 8192]⟩
abbrev S2x2048 : Shape := ⟨2, ![2, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S4096x8192 : Shape := ⟨2, ![4096, 8192]⟩
abbrev S4096x2x2x2048 : Shape := ⟨4, ![4096, 2, 2, 2048]⟩
abbrev S2047 : Shape := ⟨1, ![2047]⟩
abbrev S2048 : Shape := ⟨1, ![2048]⟩
abbrev S1x2048 : Shape := ⟨2, ![1, 2048]⟩
abbrev S4096x2048 : Shape := ⟨2, ![4096, 2048]⟩
abbrev S4096x1x1x2048 : Shape := ⟨4, ![4096, 1, 1, 2048]⟩
abbrev S4096x1x2x2048 : Shape := ⟨4, ![4096, 1, 2, 2048]⟩
abbrev S4096x2x2048 : Shape := ⟨3, ![4096, 2, 2048]⟩
abbrev S2x4096x2048 : Shape := ⟨3, ![2, 4096, 2048]⟩
abbrev S2x1x2048 : Shape := ⟨3, ![2, 1, 2048]⟩
abbrev S2x4095x2048 : Shape := ⟨3, ![2, 4095, 2048]⟩
abbrev S2x8192x2048 : Shape := ⟨3, ![2, 8192, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x8192, .f32⟩
  | .hbm, ⟨2, _⟩ => ⟨S2x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4095, .f32⟩
  | .hbm, ⟨11, _⟩ => ⟨S_, .f32⟩
  | .hbm, ⟨12, _⟩ => ⟨S4095, .f32⟩
  | .hbm, ⟨13, _⟩ => ⟨S4095, .f32⟩
  | .hbm, ⟨14, _⟩ => ⟨S1, .f32⟩
  | .hbm, ⟨15, _⟩ => ⟨S_, .f32⟩
  | .hbm, ⟨16, _⟩ => ⟨S4095, .f32⟩
  | .hbm, ⟨17, _⟩ => ⟨S4095, .f32⟩
  | .hbm, ⟨18, _⟩ => ⟨S4095, .f32⟩
  | .hbm, ⟨19, _⟩ => ⟨S4095, .f32⟩
  | .hbm, ⟨20, _⟩ => ⟨S1, .f32⟩
  | .hbm, ⟨21, _⟩ => ⟨S4095, .f32⟩
  | .hbm, ⟨22, _⟩ => ⟨S4095, .f32⟩
  | .hbm, ⟨23, _⟩ => ⟨S4095, .f32⟩
  | .hbm, ⟨24, _⟩ => ⟨S1, .f32⟩
  | .hbm, ⟨25, _⟩ => ⟨S4096, .f32⟩
  | .hbm, ⟨26, _⟩ => ⟨S4096x1, .f32⟩
  | .hbm, ⟨27, _⟩ => ⟨S4096x8192, .f32⟩
  | .hbm, ⟨28, _⟩ => ⟨S4096x2x2x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2047, .f32⟩
  | .hbm, ⟨37, _⟩ => ⟨S_, .f32⟩
  | .hbm, ⟨38, _⟩ => ⟨S2047, .f32⟩
  | .hbm, ⟨39, _⟩ => ⟨S2047, .f32⟩
  | .hbm, ⟨40, _⟩ => ⟨S1, .f32⟩
  | .hbm, ⟨41, _⟩ => ⟨S_, .f32⟩
  | .hbm, ⟨42, _⟩ => ⟨S2047, .f32⟩
  | .hbm, ⟨43, _⟩ => ⟨S2047, .f32⟩
  | .hbm, ⟨44, _⟩ => ⟨S2047, .f32⟩
  | .hbm, ⟨45, _⟩ => ⟨S2047, .f32⟩
  | .hbm, ⟨46, _⟩ => ⟨S1, .f32⟩
  | .hbm, ⟨47, _⟩ => ⟨S2047, .f32⟩
  | .hbm, ⟨48, _⟩ => ⟨S2047, .f32⟩
  | .hbm, ⟨49, _⟩ => ⟨S2047, .f32⟩
  | .hbm, ⟨50, _⟩ => ⟨S1, .f32⟩
  | .hbm, ⟨51, _⟩ => ⟨S2048, .f32⟩
  | .hbm, ⟨52, _⟩ => ⟨S2048, .f32⟩
  | .hbm, ⟨53, _⟩ => ⟨S4096x1, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S4096x1x1x2048, .f32⟩
  | .hbm, ⟨63, _⟩ => ⟨S4096x2x2x2048, .f32⟩
  | .hbm, ⟨64, _⟩ => ⟨S4096x2x2x2048, .f32⟩
  | .hbm, ⟨65, _⟩ => ⟨S4096x1x2x2048, .f32⟩
  | .hbm, ⟨66, _⟩ => ⟨S4096x2x2048, .f32⟩
  | .hbm, ⟨67, _⟩ => ⟨S2x4096x2048, .f32⟩
  | .hbm, ⟨68, _⟩ => ⟨S4096x1x2x2048, .f32⟩
  | .hbm, ⟨69, _⟩ => ⟨S4096x2x2048, .f32⟩
  | .hbm, ⟨70, _⟩ => ⟨S2x4096x2048, .f32⟩
  | .hbm, ⟨71, _⟩ => ⟨S2x1x2048, .f32⟩
  | .hbm, ⟨72, _⟩ => ⟨S_, .f32⟩
  | .hbm, ⟨73, _⟩ => ⟨S2x4095x2048, .f32⟩
  | .hbm, ⟨74, _⟩ => ⟨S2x4096x2048, .f32⟩
  | .hbm, ⟨75, _⟩ => ⟨S2x4096x2048, .f32⟩
  | .hbm, ⟨76, _⟩ => ⟨S_, .f32⟩
  | .hbm, ⟨77, _⟩ => ⟨S2x1x2048, .f32⟩
  | .hbm, ⟨78, _⟩ => ⟨S2x4095x2048, .f32⟩
  | .hbm, ⟨79, _⟩ => ⟨S2x4095x2048, .f32⟩
  | .hbm, ⟨80, _⟩ => ⟨S2x8192x2048, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst_3 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_5 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩

abbrev nD : Nat := 1
abbrev τ : Topo := Topo.v7x

variable {F : FTy → Type} [FloatOps F]
-- ==== Ln.lean ====
abbrev S16384x4096 : Shape := ⟨2, ![16384, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S4096x128 : Shape := ⟨2, ![4096, 128]⟩
abbrev S4096x72 : Shape := ⟨2, ![4096, 72]⟩
abbrev S1 : Shape := ⟨1, ![1]⟩
abbrev S1x128 : Shape := ⟨2, ![1, 128]⟩
abbrev S72 : Shape := ⟨1, ![72]⟩
abbrev S2 : Shape := ⟨1, ![2]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 33
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x8, .f32⟩
  | .hbm, ⟨5, _⟩ => ⟨S8, .f32⟩
  | .hbm, ⟨6, _⟩ => ⟨S4096x64, .f32⟩
  | .hbm, ⟨7, _⟩ => ⟨S64, .f32⟩
  | .hbm, ⟨8, _⟩ => ⟨S_, .f32⟩
  | .hbm, ⟨9, _⟩ => ⟨S4096x128, .f32⟩
  | .hbm, ⟨10, _⟩ => ⟨S4096x72, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .f32⟩
  | .hbm, ⟨15, _⟩ => ⟨S1x128, .f32⟩
  | .hbm, ⟨16, _⟩ => ⟨S72, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S1x4096, .f32⟩
  | .hbm, ⟨24, _⟩ => ⟨S1x4096, .f32⟩
  | .hbm, ⟨25, _⟩ => ⟨S4096x128, .bf16⟩
  | .hbm, ⟨26, _⟩ => ⟨S4096x128, .f32⟩
  | .hbm, ⟨27, _⟩ => ⟨S4096x128, .f32⟩
  | .hbm, ⟨28, _⟩ => ⟨S4096x128, .bf16⟩
  | .hbm, ⟨29, _⟩ => ⟨S16384x4096, .f32⟩
  | .hbm, ⟨30, _⟩ => ⟨S16384x128, .f32⟩
  | .hbm, ⟨31, _⟩ => ⟨S16384x128, .i32⟩
  | .hbm, ⟨32, _⟩ => ⟨S1x128, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S4096x128, .bf16⟩
  | .local _ .vmem, ⟨7, _⟩ => ⟨S4096x128, .bf16⟩
  | .local _ .vmem, ⟨8, _⟩ => ⟨S1x128, .f32⟩
  | .local _ .vmem, ⟨9, _⟩ => ⟨S256x4096, .f32⟩
  | .local _ .vmem, ⟨10, _⟩ => ⟨S256x4096, .f32⟩
  | .local _ .vmem, ⟨11, _⟩ => ⟨S256x128, .f32⟩
  | .local _ .vmem, ⟨12, _⟩ => ⟨S256x128, .f32⟩
  | .local _ .vmem, ⟨13, _⟩ => ⟨S256x128, .i32⟩
  | .local _ .vmem, ⟨14, _⟩ => ⟨S256x128, .i32⟩
  | .local _ .vmem, ⟨15, _⟩ => ⟨S1x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LnReferenceIdeal.lean ====
abbrev S16384x4096 : Shape := ⟨2, ![16384, 4096]⟩
abbrev S4096 : Shape := ⟨1, ![4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x8, .f32⟩
  | .hbm, ⟨5, _⟩ => ⟨S8, .f32⟩
  | .hbm, ⟨6, _⟩ => ⟨S4096x64, .f32⟩
  | .hbm, ⟨7, _⟩ => ⟨S64, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Recur.lean ====
/-
  The stabilised recurrence of one head over the reals, step by step, and what one chunk of it computes.

  A head's sequence has log input gates `li`, log forget gates `lf`, queries `q`, keys `k` and values `v`.
  `M` is the running stabiliser; `W n s` is the weight of step `s` in the state after `n` steps; the output of
  step `t` is `H t`. A chunk of `T` steps that begins after `n0` steps is given the state after `n0` steps; the
  lemmas say what its masked sums, its row maxima, its outputs and its new state are, in terms of `M`, `W` and
  `H` — which know nothing of chunks, so that chunks of any length agree.
-/
module

public import Idealize.ShloMosaic.Lib.Pipeline.ValueKit
public import Idealize.ShloMosaic.Lib.Claim
public import Mathlib.Data.EReal.Operations
public import Mathlib.Algebra.BigOperators.Fin

@[expose] public section

noncomputable section

namespace Cert.Recur

open Idealize.ShloMosaic Finset

variable (li lf : ℕ → ℝ)

/-- The sum of the first `n` log forget gates. -/
def B (n : ℕ) : ℝ := ∑ i ∈ range n, lf i

/-- The running stabiliser after `n` steps. -/
def M : ℕ → ℝ
  | 0 => 0
  | n + 1 => max (lf n + M n) (li n)

/-- The weight of step `s` in the state after `n` steps. -/
def W (n s : ℕ) : ℝ := Real.exp (B lf n - B lf (s + 1) + li s - M li lf n)

theorem B_succ (n : ℕ) : B lf (n + 1) = B lf n + lf n := sum_range_succ _ _

theorem B_add (n0 n : ℕ) : B lf (n0 + n) = B lf n0 + ∑ s ∈ range n, lf (n0 + s) := by
  induction n with
  | zero => simp
  | succ n ih => rw [← add_assoc, B_succ, ih, sum_range_succ, add_assoc]

/-- The stabiliser lies below `x` iff the carried one and each step's gate do. -/
theorem M_le (n0 n : ℕ) (x : ℝ) : M li lf (n0 + n) ≤ x ↔
    B lf (n0 + n) - B lf n0 + M li lf n0 ≤ x ∧ ∀ s < n, B lf (n0 + n) - B lf (n0 + s + 1) + li (n0 + s) ≤ x := by
  induction n generalizing x with
  | zero => simp
  | succ n ih =>
    have hM : M li lf (n0 + (n + 1)) = max (lf (n0 + n) + M li lf (n0 + n)) (li (n0 + n)) := rfl
    have hB : B lf (n0 + (n + 1)) = B lf (n0 + n) + lf (n0 + n) := B_succ lf (n0 + n)
    rw [hM, max_le_iff, hB]
    have e : lf (n0 + n) + M li lf (n0 + n) ≤ x ↔ M li lf (n0 + n) ≤ x - lf (n0 + n) := by
      constructor <;> intro h <;> linarith
    rw [e, ih]
    constructor
    · rintro ⟨⟨h1, h2⟩, h3⟩
      refine ⟨by linarith, fun s hs => ?_⟩
      rcases Nat.lt_succ_iff_lt_or_eq.mp hs with h | h
      · have := h2 s h; linarith
      · subst h; rw [B_succ]; linarith
    · rintro ⟨h1, h2⟩
      refine ⟨⟨by linarith, fun s hs => ?_⟩, ?_⟩
      · have := h2 s (by omega); linarith
      · have := h2 n (by omega); rw [B_succ] at this; linarith

/-- A weight of an earlier step, carried on to a later state. -/
theorem W_carry (n0 n s : ℕ) : W li lf n s
    = Real.exp (B lf n - B lf n0 + M li lf n0 - M li lf n) * W li lf n0 s := by
  rw [W, W, ← Real.exp_add]; congr 1; ring

/-! ## Sums of reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over a chunk masked to its first `i + 1` places. -/
theorem sum_mask {T : ℕ} (i : Fin T) (g : ℕ → ℝ) :
    (∑ s : Fin T, if s ≤ i then ((g s.val : ℝ) : EReal) else 0) = ((∑ s ∈ range (i.val + 1), g s : ℝ) : EReal) := by
  have h : ∀ s : Fin T, (if s ≤ i then ((g s.val : ℝ) : EReal) else 0) = (((if s.val ≤ i.val then g s.val else 0 : ℝ)) : EReal) := by
    intro s
    by_cases hs : s ≤ i
    · rw [if_pos hs, if_pos (Fin.le_def.mp hs)]
    · rw [if_neg hs, if_neg (fun h => hs (Fin.le_def.mpr h)), EReal.coe_zero]
  rw [sum_congr rfl fun s _ => h s, ← coe_sum]
  congr 1
  rw [Fin.sum_univ_eq_sum_range (fun s => if s ≤ i.val then g s else 0) T]
  rw [← sum_filter]
  refine sum_congr ?_ fun _ _ => rfl
  ext s
  simp only [mem_filter, mem_range]
  have := i.isLt
  omega

/-- A sum over a whole chunk. -/
theorem sum_chunk {T : ℕ} (g : ℕ → ℝ) :
    (∑ s : Fin T, ((g s.val : ℝ) : EReal)) = ((∑ s ∈ range T, g s : ℝ) : EReal) := by
  rw [← coe_sum, Fin.sum_univ_eq_sum_range (fun s => g s) T]

/-! ## Gates of a chunk -/

/-- The masked sum of a chunk's log forget gates. -/
theorem cum {T : ℕ} (n0 : ℕ) (i : Fin T) :
    (∑ s : Fin T, if s ≤ i then ((lf (n0 + s.val) : ℝ) : EReal) else 0) = ((B lf (n0 + i.val + 1) - B lf n0 : ℝ) : EReal) := by
  rw [sum_mask i fun s => lf (n0 + s), add_assoc, B_add]; congr 1; ring

/-- The stabiliser of a row: the carried one against the greatest masked entry of the row. -/
theorem rowmax {T : ℕ} (n0 : ℕ) (i : Fin T) :
    max ((B lf (n0 + i.val + 1) - B lf n0 + M li lf n0 : ℝ) : EReal)
      (univ.fold max ⊥ fun s : Fin T =>
        if s ≤ i then ((B lf (n0 + i.val + 1) - B lf (n0 + s.val + 1) + li (n0 + s.val) : ℝ) : EReal) else ⊥)
      = ((M li lf (n0 + i.val + 1) : ℝ) : EReal) := by
  refine eq_of_forall_ge_iff fun x => ?_
  rw [max_le_iff, fold_max_le]
  induction x using EReal.rec with
  | bot => simp only [le_bot_iff, EReal.coe_ne_bot, false_and]
  | top => simp
  | coe x =>
    simp only [EReal.coe_le_coe_iff, bot_le, true_and, mem_univ, true_imp_iff]
    rw [add_assoc, M_le]
    refine and_congr Iff.rfl ⟨fun h s hs => ?_, fun h s => ?_⟩
    · have hT : s < T := by have := i.isLt; omega
      have := h ⟨s, hT⟩
      rw [if_pos (Fin.le_def.mpr (by dsimp only; omega)), EReal.coe_le_coe_iff] at this
      exact this
    · by_cases hs : s ≤ i
      · rw [if_pos hs, EReal.coe_le_coe_iff]; exact h s.val (by have := Fin.le_def.mp hs; omega)
      · rw [if_neg hs]; exact bot_le

/-- The stabiliser after the chunk. -/
theorem lastmax {T : ℕ} (n0 : ℕ) :
    max ((B lf (n0 + T) - B lf n0 + M li lf n0 : ℝ) : EReal)
      (univ.fold max ⊥ fun s : Fin T => ((B lf (n0 + T) - B lf (n0 + s.val + 1) + li (n0 + s.val) : ℝ) : EReal))
      = ((M li lf (n0 + T) : ℝ) : EReal) := by
  refine eq_of_forall_ge_iff fun x => ?_
  rw [max_le_iff, fold_max_le]
  induction x using EReal.rec with
  | bot => simp only [le_bot_iff, EReal.coe_ne_bot, false_and]
  | top => simp
  | coe x =>
    simp only [EReal.coe_le_coe_iff, bot_le, true_and, mem_univ, true_imp_iff]
    rw [M_le]
    exact and_congr Iff.rfl ⟨fun h s hs => h ⟨s, hs⟩, fun h s => h s.val s.isLt⟩

/-- The weight of an entry of a row. -/
theorem weight {T : ℕ} (n0 : ℕ) (i s : Fin T) :
    Ideal.exp ((if s ≤ i then ((B lf (n0 + i.val + 1) - B lf (n0 + s.val + 1) + li (n0 + s.val) : ℝ) : EReal) else ⊥)
      - ((M li lf (n0 + i.val + 1) : ℝ) : EReal))
      = if s ≤ i then ((W li lf (n0 + i.val + 1) (n0 + s.val) : ℝ) : EReal) else 0 := by
  by_cases hs : s ≤ i
  · rw [if_pos hs, if_pos hs, ← EReal.coe_sub, Ideal.exp_coe, W]
  · rw [if_neg hs, if_neg hs, EReal.bot_sub]; exact Ideal.exp_bot

/-! ## Outputs and states of a chunk -/

variable {DK DV : ℕ} (q k : ℕ → Fin DK → ℝ) (v : ℕ → Fin DV → ℝ) (c : ℝ)

/-- The scaled product of the query of step `t` and the key of step `s`. -/
def Q (t s : ℕ) : ℝ := (∑ d, q t d * k s d) * c

/-- The matrix state after `n` steps. -/
def Cst (n : ℕ) (d : Fin DK) (j : Fin DV) : ℝ := ∑ s ∈ range n, W li lf n s * k s d * v s j

/-- The vector state after `n` steps. -/
def Nst (n : ℕ) (d : Fin DK) : ℝ := ∑ s ∈ range n, W li lf n s * k s d

/-- What the state after `n` steps answers the query of step `t`. -/
def num (n t : ℕ) (j : Fin DV) : ℝ := ∑ s ∈ range n, Q q k c t s * W li lf n s * v s j

/-- The weight that answer is normalised by. -/
def den (n t : ℕ) : ℝ := ∑ s ∈ range n, Q q k c t s * W li lf n s

/-- The output of step `t`. -/
def H (t : ℕ) (j : Fin DV) : ℝ :=
  num li lf q k v c (t + 1) t j / max |den li lf q k c (t + 1) t| (Real.exp (-M li lf (t + 1)))

/-- How much of the carried state a step keeps. -/
def keep (n0 n : ℕ) : ℝ := Real.exp (B lf n - B lf n0 + M li lf n0 - M li lf n)

theorem num_split (n0 n t : ℕ) (j : Fin DV) : num li lf q k v c (n0 + n) t j
    = (∑ s ∈ range n, Q q k c t (n0 + s) * W li lf (n0 + n) (n0 + s) * v (n0 + s) j)
      + keep li lf n0 (n0 + n) * num li lf q k v c n0 t j := by
  rw [num, sum_range_add, add_comm]
  congr 1
  rw [num, mul_sum]
  refine sum_congr rfl fun s _ => ?_
  rw [W_carry li lf n0 (n0 + n), keep]; ring

theorem den_split (n0 n t : ℕ) : den li lf q k c (n0 + n) t
    = (∑ s ∈ range n, Q q k c t (n0 + s) * W li lf (n0 + n) (n0 + s)) + keep li lf n0 (n0 + n) * den li lf q k c n0 t := by
  rw [den, sum_range_add, add_comm]
  congr 1
  rw [den, mul_sum]
  refine sum_congr rfl fun s _ => ?_
  rw [W_carry li lf n0 (n0 + n), keep]; ring

theorem Cst_split (n0 n : ℕ) (d : Fin DK) (j : Fin DV) : Cst li lf k v (n0 + n) d j
    = keep li lf n0 (n0 + n) * Cst li lf k v n0 d j
      + ∑ s ∈ range n, k (n0 + s) d * W li lf (n0 + n) (n0 + s) * v (n0 + s) j := by
  rw [Cst, sum_range_add]
  congr 1
  · rw [Cst, mul_sum]
    refine sum_congr rfl fun s _ => ?_
    rw [W_carry li lf n0 (n0 + n), keep]; ring
  · exact sum_congr rfl fun s _ => by ring

theorem Nst_split (n0 n : ℕ) (d : Fin DK) : Nst li lf k (n0 + n) d
    = keep li lf n0 (n0 + n) * Nst li lf k n0 d + ∑ s ∈ range n, k (n0 + s) d * W li lf (n0 + n) (n0 + s) := by
  rw [Nst, sum_range_add]
  congr 1
  · rw [Nst, mul_sum]
    refine sum_congr rfl fun s _ => ?_
    rw [W_carry li lf n0 (n0 + n), keep]; ring
  · exact sum_congr rfl fun s _ => by ring

/-- The carried matrix state answers a query. -/
theorem answer (n t : ℕ) (j : Fin DV) : (∑ d, q t d * Cst li lf k v n d j) * c = num li lf q k v c n t j := by
  simp only [Cst, num, Q, mul_sum, sum_mul]
  rw [sum_comm]
  refine sum_congr rfl fun s _ => sum_congr rfl fun d _ => by ring

/-- The carried vector state answers a query. -/
theorem answer_den (n t : ℕ) : (∑ d, q t d * Nst li lf k n d) * c = den li lf q k c n t := by
  simp only [Nst, den, Q, mul_sum, sum_mul]
  rw [sum_comm]
  refine sum_congr rfl fun s _ => sum_congr rfl fun d _ => by ring

/-- The answer of a chunk to the query of its row `i`. -/
theorem row_num {T : ℕ} (n0 : ℕ) (i : Fin T) (j : Fin DV) :
    (∑ s : Fin T, (if s ≤ i then ((Q q k c (n0 + i.val) (n0 + s.val) * W li lf (n0 + i.val + 1) (n0 + s.val) : ℝ) : EReal) else 0)
        * ((v (n0 + s.val) j : ℝ) : EReal))
      + ((keep li lf n0 (n0 + i.val + 1) : ℝ) : EReal) * ((num li lf q k v c n0 (n0 + i.val) j : ℝ) : EReal)
      = ((num li lf q k v c (n0 + i.val + 1) (n0 + i.val) j : ℝ) : EReal) := by
  have h := sum_mask i fun s => Q q k c (n0 + i.val) (n0 + s) * W li lf (n0 + i.val + 1) (n0 + s) * v (n0 + s) j
  have e : ∀ s : Fin T, (if s ≤ i then ((Q q k c (n0 + i.val) (n0 + s.val) * W li lf (n0 + i.val + 1) (n0 + s.val) : ℝ) : EReal) else 0)
        * ((v (n0 + s.val) j : ℝ) : EReal)
      = if s ≤ i then ((Q q k c (n0 + i.val) (n0 + s.val) * W li lf (n0 + i.val + 1) (n0 + s.val) * v (n0 + s.val) j : ℝ) : EReal) else 0 := by
    intro s
    by_cases hs : s ≤ i
    · rw [if_pos hs, if_pos hs, EReal.coe_mul (_ * _)]
    · rw [if_neg hs, if_neg hs, zero_mul]
  rw [sum_congr rfl fun s _ => e s, h, ← EReal.coe_mul, ← EReal.coe_add]
  congr 1
  exact (num_split li lf q k v c n0 (i.val + 1) (n0 + i.val) j).symm

/-- The weight of a chunk's row `i`. -/
theorem row_den {T : ℕ} (n0 : ℕ) (i : Fin T) :
    (∑ s : Fin T, (if s ≤ i then ((Q q k c (n0 + i.val) (n0 + s.val) * W li lf (n0 + i.val + 1) (n0 + s.val) : ℝ) : EReal) else 0))
      + ((keep li lf n0 (n0 + i.val + 1) : ℝ) : EReal) * ((den li lf q k c n0 (n0 + i.val) : ℝ) : EReal)
      = ((den li lf q k c (n0 + i.val + 1) (n0 + i.val) : ℝ) : EReal) := by
  rw [sum_mask i fun s => Q q k c (n0 + i.val) (n0 + s) * W li lf (n0 + i.val + 1) (n0 + s), ← EReal.coe_mul, ← EReal.coe_add]
  congr 1
  exact (den_split li lf q k c n0 (i.val + 1) (n0 + i.val)).symm

theorem coe_max (a b : ℝ) : max (a : EReal) (b : EReal) = ((max a b : ℝ) : EReal) :=
  (EReal.coe_strictMono.monotone.map_max).symm

/-- The quotient that an output is. -/
theorem quotient (t : ℕ) (j : Fin DV) :
    Ideal.div ((num li lf q k v c (t + 1) t j : ℝ) : EReal)
      (max (max ((den li lf q k c (t + 1) t : ℝ) : EReal) (-((den li lf q k c (t + 1) t : ℝ) : EReal)))
        ((Real.exp (-M li lf (t + 1)) : ℝ) : EReal))
      = ((H li lf q k v c t j : ℝ) : EReal) := by
  have hpos : (0 : ℝ) < max |den li lf q k c (t + 1) t| (Real.exp (-M li lf (t + 1))) :=
    lt_of_lt_of_le (Real.exp_pos _) (le_max_right _ _)
  rw [← EReal.coe_neg, coe_max, coe_max]
  rw [show max (den li lf q k c (t + 1) t) (-den li lf q k c (t + 1) t) = |den li lf q k c (t + 1) t| from rfl]
  rw [Ideal.div_coe hpos.ne', ← EReal.coe_mul, H]
  congr 1; ring

/-- The new matrix state. -/
theorem chunk_C {T : ℕ} (n0 : ℕ) (d : Fin DK) (j : Fin DV) :
    ((keep li lf n0 (n0 + T) : ℝ) : EReal) * ((Cst li lf k v n0 d j : ℝ) : EReal)
      + ∑ s : Fin T, ((k (n0 + s.val) d : ℝ) : EReal) * ((W li lf (n0 + T) (n0 + s.val) : ℝ) : EReal) * ((v (n0 + s.val) j : ℝ) : EReal)
      = ((Cst li lf k v (n0 + T) d j : ℝ) : EReal) := by
  simp only [← EReal.coe_mul]
  rw [sum_chunk (fun s => k (n0 + s) d * W li lf (n0 + T) (n0 + s) * v (n0 + s) j), ← EReal.coe_add]
  congr 1
  exact (Cst_split li lf k v n0 T d j).symm

/-- The new vector state. -/
theorem chunk_N {T : ℕ} (n0 : ℕ) (d : Fin DK) :
    ((keep li lf n0 (n0 + T) : ℝ) : EReal) * ((Nst li lf k n0 d : ℝ) : EReal)
      + ∑ s : Fin T, ((k (n0 + s.val) d : ℝ) : EReal) * ((W li lf (n0 + T) (n0 + s.val) : ℝ) : EReal)
      = ((Nst li lf k (n0 + T) d : ℝ) : EReal) := by
  simp only [← EReal.coe_mul]
  rw [sum_chunk (fun s => k (n0 + s) d * W li lf (n0 + T) (n0 + s)), ← EReal.coe_add]
  congr 1
  exact (Nst_split li lf k n0 T d).symm

theorem M_zero : M li lf 0 = 0 := rfl
theorem Cst_zero (d : Fin DK) (j : Fin DV) : Cst li lf k v 0 d j = 0 := sum_range_zero _
theorem Nst_zero (d : Fin DK) : Nst li lf k 0 d = 0 := sum_range_zero _

/-! ## The gate -/

/-- The logarithm of the logistic function of a real number. -/
def logsig (x : ℝ) : ℝ := min x 0 - Real.log (1 + Real.exp (-|x|))

theorem log1p_exp (y : ℝ) : Ideal.log1p (Ideal.exp ((y : ℝ) : EReal)) = ((Real.log (1 + Real.exp y) : ℝ) : EReal) := by
  have h : (0 : ℝ) < 1 + Real.exp y := by positivity
  rw [Ideal.exp_coe]
  show Ideal.log (1 + ((Real.exp y : ℝ) : EReal)) = _
  rw [← EReal.coe_one, ← EReal.coe_add, Ideal.log_coe, if_neg (not_le.mpr h)]

/-- The kernel's spelling of it. -/
theorem logsig_kernel (x : ℝ) :
    min ((x : ℝ) : EReal) 0 - Ideal.log1p (Ideal.exp (0 - max ((x : ℝ) : EReal) (-((x : ℝ) : EReal)))) = ((logsig x : ℝ) : EReal) := by
  rw [← EReal.coe_neg, coe_max, show max x (-x) = |x| from rfl, ← EReal.coe_zero, ← EReal.coe_sub, log1p_exp,
    ← EReal.coe_strictMono.monotone.map_min, ← EReal.coe_sub, zero_sub, logsig]

/-- The reference's spelling of it, by the softplus function of the negated argument. -/
theorem logsig_reference (x : ℝ) :
    -(max (-((x : ℝ) : EReal)) 0 + Ideal.log1p (Ideal.exp (-(max (-((x : ℝ) : EReal)) (-(-((x : ℝ) : EReal)))))))
      = ((logsig x : ℝ) : EReal) := by
  rw [← EReal.coe_neg, ← EReal.coe_neg, coe_max, show max (-x) (- -x) = |-x| from rfl, abs_neg, ← EReal.coe_zero, coe_max,
    ← EReal.coe_neg, log1p_exp, ← EReal.coe_add, ← EReal.coe_neg, logsig]
  congr 1
  rcases le_total x 0 with h | h
  · rw [max_eq_left (by linarith), min_eq_left h]; ring
  · rw [max_eq_right (by linarith), min_eq_right h]; ring

end Cert.Recur

end
-- ==== Proof.Heads.lean ====
/-
  The heads of the forward recurrence, read off the projection `z` and the gate biases: each head's queries, keys, values and
  gates as real sequences over the steps of its batch row, and the array its outputs make up.
-/
module

public import proofs.«01_k».proof.Proof.Recur

@[expose] public section

set_option maxRecDepth 16384

noncomputable section

namespace Cert.Recur

open Idealize.ShloMosaic

/-- The projection's shape. -/
abbrev SZ : Shape := ⟨3, ![4, 4096, 20512]⟩

/-- The gate biases' shape. -/
abbrev SB : Shape := ⟨2, ![4, 8]⟩

/-- The outputs' shape: a row for each step of each batch row, a column for each head and each entry of its values. -/
abbrev SO : Shape := ⟨2, ![16384, 2048]⟩

/-- An array all of whose entries are real numbers. -/
def Real' {s : Shape} {φ : FTy} (x : FVec Ideal s φ) : Prop := ∀ i, ∃ r : ℝ, x i = ((r : ℝ) : EReal)

/-- The projection at a step of a batch row, as a real number; beyond the last step nothing is read. -/
def zr (z : FVec Ideal SZ .f32) (b : Fin 4) (t : ℕ) (col : Fin 20512) : ℝ :=
  if h : t < 4096 then EReal.toReal (z (ix3 b ⟨t, h⟩ col)) else 0

theorem toReal_eq {s : Shape} {φ : FTy} {x : FVec Ideal s φ} (hx : Real' x) (i : s.Idx) : x i = ((EReal.toReal (x i) : ℝ) : EReal) := by
  obtain ⟨r, hr⟩ := hx i
  rw [hr]; rfl

theorem z_eq {z : FVec Ideal SZ .f32} (hz : Real' z) (b b' : Fin 4) (t : Fin 4096) (n : ℕ) (col col' : Fin 20512)
    (hb : b.val = b'.val) (ht : t.val = n) (hc : col.val = col'.val) : z (ix3 b t col) = ((zr z b' n col' : ℝ) : EReal) := by
  obtain rfl := Fin.ext hb
  obtain rfl := Fin.ext hc
  subst ht
  rw [zr, dif_pos t.isLt]
  exact toReal_eq hz _

/-- A head's queries. -/
def qs (z : FVec Ideal SZ .f32) (b : Fin 4) (h : Fin 8) (t : ℕ) (d : Fin 128) : ℝ := zr z b t ⟨6144 + (h.val * 128 + d.val), by omega⟩

/-- A head's keys. -/
def ks (z : FVec Ideal SZ .f32) (b : Fin 4) (h : Fin 8) (t : ℕ) (d : Fin 128) : ℝ := zr z b t ⟨7168 + (h.val * 128 + d.val), by omega⟩

/-- A head's values. -/
def vs (z : FVec Ideal SZ .f32) (b : Fin 4) (h : Fin 8) (t : ℕ) (j : Fin 256) : ℝ := zr z b t ⟨8192 + (h.val * 256 + j.val), by omega⟩

/-- A head's log input gates. -/
def lis (z : FVec Ideal SZ .f32) (w : FVec Ideal SB .f32) (b : Fin 4) (h : Fin 8) (t : ℕ) : ℝ :=
  zr z b t ⟨12288 + h.val, by omega⟩ + EReal.toReal (w (ix2 0 h))

/-- What a head's forget gates are the logistic function of. -/
def fgs (z : FVec Ideal SZ .f32) (w : FVec Ideal SB .f32) (b : Fin 4) (h : Fin 8) (t : ℕ) : ℝ :=
  zr z b t ⟨12296 + h.val, by omega⟩ + EReal.toReal (w (ix2 1 h))

/-- The factor the scores are scaled by, a real number. -/
def scale : ℝ := 11863283 / 134217728

theorem ofBits_scale : Ideal.ofBits .f32 0x3DB504F3#32 = ((scale : ℝ) : EReal) := by
  rw [scale]
  simp [Ideal.ofBits, Ideal.ieee, -EReal.coe_mul]; norm_num

theorem ofBits_bot : Ideal.ofBits .f32 0xFF800000#32 = (⊥ : EReal) := by
  simp [Ideal.ofBits, Ideal.ieee]

/-- The outputs of all heads. -/
def OUT (z : FVec Ideal SZ .f32) (w : FVec Ideal SB .f32) : FVec Ideal SO .f32 := fun i =>
  let b : Fin 4 := ⟨(i 0).val / 4096, by have : (i 0).val < 16384 := (i 0).isLt; omega⟩
  let h : Fin 8 := ⟨(i 1).val / 256, by have : (i 1).val < 2048 := (i 1).isLt; omega⟩
  ((H (lis z w b h) (logsig ∘ fgs z w b h) (qs z b h) (ks z b h) (vs z b h) scale ((i 0).val % 4096)
    ⟨(i 1).val % 256, Nat.mod_lt _ (by norm_num)⟩ : ℝ) : EReal)

/-- An entry of it. -/
theorem OUT_apply (z : FVec Ideal SZ .f32) (w : FVec Ideal SB .f32) (i : SO.Idx) (b : Fin 4) (h : Fin 8) (t : ℕ) (j : Fin 256)
    (ht : t < 4096) (h0 : (i 0).val = b.val * 4096 + t) (h1 : (i 1).val = h.val * 256 + j.val) :
    OUT z w i = ((H (lis z w b h) (logsig ∘ fgs z w b h) (qs z b h) (ks z b h) (vs z b h) scale t j : ℝ) : EReal) := by
  have eb : (⟨(i 0).val / 4096, by have : (i 0).val < 16384 := (i 0).isLt; omega⟩ : Fin 4) = b := Fin.ext (by dsimp only; omega)
  have eh : (⟨(i 1).val / 256, by have : (i 1).val < 2048 := (i 1).isLt; omega⟩ : Fin 8) = h := Fin.ext (by dsimp only; omega)
  have et : (i 0).val % 4096 = t := by omega
  have ej : (⟨(i 1).val % 256, Nat.mod_lt _ (by norm_num)⟩ : Fin 256) = j := Fin.ext (by dsimp only; omega)
  simp only [OUT, eb, eh, et, ej]

end Cert.Recur

end
-- ==== Proof.FiltTaps.lean ====
/-
  The filters' kernels in the layout the long convolutions read: a forward half with the skip term at its first tap, a zero
  tap, and the backward half from its far end. What one step of the kernel computes of its blocks is stated here too.
-/
module

public import proofs.«01_k».proof.Proof.Gen.FiltIdeal.Value
public import proofs.«01_k».proof.Proof.Heads
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Taps

open Cert.Recur (Real')

/-- The hidden features' shape: a row for each position. -/
abbrev SH : Shape := ⟨2, ![4096, 64]⟩

/-- The output weight's shape: columns for each direction, order and channel. -/
abbrev SW : Shape := ⟨2, ![64, 8192]⟩

/-- The skip factors' shape. -/
abbrev SK : Shape := ⟨2, ![2, 2048]⟩

/-- The decay rates' shape. -/
abbrev SD : Shape := ⟨1, ![2048]⟩

/-- The kernels' shape. -/
abbrev ST : Shape := ⟨3, ![2, 8192, 2048]⟩

/-- The window of a channel with decay rate `d` at a position. -/
def window (d : EReal) (n : ℕ) : EReal :=
  Ideal.exp (-(Ideal.div (((n : ℤ) : ℝ) : EReal) (Ideal.ofBits .f32 0x457FF000#32)) * d) + Ideal.ofBits .f32 0x3D4CCCCD#32

/-- A filter's tap: the features of a position with a column of the weight, under the window. -/
def tap (h : FVec Ideal SH .f32) (w : FVec Ideal SW .f32) (D : FVec Ideal SD .f32) (d o : Fin 2) (n : Fin 4096) (j : Fin 2048) : EReal :=
  (∑ k : Fin 64, h (ix2 n k) * w (ix2 k ⟨(d.val * 2 + o.val) * 2048 + j.val, by omega⟩)) * window (D (ix1 j)) n.val

/-- The kernels. -/
def TAPS (h : FVec Ideal SH .f32) (w : FVec Ideal SW .f32) (b : FVec Ideal SK .f32) (D : FVec Ideal SD .f32)
    (o : Fin 2) (p : Fin 8192) (j : Fin 2048) : EReal :=
  if hp : p.val < 4096 then tap h w D 0 o ⟨p.val, hp⟩ j + (if p.val = 0 then b (ix2 o j) else 0)
  else if hq : p.val = 4096 then 0
  else tap h w D 1 o ⟨8192 - p.val, by omega⟩ j

end Cert.Taps

namespace Cert.FiltIdeal.Value

open Cert.FiltIdeal Cert.FiltIdeal.Gen
open Cert.Recur (Real')

/-- A product of split operands is the product of the operands. -/
theorem product_at (x : FVec Ideal S4096x64 .f32) (y : FVec Ideal S1x64x512 .f32) (hx : Real' x) (hy : Real' y) (r : Fin 4096) (j : Fin 512) :
    k0_pay2 x y (ix2 r j) = ∑ k : Fin 64, x (ix2 r k) * y (ix3 0 k j) := by
  pointwise [k0_pay2]
  have ex : ∀ i, x i - x i = 0 := fun i => by obtain ⟨a, ha⟩ := hx i; rw [ha, ← EReal.coe_sub, sub_self]; rfl
  have ey : ∀ i, y i - y i = 0 := fun i => by obtain ⟨a, ha⟩ := hy i; rw [ha, ← EReal.coe_sub, sub_self]; rfl
  simp only [ex, ey, zero_mul, mul_zero, Finset.sum_const_zero, add_zero]

/-- A comparison of two small numbers. -/
theorem dir_eq {a b : ℕ} (ha : a < 2 ^ 32) (hb : b < 2 ^ 32) :
    Scalar.cmpi .eq (BitVec.ofNat 32 a) (BitVec.ofNat 32 b) = BitVec.ofBool (decide (a = b)) := WordCmp.cmpi_eq_ofNat ha hb

/-- A small number, as the float it converts to. -/
theorem float_of {n : ℕ} (h : n < 2 ^ 31) : FloatOps.sitofp (F := Ideal) .f32 (BitVec.ofNat 32 n) = (((n : ℤ) : ℝ) : EReal) := by
  show (((BitVec.ofNat 32 n).toInt : ℝ) : EReal) = _
  rw [WordCmp.toInt_ofNat_of_lt h]

/-- The window a step multiplies by, from the step's direction. -/
theorem window_at (i : grid0.Coords) (d : FVec Ideal S1x512 .f32) (r : Fin 4096) (j : Fin 512) :
    k0_pay3 (F := Ideal) i d (ix2 r j) = Cert.Taps.window (d (ix2 0 j)) (if (i 1).val = 0 then r.val else 4096 - r.val) := by
  pointwise [k0_pay3]
  have hi : (i 1).val < 2 := (i 1).isLt
  have hs : IntOp.subi 4096#32 (BitVec.ofNat 32 r.val) = BitVec.ofNat 32 (4096 - r.val) := by
    have := r.isLt
    refine BitVec.eq_of_toNat_eq ?_
    simp only [IntOp.subi, BitVec.toNat_sub, BitVec.toNat_ofNat]
    omega
  rw [dir_eq (by omega) (by omega), hs, zero_sub, Cert.Taps.window]
  by_cases h : (i 1).val = 0
  · rw [if_pos h, ← float_of (by omega), h]; rfl
  · rw [if_neg h, ← float_of (by omega)]; simp only [h]; rfl

/-- Whether an entry is a half's first tap. -/
theorem first_at (r : Fin 4096) : k0_pay4 (ix2 r 0) = BitVec.ofBool (decide (r.val = 0)) := by
  pointwise [k0_pay4]
  exact WordCmp.cmpi_eq_ofNat (by omega) (by omega)

/-- Whether an entry is the first tap of a backward half. -/
theorem zeroed_at (i : grid0.Coords) (r : Fin 4096) :
    k0_pay5 i (ix2 r 0) = BitVec.ofBool (decide ((i 1).val = 1) && decide (r.val = 0)) := by
  pointwise [k0_pay5]
  rw [first_at, dir_eq (by have : (i 1).val < 2 := (i 1).isLt; omega) (by omega), WordCmp.andi_ofBool]

/-- What a step stores. -/
theorem stored_at (a : BitVec 32) (x w : FVec Ideal S4096x512 .f32) (f z : IVec S4096x1 1) (b : FVec Ideal S1x1x512 .f32) (r : Fin 4096) (j : Fin 512) :
    k0_pay1 a x w f z b (ix3 0 r j) = (Scalar.select (z (ix2 r 0)) 0 (x (ix2 r j) * w (ix2 r j))
      + Scalar.select (IntOp.andi (Scalar.cmpi .eq a 0#32) (f (ix2 r 0))) (b (ix3 0 0 j)) 0 : EReal) := by
  pointwise [k0_pay1]

end Cert.FiltIdeal.Value

end
-- ==== Proof.FiltValue.lean ====
/-
  What the filters' kernel leaves: the kernels of the long convolutions, entry by entry.
-/
module

public import proofs.«01_k».proof.Proof.FiltTaps

@[expose] public section

set_option maxRecDepth 16384

noncomputable section

open Idealize.ShloMosaic Idealize.ShloMosaic.TcCoe Idealize.SL.Sem
open Idealize.ShloMosaic.Pipeline (Dat)

namespace Cert.FiltIdeal.Value

open Cert.FiltIdeal Cert.FiltIdeal.Gen
open Cert.Recur (Real')
open Cert.Taps (TAPS tap window)

variable (m : (ℓ : Loc nD τ sig) → Buf (Elt Ideal) ℓ)

/-- The features, the weight and the skip factors the run begins with. -/
def HF (c : Dev nD) : FVec Ideal S4096x64 .f32 := m ((c : Thread nD τ).loc main_arg0)
def WF (c : Dev nD) : FVec Ideal S64x8192 .f32 := m ((c : Thread nD τ).loc main_arg1)
def BF (c : Dev nD) : FVec Ideal S2x2048 .f32 := m ((c : Thread nD τ).loc main_arg2)

/-- The windows' block indices. -/
theorem idx : ∀ t : Fin cfg0.N, win0_0.index t = ![t.val / 4 % 2, 0] ∧ win0_1.index t = ![t.val / 4 % 2 * 2 + t.val / 8, 0, t.val % 4] ∧
    win0_2.index t = ![0, t.val % 4] ∧ win0_3.index t = ![t.val / 8, 0, t.val % 4] ∧ win0_4.index t = ![t.val / 8, t.val / 4 % 2, t.val % 4] :=
  (by decide +kernel : ∀ t : Fin grid0.N, _)

/-- A step's direction. -/
theorem dir : ∀ t : Fin cfg0.N, (grid0.coords t 1).val = t.val / 4 % 2 := (by decide +kernel : ∀ t : Fin grid0.N, _)

/-- The features, followed by a row of zeros and by their other rows from the last. -/
def mirrored (h : FVec Ideal S4096x64 .f32) : FVec Ideal S8192x64 .f32 :=
  concatenate S8192x64 0 [⟨S4096x64, h⟩, ⟨S1x64, broadcastInDim S1x64 ![] bcast_S_S1x64 (constant (F := Ideal) S_ .f32 0x00000000#32)⟩,
    ⟨S4095x64, Host.reverse [0] (extractStridedSlice S4095x64 ![1, 0] h slices_S4096x64_S4095x64_1_0)⟩] concatenates_S4096x64_S1x64_S4095x64_S8192x64_d0

/-- The weight's columns, a block for each direction and order. -/
def parted (w : FVec Ideal S64x8192 .f32) : FVec Ideal S4x64x2048 .f32 :=
  shapeCast S4x64x2048 (transpose S2x2x64x2048 [1, 2, 0, 3] (shapeCast S64x2x2x2048 w shapeCasts_S64x8192_S64x2x2x2048)
    transposes_S64x2x2x2048_S2x2x64x2048_1_2_0_3) shapeCasts_S2x2x64x2048_S4x64x2048

/-- The decay rates. -/
def rates : FVec Ideal S2048 .f32 :=
  Host.absf (concatenate S2048 0 [⟨S2047, addf (mulf (broadcastInDim S2047 ![0] bcast_S1_S2047_0 (shapeCast S1 (id (constant (F := Ideal) S_ .f32 0xC0447CBD#32)) shapeCasts_S_S1))
      (subf (broadcastInDim S2047 ![] bcast_S_S2047 (constant S_ .f32 0x3F800000#32)) (Host.divf (sitofp .f32 (iotaInDim S2047 32 0)) (broadcastInDim S2047 ![] bcast_S_S2047 (constant S_ .f32 0x44FFE000#32)))))
    (mulf (broadcastInDim S2047 ![0] bcast_S1_S2047_0 (shapeCast S1 (id (constant (F := Ideal) S_ .f32 0xC1759BEC#32)) shapeCasts_S_S1))
      (Host.divf (sitofp .f32 (iotaInDim S2047 32 0)) (broadcastInDim S2047 ![] bcast_S_S2047 (constant S_ .f32 0x44FFE000#32))))⟩,
    ⟨S1, broadcastInDim S1 ![] bcast_S_S1 (constant (F := Ideal) S_ .f32 0xC1759BEC#32)⟩] concatenates_S2047_S1_S2048_d0)

theorem hid_eq (c : Dev nD) : V m c main_v3 = mirrored (HF m c) := by
  entry_read
  rfl

theorem wout_eq (c : Dev nD) : V m c main_v6 = parted (WF m c) := by
  entry_read
  rfl

theorem rates_eq (c : Dev nD) : V m c main_v9 = shapeCast S1x2048 rates shapeCasts_S2048_S1x2048 := by
  entry_read
  rfl

theorem skip_eq (c : Dev nD) : V m c main_v10 = shapeCast S2x1x2048 (BF m c) shapeCasts_S2x2048_S2x1x2048 := by
  entry_read
  rfl

theorem reverse_at (X : FVec Ideal S4095x64 .f32) (r : Fin 4095) (k : Fin 64) :
    Host.reverse [0] X (ix2 r k) = X (ix2 ⟨4094 - r.val, by omega⟩ k) := by
  rw [Host.reverse_apply]
  have e : r.rev = ⟨4094 - r.val, by omega⟩ := Fin.ext (by simp only [Fin.val_rev]; omega)
  rw [← e]
  refine congrArg X (funext fun a => ?_)
  fin_cases a <;> rfl

/-- The mirrored features' rows. -/
theorem mirrored_fwd (h : FVec Ideal S4096x64 .f32) (r : Fin 8192) (k : Fin 64) (hr : r.val < 4096) :
    mirrored h (ix2 r k) = h (ix2 ⟨r.val, hr⟩ k) := by
  refine concatenate_apply_piece (t := S8192x64) (0 : Fin 2) _ _ _ 0 (by simp) S4096x64 h rfl rfl 0 rfl _ (fun b hb => ?_) ?_
  · fin_cases b <;> first | exact absurd rfl hb | rfl
  · show 0 + r.val = r.val; omega

theorem mirrored_mid (h : FVec Ideal S4096x64 .f32) (r : Fin 8192) (k : Fin 64) (hr : r.val = 4096) : mirrored h (ix2 r k) = 0 := by
  refine (concatenate_apply_piece (t := S8192x64) (0 : Fin 2) _ _ _ 1 (by simp) S1x64 _ rfl rfl 4096 rfl (ix2 0 k) (fun b hb => ?_) ?_).trans ?_
  · fin_cases b <;> first | exact absurd rfl hb | rfl
  · show 4096 + 0 = r.val; omega
  · pointwise []

theorem mirrored_bwd (h : FVec Ideal S4096x64 .f32) (r : Fin 8192) (k : Fin 64) (hr : 4096 < r.val) :
    mirrored h (ix2 r k) = h (ix2 ⟨8192 - r.val, by omega⟩ k) := by
  refine (concatenate_apply_piece (t := S8192x64) (0 : Fin 2) _ _ _ 2 (by simp) S4095x64 _ rfl rfl 4097 rfl
    (ix2 ⟨r.val - 4097, by omega⟩ k) (fun b hb => ?_) ?_).trans ((reverse_at _ _ k).trans ?_)
  · fin_cases b <;> first | exact absurd rfl hb | rfl
  · show 4097 + (r.val - 4097) = r.val; omega
  · pointwise []
    refine congrArg h ((ix2_inj ..).2 ⟨Fin.ext ?_, rfl⟩); dsimp only; omega

theorem parted_at (w : FVec Ideal S64x8192 .f32) (e : Fin 4) (k : Fin 64) (j : Fin 2048) :
    parted w (ix3 e k j) = w (ix2 k ⟨e.val * 2048 + j.val, by omega⟩) := by
  pointwise [parted]
  refine congrArg w ((ix2_inj ..).2 ⟨Fin.ext ?_, Fin.ext ?_⟩) <;> dsimp only <;> omega

/-- Where an entry of a block of the result sits. -/
theorem out_at (t : Fin cfg0.N) (r : Fin 4096) (j : Fin 512) : ((cfg0.win 4).blk t).view.emb (ix3 0 r j : S1x4096x512.Idx)
    = (ix3 ⟨t.val / 8, by have := t.isLt; have : cfg0.N = 16 := rfl; omega⟩ ⟨t.val / 4 % 2 * 4096 + r.val, by omega⟩
        ⟨t.val % 4 * 512 + j.val, by omega⟩ : S2x8192x2048.Idx) := by
  blk_ext [idx t]

/-- A step's block of features, and its block of the weight. -/
def FB (c : Dev nD) (t : Fin cfg0.N) : FVec Ideal S4096x64 .f32 := iblk m c 0 t
def WB (c : Dev nD) (t : Fin cfg0.N) : FVec Ideal S1x64x512 .f32 := iblk m c 1 t

theorem in0_at (c : Dev nD) (t : Fin cfg0.N) (r : Fin 4096) (k : Fin 64) :
    FB m c t (ix2 r k)
      = (V m c main_v3 : FVec Ideal S8192x64 .f32) (ix2 ⟨t.val / 4 % 2 * 4096 + r.val, by omega⟩ k) := by
  unfold FB
  blk_ext [iblk, idx t]

theorem in1_at (c : Dev nD) (t : Fin cfg0.N) (k : Fin 64) (j : Fin 512) :
    WB m c t (ix3 0 k j)
      = (V m c main_v6 : FVec Ideal S4x64x2048 .f32) (ix3 ⟨t.val / 4 % 2 * 2 + t.val / 8, by have := t.isLt; have : cfg0.N = 16 := rfl; omega⟩ k ⟨t.val % 4 * 512 + j.val, by omega⟩) := by
  unfold WB
  blk_ext [iblk, idx t]

theorem in2_at (c : Dev nD) (t : Fin cfg0.N) (j : Fin 512) :
    (iblk m c 2 t : FVec Ideal S1x512 .f32) (ix2 0 j) = rates (ix1 ⟨t.val % 4 * 512 + j.val, by omega⟩) := by
  have e : (iblk m c 2 t : FVec Ideal S1x512 .f32) (ix2 0 j)
      = (V m c main_v9 : FVec Ideal S1x2048 .f32) (ix2 0 ⟨t.val % 4 * 512 + j.val, by omega⟩) := by
    blk_ext [iblk, idx t]
  rw [e, rates_eq]
  generalize rates = D
  pointwise []

theorem in3_at (c : Dev nD) (t : Fin cfg0.N) (j : Fin 512) :
    (iblk m c 3 t : FVec Ideal S1x1x512 .f32) (ix3 0 0 j)
      = BF m c (ix2 ⟨t.val / 8, by have := t.isLt; have : cfg0.N = 16 := rfl; omega⟩ ⟨t.val % 4 * 512 + j.val, by omega⟩) := by
  have e : (iblk m c 3 t : FVec Ideal S1x1x512 .f32) (ix3 0 0 j)
      = (V m c main_v10 : FVec Ideal S2x1x2048 .f32) (ix3 ⟨t.val / 8, by have := t.isLt; have : cfg0.N = 16 := rfl; omega⟩ 0 ⟨t.val % 4 * 512 + j.val, by omega⟩) := by
    blk_ext [iblk, idx t]
  rw [e, skip_eq]
  generalize BF m c = D
  pointwise []

/-- The blocks of features and of weights hold real numbers. -/
theorem real0 (c : Dev nD) (hh : Real' (HF m c)) (t : Fin cfg0.N) : Real' (FB m c t) := fun y => by
  idx_vars y
  rw [in0_at, hid_eq]
  by_cases h1 : t.val / 4 % 2 * 4096 + y0.val < 4096
  · rw [mirrored_fwd _ _ _ h1]; exact hh _
  · by_cases h2 : t.val / 4 % 2 * 4096 + y0.val = 4096
    · rw [mirrored_mid _ _ _ h2]; exact ⟨0, rfl⟩
    · rw [mirrored_bwd _ _ _ (by dsimp only; omega)]; exact hh _

theorem real1 (c : Dev nD) (hw : Real' (WF m c)) (t : Fin cfg0.N) : Real' (WB m c t) := fun y => by
  idx_vars y
  rw [Subsingleton.elim y0 0, in1_at, wout_eq, parted_at]
  exact hw _

/-- What a step stores is the kernels' entry at the array index. -/
theorem point (c : Dev nD) (hh : Real' (HF m c)) (hw : Real' (WF m c)) (t : Fin cfg0.N) (r : Fin 4096) (j : Fin 512) :
    k0_pay1 (BitVec.ofNat 32 (grid0.coords t 1).val) (k0_pay2 (FB m c t) (WB m c t)) (k0_pay3 (grid0.coords t) (iblk m c 2 t)) k0_pay4
      (k0_pay5 (grid0.coords t)) (iblk m c 3 t) (ix3 0 r j)
    = TAPS (HF m c) (WF m c) (BF m c) rates ⟨t.val / 8, by have := t.isLt; have : cfg0.N = 16 := rfl; omega⟩
        ⟨t.val / 4 % 2 * 4096 + r.val, by omega⟩ ⟨t.val % 4 * 512 + j.val, by omega⟩ := by
  rw [stored_at, product_at _ _ (real0 m c hh t) (real1 m c hw t), window_at, zeroed_at, first_at, in2_at, in3_at, dir t,
    dir_eq (by omega) (by omega), WordCmp.andi_ofBool, Scalar.select_def, Scalar.select_def]
  have hd : t.val / 4 % 2 = 0 ∨ t.val / 4 % 2 = 1 := by omega
  rcases hd with hd | hd
  · have hp : t.val / 4 % 2 * 4096 + r.val < 4096 := by omega
    have hs : (∑ k : Fin 64, FB m c t (ix2 r k) * WB m c t (ix3 0 k j))
        * window (rates (ix1 ⟨t.val % 4 * 512 + j.val, by omega⟩)) r.val
        = tap (HF m c) (WF m c) rates 0 ⟨t.val / 8, by have := t.isLt; have : cfg0.N = 16 := rfl; omega⟩ ⟨t.val / 4 % 2 * 4096 + r.val, hp⟩ ⟨t.val % 4 * 512 + j.val, by omega⟩ := by
      refine congrArg₂ (· * ·) (Finset.sum_congr rfl fun k _ => ?_) (congrArg (window _) ?_)
      · rw [in0_at, in1_at, hid_eq, wout_eq, parted_at, mirrored_fwd _ _ _ hp]
        refine congrArg (_ * ·) (congrArg (WF m c) ((ix2_inj ..).2 ⟨rfl, Fin.ext ?_⟩))
        dsimp only [Fin.val_zero]; omega
      · dsimp only; omega
    rw [TAPS, dif_pos hp, ← hs]
    have e : t.val / 4 % 2 * 4096 + r.val = r.val := by omega
    by_cases hr : r.val = 0 <;> simp [hd, hr]
  · rw [TAPS, dif_neg (by dsimp only; omega)]
    by_cases hr : r.val = 0
    · rw [dif_pos (by dsimp only; omega)]
      simp [hr, hd]
    · have hp : 4096 < t.val / 4 % 2 * 4096 + r.val := by omega
      have hs : (∑ k : Fin 64, FB m c t (ix2 r k) * WB m c t (ix3 0 k j))
          * window (rates (ix1 ⟨t.val % 4 * 512 + j.val, by omega⟩)) (4096 - r.val)
          = tap (HF m c) (WF m c) rates 1 ⟨t.val / 8, by have := t.isLt; have : cfg0.N = 16 := rfl; omega⟩ ⟨8192 - (t.val / 4 % 2 * 4096 + r.val), by omega⟩ ⟨t.val % 4 * 512 + j.val, by omega⟩ := by
        refine congrArg₂ (· * ·) (Finset.sum_congr rfl fun k _ => ?_) (congrArg (window _) ?_)
        · rw [in0_at, in1_at, hid_eq, wout_eq, parted_at, mirrored_bwd _ _ _ hp]
          refine congrArg (_ * ·) (congrArg (WF m c) ((ix2_inj ..).2 ⟨rfl, Fin.ext ?_⟩))
          dsimp only [Fin.val_one]; omega
        · dsimp only; omega
      rw [dif_neg (by dsimp only; omega), ← hs]
      simp [hd, hr]

/-- The array after the run. -/
theorem final (c : Dev nD) (hh : Real' (HF m c)) (hw : Real' (WF m c)) :
    (dats m 0 c).arrAt 4 (cfgs 0).N = (fun i => TAPS (HF m c) (WF m c) (BF m c) rates (i 0) (i 1) (i 2) : FVec Ideal S2x8192x2048 .f32) := by
  refine (dats m 0 c).arrAt_eq_of_covers 4 _ (by decide +kernel) fun t _ y => ?_
  blk_simp
  rw [after0_4]; frame_out
  idx_vars y
  rw [Subsingleton.elim y0 0, out_at t y1 y2]
  exact point m c hh hw t y1 y2

end Cert.FiltIdeal.Value

end
-- ==== Proof.KernelChunk.lean ====
/-
  One chunk of the kernel: its payloads are the outputs and the state of the recurrence.
-/
module

public import proofs.«01_k».proof.Proof.Gen.KernelIdeal.Value
public import Idealize.ShloMosaic.Lib.Pipeline.ValueKit
public import Idealize.ShloMosaic.Lib.Claim
public import proofs.«01_k».proof.Proof.Heads

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! ## One chunk of 256 steps of one head, from its blocks and the state it is given -/

open Cert.Recur

/-- A selection by the order of two places of a chunk. -/
theorem select_le {α : Type} (x i : Fin 256) (a b : α) :
    Scalar.select (IntOp.cmpi .sle (BitVec.ofNat 32 x.val) (BitVec.ofNat 32 i.val)) a b = if x ≤ i then a else b := by
  rw [Scalar.select_def]
  by_cases h : x ≤ i
  · rw [if_pos h, if_pos]
    exact (WordCmp.cmpi_sle_ofNat_eq_one_iff (by have := x.isLt; omega) (by have := i.isLt; omega)).mpr h
  · rw [if_neg h, if_neg]
    exact fun e => h ((WordCmp.cmpi_sle_ofNat_eq_one_iff (by have := x.isLt; omega) (by have := i.isLt; omega)).mp e)

section
variable (gc : Vec Ideal S1x1x256x4 .f32) (bc : Vec Ideal S1x1x4 .f32) (gr : Vec Ideal S1x1x4x256 .f32) (br : Vec Ideal S1x4x1 .f32)
  (qb kb : Vec Ideal S256x128 .bf16) (vb : Vec Ideal S256x256 .bf16)
  (C : Vec Ideal S128x256 .f32) (n : Vec Ideal S1x128 .f32) (mx : Vec Ideal S1x1 .f32)

/-- The cumulated log forget gates of a chunk. -/
def bV : FVec Ideal S256x1 .f32 := k0_pay14 k0_pay4 (k0_pay12 gr br) (k0_pay13 gr br)

/-- The log weights of a chunk. -/
def dV : FVec Ideal S256x256 .f32 :=
  k0_pay15 k0_pay4 k0_pay5 (k0_pay9 gc bc) (k0_pay10 gr br) (k0_pay12 gr br) (k0_pay13 gr br)

/-- The row stabilisers of a chunk. -/
def mtV : FVec Ideal S256x1 .f32 :=
  k0_pay17 k0_pay4 k0_pay5 (k0_pay9 gc bc) (k0_pay10 gr br) (k0_pay12 gr br) (k0_pay13 gr br) mx

/-- The weighted scores of a chunk. -/
def sV : FVec Ideal S256x256 .f32 :=
  k0_pay21 k0_pay4 k0_pay5 (k0_pay9 gc bc) (k0_pay10 gr br) (k0_pay12 gr br) (k0_pay13 gr br) mx qb kb

/-- How much of the carried state each row keeps. -/
def wV : FVec Ideal S256x1 .f32 :=
  k0_pay22 k0_pay4 k0_pay5 (k0_pay9 gc bc) (k0_pay10 gr br) (k0_pay12 gr br) (k0_pay13 gr br) mx

/-- The outputs of a chunk. -/
def houtV : FVec Ideal S256x256 .f32 :=
  k0_pay23 (mtV gc bc gr br mx) (k0_pay18 qb) (k0_pay20 vb) (sV gc bc gr br qb kb mx) (wV gc bc gr br mx) C n

/-- The stabiliser after a chunk. -/
def mV : FVec Ideal S1x1 .f32 := k0_pay31 (k0_pay26 (k0_pay8 gc bc) (bV gr br) mx)

/-- The matrix state after a chunk. -/
def CV : FVec Ideal S128x256 .f32 :=
  k0_pay29 (k0_pay20 vb) (k0_pay27 (k0_pay8 gc bc) (bV gr br) mx (k0_pay19 kb)) (k0_pay28 (k0_pay8 gc bc) (bV gr br) mx) C

/-- The vector state after a chunk. -/
def nV : FVec Ideal S1x128 .f32 :=
  k0_pay30 (k0_pay27 (k0_pay8 gc bc) (bV gr br) mx (k0_pay19 kb)) (k0_pay28 (k0_pay8 gc bc) (bV gr br) mx) n

/-- The gate blocks of a chunk that begins after `n0` steps hold the gates `li` and the forget arguments `fg`. -/
structure GateBlocks (li fg : ℕ → ℝ) (n0 : ℕ) : Prop where
  lic : ∀ x : Fin 256, gc (ix4 0 0 x 0) + bc (ix3 0 0 0) = ((li (n0 + x.val) : ℝ) : EReal)
  fgc : ∀ x : Fin 256, gc (ix4 0 0 x 1) + bc (ix3 0 0 1) = ((fg (n0 + x.val) : ℝ) : EReal)
  lir : ∀ x : Fin 256, gr (ix4 0 0 0 x) + br (ix3 0 0 0) = ((li (n0 + x.val) : ℝ) : EReal)
  fgr : ∀ x : Fin 256, gr (ix4 0 0 1 x) + br (ix3 0 1 0) = ((fg (n0 + x.val) : ℝ) : EReal)

/-- The block of queries holds the rows from `n0` on. -/
def QBlock (q : ℕ → Fin 128 → ℝ) (n0 : ℕ) : Prop :=
  ∀ (x : Fin 256) (d : Fin 128), qb (ix2 x d) = ((q (n0 + x.val) d : ℝ) : EReal)

/-- The blocks of keys and values hold the rows from `n0` on. -/
structure KvBlocks (k : ℕ → Fin 128 → ℝ) (v : ℕ → Fin 256 → ℝ) (n0 : ℕ) : Prop where
  k : ∀ (x : Fin 256) (d : Fin 128), kb (ix2 x d) = ((k (n0 + x.val) d : ℝ) : EReal)
  v : ∀ (x : Fin 256) (j : Fin 256), vb (ix2 x j) = ((v (n0 + x.val) j : ℝ) : EReal)

/-- The state after `n0` steps. -/
structure StateIs (li lf : ℕ → ℝ) (k : ℕ → Fin 128 → ℝ) (v : ℕ → Fin 256 → ℝ) (n0 : ℕ) : Prop where
  C : ∀ (d : Fin 128) (j : Fin 256), C (ix2 d j) = ((Cst li lf k v n0 d j : ℝ) : EReal)
  n : ∀ d : Fin 128, n (ix2 0 d) = ((Nst li lf k n0 d : ℝ) : EReal)
  m : mx (ix2 0 0) = ((M li lf n0 : ℝ) : EReal)

variable {gc bc gr br qb kb vb C n mx} {li fg : ℕ → ℝ} {q k : ℕ → Fin 128 → ℝ} {v : ℕ → Fin 256 → ℝ} {n0 : ℕ}

theorem li_c (hg : GateBlocks gc bc gr br li fg n0) (x : Fin 256) :
    k0_pay8 gc bc (ix2 x 0) = ((li (n0 + x.val) : ℝ) : EReal) := by
  rw [← hg.lic x]
  pointwise [k0_pay8, k0_pay6]

theorem lf_c (hg : GateBlocks gc bc gr br li fg n0) (x : Fin 256) :
    k0_pay9 gc bc (ix2 x 0) = ((logsig (fg (n0 + x.val)) : ℝ) : EReal) := by
  rw [← logsig_kernel, ← hg.fgc x]
  pointwise [k0_pay9, k0_pay6]
  rfl

theorem li_r (hg : GateBlocks gc bc gr br li fg n0) (x : Fin 256) :
    k0_pay10 gr br (ix2 0 x) = ((li (n0 + x.val) : ℝ) : EReal) := by
  rw [← hg.lir x]
  pointwise [k0_pay10, k0_pay7]

theorem b_at (hg : GateBlocks gc bc gr br li fg n0) (i : Fin 256) :
    bV gr br (ix2 i 0) = ((B (logsig ∘ fg) (n0 + i.val + 1) - B (logsig ∘ fg) n0 : ℝ) : EReal) := by
  rw [← cum]
  have e : ∀ x : Fin 256, (((logsig ∘ fg) (n0 + x.val) : ℝ) : EReal)
      = min (gr (ix4 0 0 1 x) + br (ix3 0 1 0)) 0
        - Ideal.log1p (Ideal.exp (0 - max (gr (ix4 0 0 1 x) + br (ix3 0 1 0)) (-(gr (ix4 0 0 1 x) + br (ix3 0 1 0))))) := by
    intro x; rw [hg.fgr x]; exact (logsig_kernel _).symm
  simp only [e]
  pointwise [bV, k0_pay14, k0_pay12, k0_pay13, k0_pay11, k0_pay7, k0_pay4]
  simp only [select_le]
  rfl

theorem d_at (hg : GateBlocks gc bc gr br li fg n0) (i s : Fin 256) :
    dV gc bc gr br (ix2 i s) = if s ≤ i then ((B (logsig ∘ fg) (n0 + i.val + 1) - B (logsig ∘ fg) (n0 + s.val + 1)
      + li (n0 + s.val) : ℝ) : EReal) else ⊥ := by
  have hb := b_at hg i
  have hs : (∑ x : Fin 256, if x ≤ s then k0_pay9 gc bc (ix2 x 0) else 0)
      = ((B (logsig ∘ fg) (n0 + s.val + 1) - B (logsig ∘ fg) n0 : ℝ) : EReal) := by
    rw [← cum]; simp only [lf_c hg]; rfl
  have e : dV gc bc gr br (ix2 i s) = if s ≤ i then bV gr br (ix2 i 0)
      - (∑ x : Fin 256, if x ≤ s then k0_pay9 gc bc (ix2 x 0) else 0) + k0_pay10 gr br (ix2 0 s) else ⊥ := by
    rw [← ofBits_bot]
    simp only [← select_le]
    pointwise [dV, bV, k0_pay15, k0_pay4, k0_pay5]
  rw [e, hb, hs, li_r hg, ← EReal.coe_sub, ← EReal.coe_add]
  refine if_congr Iff.rfl (congrArg _ ?_) rfl
  ring

theorem mt_at (hg : GateBlocks gc bc gr br li fg n0) (hm : mx (ix2 0 0) = ((M li (logsig ∘ fg) n0 : ℝ) : EReal)) (i : Fin 256) :
    mtV gc bc gr br mx (ix2 i 0) = ((M li (logsig ∘ fg) (n0 + i.val + 1) : ℝ) : EReal) := by
  rw [← rowmax, EReal.coe_add, ← b_at hg i, ← hm, ← ofBits_bot]
  have e := fun s => d_at hg i s
  rw [← ofBits_bot] at e
  simp only [← e]
  pointwise [mtV, dV, bV, k0_pay17, k0_pay16]

theorem s_at (hg : GateBlocks gc bc gr br li fg n0) (hm : mx (ix2 0 0) = ((M li (logsig ∘ fg) n0 : ℝ) : EReal))
    (hq : QBlock qb q n0) (hkv : KvBlocks kb vb k v n0) (i s : Fin 256) :
    sV gc bc gr br qb kb mx (ix2 i s) = if s ≤ i then ((Q q k scale (n0 + i.val) (n0 + s.val)
      * W li (logsig ∘ fg) (n0 + i.val + 1) (n0 + s.val) : ℝ) : EReal) else 0 := by
  have e : sV gc bc gr br qb kb mx (ix2 i s) = (∑ d : Fin 128, qb (ix2 i d) * kb (ix2 s d)) * ((scale : ℝ) : EReal)
      * Ideal.exp (dV gc bc gr br (ix2 i s) - mtV gc bc gr br mx (ix2 i 0)) := by
    rw [← ofBits_scale]
    pointwise [sV, dV, mtV, k0_pay21, k0_pay18, k0_pay19]
  rw [e, d_at hg, mt_at hg hm, weight]
  simp only [hq _ _, hkv.k, ← EReal.coe_mul, ← coe_sum]
  by_cases h : s ≤ i
  · rw [if_pos h, if_pos h, ← EReal.coe_mul]; rfl
  · rw [if_neg h, if_neg h, mul_zero]

theorem w_at (hg : GateBlocks gc bc gr br li fg n0) (hm : mx (ix2 0 0) = ((M li (logsig ∘ fg) n0 : ℝ) : EReal)) (i : Fin 256) :
    wV gc bc gr br mx (ix2 i 0) = ((keep li (logsig ∘ fg) n0 (n0 + i.val + 1) : ℝ) : EReal) := by
  have e : wV gc bc gr br mx (ix2 i 0) = Ideal.exp (bV gr br (ix2 i 0) + mx (ix2 0 0) - mtV gc bc gr br mx (ix2 i 0)) := by
    pointwise [wV, bV, mtV, k0_pay22, k0_pay16]
  rw [e, b_at hg, mt_at hg hm, hm, ← EReal.coe_add, ← EReal.coe_sub, Ideal.exp_coe, keep]

/-- The outputs of a chunk are those of its steps. -/
theorem hout_at (hg : GateBlocks gc bc gr br li fg n0) (hq : QBlock qb q n0) (hkv : KvBlocks kb vb k v n0)
    (hs : StateIs C n mx li (logsig ∘ fg) k v n0) (i j : Fin 256) :
    houtV gc bc gr br qb kb vb C n mx (ix2 i j) = ((H li (logsig ∘ fg) q k v scale (n0 + i.val) j : ℝ) : EReal) := by
  have e : houtV gc bc gr br qb kb vb C n mx (ix2 i j)
      = Ideal.div (∑ x : Fin 256, sV gc bc gr br qb kb mx (ix2 i x) * vb (ix2 x j)
          + wV gc bc gr br mx (ix2 i 0) * ((∑ d : Fin 128, qb (ix2 i d) * C (ix2 d j)) * ((scale : ℝ) : EReal)))
        (max (max (∑ x : Fin 256, sV gc bc gr br qb kb mx (ix2 i x)
            + wV gc bc gr br mx (ix2 i 0) * ((∑ d : Fin 128, qb (ix2 i d) * n (ix2 0 d)) * ((scale : ℝ) : EReal)))
          (-(∑ x : Fin 256, sV gc bc gr br qb kb mx (ix2 i x)
            + wV gc bc gr br mx (ix2 i 0) * ((∑ d : Fin 128, qb (ix2 i d) * n (ix2 0 d)) * ((scale : ℝ) : EReal)))))
          (Ideal.exp (0 - mtV gc bc gr br mx (ix2 i 0)))) := by
    rw [← ofBits_scale]
    pointwise [houtV, k0_pay23, k0_pay18, k0_pay20]
    rfl
  rw [e, w_at hg hs.m, mt_at hg hs.m]
  simp only [s_at hg hs.m hq hkv, hq _ _, hkv.v, hs.C, hs.n, ← EReal.coe_mul (q _ _), ← coe_sum, ← EReal.coe_mul _ scale]
  rw [answer, answer_den, row_num, row_den, ← EReal.coe_zero, ← EReal.coe_sub, Ideal.exp_coe, zero_sub, quotient]

theorem last_lt : 255 < 256 := by decide

theorem last_row (v44 : FVec Ideal S256x1 .f32) : k0_pay24 v44 (ix2 0 0) = v44 (ix2 ⟨255, last_lt⟩ 0) := by
  pointwise [k0_pay24]

theorem b_last (hg : GateBlocks gc bc gr br li fg n0) :
    k0_pay24 (bV gr br) (ix2 0 0) = ((B (logsig ∘ fg) (n0 + 256) - B (logsig ∘ fg) n0 : ℝ) : EReal) := by
  have h := b_at hg ⟨255, last_lt⟩
  rw [add_assoc] at h
  rw [← h]
  exact last_row (bV gr br)

theorem pay31_eq (v115 : FVec Ideal S1x1 .f32) : k0_pay31 v115 = v115 := by
  funext i
  idx_vars i
  pointwise [k0_pay31]

theorem pay26_apply (v19 v44 : FVec Ideal S256x1 .f32) (mx : Vec Ideal S1x1 .f32) : k0_pay26 v19 v44 mx (ix2 0 0)
    = max (k0_pay24 v44 (ix2 0 0) + mx (ix2 0 0))
      (Finset.univ.fold max (Ideal.ofBits .f32 4286578688#32) fun x : Fin 256 =>
        k0_pay24 v44 (ix2 0 0) - v44 (ix2 x 0) + v19 (ix2 x 0)) := by
  pointwise [k0_pay26, k0_pay25]

theorem pay29_apply (v19 v44 : FVec Ideal S256x1 .f32) (mx : Vec Ideal S1x1 .f32) (kb : FVec Ideal S256x128 .bf16)
    (vb : FVec Ideal S256x256 .bf16) (C : FVec Ideal S128x256 .f32) (d : Fin 128) (j : Fin 256) :
    k0_pay29 (k0_pay20 vb) (k0_pay27 v19 v44 mx (k0_pay19 kb)) (k0_pay28 v19 v44 mx) C (ix2 d j)
      = Ideal.exp (k0_pay24 v44 (ix2 0 0) + mx (ix2 0 0) - k0_pay26 v19 v44 mx (ix2 0 0)) * C (ix2 d j)
        + ∑ x : Fin 256, kb (ix2 x d) * Ideal.exp (k0_pay24 v44 (ix2 0 0) - v44 (ix2 x 0) + v19 (ix2 x 0)
          - k0_pay26 v19 v44 mx (ix2 0 0)) * vb (ix2 x j) := by
  pointwise [k0_pay29, k0_pay27, k0_pay28, k0_pay25, k0_pay20, k0_pay19]

theorem pay30_apply (v19 v44 : FVec Ideal S256x1 .f32) (mx : Vec Ideal S1x1 .f32) (kb : FVec Ideal S256x128 .bf16)
    (n : FVec Ideal S1x128 .f32) (d : Fin 128) :
    k0_pay30 (k0_pay27 v19 v44 mx (k0_pay19 kb)) (k0_pay28 v19 v44 mx) n (ix2 0 d)
      = Ideal.exp (k0_pay24 v44 (ix2 0 0) + mx (ix2 0 0) - k0_pay26 v19 v44 mx (ix2 0 0)) * n (ix2 0 d)
        + ∑ x : Fin 256, kb (ix2 x d) * Ideal.exp (k0_pay24 v44 (ix2 0 0) - v44 (ix2 x 0) + v19 (ix2 x 0)
          - k0_pay26 v19 v44 mx (ix2 0 0)) := by
  pointwise [k0_pay30, k0_pay27, k0_pay28, k0_pay25, k0_pay19]

theorem m_at (hg : GateBlocks gc bc gr br li fg n0) (hm : mx (ix2 0 0) = ((M li (logsig ∘ fg) n0 : ℝ) : EReal)) :
    mV gc bc gr br mx (ix2 0 0) = ((M li (logsig ∘ fg) (n0 + 256) : ℝ) : EReal) := by
  have e : mV gc bc gr br mx (ix2 0 0) = max (k0_pay24 (bV gr br) (ix2 0 0) + mx (ix2 0 0))
      (Finset.univ.fold max ⊥ fun x : Fin 256 => k0_pay24 (bV gr br) (ix2 0 0) - bV gr br (ix2 x 0) + k0_pay8 gc bc (ix2 x 0)) := by
    rw [← ofBits_bot, mV, pay31_eq]; exact pay26_apply _ _ _
  rw [e, b_last hg, hm]
  simp only [b_at hg, li_c hg, ← EReal.coe_sub, ← EReal.coe_add]
  rw [← lastmax]
  refine congrArg (max _) (congrArg (fun f => Finset.univ.fold max ⊥ f) (funext fun x => congrArg _ ?_))
  ring

/-- How much of the carried state the chunk keeps. -/
theorem keep_at (hg : GateBlocks gc bc gr br li fg n0) (hm : mx (ix2 0 0) = ((M li (logsig ∘ fg) n0 : ℝ) : EReal)) :
    Ideal.exp (k0_pay24 (bV gr br) (ix2 0 0) + mx (ix2 0 0) - mV gc bc gr br mx (ix2 0 0))
      = ((keep li (logsig ∘ fg) n0 (n0 + 256) : ℝ) : EReal) := by
  rw [b_last hg, hm, m_at hg hm, ← EReal.coe_add, ← EReal.coe_sub, Ideal.exp_coe, keep]

/-- The weight of a step in the chunk's new state. -/
theorem weight_at (hg : GateBlocks gc bc gr br li fg n0) (hm : mx (ix2 0 0) = ((M li (logsig ∘ fg) n0 : ℝ) : EReal)) (x : Fin 256) :
    Ideal.exp (k0_pay24 (bV gr br) (ix2 0 0) - bV gr br (ix2 x 0) + k0_pay8 gc bc (ix2 x 0) - mV gc bc gr br mx (ix2 0 0))
      = ((W li (logsig ∘ fg) (n0 + 256) (n0 + x.val) : ℝ) : EReal) := by
  rw [b_last hg, b_at hg, li_c hg, m_at hg hm, ← EReal.coe_sub, ← EReal.coe_add, ← EReal.coe_sub, Ideal.exp_coe, W]
  refine congrArg (fun y : ℝ => ((Real.exp y : ℝ) : EReal)) ?_
  ring

theorem CV_apply (d : Fin 128) (j : Fin 256) : CV gc bc gr br kb vb C mx (ix2 d j)
      = Ideal.exp (k0_pay24 (bV gr br) (ix2 0 0) + mx (ix2 0 0) - mV gc bc gr br mx (ix2 0 0)) * C (ix2 d j)
        + ∑ x : Fin 256, kb (ix2 x d) * Ideal.exp (k0_pay24 (bV gr br) (ix2 0 0) - bV gr br (ix2 x 0) + k0_pay8 gc bc (ix2 x 0)
          - mV gc bc gr br mx (ix2 0 0)) * vb (ix2 x j) := by
  rw [CV, mV, pay31_eq]; exact pay29_apply _ _ _ _ _ _ _ _

theorem nV_apply (d : Fin 128) : nV gc bc gr br kb n mx (ix2 0 d)
      = Ideal.exp (k0_pay24 (bV gr br) (ix2 0 0) + mx (ix2 0 0) - mV gc bc gr br mx (ix2 0 0)) * n (ix2 0 d)
        + ∑ x : Fin 256, kb (ix2 x d) * Ideal.exp (k0_pay24 (bV gr br) (ix2 0 0) - bV gr br (ix2 x 0) + k0_pay8 gc bc (ix2 x 0)
          - mV gc bc gr br mx (ix2 0 0)) := by
  rw [nV, mV, pay31_eq]; exact pay30_apply _ _ _ _ _ _

theorem C_at (hg : GateBlocks gc bc gr br li fg n0) (hkv : KvBlocks kb vb k v n0)
    (hs : StateIs C n mx li (logsig ∘ fg) k v n0) (d : Fin 128) (j : Fin 256) :
    CV gc bc gr br kb vb C mx (ix2 d j) = ((Cst li (logsig ∘ fg) k v (n0 + 256) d j : ℝ) : EReal) := by
  rw [CV_apply, keep_at hg hs.m, hs.C]
  simp only [weight_at hg hs.m, hkv.k, hkv.v]
  exact chunk_C li (logsig ∘ fg) k v n0 d j

theorem n_at (hg : GateBlocks gc bc gr br li fg n0) (hkv : KvBlocks kb vb k v n0)
    (hs : StateIs C n mx li (logsig ∘ fg) k v n0) (d : Fin 128) :
    nV gc bc gr br kb n mx (ix2 0 d) = ((Nst li (logsig ∘ fg) k (n0 + 256) d : ℝ) : EReal) := by
  rw [nV_apply, keep_at hg hs.m, hs.n]
  simp only [weight_at hg hs.m, hkv.k]
  exact chunk_N li (logsig ∘ fg) k n0 d

/-- The state after a chunk. -/
theorem state_step (hg : GateBlocks gc bc gr br li fg n0) (hkv : KvBlocks kb vb k v n0)
    (hs : StateIs C n mx li (logsig ∘ fg) k v n0) :
    StateIs (CV gc bc gr br kb vb C mx) (nV gc bc gr br kb n mx) (mV gc bc gr br mx) li (logsig ∘ fg) k v (n0 + 256) :=
  ⟨C_at hg hkv hs, n_at hg hkv hs, m_at hg hs.m⟩

end

end Cert.KernelIdeal.Value

end
-- ==== Proof.KernelPoint.lean ====
/-
  One grid point of the kernel: four chunks of one head, the state carried from the point before.
-/
module

public import proofs.«01_k».proof.Proof.Gen.KernelIdeal.Value
public import Idealize.ShloMosaic.Lib.Pipeline.ValueKit
public import Idealize.ShloMosaic.Lib.Claim
public import Idealize.ShloMosaic.Lib.Pipeline.ReadBack
public import proofs.«01_k».proof.Proof.KernelChunk

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Recur

variable (m : (ℓ : Loc nD τ sig) → Buf (Elt Ideal) ℓ)

/-! ## The later chunks' payloads are the first one's -/

section
variable (gc : Vec Ideal S1x1x256x4 .f32) (bc : Vec Ideal S1x1x4 .f32) (gr : Vec Ideal S1x1x4x256 .f32) (br : Vec Ideal S1x4x1 .f32)
  (qb kb : Vec Ideal S256x128 .bf16) (vb : Vec Ideal S256x256 .bf16)
  (C : Vec Ideal S128x256 .f32) (n : Vec Ideal S1x128 .f32) (mx : Vec Ideal S1x1 .f32)

theorem m0_eq : k0_pay31 (k0_pay26 (k0_pay8 gc bc) (k0_pay14 k0_pay4 (k0_pay12 gr br) (k0_pay13 gr br)) mx)
    = mV gc bc gr br mx := rfl
theorem n0_eq : k0_pay30 (k0_pay27 (k0_pay8 gc bc) (k0_pay14 k0_pay4 (k0_pay12 gr br) (k0_pay13 gr br)) mx (k0_pay19 kb))
    (k0_pay28 (k0_pay8 gc bc) (k0_pay14 k0_pay4 (k0_pay12 gr br) (k0_pay13 gr br)) mx) n = nV gc bc gr br kb n mx := rfl
theorem C0_eq : k0_pay29 (k0_pay20 vb) (k0_pay27 (k0_pay8 gc bc) (k0_pay14 k0_pay4 (k0_pay12 gr br) (k0_pay13 gr br)) mx (k0_pay19 kb))
    (k0_pay28 (k0_pay8 gc bc) (k0_pay14 k0_pay4 (k0_pay12 gr br) (k0_pay13 gr br)) mx) C = CV gc bc gr br kb vb C mx := rfl
theorem hout0_eq : k0_pay23
    (k0_pay17 k0_pay4 k0_pay5 (k0_pay9 gc bc) (k0_pay10 gr br) (k0_pay12 gr br) (k0_pay13 gr br) mx) (k0_pay18 qb) (k0_pay20 vb)
    (k0_pay21 k0_pay4 k0_pay5 (k0_pay9 gc bc) (k0_pay10 gr br) (k0_pay12 gr br) (k0_pay13 gr br) mx qb kb)
    (k0_pay22 k0_pay4 k0_pay5 (k0_pay9 gc bc) (k0_pay10 gr br) (k0_pay12 gr br) (k0_pay13 gr br) mx) C n
    = houtV gc bc gr br qb kb vb C n mx := rfl

theorem m1_eq : k0_pay56 (k0_pay35 (k0_pay32 gc bc)) (k0_pay36 k0_pay4 (k0_pay33 gr) br) mx = mV gc bc gr br mx := rfl
theorem n1_eq : k0_pay55 (k0_pay35 (k0_pay32 gc bc)) (k0_pay36 k0_pay4 (k0_pay33 gr) br) mx (k0_pay41 kb) n
    = nV gc bc gr br kb n mx := rfl
theorem C1_eq : k0_pay54 (k0_pay35 (k0_pay32 gc bc)) (k0_pay36 k0_pay4 (k0_pay33 gr) br) mx (k0_pay41 kb) (k0_pay42 vb) C
    = CV gc bc gr br kb vb C mx := rfl

theorem hout1_eq : k0_pay48
    (k0_pay45 (k0_pay37 k0_pay4 k0_pay5 (k0_pay32 gc bc) (k0_pay33 gr) br) (k0_pay38 k0_pay4 (k0_pay33 gr) br mx)
      (k0_pay39 k0_pay4 k0_pay5 (k0_pay32 gc bc) (k0_pay33 gr) br mx) qb kb vb C)
    (k0_pay46 (k0_pay37 k0_pay4 k0_pay5 (k0_pay32 gc bc) (k0_pay33 gr) br) (k0_pay38 k0_pay4 (k0_pay33 gr) br mx)
      (k0_pay39 k0_pay4 k0_pay5 (k0_pay32 gc bc) (k0_pay33 gr) br mx) qb kb n)
    (k0_pay47 (k0_pay39 k0_pay4 k0_pay5 (k0_pay32 gc bc) (k0_pay33 gr) br mx))
    = houtV gc bc gr br qb kb vb C n mx := rfl

theorem m2_eq : k0_pay82 (k0_pay77 (k0_pay59 gc bc) (k0_pay62 k0_pay4 gr br) mx) = mV gc bc gr br mx := rfl
theorem n2_eq : k0_pay81 (k0_pay78 (k0_pay59 gc bc) (k0_pay62 k0_pay4 gr br) mx (k0_pay67 kb))
    (k0_pay79 (k0_pay59 gc bc) (k0_pay62 k0_pay4 gr br) mx) n = nV gc bc gr br kb n mx := rfl
theorem C2_eq : k0_pay80 (k0_pay59 gc bc) (k0_pay62 k0_pay4 gr br) mx (k0_pay67 kb) (k0_pay68 vb) C
    = CV gc bc gr br kb vb C mx := rfl

theorem hout2_eq : k0_pay74
    (k0_pay65 k0_pay4 k0_pay5 (k0_pay60 gc bc) (k0_pay61 gr br) (k0_pay62 k0_pay4 gr br) (FloatOps.ofBits .f32 0x00000000#32) mx)
    (k0_pay66 qb)
    (k0_pay69 k0_pay4 k0_pay5 (k0_pay60 gc bc) (k0_pay61 gr br) (k0_pay62 k0_pay4 gr br) (FloatOps.ofBits .f32 0x00000000#32) mx qb kb)
    (k0_pay70 k0_pay4 k0_pay5 (k0_pay60 gc bc) (k0_pay61 gr br) (k0_pay62 k0_pay4 gr br) (FloatOps.ofBits .f32 0x00000000#32) mx)
    (k0_pay71 qb C)
    (k0_pay72 k0_pay4 k0_pay5 (k0_pay60 gc bc) (k0_pay61 gr br) (k0_pay62 k0_pay4 gr br) (FloatOps.ofBits .f32 0x00000000#32) mx qb kb vb)
    (k0_pay73 k0_pay4 k0_pay5 (k0_pay60 gc bc) (k0_pay61 gr br) (k0_pay62 k0_pay4 gr br) (FloatOps.ofBits .f32 0x00000000#32) mx) n
    = houtV gc bc gr br qb kb vb C n mx := rfl

theorem m3_eq : k0_pay104 (k0_pay99 (k0_pay85 gc bc) (k0_pay89 k0_pay4 (k0_pay84 gr br)) mx) = mV gc bc gr br mx := rfl
theorem n3_eq : k0_pay103 mx (k0_pay94 kb) (k0_pay97 (k0_pay89 k0_pay4 (k0_pay84 gr br)))
    (k0_pay98 (k0_pay85 gc bc) (k0_pay89 k0_pay4 (k0_pay84 gr br))) (k0_pay99 (k0_pay85 gc bc) (k0_pay89 k0_pay4 (k0_pay84 gr br)) mx) n
    = nV gc bc gr br kb n mx := rfl
theorem C3_eq : k0_pay102 mx (k0_pay94 kb) (k0_pay95 vb) (k0_pay97 (k0_pay89 k0_pay4 (k0_pay84 gr br)))
    (k0_pay98 (k0_pay85 gc bc) (k0_pay89 k0_pay4 (k0_pay84 gr br))) (k0_pay99 (k0_pay85 gc bc) (k0_pay89 k0_pay4 (k0_pay84 gr br)) mx) C
    = CV gc bc gr br kb vb C mx := rfl
theorem hout3_eq : k0_pay96
    (k0_pay90 k0_pay4 k0_pay5 (k0_pay84 gr br) (k0_pay87 gc bc) (k0_pay88 gc bc)) (k0_pay91 k0_pay4 (k0_pay84 gr br) mx)
    (k0_pay92 k0_pay4 k0_pay5 (k0_pay84 gr br) (k0_pay87 gc bc) (k0_pay88 gc bc) mx) (k0_pay93 qb) (k0_pay94 kb) (k0_pay95 vb) C n
    = houtV gc bc gr br qb kb vb C n mx := rfl
end

/-! ## A grid point's blocks, chunk by chunk -/

/-- The four gate blocks of a grid point that begins after `n0` steps. -/
structure PointGates (X3 : Vec Ideal S1x1x1024x4 .f32) (bc : Vec Ideal S1x1x4 .f32) (X4 : Vec Ideal S1x1x4x1024 .f32)
    (br : Vec Ideal S1x4x1 .f32) (li fg : ℕ → ℝ) (n0 : ℕ) : Prop where
  lic : ∀ x : Fin 1024, X3 (ix4 0 0 x 0) + bc (ix3 0 0 0) = ((li (n0 + x.val) : ℝ) : EReal)
  fgc : ∀ x : Fin 1024, X3 (ix4 0 0 x 1) + bc (ix3 0 0 1) = ((fg (n0 + x.val) : ℝ) : EReal)
  lir : ∀ x : Fin 1024, X4 (ix4 0 0 0 x) + br (ix3 0 0 0) = ((li (n0 + x.val) : ℝ) : EReal)
  fgr : ∀ x : Fin 1024, X4 (ix4 0 0 1 x) + br (ix3 0 1 0) = ((fg (n0 + x.val) : ℝ) : EReal)

/-- The blocks of queries, keys and values of a grid point that begins after `n0` steps. -/
structure PointQkv (X0 X1 : Vec Ideal S1024x128 .bf16) (X2 : Vec Ideal S1024x256 .bf16)
    (q k : ℕ → Fin 128 → ℝ) (v : ℕ → Fin 256 → ℝ) (n0 : ℕ) : Prop where
  q : ∀ (x : Fin 1024) (d : Fin 128), X0 (ix2 x d) = ((q (n0 + x.val) d : ℝ) : EReal)
  k : ∀ (x : Fin 1024) (d : Fin 128), X1 (ix2 x d) = ((k (n0 + x.val) d : ℝ) : EReal)
  v : ∀ (x : Fin 1024) (j : Fin 256), X2 (ix2 x j) = ((v (n0 + x.val) j : ℝ) : EReal)

section
variable {X3 : Vec Ideal S1x1x1024x4 .f32} {bc : Vec Ideal S1x1x4 .f32} {X4 : Vec Ideal S1x1x4x1024 .f32} {br : Vec Ideal S1x4x1 .f32}
  {X0 X1 : Vec Ideal S1024x128 .bf16} {X2 : Vec Ideal S1024x256 .bf16}
  {li fg : ℕ → ℝ} {q k : ℕ → Fin 128 → ℝ} {v : ℕ → Fin 256 → ℝ} {n0 n1 : ℕ}
  {gc : Vec Ideal S1x1x256x4 .f32} {gr : Vec Ideal S1x1x4x256 .f32} {qb kb : Vec Ideal S256x128 .bf16} {vb : Vec Ideal S256x256 .bf16}

/-- The rows from `o` on of a point's gate blocks. -/
theorem gates_sub (h : PointGates X3 bc X4 br li fg n0) (o : ℕ) (ho : o + 256 ≤ 1024) (hn : n1 = n0 + o)
    (hc : ∀ (x : Fin 256) (a : Fin 4), gc (ix4 0 0 x a) = X3 (ix4 0 0 ⟨o + x.val, by omega⟩ a))
    (hr : ∀ (a : Fin 4) (x : Fin 256), gr (ix4 0 0 a x) = X4 (ix4 0 0 a ⟨o + x.val, by omega⟩)) :
    GateBlocks gc bc gr br li fg n1 := by
  subst hn
  refine ⟨fun x => ?_, fun x => ?_, fun x => ?_, fun x => ?_⟩
  · rw [hc, h.lic, add_assoc]
  · rw [hc, h.fgc, add_assoc]
  · rw [hr, h.lir, add_assoc]
  · rw [hr, h.fgr, add_assoc]

/-- The rows from `o` on of a point's queries. -/
theorem q_sub (h : PointQkv X0 X1 X2 q k v n0) (o : ℕ) (ho : o + 256 ≤ 1024) (hn : n1 = n0 + o)
    (hq : ∀ (x : Fin 256) (d : Fin 128), qb (ix2 x d) = X0 (ix2 ⟨o + x.val, by omega⟩ d)) : QBlock qb q n1 := by
  subst hn
  intro x d
  rw [hq, h.q, add_assoc]

/-- The rows from `o` on of a point's keys and values. -/
theorem kv_sub (h : PointQkv X0 X1 X2 q k v n0) (o : ℕ) (ho : o + 256 ≤ 1024) (hn : n1 = n0 + o)
    (hk : ∀ (x : Fin 256) (d : Fin 128), kb (ix2 x d) = X1 (ix2 ⟨o + x.val, by omega⟩ d))
    (hv : ∀ (x : Fin 256) (d : Fin 256), vb (ix2 x d) = X2 (ix2 ⟨o + x.val, by omega⟩ d)) : KvBlocks kb vb k v n1 := by
  subst hn
  refine ⟨fun x d => ?_, fun x d => ?_⟩
  · rw [hk, h.k, add_assoc]
  · rw [hv, h.v, add_assoc]
end

/-- What a grid point leaves behind: the state after its 1024 steps and their outputs. -/
structure PointIs (o : Vec Ideal S1024x256 .f32 × Vec Ideal S128x256 .f32 × Vec Ideal S1x128 .f32 × Vec Ideal S1x1 .f32)
    (li lf : ℕ → ℝ) (q k : ℕ → Fin 128 → ℝ) (v : ℕ → Fin 256 → ℝ) (n0 : ℕ) : Prop where
  state : StateIs o.2.1 o.2.2.1 o.2.2.2 li lf k v (n0 + 1024)
  out : ∀ y : S1024x256.Idx, o.1 y = ((H li lf q k v scale (n0 + (y 0).val) (y 1) : ℝ) : EReal)

section
variable {X3 : Vec Ideal S1x1x1024x4 .f32} {bc : Vec Ideal S1x1x4 .f32} {X4 : Vec Ideal S1x1x4x1024 .f32} {br : Vec Ideal S1x4x1 .f32}
  {X0 X1 : Vec Ideal S1024x128 .bf16} {X2 : Vec Ideal S1024x256 .bf16}
  {li fg : ℕ → ℝ} {q k : ℕ → Fin 128 → ℝ} {v : ℕ → Fin 256 → ℝ} {n0 n1 : ℕ}
  {gc gc0 gc1 gc2 gc3 : Vec Ideal S1x1x256x4 .f32} {gr gr0 gr1 gr2 gr3 : Vec Ideal S1x1x4x256 .f32}
  {qb kb kb0 kb1 kb2 kb3 : Vec Ideal S256x128 .bf16} {vb vb0 vb1 vb2 vb3 : Vec Ideal S256x256 .bf16}
  {C : Vec Ideal S128x256 .f32} {n : Vec Ideal S1x128 .f32} {mx : Vec Ideal S1x1 .f32}

/-- An entry of a chunk's outputs, at its place in the whole sequence. -/
theorem hout_tile (hg : GateBlocks gc bc gr br li fg n1) (hq : QBlock qb q n1) (hkv : KvBlocks kb vb k v n1)
    (hs : StateIs C n mx li (logsig ∘ fg) k v n1) (x : S256x256.Idx) {p : ℕ} {j : Fin 256} (hp : p = n1 + (x 0).val)
    (hj : j.val = (x 1).val) : houtV gc bc gr br qb kb vb C n mx x = ((H li (logsig ∘ fg) q k v scale p j : ℝ) : EReal) := by
  obtain rfl : j = x 1 := Fin.ext hj
  rw [hp, eq_ix2 x]
  exact hout_at hg hq hkv hs (x 0) (x 1)
end

set_option maxHeartbeats 1600000 in
/-- A later point of a head: the state it is given is the one the point before leaves. -/
theorem point_B (c : Dev nD) (t : Fin cfg0.N) (e0 : ¬ t.val % 4 = 0) {li fg : ℕ → ℝ} {q k : ℕ → Fin 128 → ℝ} {v : ℕ → Fin 256 → ℝ} {n0 : ℕ}
    (gg : PointGates (iblk m c 3 t) (iblk m c 5 t) (iblk m c 4 t) (iblk m c 6 t) li fg n0)
    (bb : PointQkv (iblk m c 0 t) (iblk m c 1 t) (iblk m c 2 t) q k v n0)
    (ss : StateIs (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 li (logsig ∘ fg) k v n0) :
    PointIs (outsAt0 m c t.val t.isLt) li (logsig ∘ fg) q k v n0 := by
  revert ss
  rw [outsAt0_B m c t e0]
  generalize outsAt0 m c (t.val - 1) _ = zz
  intro ss
  constructor
  · frame_out
    simp only [m0_eq, n0_eq, C0_eq, hout0_eq, m1_eq, n1_eq, C1_eq, hout1_eq, m2_eq, n2_eq, C2_eq, hout2_eq, m3_eq, n3_eq, C3_eq, hout3_eq, read_unread_whole]
    rw [show n0 + 1024 = n0 + 256 + 256 + 256 + 256 by omega]
    refine state_step (gates_sub gg 768 (by omega) (by omega) ?_ ?_) (kv_sub bb 768 (by omega) (by omega) ?_ ?_) (state_step (gates_sub gg 512 (by omega) (by omega) ?_ ?_) (kv_sub bb 512 (by omega) (by omega) ?_ ?_) (state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss)))
    all_goals (intro x a; pointwise)
  · intro y
    frame_out
    simp only [m0_eq, n0_eq, C0_eq, hout0_eq, m1_eq, n1_eq, C1_eq, hout1_eq, m2_eq, n2_eq, C2_eq, hout2_eq, m3_eq, n3_eq, C3_eq, hout3_eq, read_unread_whole]
    canon_tiles x h
    · refine hout_tile (n1 := n0 + 256 + 256 + 256) ?_ ?_ ?_ ?_ x ?_ ?_
      · refine gates_sub gg 768 (by omega) (by omega) ?_ ?_ <;> (intro x a; pointwise)
      · refine q_sub bb 768 (by omega) (by omega) ?_; intro x a; pointwise
      · refine kv_sub bb 768 (by omega) (by omega) ?_ ?_ <;> (intro x a; pointwise)
      · refine state_step (gates_sub gg 512 (by omega) (by omega) ?_ ?_) (kv_sub bb 512 (by omega) (by omega) ?_ ?_) (state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss)) <;> (intro x a; pointwise)
      · omega
      · omega
    · refine hout_tile (n1 := n0 + 256 + 256) ?_ ?_ ?_ ?_ x ?_ ?_
      · refine gates_sub gg 512 (by omega) (by omega) ?_ ?_ <;> (intro x a; pointwise)
      · refine q_sub bb 512 (by omega) (by omega) ?_; intro x a; pointwise
      · refine kv_sub bb 512 (by omega) (by omega) ?_ ?_ <;> (intro x a; pointwise)
      · refine state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss) <;> (intro x a; pointwise)
      · omega
      · omega
    · refine hout_tile (n1 := n0 + 256) ?_ ?_ ?_ ?_ x ?_ ?_
      · refine gates_sub gg 256 (by omega) (by omega) ?_ ?_ <;> (intro x a; pointwise)
      · refine q_sub bb 256 (by omega) (by omega) ?_; intro x a; pointwise
      · refine kv_sub bb 256 (by omega) (by omega) ?_ ?_ <;> (intro x a; pointwise)
      · refine state_step (gates_sub gg 0 (by omega) (by omega) ?_ ?_) (kv_sub bb 0 (by omega) (by omega) ?_ ?_) ss <;> (intro x a; pointwise)
      · omega
      · omega
    · refine hout_tile (n1 := n0) ?_ ?_ ?_ ?_ x ?_ ?_
      · refine gates_sub gg 0 (by omega) (by omega) ?_ ?_ <;> (intro x a; pointwise)
      · refine q_sub bb 0 (by omega) (by omega) ?_; intro x a; pointwise
      · refine kv_sub bb 0 (by omega) (by omega) ?_ ?_ <;> (intro x a; pointwise)
      · exact ss
      · omega
      · omega

set_option maxHeartbeats 1600000 in
/-- The first point of a head starts from the zero state. -/
theorem point_A (c : Dev nD) (t : Fin cfg0.N) (e0 : t.val % 4 = 0) {li fg : ℕ → ℝ} {q k : ℕ → Fin 128 → ℝ} {v : ℕ → Fin 256 → ℝ} {n0 : ℕ}
    (gg : PointGates (iblk m c 3 t) (iblk m c 5 t) (iblk m c 4 t) (iblk m c 6 t) li fg n0)
    (bb : PointQkv (iblk m c 0 t) (iblk m c 1 t) (iblk m c 2 t) q k v n0)
    (ss : StateIs (k0_pay1 : FVec Ideal S128x256 .f32) (k0_pay2 : FVec Ideal S1x128 .f32) (k0_pay3 : FVec Ideal S1x1 .f32) li (logsig ∘ fg) k v n0) :
    PointIs (outsAt0 m c t.val t.isLt) li (logsig ∘ fg) q k v n0 := by
  rw [outsAt0_A m c t e0]
  constructor
  · frame_out
    simp only [m0_eq, n0_eq, C0_eq, hout0_eq, m1_eq, n1_eq, C1_eq, hout1_eq, m2_eq, n2_eq, C2_eq, hout2_eq, m3_eq, n3_eq, C3_eq, hout3_eq]
    rw [show n0 + 1024 = n0 + 256 + 256 + 256 + 256 by omega]
    refine state_step (gates_sub gg 768 (by omega) (by omega) ?_ ?_) (kv_sub bb 768 (by omega) (by omega) ?_ ?_) (state_step (gates_sub gg 512 (by omega) (by omega) ?_ ?_) (kv_sub bb 512 (by omega) (by omega) ?_ ?_) (state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss)))
    all_goals (intro x a; pointwise)
  · intro y
    frame_out
    simp only [m0_eq, n0_eq, C0_eq, hout0_eq, m1_eq, n1_eq, C1_eq, hout1_eq, m2_eq, n2_eq, C2_eq, hout2_eq, m3_eq, n3_eq, C3_eq, hout3_eq]
    canon_tiles x h
    · refine hout_tile (n1 := n0 + 256 + 256 + 256) ?_ ?_ ?_ ?_ x ?_ ?_
      · refine gates_sub gg 768 (by omega) (by omega) ?_ ?_ <;> (intro x a; pointwise)
      · refine q_sub bb 768 (by omega) (by omega) ?_; intro x a; pointwise
      · refine kv_sub bb 768 (by omega) (by omega) ?_ ?_ <;> (intro x a; pointwise)
      · refine state_step (gates_sub gg 512 (by omega) (by omega) ?_ ?_) (kv_sub bb 512 (by omega) (by omega) ?_ ?_) (state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss)) <;> (intro x a; pointwise)
      · omega
      · omega
    · refine hout_tile (n1 := n0 + 256 + 256) ?_ ?_ ?_ ?_ x ?_ ?_
      · refine gates_sub gg 512 (by omega) (by omega) ?_ ?_ <;> (intro x a; pointwise)
      · refine q_sub bb 512 (by omega) (by omega) ?_; intro x a; pointwise
      · refine kv_sub bb 512 (by omega) (by omega) ?_ ?_ <;> (intro x a; pointwise)
      · refine state_step (gates_sub gg 256 (by omega) (by omega) ?_ ?_) (kv_sub bb 256 (by omega) (by omega) ?_ ?_) (state_step (gates_sub gg 0 (by omega) (by omega) ?_ ?_) (kv_sub bb 0 (by omega) (by omega) ?_ ?_) ss) <;> (intro x a; pointwise)
      · omega
      · omega
    · refine hout_tile (n1 := n0 + 256) ?_ ?_ ?_ ?_ x ?_ ?_
      · refine gates_sub gg 256 (by omega) (by omega) ?_ ?_ <;> (intro x a; pointwise)
      · refine q_sub bb 256 (by omega) (by omega) ?_; intro x a; pointwise
      · refine kv_sub bb 256 (by omega) (by omega) ?_ ?_ <;> (intro x a; pointwise)
      · refine state_step (gates_sub gg 0 (by omega) (by omega) ?_ ?_) (kv_sub bb 0 (by omega) (by omega) ?_ ?_) ss <;> (intro x a; pointwise)
      · omega
      · omega
    · refine hout_tile (n1 := n0) ?_ ?_ ?_ ?_ x ?_ ?_
      · refine gates_sub gg 0 (by omega) (by omega) ?_ ?_ <;> (intro x a; pointwise)
      · refine q_sub bb 0 (by omega) (by omega) ?_; intro x a; pointwise
      · refine kv_sub bb 0 (by omega) (by omega) ?_ ?_ <;> (intro x a; pointwise)
      · exact ss
      · omega
      · omega

end Cert.KernelIdeal.Value

end
-- ==== Proof.KernelFinal.lean ====
/-
  The kernel of the forward recurrence: the array it leaves holds the heads' outputs.
-/
module

public import proofs.«01_k».proof.Proof.Gen.KernelIdeal.Value
public import Idealize.ShloMosaic.Lib.Pipeline.ValueKit
public import Idealize.ShloMosaic.Lib.Claim
public import proofs.«01_k».proof.Proof.KernelPoint

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

open Cert.Recur

/-! ## The windows' blocks -/

/-- The grid's points: batch row, head, quarter of the sequence. -/
theorem idx : ∀ t : Fin cfg0.N, win0_0.index t = ![t.val / 32 * 4 + t.val % 4, t.val / 4 % 8] ∧
    win0_1.index t = ![t.val / 32 * 4 + t.val % 4, 8 + t.val / 4 % 8] ∧ win0_2.index t = ![t.val / 32 * 4 + t.val % 4, 8 + t.val / 4 % 8] ∧
    win0_3.index t = ![t.val / 32, t.val / 4 % 8, t.val % 4, 0] ∧ win0_4.index t = ![t.val / 32, t.val / 4 % 8, 0, t.val % 4] ∧
    win0_5.index t = ![t.val / 4 % 8, 0, 0] ∧ win0_6.index t = ![t.val / 4 % 8, 0, 0] ∧
    win0_7.index t = ![t.val / 32 * 4 + t.val % 4, t.val / 4 % 8] :=
  (by decide +kernel : ∀ t : Fin grid0.N, _)

/-- The columns of queries, keys and values, rows joined. -/
def zOf (z : FVec Ideal S4x4096x20512 .f32) : FVec Ideal S16384x6144 .bf16 :=
  truncf .bf16 (shapeCast S16384x6144 (extractStridedSlice S4x4096x6144 ![0, 0, 6144] z slices_S4x4096x20512_S4x4096x6144_0_0_6144)
    shapeCasts_S4x4096x6144_S16384x6144) bitsLt_bf16_f32

/-- The gates as columns. -/
def gcOf (z : FVec Ideal S4x4096x20512 .f32) : FVec Ideal S4x8x4096x4 .f32 :=
  transpose S4x8x4096x4 [0, 3, 1, 2] (shapeCast S4x4096x4x8 (extractStridedSlice S4x4096x32 ![0, 0, 12288] z
    slices_S4x4096x20512_S4x4096x32_0_0_12288) shapeCasts_S4x4096x32_S4x4096x4x8) transposes_S4x4096x4x8_S4x8x4096x4_0_3_1_2

/-- The gates as rows. -/
def grOf (z : FVec Ideal S4x4096x20512 .f32) : FVec Ideal S4x8x4x4096 .f32 :=
  transpose S4x8x4x4096 [0, 3, 2, 1] (shapeCast S4x4096x4x8 (extractStridedSlice S4x4096x32 ![0, 0, 12288] z
    slices_S4x4096x20512_S4x4096x32_0_0_12288) shapeCasts_S4x4096x32_S4x4096x4x8) transposes_S4x4096x4x8_S4x8x4x4096_0_3_2_1

/-- The biases as columns. -/
def bcOf (w : FVec Ideal S4x8 .f32) : FVec Ideal S8x1x4 .f32 :=
  shapeCast S8x1x4 (transpose S8x4 [1, 0] w transposes_S4x8_S8x4_1_0) shapeCasts_S8x4_S8x1x4

/-- The biases as rows. -/
def brOf (w : FVec Ideal S4x8 .f32) : FVec Ideal S8x4x1 .f32 :=
  shapeCast S8x4x1 (transpose S8x4 [1, 0] w transposes_S4x8_S8x4_1_0) shapeCasts_S8x4_S8x4x1

theorem v2_eq (c : Dev nD) : V m c main_v2 = zOf (m ((c : Thread nD τ).loc main_arg0)) := by
  entry_read
  rfl

theorem v5_eq (c : Dev nD) : V m c main_v5 = gcOf (m ((c : Thread nD τ).loc main_arg0)) := by
  entry_read
  rfl

theorem v6_eq (c : Dev nD) : V m c main_v6 = grOf (m ((c : Thread nD τ).loc main_arg0)) := by
  entry_read
  rfl

theorem v8_eq (c : Dev nD) : V m c main_v8 = bcOf (m ((c : Thread nD τ).loc main_arg1)) := by
  entry_read
  rfl

theorem v10_eq (c : Dev nD) : V m c main_v10 = brOf (m ((c : Thread nD τ).loc main_arg1)) := by
  entry_read
  rfl

theorem zOf_at (z : FVec Ideal S4x4096x20512 .f32) (r : Fin 16384) (k : Fin 6144) :
    zOf z (ix2 r k) = z (ix3 ⟨r.val / 4096, by omega⟩ ⟨r.val % 4096, by omega⟩ ⟨6144 + k.val, by omega⟩) := by
  pointwise [zOf]

theorem gcOf_at (z : FVec Ideal S4x4096x20512 .f32) (b : Fin 4) (h : Fin 8) (t : Fin 4096) (g : Fin 4) :
    gcOf z (ix4 b h t g) = z (ix3 b t ⟨12288 + (g.val * 8 + h.val), by omega⟩) := by
  pointwise [gcOf]

theorem grOf_at (z : FVec Ideal S4x4096x20512 .f32) (b : Fin 4) (h : Fin 8) (g : Fin 4) (t : Fin 4096) :
    grOf z (ix4 b h g t) = z (ix3 b t ⟨12288 + (g.val * 8 + h.val), by omega⟩) := by
  pointwise [grOf]

theorem bcOf_at (w : FVec Ideal S4x8 .f32) (h : Fin 8) (g : Fin 4) : bcOf w (ix3 h 0 g) = w (ix2 g h) := by
  pointwise [bcOf]

theorem brOf_at (w : FVec Ideal S4x8 .f32) (h : Fin 8) (g : Fin 4) : brOf w (ix3 h g 0) = w (ix2 g h) := by
  pointwise [brOf]

theorem lt_N (t : Fin cfg0.N) : t.val < 128 := t.isLt

theorem in0_at (c : Dev nD) (t : Fin cfg0.N) (x : Fin 1024) (d : Fin 128) : (iblk m c 0 t : FVec Ideal S1024x128 .bf16) (ix2 x d)
    = (V m c main_v2 : FVec Ideal S16384x6144 .bf16) (ix2 ⟨(t.val / 32 * 4 + t.val % 4) * 1024 + x.val, by have := lt_N t; omega⟩
        ⟨t.val / 4 % 8 * 128 + d.val, by omega⟩) := by
  blk_ext [iblk, idx t]

theorem in1_at (c : Dev nD) (t : Fin cfg0.N) (x : Fin 1024) (d : Fin 128) : (iblk m c 1 t : FVec Ideal S1024x128 .bf16) (ix2 x d)
    = (V m c main_v2 : FVec Ideal S16384x6144 .bf16) (ix2 ⟨(t.val / 32 * 4 + t.val % 4) * 1024 + x.val, by have := lt_N t; omega⟩
        ⟨(8 + t.val / 4 % 8) * 128 + d.val, by omega⟩) := by
  blk_ext [iblk, idx t]

theorem in2_at (c : Dev nD) (t : Fin cfg0.N) (x : Fin 1024) (j : Fin 256) : (iblk m c 2 t : FVec Ideal S1024x256 .bf16) (ix2 x j)
    = (V m c main_v2 : FVec Ideal S16384x6144 .bf16) (ix2 ⟨(t.val / 32 * 4 + t.val % 4) * 1024 + x.val, by have := lt_N t; omega⟩
        ⟨(8 + t.val / 4 % 8) * 256 + j.val, by omega⟩) := by
  blk_ext [iblk, idx t]

theorem in3_at (c : Dev nD) (t : Fin cfg0.N) (x : Fin 1024) (g : Fin 4) : (iblk m c 3 t : FVec Ideal S1x1x1024x4 .f32) (ix4 0 0 x g)
    = (V m c main_v5 : FVec Ideal S4x8x4096x4 .f32) (ix4 ⟨t.val / 32, by have := lt_N t; omega⟩ ⟨t.val / 4 % 8, by omega⟩
        ⟨t.val % 4 * 1024 + x.val, by omega⟩ g) := by
  blk_ext [iblk, idx t]

theorem in4_at (c : Dev nD) (t : Fin cfg0.N) (g : Fin 4) (x : Fin 1024) : (iblk m c 4 t : FVec Ideal S1x1x4x1024 .f32) (ix4 0 0 g x)
    = (V m c main_v6 : FVec Ideal S4x8x4x4096 .f32) (ix4 ⟨t.val / 32, by have := lt_N t; omega⟩ ⟨t.val / 4 % 8, by omega⟩ g
        ⟨t.val % 4 * 1024 + x.val, by omega⟩) := by
  blk_ext [iblk, idx t]

theorem in5_at (c : Dev nD) (t : Fin cfg0.N) (g : Fin 4) : (iblk m c 5 t : FVec Ideal S1x1x4 .f32) (ix3 0 0 g)
    = (V m c main_v8 : FVec Ideal S8x1x4 .f32) (ix3 ⟨t.val / 4 % 8, by omega⟩ 0 g) := by
  blk_ext [iblk, idx t]

theorem in6_at (c : Dev nD) (t : Fin cfg0.N) (g : Fin 4) : (iblk m c 6 t : FVec Ideal S1x4x1 .f32) (ix3 0 g 0)
    = (V m c main_v10 : FVec Ideal S8x4x1 .f32) (ix3 ⟨t.val / 4 % 8, by omega⟩ g 0) := by
  blk_ext [iblk, idx t]

/-! ## The blocks are the heads' sequences -/

/-- The projection. -/
def Z (c : Dev nD) : FVec Ideal SZ .f32 := m ((c : Thread nD τ).loc main_arg0)

/-- The gate biases. -/
def G (c : Dev nD) : FVec Ideal SB .f32 := m ((c : Thread nD τ).loc main_arg1)

/-- A point's batch row. -/
def bat (t : Fin cfg0.N) : Fin 4 := ⟨t.val / 32, by have := lt_N t; omega⟩

/-- A point's head. -/
def hd (t : Fin cfg0.N) : Fin 8 := ⟨t.val / 4 % 8, by omega⟩

theorem qkv_is (c : Dev nD) (t : Fin cfg0.N) (hz : Real' (Z m c)) :
    PointQkv (iblk m c 0 t) (iblk m c 1 t) (iblk m c 2 t) (qs (Z m c) (bat t) (hd t)) (ks (Z m c) (bat t) (hd t)) (vs (Z m c) (bat t) (hd t))
      (t.val % 4 * 1024) := by
  have lt := lt_N t
  refine ⟨fun x d => ?_, fun x d => ?_, fun x d => ?_⟩
  · refine (in0_at m c t x d).trans ?_
    rw [v2_eq, zOf_at]
    refine z_eq hz _ _ _ _ _ _ ?_ ?_ ?_ <;> simp only [bat, hd] <;> omega
  · refine (in1_at m c t x d).trans ?_
    rw [v2_eq, zOf_at]
    refine z_eq hz _ _ _ _ _ _ ?_ ?_ ?_ <;> simp only [bat, hd] <;> omega
  · refine (in2_at m c t x d).trans ?_
    rw [v2_eq, zOf_at]
    refine z_eq hz _ _ _ _ _ _ ?_ ?_ ?_ <;> simp only [bat, hd] <;> omega

/-- A gate and its bias. -/
theorem gate_sum {z : FVec Ideal SZ .f32} {w : FVec Ideal SB .f32} (hz : Real' z) (hw : Real' w) (b : Fin 4) (h : Fin 8) (t : Fin 4096)
    (n : ℕ) (g : Fin 4) (col : Fin 20512) (ht : t.val = n) (hc : col.val = 12288 + (g.val * 8 + h.val)) :
    z (ix3 b t ⟨12288 + (g.val * 8 + h.val), by omega⟩) + w (ix2 g h) = ((zr z b n col + EReal.toReal (w (ix2 g h)) : ℝ) : EReal) := by
  rw [EReal.coe_add, ← toReal_eq hw, z_eq hz b b t n _ col rfl ht hc.symm]

theorem gates_is (c : Dev nD) (t : Fin cfg0.N) (hz : Real' (Z m c)) (hw : Real' (G m c)) :
    PointGates (iblk m c 3 t) (iblk m c 5 t) (iblk m c 4 t) (iblk m c 6 t) (lis (Z m c) (G m c) (bat t) (hd t))
      (fgs (Z m c) (G m c) (bat t) (hd t)) (t.val % 4 * 1024) := by
  refine ⟨fun x => ?_, fun x => ?_, fun x => ?_, fun x => ?_⟩
  · refine (Ideal.add_congr (in3_at m c t x 0) (in5_at m c t 0)).trans ?_
    rw [v5_eq, v8_eq, gcOf_at, bcOf_at]
    exact gate_sum hz hw _ _ _ _ 0 _ rfl (show 12288 + t.val / 4 % 8 = 12288 + (0 * 8 + t.val / 4 % 8) by omega)
  · refine (Ideal.add_congr (in3_at m c t x 1) (in5_at m c t 1)).trans ?_
    rw [v5_eq, v8_eq, gcOf_at, bcOf_at]
    exact gate_sum hz hw _ _ _ _ 1 _ rfl (show 12296 + t.val / 4 % 8 = 12288 + (1 * 8 + t.val / 4 % 8) by omega)
  · refine (Ideal.add_congr (in4_at m c t 0 x) (in6_at m c t 0)).trans ?_
    rw [v6_eq, v10_eq, grOf_at, brOf_at]
    exact gate_sum hz hw _ _ _ _ 0 _ rfl (show 12288 + t.val / 4 % 8 = 12288 + (0 * 8 + t.val / 4 % 8) by omega)
  · refine (Ideal.add_congr (in4_at m c t 1 x) (in6_at m c t 1)).trans ?_
    rw [v6_eq, v10_eq, grOf_at, brOf_at]
    exact gate_sum hz hw _ _ _ _ 1 _ rfl (show 12296 + t.val / 4 % 8 = 12288 + (1 * 8 + t.val / 4 % 8) by omega)

/-- The zero state is the state before the first step. -/
theorem zero_state (li lf : ℕ → ℝ) (k : ℕ → Fin 128 → ℝ) (v : ℕ → Fin 256 → ℝ) :
    StateIs (k0_pay1 : FVec Ideal S128x256 .f32) (k0_pay2 : FVec Ideal S1x128 .f32) (k0_pay3 : FVec Ideal S1x1 .f32) li lf k v 0 := by
  refine ⟨fun d j => ?_, fun d => ?_, ?_⟩
  · rw [Cst_zero, EReal.coe_zero]; pointwise [k0_pay1]
  · rw [Nst_zero, EReal.coe_zero]; pointwise [k0_pay2]
  · rw [M_zero, EReal.coe_zero]; pointwise [k0_pay3]

/-- What a grid point leaves behind is the recurrence's, by induction along the points of a head. -/
theorem points (c : Dev nD) (hz : Real' (Z m c)) (hw : Real' (G m c)) (n : ℕ) : ∀ (h : n < cfg0.N),
    PointIs (outsAt0 m c n h) (lis (Z m c) (G m c) (bat ⟨n, h⟩) (hd ⟨n, h⟩)) (logsig ∘ fgs (Z m c) (G m c) (bat ⟨n, h⟩) (hd ⟨n, h⟩))
      (qs (Z m c) (bat ⟨n, h⟩) (hd ⟨n, h⟩)) (ks (Z m c) (bat ⟨n, h⟩) (hd ⟨n, h⟩)) (vs (Z m c) (bat ⟨n, h⟩) (hd ⟨n, h⟩)) (n % 4 * 1024) := by
  induction n with
  | zero =>
    intro h
    exact point_A m c ⟨0, h⟩ rfl (gates_is m c ⟨0, h⟩ hz hw) (qkv_is m c ⟨0, h⟩ hz) (zero_state _ _ _ _)
  | succ n ih =>
    intro h
    by_cases e : (n + 1) % 4 = 0
    · refine point_A m c ⟨n + 1, h⟩ e (gates_is m c ⟨n + 1, h⟩ hz hw) (qkv_is m c ⟨n + 1, h⟩ hz) ?_
      rw [e]
      exact zero_state _ _ _ _
    · refine point_B m c ⟨n + 1, h⟩ e (gates_is m c ⟨n + 1, h⟩ hz hw) (qkv_is m c ⟨n + 1, h⟩ hz) ?_
      have i := (ih (Nat.lt_of_succ_lt h)).state
      have eb : bat ⟨n, Nat.lt_of_succ_lt h⟩ = bat ⟨n + 1, h⟩ := Fin.ext (by simp only [bat]; omega)
      have eh : hd ⟨n, Nat.lt_of_succ_lt h⟩ = hd ⟨n + 1, h⟩ := Fin.ext (by simp only [hd]; omega)
      have en : n % 4 * 1024 + 1024 = (n + 1) % 4 * 1024 := by omega
      rw [eb, eh, en] at i
      exact i

/-- Where an entry of a block of the result sits. -/
theorem out_at (t : Fin cfg0.N) (x : Fin 1024) (j : Fin 256) : ((cfg0.win 7).blk t).view.emb (ix2 x j : S1024x256.Idx)
    = (ix2 ⟨(t.val / 32 * 4 + t.val % 4) * 1024 + x.val, by have := lt_N t; omega⟩ ⟨t.val / 4 % 8 * 256 + j.val, by omega⟩ : S16384x2048.Idx) := by
  blk_ext [idx t]

/-- The array after the run: the heads' outputs. -/
theorem final (c : Dev nD) (hz : Real' (Z m c)) (hw : Real' (G m c)) : (dats m 0 c).arrAt 7 (cfgs 0).N = OUT (Z m c) (G m c) := by
  refine (dats m 0 c).arrAt_eq_of_covers 7 _ (by decide +kernel) fun t _ y => ?_
  blk_simp
  rw [after0_7]
  refine ((points m c hz hw t.val t.isLt).out y).trans ?_
  symm
  idx_vars y
  refine (congrArg (OUT (Z m c) (G m c)) (out_at t y0 y1)).trans ?_
  have lt := lt_N t
  refine OUT_apply _ _ _ (bat t) (hd t) _ y1 ?_ ?_ ?_
  · show t.val % 4 * 1024 + y0.val < 4096
    omega
  · show (t.val / 32 * 4 + t.val % 4) * 1024 + y0.val = t.val / 32 * 4096 + (t.val % 4 * 1024 + y0.val)
    omega
  · rfl

end Cert.KernelIdeal.Value

end
-- ==== Proof.RefCumsum.lean ====
/-
  The reference's running sum over a chunk's 64 steps, written as a window sum, is a masked sum.
-/
module

public import proofs.«01_k».proof.Proof.Gen.ReferenceIdeal
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe
open Cert.ReferenceIdeal Cert.ReferenceIdeal.Gen

/-! ## A running sum -/

theorem foldl_add {ι : Type} (f : ι → EReal) (a : EReal) (l : List ι) :
    l.foldl (fun r n => r + f n) a = a + (l.map f).sum := by
  induction l generalizing a with
  | nil => simp
  | cons x l ih => rw [List.foldl_cons, ih, List.map_cons, List.sum_cons, add_assoc]

/-- A window of 64 places that ends at place `i`, those before the first place being left out. -/
theorem sum_window (g : ℕ → EReal) (i : ℕ) (hi : i < 64) :
    (∑ c : Fin 64, if 63 ≤ i + c.val then g (i + c.val - 63) else 0) = ∑ s : Fin 64, if s.val ≤ i then g s.val else 0 := by
  rw [Fin.sum_univ_eq_sum_range (fun c => if 63 ≤ i + c then g (i + c - 63) else 0) 64,
    Fin.sum_univ_eq_sum_range (fun s => if s ≤ i then g s else 0) 64, ← Finset.sum_filter, ← Finset.sum_filter]
  refine Finset.sum_nbij' (fun c => i + c - 63) (fun s => s + 63 - i) ?_ ?_ ?_ ?_ ?_
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; rfl

/-- A window sum, as a sum over the places of the window. -/
theorem window_fold {s t u : Shape} (window strides lo hi : Fin s.rank → Nat) (x : s.Idx → EReal) (init : u.Idx → EReal)
    (h : s.ReduceWindows window strides lo hi t) (hu : 0 < u.numel) (j : t.Idx) :
    Host.reduceWindow (· + ·) window strides lo hi x init h hu j
      = init (Shape.Idx.first hu) + ∑ w : (⟨s.rank, window⟩ : Shape).Idx,
        if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else init (Shape.Idx.first hu) := by
  unfold Host.reduceWindow
  dsimp only
  rw [foldl_add, ← Fin.sum_univ_def]
  congr 1
  refine Eq.trans (Finset.sum_congr rfl fun n _ => ?_) (Equiv.sum_comp (⟨s.rank, window⟩ : Shape).rowMajor.symm (fun w =>
    if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else init (Shape.Idx.first hu)))
  split
  · next hin => rfl
  · next hin => rfl

/-- The running sum along the last axis, the padding being zero. -/
theorem fold_at (x : S4x8x64.Idx → EReal) (init : S_.Idx → EReal) (hu : 0 < S_.numel) (h0 : init (Shape.Idx.first hu) = 0)
    (hw : S4x8x64.ReduceWindows ![1, 1, 64] ![1, 1, 1] ![0, 0, 63] ![0, 0, 0] S4x8x64) (b : Fin 4) (h : Fin 8) (i : Fin 64) :
    Host.reduceWindow (· + ·) ![1, 1, 64] ![1, 1, 1] ![0, 0, 63] ![0, 0, 0] x init hw hu (ix3 b h i)
      = ∑ s : Fin 64, if s ≤ i then x (ix3 b h s) else 0 := by
  rw [window_fold, h0, zero_add]
  refine (sum_idx3 (n0 := 1) (n1 := 1) (n2 := 64) _).trans ?_
  rw [Fin.sum_univ_one, Fin.sum_univ_one]
  let g : ℕ → EReal := fun n => if hn : n < 64 then x (ix3 b h ⟨n, hn⟩) else 0
  refine Eq.trans (Finset.sum_congr rfl fun c _ => ?_) ((sum_window g i.val i.isLt).trans ?_)
  · have hi := i.isLt
    have hc := c.isLt
    by_cases hh : 63 ≤ i.val + c.val
    · rw [if_pos hh]
      have hl : i.val + c.val - 63 < 64 := by omega
      rw [show g (i.val + c.val - 63) = x (ix3 b h ⟨i.val + c.val - 63, hl⟩) from dif_pos hl]
      rw [dif_pos]
      · refine congrArg x (funext fun a => Fin.ext ?_)
        match a with
        | ⟨0, _⟩ => show b.val * 1 + 0 - 0 = b.val; omega
        | ⟨1, _⟩ => show h.val * 1 + 0 - 0 = h.val; omega
        | ⟨2, _⟩ => show i.val * 1 + c.val - 63 = i.val + c.val - 63; omega
      · intro a
        match a with
        | ⟨0, _⟩ => exact ⟨Nat.zero_le _, by show b.val * 1 + 0 - 0 < 4; omega⟩
        | ⟨1, _⟩ => exact ⟨Nat.zero_le _, by show h.val * 1 + 0 - 0 < 8; omega⟩
        | ⟨2, _⟩ => exact ⟨by show 63 ≤ i.val * 1 + c.val; omega, by show i.val * 1 + c.val - 63 < 64; omega⟩
    · rw [if_neg hh]
      refine dif_neg fun hin => hh ?_
      have h2 : 63 ≤ i.val * 1 + c.val := (hin 2).1
      omega
  · refine Finset.sum_congr rfl fun s _ => ?_
    rw [show g s.val = x (ix3 b h s) from dif_pos s.isLt]
    exact if_congr Fin.le_def.symm rfl rfl

/-- The running sum along the last axis. -/
theorem cumsum_at (x : FVec Ideal S4x8x64 .f32) (b : Fin 4) (h : Fin 8) (i : Fin 64) :
    Host.reduceWindowAdd ![1, 1, 64] ![1, 1, 1] ![0, 0, 63] ![0, 0, 0] x
      (broadcastInDim S_ ![] bcast_S_S_ (constant S_ .f32 0x00000000#32))
      reduceWindows_S4x8x64_S4x8x64_w1s1p0_0_w1s1p0_0_w64s1p63_0 h_S_ (ix3 b h i)
      = ∑ s : Fin 64, if s ≤ i then x (ix3 b h s) else 0 := by
  refine Eq.trans ?_ (fold_at x (fun _ => Ideal.ofBits .f32 0x00000000#32) h_S_ ?_
    reduceWindows_S4x8x64_S4x8x64_w1s1p0_0_w1s1p0_0_w64s1p63_0 b h i)
  · rfl
  · simp [Ideal.ofBits, Ideal.ieee]

end Cert.ReferenceIdeal.Value

end
-- ==== Proof.RefChunk.lean ====
/-
  One trip of the reference's loop over chunks of 64 steps: its operations compute the outputs and the state of the recurrence.
-/
module

public import proofs.«01_k».proof.Proof.Gen.ReferenceIdeal.Run
public import proofs.«01_k».proof.Proof.RefCumsum
public import Idealize.ShloMosaic.Lib.WordCmp
public import Idealize.ShloMosaic.Lib.Pipeline.ValueKit
public import Idealize.ShloMosaic.Lib.Claim
public import proofs.«01_k».proof.Proof.Heads

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen
open Cert.Recur

/-! ## Reading a chunk -/

theorem zero_start (n : ℕ) : (min (max (BitVec.toInt (0#32)) 0) (n : ℤ)).toNat = 0 := by simp

theorem zero_start_add (n b : ℕ) : (min (max (BitVec.toInt (0#32)) 0) (n : ℤ)).toNat + b = b := by rw [zero_start, Nat.zero_add]

theorem chunk_start (c : Fin 64) : (min (max (BitVec.toInt (BitVec.ofNat 32 c.val)) 0) ((64 - 1 : ℕ) : ℤ)).toNat = c.val :=
  WordCmp.clamp_start_ofNat_of_le (by have := c.isLt; omega) (by have := c.isLt; omega)

theorem slice_rows (X : FVec Ideal S64x4x8x64x128 .f32) (c : Fin 64) (b : Fin 4) (h : Fin 8) (x : Fin 64) (d : Fin 128) :
    shapeCast S4x8x64x128 (Host.dynamicSlice S1x4x8x64x128 X (fun k => (((![fun _ => BitVec.ofNat 32 c.val, constantI S_ 32 0#32,
      constantI S_ 32 0#32, constantI S_ 32 0#32, constantI S_ 32 0#32] : Fin 5 → IVec S_ 32)) k (Shape.Idx.first h_S_)).toInt)
      sliceFits_S64x4x8x64x128_S1x4x8x64x128) shapeCasts_S1x4x8x64x128_S4x8x64x128 (ix4 b h x d) = X (ix5 c b h x d) := by
  pointwise []
  refine congrArg _ ((ix5_inj ..).2 ⟨Fin.ext (chunk_start c), Fin.ext (zero_start_add _ _), Fin.ext (zero_start_add _ _),
    Fin.ext (zero_start_add _ _), Fin.ext (zero_start_add _ _)⟩)

theorem slice_values (X : FVec Ideal S64x4x8x64x256 .f32) (c : Fin 64) (b : Fin 4) (h : Fin 8) (x : Fin 64) (d : Fin 256) :
    shapeCast S4x8x64x256 (Host.dynamicSlice S1x4x8x64x256 X (fun k => (((![fun _ => BitVec.ofNat 32 c.val, constantI S_ 32 0#32,
      constantI S_ 32 0#32, constantI S_ 32 0#32, constantI S_ 32 0#32] : Fin 5 → IVec S_ 32)) k (Shape.Idx.first h_S_)).toInt)
      sliceFits_S64x4x8x64x256_S1x4x8x64x256) shapeCasts_S1x4x8x64x256_S4x8x64x256 (ix4 b h x d) = X (ix5 c b h x d) := by
  pointwise []
  refine congrArg _ ((ix5_inj ..).2 ⟨Fin.ext (chunk_start c), Fin.ext (zero_start_add _ _), Fin.ext (zero_start_add _ _),
    Fin.ext (zero_start_add _ _), Fin.ext (zero_start_add _ _)⟩)

theorem slice_gates (X : FVec Ideal S64x4x8x64 .f32) (c : Fin 64) (b : Fin 4) (h : Fin 8) (x : Fin 64) :
    shapeCast S4x8x64 (Host.dynamicSlice S1x4x8x64 X (fun k => (((![fun _ => BitVec.ofNat 32 c.val, constantI S_ 32 0#32,
      constantI S_ 32 0#32, constantI S_ 32 0#32] : Fin 4 → IVec S_ 32)) k (Shape.Idx.first h_S_)).toInt)
      sliceFits_S64x4x8x64_S1x4x8x64) shapeCasts_S1x4x8x64_S4x8x64 (ix3 b h x) = X (ix4 c b h x) := by
  pointwise []
  refine congrArg _ ((ix4_inj ..).2 ⟨Fin.ext (chunk_start c), Fin.ext (zero_start_add _ _), Fin.ext (zero_start_add _ _),
    Fin.ext (zero_start_add _ _)⟩)

/-! ## The larger operations, over plain arrays -/

theorem d_apply (mask : IVec S64x64 1) (bb li : FVec Ideal S4x8x64 .f32) (b : Fin 4) (h : Fin 8) (i s : Fin 64) :
    select (broadcastInDim S4x8x64x64 ![2, 3] bcast_S64x64_S4x8x64x64_2_3 mask) (addf (subf
      (broadcastInDim S4x8x64x64 ![0, 1, 2, 3] bcast_S4x8x64x1_S4x8x64x64_0_1_2_3 (broadcastInDim S4x8x64x1 ![0, 1, 2] bcast_S4x8x64_S4x8x64x1_0_1_2 bb))
      (broadcastInDim S4x8x64x64 ![0, 1, 2, 3] bcast_S4x8x1x64_S4x8x64x64_0_1_2_3 (broadcastInDim S4x8x1x64 ![0, 1, 3] bcast_S4x8x64_S4x8x1x64_0_1_3 bb)))
      (broadcastInDim S4x8x64x64 ![0, 1, 2, 3] bcast_S4x8x1x64_S4x8x64x64_0_1_2_3 (broadcastInDim S4x8x1x64 ![0, 1, 3] bcast_S4x8x64_S4x8x1x64_0_1_3 li)))
      (broadcastInDim S4x8x64x64 ![] bcast_S_S4x8x64x64 (id (constant S_ .f32 0xFF800000#32))) (ix4 b h i s)
      = Scalar.select (mask (ix2 i s)) (bb (ix3 b h i) - bb (ix3 b h s) + li (ix3 b h s)) (Ideal.ofBits .f32 0xFF800000#32) := by
  pointwise []
  rfl

theorem mt_apply (x : FVec Ideal S4x8x64 .f32) (d : FVec Ideal S4x8x64x64 .f32) (b : Fin 4) (h : Fin 8) (i : Fin 64) :
    maximumf x (Host.reduce FloatOps.maximumf d (constant S_ .f32 0xFF800000#32) reducesTo_S4x8x64x64_S4x8x64_d3 h_S_) (ix3 b h i)
      = max (x (ix3 b h i)) (Finset.univ.fold max ⊥ fun s : Fin 64 => d (ix4 b h i s)) := by
  rw [← ofBits_bot]
  pointwise []

theorem w_apply (x y : FVec Ideal S4x8x64 .f32) (b : Fin 4) (h : Fin 8) (i : Fin 64) :
    Host.exp (subf x y) (ix3 b h i) = Ideal.exp (x (ix3 b h i) - y (ix3 b h i)) := by
  pointwise []

theorem s_apply (q k : FVec Ideal S4x8x64x128 .f32) (d : FVec Ideal S4x8x64x64 .f32) (m : FVec Ideal S4x8x64 .f32)
    (b : Fin 4) (h : Fin 8) (i s : Fin 64) :
    mulf (Host.dotGeneral dot_S4x8x64x128_S4x8x64x128_S4x8x64x64_3_3_2_2_01_01 none q k) (Host.exp (subf d
      (broadcastInDim S4x8x64x64 ![0, 1, 2, 3] bcast_S4x8x64x1_S4x8x64x64_0_1_2_3
        (broadcastInDim S4x8x64x1 ![0, 1, 2] bcast_S4x8x64_S4x8x64x1_0_1_2 m)))) (ix4 b h i s)
      = (∑ e : Fin 128, q (ix4 b h i e) * k (ix4 b h s e)) * Ideal.exp (d (ix4 b h i s) - m (ix3 b h i)) := by
  pointwise []

theorem wlog_apply (bl : FVec Ideal S4x8 .f32) (bb li : FVec Ideal S4x8x64 .f32) (b : Fin 4) (h : Fin 8) (s : Fin 64) :
    addf (subf (broadcastInDim S4x8x64 ![0, 1, 2] bcast_S4x8x1_S4x8x64_0_1_2 (broadcastInDim S4x8x1 ![0, 1] bcast_S4x8_S4x8x1_0_1 bl)) bb) li
      (ix3 b h s) = bl (ix2 b h) - bb (ix3 b h s) + li (ix3 b h s) := by
  pointwise []

theorem mnew_apply (bl m : FVec Ideal S4x8 .f32) (w : FVec Ideal S4x8x64 .f32) (b : Fin 4) (h : Fin 8) :
    maximumf (addf bl m) (Host.reduce FloatOps.maximumf w (constant S_ .f32 0xFF800000#32) reducesTo_S4x8x64_S4x8_d2 h_S_) (ix2 b h)
      = max (bl (ix2 b h) + m (ix2 b h)) (Finset.univ.fold max ⊥ fun s : Fin 64 => w (ix3 b h s)) := by
  rw [← ofBits_bot]
  pointwise []

theorem kw_apply (k : FVec Ideal S4x8x64x128 .f32) (w : FVec Ideal S4x8x64 .f32) (m : FVec Ideal S4x8 .f32) (b : Fin 4) (h : Fin 8)
    (s : Fin 64) (d : Fin 128) :
    mulf k (broadcastInDim S4x8x64x128 ![0, 1, 2, 3] bcast_S4x8x64x1_S4x8x64x128_0_1_2_3 (broadcastInDim S4x8x64x1 ![0, 1, 2]
      bcast_S4x8x64_S4x8x64x1_0_1_2 (Host.exp (subf w (broadcastInDim S4x8x64 ![0, 1, 2] bcast_S4x8x1_S4x8x64_0_1_2
        (broadcastInDim S4x8x1 ![0, 1] bcast_S4x8_S4x8x1_0_1 m)))))) (ix4 b h s d)
      = k (ix4 b h s d) * Ideal.exp (w (ix3 b h s) - m (ix2 b h)) := by
  pointwise []

theorem decay_apply (bl m m' : FVec Ideal S4x8 .f32) (b : Fin 4) (h : Fin 8) :
    Host.exp (subf (addf bl m) m') (ix2 b h) = Ideal.exp (bl (ix2 b h) + m (ix2 b h) - m' (ix2 b h)) := by
  pointwise []

theorem C_apply (w : FVec Ideal S4x8 .f32) (C : FVec Ideal S4x8x128x256 .f32) (k : FVec Ideal S4x8x64x128 .f32)
    (v : FVec Ideal S4x8x64x256 .f32) (b : Fin 4) (h : Fin 8) (d : Fin 128) (j : Fin 256) :
    addf (mulf (broadcastInDim S4x8x128x256 ![0, 1, 2, 3] bcast_S4x8x1x1_S4x8x128x256_0_1_2_3
      (broadcastInDim S4x8x1x1 ![0, 1] bcast_S4x8_S4x8x1x1_0_1 w)) C)
      (Host.dotGeneral dot_S4x8x64x128_S4x8x64x256_S4x8x128x256_2_2_3_3_01_01 none k v) (ix4 b h d j)
      = w (ix2 b h) * C (ix4 b h d j) + ∑ s : Fin 64, k (ix4 b h s d) * v (ix4 b h s j) := by
  pointwise []

theorem n_apply (w : FVec Ideal S4x8 .f32) (n : FVec Ideal S4x8x128 .f32) (k : FVec Ideal S4x8x64x128 .f32)
    (b : Fin 4) (h : Fin 8) (d : Fin 128) :
    addf (mulf (broadcastInDim S4x8x128 ![0, 1, 2] bcast_S4x8x1_S4x8x128_0_1_2
      (broadcastInDim S4x8x1 ![0, 1] bcast_S4x8_S4x8x1_0_1 w)) n)
      (Host.reduceAdd k (constant S_ .f32 0x00000000#32) reducesTo_S4x8x64x128_S4x8x128_d2 h_S_) (ix3 b h d)
      = w (ix2 b h) * n (ix3 b h d) + ∑ s : Fin 64, k (ix4 b h s d) := by
  pointwise []

/-- A trip's outputs. -/
def houtR (w mt : FVec Ideal S4x8x64 .f32) (q : FVec Ideal S4x8x64x128 .f32) (v : FVec Ideal S4x8x64x256 .f32)
    (s : FVec Ideal S4x8x64x64 .f32) (C : FVec Ideal S4x8x128x256 .f32) (n : FVec Ideal S4x8x128 .f32) : FVec Ideal S4x8x64x256 .f32 :=
  Host.divf (addf (Host.dotGeneral dot_S4x8x64x64_S4x8x64x256_S4x8x64x256_3_2_2_3_01_01 none s v)
      (mulf (broadcastInDim S4x8x64x256 ![0, 1, 2, 3] bcast_S4x8x64x1_S4x8x64x256_0_1_2_3
        (broadcastInDim S4x8x64x1 ![0, 1, 2] bcast_S4x8x64_S4x8x64x1_0_1_2 w))
        (Host.dotGeneral dot_S4x8x64x128_S4x8x128x256_S4x8x64x256_3_2_2_3_01_01 none q C)))
    (broadcastInDim S4x8x64x256 ![0, 1, 2, 3] bcast_S4x8x64x1_S4x8x64x256_0_1_2_3
      (broadcastInDim S4x8x64x1 ![0, 1, 2] bcast_S4x8x64_S4x8x64x1_0_1_2
        (maximumf (Host.absf (addf (Host.reduceAdd s (constant S_ .f32 0x00000000#32) reducesTo_S4x8x64x64_S4x8x64_d3 h_S_)
          (mulf w (Host.dotGeneral dot_S4x8x64x128_S4x8x128_S4x8x64_3_2_2_n_01_01 none q n)))) (Host.exp (Host.negf mt)))))

theorem hout_apply (w mt : FVec Ideal S4x8x64 .f32) (q : FVec Ideal S4x8x64x128 .f32) (v : FVec Ideal S4x8x64x256 .f32)
    (s : FVec Ideal S4x8x64x64 .f32) (C : FVec Ideal S4x8x128x256 .f32) (n : FVec Ideal S4x8x128 .f32)
    (b : Fin 4) (h : Fin 8) (i : Fin 64) (j : Fin 256) :
    houtR w mt q v s C n (ix4 b h i j)
      = Ideal.div ((∑ x : Fin 64, s (ix4 b h i x) * v (ix4 b h x j)) + w (ix3 b h i) * ∑ d : Fin 128, q (ix4 b h i d) * C (ix4 b h d j))
        (max (max ((∑ x : Fin 64, s (ix4 b h i x)) + w (ix3 b h i) * ∑ d : Fin 128, q (ix4 b h i d) * n (ix3 b h d))
          (-((∑ x : Fin 64, s (ix4 b h i x)) + w (ix3 b h i) * ∑ d : Fin 128, q (ix4 b h i d) * n (ix3 b h d))))
          (Ideal.exp (-mt (ix3 b h i)))) := by
  pointwise [houtR]
  rfl

/-- A trip's outputs put in their place among those of all trips. -/
theorem put_apply (X : FVec Ideal S64x4x8x64x256 .f32) (y : FVec Ideal S4x8x64x256 .f32) (c c' : Fin 64) (b : Fin 4) (h : Fin 8)
    (x : Fin 64) (j : Fin 256) :
    Host.dynamicUpdateSlice X (broadcastInDim S1x4x8x64x256 ![1, 2, 3, 4] bcast_S4x8x64x256_S1x4x8x64x256_1_2_3_4 y)
      (fun k => (((![fun _ => BitVec.ofNat 32 c.val, constantI S_ 32 0#32, constantI S_ 32 0#32, constantI S_ 32 0#32,
        constantI S_ 32 0#32] : Fin 5 → IVec S_ 32)) k (Shape.Idx.first h_S_)).toInt)
      updateFits_S64x4x8x64x256_S1x4x8x64x256 (ix5 c' b h x j)
      = if c' = c then y (ix4 b h x j) else X (ix5 c' b h x j) := by
  have hk : S64x4x8x64x256.Slices ![c.val, 0, 0, 0, 0] S1x4x8x64x256 := ⟨rfl, fun a => by
    have := c.isLt
    match a with
    | ⟨0, _⟩ => show c.val + 1 ≤ 64; omega
    | ⟨1, _⟩ => show 0 + 4 ≤ 4; omega
    | ⟨2, _⟩ => show 0 + 8 ≤ 8; omega
    | ⟨3, _⟩ => show 0 + 64 ≤ 64; omega
    | ⟨4, _⟩ => show 0 + 256 ≤ 256; omega⟩
  rw [WordCmp.dynamicUpdateSlice_eq_update _ _ _ _ ![c.val, 0, 0, 0, 0] hk (fun a => by
    match a with
    | ⟨0, _⟩ => exact WordCmp.toInt_ofNat_of_lt (by have := c.isLt; omega)
    | ⟨1, _⟩ => rfl
    | ⟨2, _⟩ => rfl
    | ⟨3, _⟩ => rfl
    | ⟨4, _⟩ => rfl)]
  unfold updateSlice
  have hb := b.isLt
  have hh := h.isLt
  have hx := x.isLt
  have hj := j.isLt
  by_cases e : c' = c
  · subst e
    rw [if_pos rfl, dif_pos (fun a => by
      match a with
      | ⟨0, _⟩ => exact ⟨le_refl c'.val, show c'.val < c'.val + 1 by omega⟩
      | ⟨1, _⟩ => exact ⟨Nat.zero_le _, show b.val < 0 + 4 by omega⟩
      | ⟨2, _⟩ => exact ⟨Nat.zero_le _, show h.val < 0 + 8 by omega⟩
      | ⟨3, _⟩ => exact ⟨Nat.zero_le _, show x.val < 0 + 64 by omega⟩
      | ⟨4, _⟩ => exact ⟨Nat.zero_le _, show j.val < 0 + 256 by omega⟩)]
    refine Eq.trans (b := broadcastInDim S1x4x8x64x256 ![1, 2, 3, 4] bcast_S4x8x64x256_S1x4x8x64x256_1_2_3_4 y (ix5 0 b h x j))
      (congrArg _ (funext fun a => Fin.ext ?_)) (by pointwise [])
    match a with
    | ⟨0, _⟩ => show c'.val - c'.val = 0; omega
    | ⟨1, _⟩ => show b.val - 0 = b.val; omega
    | ⟨2, _⟩ => show h.val - 0 = h.val; omega
    | ⟨3, _⟩ => show x.val - 0 = x.val; omega
    | ⟨4, _⟩ => show j.val - 0 = j.val; omega
  · rw [if_neg e, dif_neg]
    intro hin
    have h0 : c.val ≤ c'.val ∧ c'.val < c.val + 1 := hin 0
    exact e (Fin.ext (by omega))

/-! ## The chunks' inputs and the state they are given -/

/-- What the loop reads and never changes: the chunks of queries, keys, values and gates, and the mask. -/
structure Inputs (V : Valuation τ sig (Elt Ideal)) (li lf : Fin 4 → Fin 8 → ℕ → ℝ) (q k : Fin 4 → Fin 8 → ℕ → Fin 128 → ℝ)
    (v : Fin 4 → Fin 8 → ℕ → Fin 256 → ℝ) : Prop where
  q : ∀ (c : Fin 64) (b : Fin 4) (h : Fin 8) (x : Fin 64) (d : Fin 128),
    (V (Proc.devRef .tc main_v38_0) : FVec Ideal S64x4x8x64x128 .f32) (ix5 c b h x d) = ((q b h (c.val * 64 + x.val) d : ℝ) : EReal)
  k : ∀ (c : Fin 64) (b : Fin 4) (h : Fin 8) (x : Fin 64) (d : Fin 128),
    (V (Proc.devRef .tc main_v38_1) : FVec Ideal S64x4x8x64x128 .f32) (ix5 c b h x d) = ((k b h (c.val * 64 + x.val) d : ℝ) : EReal)
  v : ∀ (c : Fin 64) (b : Fin 4) (h : Fin 8) (x : Fin 64) (d : Fin 256),
    (V (Proc.devRef .tc main_v38_2) : FVec Ideal S64x4x8x64x256 .f32) (ix5 c b h x d) = ((v b h (c.val * 64 + x.val) d : ℝ) : EReal)
  li : ∀ (c : Fin 64) (b : Fin 4) (h : Fin 8) (x : Fin 64),
    (V (Proc.devRef .tc main_v38_3) : FVec Ideal S64x4x8x64 .f32) (ix4 c b h x) = ((li b h (c.val * 64 + x.val) : ℝ) : EReal)
  lf : ∀ (c : Fin 64) (b : Fin 4) (h : Fin 8) (x : Fin 64),
    (V (Proc.devRef .tc main_v38_4) : FVec Ideal S64x4x8x64 .f32) (ix4 c b h x) = ((lf b h (c.val * 64 + x.val) : ℝ) : EReal)
  mask : ∀ i s : Fin 64, (V (Proc.devRef .tc main_v38_5) : IVec S64x64 1) (ix2 i s) = if s ≤ i then 1#1 else 0#1

/-- What the loop carries into chunk `c`: the state after the chunks before it. -/
structure Carried (V : Valuation τ sig (Elt Ideal)) (li lf : Fin 4 → Fin 8 → ℕ → ℝ) (k : Fin 4 → Fin 8 → ℕ → Fin 128 → ℝ)
    (v : Fin 4 → Fin 8 → ℕ → Fin 256 → ℝ) (c : ℕ) : Prop where
  ctr : V (Proc.devRef .tc main_v38_6) = fun _ => BitVec.ofNat 32 c
  C : ∀ (b : Fin 4) (h : Fin 8) (d : Fin 128) (j : Fin 256),
    (V (Proc.devRef .tc main_v38_7) : FVec Ideal S4x8x128x256 .f32) (ix4 b h d j) = ((Cst (li b h) (lf b h) (k b h) (v b h) (c * 64) d j : ℝ) : EReal)
  n : ∀ (b : Fin 4) (h : Fin 8) (d : Fin 128),
    (V (Proc.devRef .tc main_v38_8) : FVec Ideal S4x8x128 .f32) (ix3 b h d) = ((Nst (li b h) (lf b h) (k b h) (c * 64) d : ℝ) : EReal)
  m : ∀ (b : Fin 4) (h : Fin 8),
    (V (Proc.devRef .tc main_v38_9) : FVec Ideal S4x8 .f32) (ix2 b h) = ((M (li b h) (lf b h) (c * 64) : ℝ) : EReal)

variable {V : Valuation τ sig (Elt Ideal)} {li lf : Fin 4 → Fin 8 → ℕ → ℝ} {q k : Fin 4 → Fin 8 → ℕ → Fin 128 → ℝ}
  {v : Fin 4 → Fin 8 → ℕ → Fin 256 → ℝ} {c : Fin 64}

/-! ## One trip -/

theorem q_at (hI : Inputs V li lf q k v) (hC : Carried V li lf k v c.val) (b : Fin 4) (h : Fin 8) (x : Fin 64) (d : Fin 128) :
    (res_main_while0b_v43 V : FVec Ideal S4x8x64x128 .f32) (ix4 b h x d) = ((q b h (c.val * 64 + x.val) d : ℝ) : EReal) := by
  rw [← hI.q, res_main_while0b_v43, hC.ctr]
  exact slice_rows _ c b h x d

theorem k_at (hI : Inputs V li lf q k v) (hC : Carried V li lf k v c.val) (b : Fin 4) (h : Fin 8) (x : Fin 64) (d : Fin 128) :
    (res_main_while0b_v44 V : FVec Ideal S4x8x64x128 .f32) (ix4 b h x d) = ((k b h (c.val * 64 + x.val) d : ℝ) : EReal) := by
  rw [← hI.k, res_main_while0b_v44, hC.ctr]
  exact slice_rows _ c b h x d

theorem v_at (hI : Inputs V li lf q k v) (hC : Carried V li lf k v c.val) (b : Fin 4) (h : Fin 8) (x : Fin 64) (j : Fin 256) :
    (res_main_while0b_v45 V : FVec Ideal S4x8x64x256 .f32) (ix4 b h x j) = ((v b h (c.val * 64 + x.val) j : ℝ) : EReal) := by
  rw [← hI.v, res_main_while0b_v45, hC.ctr]
  exact slice_values _ c b h x j

theorem li_at (hI : Inputs V li lf q k v) (hC : Carried V li lf k v c.val) (b : Fin 4) (h : Fin 8) (x : Fin 64) :
    (res_main_while0b_v46 V : FVec Ideal S4x8x64 .f32) (ix3 b h x) = ((li b h (c.val * 64 + x.val) : ℝ) : EReal) := by
  rw [← hI.li, res_main_while0b_v46, hC.ctr]
  exact slice_gates _ c b h x

theorem b_at (hI : Inputs V li lf q k v) (hC : Carried V li lf k v c.val) (b : Fin 4) (h : Fin 8) (i : Fin 64) :
    (res_main_while0b_v48 V : FVec Ideal S4x8x64 .f32) (ix3 b h i)
      = ((B (lf b h) (c.val * 64 + i.val + 1) - B (lf b h) (c.val * 64) : ℝ) : EReal) := by
  rw [res_main_while0b_v48, hC.ctr, ← cum]
  refine (cumsum_at _ b h i).trans (Finset.sum_congr rfl fun s _ => ?_)
  rw [← hI.lf]
  exact if_congr Iff.rfl (slice_gates _ c b h s) rfl

theorem select_mask {α : Type} (p : Prop) [Decidable p] (x y : α) : Scalar.select (if p then 1#1 else 0#1) x y = if p then x else y := by
  rw [Scalar.select_def]; by_cases h : p <;> simp [h]

theorem d_at (hI : Inputs V li lf q k v) (hC : Carried V li lf k v c.val) (b : Fin 4) (h : Fin 8) (i s : Fin 64) :
    (res_main_while0b_v57 V : FVec Ideal S4x8x64x64 .f32) (ix4 b h i s)
      = if s ≤ i then ((B (lf b h) (c.val * 64 + i.val + 1) - B (lf b h) (c.val * 64 + s.val + 1) + li b h (c.val * 64 + s.val) : ℝ) : EReal)
        else ⊥ := by
  rw [res_main_while0b_v57]
  refine (d_apply _ _ _ b h i s).trans ?_
  rw [hI.mask, select_mask, b_at hI hC, b_at hI hC, li_at hI hC, ofBits_bot, ← EReal.coe_sub, ← EReal.coe_add]
  refine if_congr Iff.rfl (congrArg _ ?_) rfl
  ring

theorem inter_at (hI : Inputs V li lf q k v) (hC : Carried V li lf k v c.val) (b : Fin 4) (h : Fin 8) (i : Fin 64) :
    (res_main_while0b_v60 V : FVec Ideal S4x8x64 .f32) (ix3 b h i)
      = ((B (lf b h) (c.val * 64 + i.val + 1) - B (lf b h) (c.val * 64) + M (li b h) (lf b h) (c.val * 64) : ℝ) : EReal) := by
  rw [EReal.coe_add, ← b_at hI hC, ← hC.m]
  pointwise [res_main_while0b_v60]

theorem mt_at (hI : Inputs V li lf q k v) (hC : Carried V li lf k v c.val) (b : Fin 4) (h : Fin 8) (i : Fin 64) :
    (res_main_while0b_v62 V : FVec Ideal S4x8x64 .f32) (ix3 b h i) = ((M (li b h) (lf b h) (c.val * 64 + i.val + 1) : ℝ) : EReal) := by
  rw [← rowmax, ← inter_at hI hC, res_main_while0b_v62]
  simp only [← d_at hI hC]
  exact mt_apply _ _ b h i

theorem w_at (hI : Inputs V li lf q k v) (hC : Carried V li lf k v c.val) (b : Fin 4) (h : Fin 8) (i : Fin 64) :
    (res_main_while0b_v70 V : FVec Ideal S4x8x64 .f32) (ix3 b h i)
      = ((keep (li b h) (lf b h) (c.val * 64) (c.val * 64 + i.val + 1) : ℝ) : EReal) := by
  rw [res_main_while0b_v70]
  refine (w_apply _ _ b h i).trans ?_
  rw [inter_at hI hC, mt_at hI hC, ← EReal.coe_sub, Ideal.exp_coe, keep]

theorem s_at (hI : Inputs V li lf q k v) (hC : Carried V li lf k v c.val) (b : Fin 4) (h : Fin 8) (i s : Fin 64) :
    (res_main_while0b_v68 V : FVec Ideal S4x8x64x64 .f32) (ix4 b h i s)
      = if s ≤ i then ((Q (q b h) (k b h) 1 (c.val * 64 + i.val) (c.val * 64 + s.val)
          * W (li b h) (lf b h) (c.val * 64 + i.val + 1) (c.val * 64 + s.val) : ℝ) : EReal) else 0 := by
  rw [res_main_while0b_v68]
  refine (s_apply _ _ _ _ b h i s).trans ?_
  rw [d_at hI hC, mt_at hI hC, weight]
  simp only [q_at hI hC, k_at hI hC, ← EReal.coe_mul]
  rw [← coe_sum, mul_ite, mul_zero, ← EReal.coe_mul, Q, mul_one]

theorem blast_at (hI : Inputs V li lf q k v) (hC : Carried V li lf k v c.val) (b : Fin 4) (h : Fin 8) :
    (res_main_while0b_v89 V : FVec Ideal S4x8 .f32) (ix2 b h) = ((B (lf b h) (c.val * 64 + 64) - B (lf b h) (c.val * 64) : ℝ) : EReal) := by
  refine Eq.trans ?_ (b_at hI hC b h 63)
  pointwise [res_main_while0b_v89]

theorem wlog_at (hI : Inputs V li lf q k v) (hC : Carried V li lf k v c.val) (b : Fin 4) (h : Fin 8) (s : Fin 64) :
    (res_main_while0b_v93 V : FVec Ideal S4x8x64 .f32) (ix3 b h s)
      = ((B (lf b h) (c.val * 64 + 64) - B (lf b h) (c.val * 64 + s.val + 1) + li b h (c.val * 64 + s.val) : ℝ) : EReal) := by
  rw [res_main_while0b_v93]
  refine (wlog_apply _ _ _ b h s).trans ?_
  rw [blast_at hI hC, b_at hI hC, li_at hI hC, ← EReal.coe_sub, ← EReal.coe_add]
  congr 1
  ring

theorem mnew_at (hI : Inputs V li lf q k v) (hC : Carried V li lf k v c.val) (b : Fin 4) (h : Fin 8) :
    (res_main_while0b_v96 V : FVec Ideal S4x8 .f32) (ix2 b h) = ((M (li b h) (lf b h) (c.val * 64 + 64) : ℝ) : EReal) := by
  rw [← lastmax (T := 64), EReal.coe_add, ← blast_at hI hC, ← hC.m, res_main_while0b_v96]
  simp only [← wlog_at hI hC]
  exact mnew_apply _ _ _ b h

theorem kw_at (hI : Inputs V li lf q k v) (hC : Carried V li lf k v c.val) (b : Fin 4) (h : Fin 8) (s : Fin 64) (d : Fin 128) :
    (res_main_while0b_v103 V : FVec Ideal S4x8x64x128 .f32) (ix4 b h s d)
      = ((k b h (c.val * 64 + s.val) d : ℝ) : EReal) * ((W (li b h) (lf b h) (c.val * 64 + 64) (c.val * 64 + s.val) : ℝ) : EReal) := by
  rw [res_main_while0b_v103]
  refine (kw_apply _ _ _ b h s d).trans ?_
  rw [k_at hI hC, wlog_at hI hC, mnew_at hI hC, ← EReal.coe_sub, Ideal.exp_coe, W]

theorem decay_at (hI : Inputs V li lf q k v) (hC : Carried V li lf k v c.val) (b : Fin 4) (h : Fin 8) :
    (res_main_while0b_v106 V : FVec Ideal S4x8 .f32) (ix2 b h) = ((keep (li b h) (lf b h) (c.val * 64) (c.val * 64 + 64) : ℝ) : EReal) := by
  rw [res_main_while0b_v106]
  refine (decay_apply _ _ _ b h).trans ?_
  rw [blast_at hI hC, hC.m, mnew_at hI hC, ← EReal.coe_add, ← EReal.coe_sub, Ideal.exp_coe, keep]

/-- The outputs of a trip. -/
theorem hout_at (hI : Inputs V li lf q k v) (hC : Carried V li lf k v c.val) (b : Fin 4) (h : Fin 8) (i : Fin 64) (j : Fin 256) :
    houtR (res_main_while0b_v70 V) (res_main_while0b_v62 V) (res_main_while0b_v43 V) (res_main_while0b_v45 V) (res_main_while0b_v68 V)
      (V (Proc.devRef .tc main_v38_7)) (V (Proc.devRef .tc main_v38_8)) (ix4 b h i j)
      = ((H (li b h) (lf b h) (q b h) (k b h) (v b h) 1 (c.val * 64 + i.val) j : ℝ) : EReal) := by
  have ans : (∑ d : Fin 128, q b h (c.val * 64 + i.val) d * Cst (li b h) (lf b h) (k b h) (v b h) (c.val * 64) d j)
      = num (li b h) (lf b h) (q b h) (k b h) (v b h) 1 (c.val * 64) (c.val * 64 + i.val) j := by
    rw [← answer, mul_one]
  have ansd : (∑ d : Fin 128, q b h (c.val * 64 + i.val) d * Nst (li b h) (lf b h) (k b h) (c.val * 64) d)
      = den (li b h) (lf b h) (q b h) (k b h) 1 (c.val * 64) (c.val * 64 + i.val) := by
    rw [← answer_den, mul_one]
  rw [hout_apply]
  simp only [q_at hI hC, v_at hI hC, s_at hI hC, w_at hI hC, mt_at hI hC, hC.C, hC.n]
  simp only [← EReal.coe_mul (q b h _ _)]
  rw [← coe_sum, ← coe_sum, ans, ansd, row_num, row_den, ← EReal.coe_neg (Recur.M _ _ _), Ideal.exp_coe, quotient]

/-- The state a trip leaves. -/
theorem step_carried (hI : Inputs V li lf q k v) (hC : Carried V li lf k v c.val) : Carried (STEP V) li lf k v (c.val + 1) where
  ctr := by
    rw [STEP_main_v38_6, step_main_v38_6, hC.ctr]
    funext i
    show BitVec.ofNat 32 c.val + 1#32 = BitVec.ofNat 32 (c.val + 1)
    rw [BitVec.ofNat_add]
  C := fun b h d j => by
    rw [STEP_main_v38_7, show (c.val + 1) * 64 = c.val * 64 + 64 by ring, ← chunk_C (T := 64), ← hC.C, ← decay_at hI hC]
    simp only [← kw_at hI hC, ← v_at hI hC]
    exact C_apply _ _ _ _ b h d j
  n := fun b h d => by
    rw [STEP_main_v38_8, show (c.val + 1) * 64 = c.val * 64 + 64 by ring, ← chunk_N (T := 64), ← hC.n, ← decay_at hI hC]
    simp only [← kw_at hI hC]
    exact n_apply _ _ _ b h d
  m := fun b h => by
    rw [STEP_main_v38_9, show (c.val + 1) * 64 = c.val * 64 + 64 by ring, ← mnew_at hI hC]
    rfl

/-- The inputs stay as they are. -/
theorem step_inputs (hI : Inputs V li lf q k v) : Inputs (STEP V) li lf q k v where
  q := by rw [STEP_main_v38_0]; exact hI.q
  k := by rw [STEP_main_v38_1]; exact hI.k
  v := by rw [STEP_main_v38_2]; exact hI.v
  li := by rw [STEP_main_v38_3]; exact hI.li
  lf := by rw [STEP_main_v38_4]; exact hI.lf
  mask := by rw [STEP_main_v38_5]; exact hI.mask

/-- The outputs a trip adds to those of the trips before. -/
theorem step_out (hI : Inputs V li lf q k v) (hC : Carried V li lf k v c.val) (c' : Fin 64) (b : Fin 4) (h : Fin 8) (x : Fin 64) (j : Fin 256) :
    (STEP V (Proc.devRef .tc main_v38_10) : FVec Ideal S64x4x8x64x256 .f32) (ix5 c' b h x j)
      = if c' = c then ((H (li b h) (lf b h) (q b h) (k b h) (v b h) 1 (c.val * 64 + x.val) j : ℝ) : EReal)
        else (V (Proc.devRef .tc main_v38_10) : FVec Ideal S64x4x8x64x256 .f32) (ix5 c' b h x j) := by
  rw [STEP_main_v38_10, step_main_v38_10, hC.ctr, ← hout_at hI hC]
  exact put_apply _ _ c c' b h x j

/-- What the loop has made after `n` trips. -/
theorem after_trips (hI : Inputs V li lf q k v) (hC : Carried V li lf k v 0) (n : ℕ) (hn : n ≤ 64) :
    Inputs (STEP^[n] V) li lf q k v ∧ Carried (STEP^[n] V) li lf k v n
      ∧ ∀ (c : Fin 64) (b : Fin 4) (h : Fin 8) (x : Fin 64) (j : Fin 256), c.val < n →
        (STEP^[n] V (Proc.devRef .tc main_v38_10) : FVec Ideal S64x4x8x64x256 .f32) (ix5 c b h x j)
          = ((H (li b h) (lf b h) (q b h) (k b h) (v b h) 1 (c.val * 64 + x.val) j : ℝ) : EReal) := by
  induction n with
  | zero => exact ⟨hI, hC, fun c b h x j hc => absurd hc (Nat.not_lt_zero _)⟩
  | succ n ih =>
    obtain ⟨hI', hC', ho⟩ := ih (by omega)
    have hC'' : Carried (STEP^[n] V) li lf k v (⟨n, by omega⟩ : Fin 64).val := hC'
    rw [Function.iterate_succ_apply']
    refine ⟨step_inputs hI', step_carried hI' hC'', fun c b h x j hc => ?_⟩
    rw [step_out hI' hC'']
    by_cases e : c = ⟨n, by omega⟩
    · rw [if_pos e, e]
    · rw [if_neg e]
      exact ho c b h x j (by have : c.val ≠ n := fun e' => e (Fin.ext e'); omega)

/-- The result, read off the outputs of all trips. -/
theorem out_apply (X : FVec Ideal S64x4x8x64x256 .f32) (b : Fin 4) (t : Fin 4096) (h : Fin 8) (j : Fin 256) (r : Fin 16384) (col : Fin 2048)
    (c x : Fin 64) (hr : r.val = b.val * 4096 + t.val) (hcol : col.val = h.val * 256 + j.val) (ht : t.val = c.val * 64 + x.val) :
    shapeCast S16384x2048 (transpose S4x4096x8x256 [0, 2, 1, 3] (shapeCast S4x8x4096x256 (transpose S4x8x64x64x256 [1, 2, 0, 3, 4] X
      transposes_S64x4x8x64x256_S4x8x64x64x256_1_2_0_3_4) shapeCasts_S4x8x64x64x256_S4x8x4096x256) transposes_S4x8x4096x256_S4x4096x8x256_0_2_1_3)
      shapeCasts_S4x4096x8x256_S16384x2048 (ix2 r col) = X (ix5 c b h x j) := by
  pointwise []
  refine congrArg X ((ix5_inj ..).2 ⟨Fin.ext ?_, Fin.ext ?_, Fin.ext ?_, Fin.ext ?_, Fin.ext ?_⟩) <;> dsimp only <;> omega

end Cert.ReferenceIdeal.Value

end
-- ==== Proof.RefValue.lean ====
/-
  The reference's result: the outputs of all heads.
-/
module

public import proofs.«01_k».proof.Proof.RefChunk

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen
open Cert.Recur

/-! ## What the operations before the loop make of the arguments -/

/-- The chunks of queries. -/
def qR (z : FVec Ideal S4x4096x20512 .f32) : FVec Ideal S64x4x8x64x128 .f32 :=
  transpose S64x4x8x64x128 [2, 0, 1, 3, 4] (shapeCast S4x8x64x64x128 (mulf (transpose S4x8x4096x128 [0, 2, 1, 3]
    (shapeCast S4x4096x8x128 (extractStridedSlice S4x4096x1024 ![0, 0, 6144] z slices_S4x4096x20512_S4x4096x1024_0_0_6144)
      shapeCasts_S4x4096x1024_S4x4096x8x128) transposes_S4x4096x8x128_S4x8x4096x128_0_2_1_3)
    (broadcastInDim S4x8x4096x128 ![] bcast_S_S4x8x4096x128 (constant S_ .f32 0x3DB504F3#32)))
    shapeCasts_S4x8x4096x128_S4x8x64x64x128) transposes_S4x8x64x64x128_S64x4x8x64x128_2_0_1_3_4

/-- The chunks of keys. -/
def kR (z : FVec Ideal S4x4096x20512 .f32) : FVec Ideal S64x4x8x64x128 .f32 :=
  transpose S64x4x8x64x128 [2, 0, 1, 3, 4] (shapeCast S4x8x64x64x128 (transpose S4x8x4096x128 [0, 2, 1, 3]
    (shapeCast S4x4096x8x128 (extractStridedSlice S4x4096x1024 ![0, 0, 7168] z slices_S4x4096x20512_S4x4096x1024_0_0_7168)
      shapeCasts_S4x4096x1024_S4x4096x8x128) transposes_S4x4096x8x128_S4x8x4096x128_0_2_1_3)
    shapeCasts_S4x8x4096x128_S4x8x64x64x128) transposes_S4x8x64x64x128_S64x4x8x64x128_2_0_1_3_4

/-- The chunks of values. -/
def vR (z : FVec Ideal S4x4096x20512 .f32) : FVec Ideal S64x4x8x64x256 .f32 :=
  transpose S64x4x8x64x256 [2, 0, 1, 3, 4] (shapeCast S4x8x64x64x256 (transpose S4x8x4096x256 [0, 2, 1, 3]
    (shapeCast S4x4096x8x256 (extractStridedSlice S4x4096x2048 ![0, 0, 8192] z slices_S4x4096x20512_S4x4096x2048_0_0_8192)
      shapeCasts_S4x4096x2048_S4x4096x8x256) transposes_S4x4096x8x256_S4x8x4096x256_0_2_1_3)
    shapeCasts_S4x8x4096x256_S4x8x64x64x256) transposes_S4x8x64x64x256_S64x4x8x64x256_2_0_1_3_4

/-- The gates with their biases. -/
def gR (z : FVec Ideal S4x4096x20512 .f32) (w : FVec Ideal S4x8 .f32) : FVec Ideal S4x4x8x4096 .f32 :=
  transpose S4x4x8x4096 [2, 0, 3, 1] (addf (shapeCast S4x4096x4x8 (extractStridedSlice S4x4096x32 ![0, 0, 12288] z
    slices_S4x4096x20512_S4x4096x32_0_0_12288) shapeCasts_S4x4096x32_S4x4096x4x8)
    (broadcastInDim S4x4096x4x8 ![0, 1, 2, 3] bcast_S1x1x4x8_S4x4096x4x8_0_1_2_3 (broadcastInDim S1x1x4x8 ![2, 3] bcast_S4x8_S1x1x4x8_2_3 w)))
    transposes_S4x4096x4x8_S4x4x8x4096_2_0_3_1

/-- A sequence of gates cut into chunks. -/
def cut (x : FVec Ideal S4x8x4096 .f32) : FVec Ideal S64x4x8x64 .f32 :=
  transpose S64x4x8x64 [2, 0, 1, 3] (shapeCast S4x8x64x64 x shapeCasts_S4x8x4096_S4x8x64x64) transposes_S4x8x64x64_S64x4x8x64_2_0_1_3

/-- The chunks of log input gates. -/
def liR (z : FVec Ideal S4x4096x20512 .f32) (w : FVec Ideal S4x8 .f32) : FVec Ideal S64x4x8x64 .f32 :=
  cut (shapeCast S4x8x4096 (extractStridedSlice S1x4x8x4096 ![0, 0, 0, 0] (gR z w) slices_S4x4x8x4096_S1x4x8x4096_0_0_0_0)
    shapeCasts_S1x4x8x4096_S4x8x4096)

/-- What the forget gates are the logistic function of. -/
def fgR (z : FVec Ideal S4x4096x20512 .f32) (w : FVec Ideal S4x8 .f32) : FVec Ideal S4x8x4096 .f32 :=
  shapeCast S4x8x4096 (extractStridedSlice S1x4x8x4096 ![1, 0, 0, 0] (gR z w) slices_S4x4x8x4096_S1x4x8x4096_1_0_0_0)
    shapeCasts_S1x4x8x4096_S4x8x4096

/-- The zeros the logarithm of the logistic function is spelled with. -/
def zeroR : FVec Ideal S4x8x4096 .f32 := broadcastInDim S4x8x4096 ![] bcast_S_S4x8x4096 (constant S_ .f32 0x00000000#32)

/-- The logarithm of the logistic function. -/
def lfR (x : FVec Ideal S4x8x4096 .f32) : FVec Ideal S4x8x4096 .f32 :=
  Host.negf (select (cmpf .une (subf (Host.negf x) zeroR) (subf (Host.negf x) zeroR)) (addf (Host.negf x) zeroR)
    (addf (maximumf (Host.negf x) zeroR) (Host.log1p (Host.exp (Host.negf (Host.absf (subf (Host.negf x) zeroR)))))))

/-- The mask. -/
def maskR : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

variable (m : (ℓ : Loc nD τ sig) → Buf (Elt Ideal) ℓ) (c : Dev nD)

/-- The projection. -/
def ZR : FVec Ideal S4x4096x20512 .f32 := m ((c : Thread nD τ).loc main_arg0)

/-- The gate biases. -/
def GR : FVec Ideal S4x8 .f32 := m ((c : Thread nD τ).loc main_arg1)

set_option maxHeartbeats 2000000 in
theorem entry_q : entryContents preI m c (Proc.devRef .tc main_v38_0) = qR (ZR m c) := by
  simp only [preI, entryContents, afterL_cons, afterL_nil, hostOps0, hostOps0_1, hostOps0_2, hostOps0_3, hostOps0_4]
  after_results_entrywise []

set_option maxHeartbeats 2000000 in
theorem entry_lf : entryContents preI m c (Proc.devRef .tc main_v38_4) = cut (lfR (fgR (ZR m c) (GR m c))) := by
  simp only [preI, entryContents, afterL_cons, afterL_nil, hostOps0, hostOps0_1, hostOps0_2, hostOps0_3, hostOps0_4]
  after_results_entrywise []

set_option maxHeartbeats 2000000 in
theorem entry_mask : entryContents preI m c (Proc.devRef .tc main_v38_5) = maskR := by
  simp only [preI, entryContents, afterL_cons, afterL_nil, hostOps0, hostOps0_1, hostOps0_2, hostOps0_3, hostOps0_4]
  after_results_entrywise []

set_option maxHeartbeats 2000000 in
theorem entry_C : (entryContents preI m c (Proc.devRef .tc main_v38_7) : FVec Ideal S4x8x128x256 .f32)
    = broadcastInDim S4x8x128x256 ![] bcast_S_S4x8x128x256 (constant (F := Ideal) S_ .f32 0x00000000#32) := by
  simp only [preI, entryContents, afterL_cons, afterL_nil, hostOps0, hostOps0_1, hostOps0_2, hostOps0_3, hostOps0_4]
  after_results_entrywise []

set_option maxHeartbeats 2000000 in
theorem entry_k : entryContents preI m c (Proc.devRef .tc main_v38_1) = kR (ZR m c) := by
  simp only [preI, entryContents, afterL_cons, afterL_nil, hostOps0, hostOps0_1, hostOps0_2, hostOps0_3, hostOps0_4]
  after_results_entrywise []

set_option maxHeartbeats 2000000 in
theorem entry_v : entryContents preI m c (Proc.devRef .tc main_v38_2) = vR (ZR m c) := by
  simp only [preI, entryContents, afterL_cons, afterL_nil, hostOps0, hostOps0_1, hostOps0_2, hostOps0_3, hostOps0_4]
  after_results_entrywise []

set_option maxHeartbeats 2000000 in
theorem entry_li : entryContents preI m c (Proc.devRef .tc main_v38_3) = liR (ZR m c) (GR m c) := by
  simp only [preI, entryContents, afterL_cons, afterL_nil, hostOps0, hostOps0_1, hostOps0_2, hostOps0_3, hostOps0_4]
  after_results_entrywise []

set_option maxHeartbeats 2000000 in
theorem entry_n : (entryContents preI m c (Proc.devRef .tc main_v38_8) : FVec Ideal S4x8x128 .f32)
    = broadcastInDim S4x8x128 ![] bcast_S_S4x8x128 (constant (F := Ideal) S_ .f32 0x00000000#32) := by
  simp only [preI, entryContents, afterL_cons, afterL_nil, hostOps0, hostOps0_1, hostOps0_2, hostOps0_3, hostOps0_4]
  after_results_entrywise []

set_option maxHeartbeats 2000000 in
theorem entry_m : (entryContents preI m c (Proc.devRef .tc main_v38_9) : FVec Ideal S4x8 .f32)
    = broadcastInDim S4x8 ![] bcast_S_S4x8 (constant (F := Ideal) S_ .f32 0x00000000#32) := by
  simp only [preI, entryContents, afterL_cons, afterL_nil, hostOps0, hostOps0_1, hostOps0_2, hostOps0_3, hostOps0_4]
  after_results_entrywise []

/-! ## What they are -/

variable {z : FVec Ideal SZ .f32} {w : FVec Ideal SB .f32}

theorem qR_apply (hz : Real' z) (c : Fin 64) (b : Fin 4) (h : Fin 8) (x : Fin 64) (d : Fin 128) :
    qR z (ix5 c b h x d) = ((qs z b h (c.val * 64 + x.val) d * scale : ℝ) : EReal) := by
  pointwise [qR]
  rw [z_eq hz _ b _ (c.val * 64 + x.val) _ ⟨6144 + (h.val * 128 + d.val), by omega⟩ (by first | rfl | (dsimp only; omega)) (by first | rfl | (dsimp only; omega))
    (by first | rfl | (dsimp only; omega)), ofBits_scale, ← EReal.coe_mul]
  rfl

theorem kR_apply (hz : Real' z) (c : Fin 64) (b : Fin 4) (h : Fin 8) (x : Fin 64) (d : Fin 128) :
    kR z (ix5 c b h x d) = ((ks z b h (c.val * 64 + x.val) d : ℝ) : EReal) := by
  pointwise [kR]
  exact z_eq hz _ b _ (c.val * 64 + x.val) _ ⟨7168 + (h.val * 128 + d.val), by omega⟩ (by first | rfl | (dsimp only; omega)) (by first | rfl | (dsimp only; omega))
    (by first | rfl | (dsimp only; omega))

theorem vR_apply (hz : Real' z) (c : Fin 64) (b : Fin 4) (h : Fin 8) (x : Fin 64) (d : Fin 256) :
    vR z (ix5 c b h x d) = ((vs z b h (c.val * 64 + x.val) d : ℝ) : EReal) := by
  pointwise [vR]
  exact z_eq hz _ b _ (c.val * 64 + x.val) _ ⟨8192 + (h.val * 256 + d.val), by omega⟩ (by first | rfl | (dsimp only; omega)) (by first | rfl | (dsimp only; omega))
    (by first | rfl | (dsimp only; omega))

theorem cut_apply (X : FVec Ideal S4x8x4096 .f32) (c : Fin 64) (b : Fin 4) (h : Fin 8) (x : Fin 64) :
    cut X (ix4 c b h x) = X (ix3 b h ⟨c.val * 64 + x.val, by omega⟩) := by
  pointwise [cut]

theorem gR_apply (z : FVec Ideal SZ .f32) (w : FVec Ideal SB .f32) (g : Fin 4) (b : Fin 4) (h : Fin 8) (t : Fin 4096) :
    gR z w (ix4 g b h t) = z (ix3 b t ⟨12288 + (g.val * 8 + h.val), by omega⟩) + w (ix2 g h) := by
  pointwise [gR]

theorem liR_apply (hz : Real' z) (hw : Real' w) (c : Fin 64) (b : Fin 4) (h : Fin 8) (x : Fin 64) :
    liR z w (ix4 c b h x) = ((lis z w b h (c.val * 64 + x.val) : ℝ) : EReal) := by
  rw [liR, cut_apply]
  generalize hg : gR z w = g
  pointwise []
  rw [← hg, gR_apply, z_eq hz _ b _ (c.val * 64 + x.val) _ ⟨12288 + h.val, by omega⟩ (by first | rfl | (dsimp only; omega)) (by first | rfl | (dsimp only; omega))
    (by first | rfl | (dsimp only; omega)), toReal_eq hw, ← EReal.coe_add]
  rfl

theorem fgR_apply (hz : Real' z) (hw : Real' w) (b : Fin 4) (h : Fin 8) (t : Fin 4096) :
    fgR z w (ix3 b h t) = ((fgs z w b h t.val : ℝ) : EReal) := by
  rw [fgR]
  generalize hg : gR z w = g
  pointwise []
  rw [← hg, gR_apply, z_eq hz _ b _ t.val _ ⟨12296 + h.val, by omega⟩ (by first | rfl | (dsimp only; omega)) (by first | rfl | (dsimp only; omega))
    (by first | rfl | (dsimp only; omega)), toReal_eq hw, ← EReal.coe_add]
  rfl

theorem zeroR_apply (i : S4x8x4096.Idx) : zeroR i = (0 : EReal) := by
  idx_vars i
  pointwise [zeroR]

theorem une_self (y : EReal) : FloatOps.cmpf (F := Ideal) (φ := .f32) .une y y = 0#1 := by
  show Ideal.cmp .une y y = 0#1
  simp [Ideal.cmp]

theorem lfR_apply (X : FVec Ideal S4x8x4096 .f32) (b : Fin 4) (h : Fin 8) (t : Fin 4096) (x : ℝ) (hx : X (ix3 b h t) = ((x : ℝ) : EReal)) :
    lfR X (ix3 b h t) = ((logsig x : ℝ) : EReal) := by
  rw [← logsig_reference, ← hx]
  show -(Scalar.select (FloatOps.cmpf (F := Ideal) (φ := .f32) .une (-(X (ix3 b h t)) - zeroR (ix3 b h t)) (-(X (ix3 b h t)) - zeroR (ix3 b h t)))
    (-(X (ix3 b h t)) + zeroR (ix3 b h t)) (max (-(X (ix3 b h t))) (zeroR (ix3 b h t)) + Ideal.log1p (Ideal.exp (-(max (-(X (ix3 b h t)) - zeroR (ix3 b h t))
      (-(-(X (ix3 b h t)) - zeroR (ix3 b h t)))))))) = _
  rw [une_self, zeroR_apply, sub_zero]
  rfl

theorem maskR_apply (i s : Fin 64) : maskR (ix2 i s) = if s ≤ i then 1#1 else 0#1 := by
  show Scalar.select (IntOp.cmpi .sge (BitVec.ofNat 32 i.val + 0#32) (BitVec.ofNat 32 s.val)) (1#1 : BitVec 1) 0#1 = _
  rw [BitVec.add_zero, WordCmp.cmpi_sge_ofNat (by have := i.isLt; norm_num; omega) (by have := s.isLt; norm_num; omega)]
  by_cases e : s ≤ i
  · rw [if_pos e, decide_eq_true (show s.val ≤ i.val from e)]; rfl
  · rw [if_neg e, decide_eq_false (show ¬ s.val ≤ i.val from e)]; rfl

/-- Scaled queries answer as scaled scores. -/
theorem H_scale (li lf : ℕ → ℝ) (q k : ℕ → Fin 128 → ℝ) (v : ℕ → Fin 256 → ℝ) (s : ℝ) (t : ℕ) (j : Fin 256) :
    H li lf (fun t d => q t d * s) k v 1 t j = H li lf q k v s t j := by
  have e : Q (fun t d => q t d * s) k 1 = Q q k s := by
    funext t u
    simp only [Q, Finset.sum_mul, mul_one]
    exact Finset.sum_congr rfl fun d _ => by ring
  simp only [H, num, den, e]

/-- The chunks at the loop's entry. -/
theorem inputs_entry (hz : Real' (ZR m c)) (hw : Real' (GR m c)) : Inputs (entryContents preI m c) (lis (ZR m c) (GR m c))
    (fun b h => logsig ∘ fgs (ZR m c) (GR m c) b h) (fun b h t d => qs (ZR m c) b h t d * scale) (ks (ZR m c)) (vs (ZR m c)) where
  q := fun e b h x d => by rw [entry_q]; exact qR_apply hz e b h x d
  k := fun e b h x d => by rw [entry_k]; exact kR_apply hz e b h x d
  v := fun e b h x d => by rw [entry_v]; exact vR_apply hz e b h x d
  li := fun e b h x => by rw [entry_li]; exact liR_apply hz hw e b h x
  lf := fun e b h x => by
    rw [entry_lf]
    exact (cut_apply _ e b h x).trans (lfR_apply _ b h _ _ (fgR_apply hz hw b h _))
  mask := fun i s => by rw [entry_mask]; exact maskR_apply i s

/-- The state at the loop's entry. -/
theorem carried_entry (li lf : Fin 4 → Fin 8 → ℕ → ℝ) (k : Fin 4 → Fin 8 → ℕ → Fin 128 → ℝ) (v : Fin 4 → Fin 8 → ℕ → Fin 256 → ℝ) :
    Carried (entryContents preI m c) li lf k v 0 where
  ctr := ctr_entry m c
  C := fun b h d j => by
    rw [entry_C, Nat.zero_mul, Cst_zero, EReal.coe_zero]; pointwise []
  n := fun b h d => by
    rw [entry_n, Nat.zero_mul, Nst_zero, EReal.coe_zero]; pointwise []
  m := fun b h => by
    rw [entry_m, Nat.zero_mul, M_zero, EReal.coe_zero]; pointwise []

/-- The result is the outputs of all heads. -/
theorem ref_final (hz : Real' (ZR m c)) (hw : Real' (GR m c)) :
    (out_main_v42 (STEP^[64] (entryContents preI m c)) : FVec Ideal S16384x2048 .f32) = OUT (ZR m c) (GR m c) := by
  funext i
  idx_vars i
  have h0 : i0.val < 16384 := i0.isLt
  have h1 : i1.val < 2048 := i1.isLt
  refine (out_apply _ ⟨i0.val / 4096, by omega⟩ ⟨i0.val % 4096, by omega⟩ ⟨i1.val / 256, by omega⟩ ⟨i1.val % 256, by omega⟩ i0 i1
    ⟨i0.val % 4096 / 64, by omega⟩ ⟨i0.val % 64, by omega⟩ (by dsimp only; omega) (by dsimp only; omega) (by dsimp only; omega)).trans ?_
  rw [(after_trips (inputs_entry m c hz hw) (carried_entry m c _ _ _ _) 64 le_rfl).2.2 _ _ _ _ _ (by dsimp only; omega), H_scale]
  refine (OUT_apply _ _ _ _ _ _ _ (by dsimp only; omega) ?_ ?_).symm
  · show i0.val = i0.val / 4096 * 4096 + (i0.val % 4096 / 64 * 64 + i0.val % 64)
    omega
  · show i1.val = i1.val / 256 * 256 + i1.val % 256
    omega

end Cert.ReferenceIdeal.Value

end
-- ==== Proof.KernelValue.lean ====
/-
  The kernel and the reference of the recurrence leave the same array: both leave the outputs of all heads where every entry
  of the projection and every gate bias is a real number.
-/
module

public import proofs.«01_k».proof.Defs
public import proofs.«01_k».proof.Proof.KernelFinal
public import proofs.«01_k».proof.Proof.RefValue

@[expose] public section

noncomputable section

namespace Cert.Recur

open Idealize.ShloMosaic

/-- An extended real whose absolute value lies below `⊤` is a real number. -/
theorem real_of_abs_lt {x : EReal} (h : max x (-x) < ⊤) : ∃ r : ℝ, x = ((r : ℝ) : EReal) := by
  induction x with
  | bot => simp at h
  | top => simp at h
  | coe r => exact ⟨r, rfl⟩

theorem ofBits_top : Ideal.ofBits .f32 0x7F800000#32 = (⊤ : EReal) := by
  simp [Ideal.ofBits, Ideal.ieee]

/-- What the precondition's comparison says of an entry. -/
theorem real_of_cmp {x : EReal} (h : FloatOps.cmpf (F := Ideal) (φ := .f32) .olt (max x (-x)) (Ideal.ofBits .f32 0x7F800000#32) = 1#1) :
    ∃ r : ℝ, x = ((r : ℝ) : EReal) := by
  rw [ofBits_top] at h
  refine real_of_abs_lt ?_
  by_contra e
  have : FloatOps.cmpf (F := Ideal) (φ := .f32) .olt (max x (-x)) (⊤ : EReal) = 0#1 := by
    show Ideal.cmp .olt _ _ = _
    simp only [Ideal.cmp, decide_eq_false e]
    rfl
  rw [this] at h
  exact absurd h (by decide)

/-- The precondition says that every entry of the projection and every gate bias is a real number. -/
theorem real_of_pre [Cert.Pre_finite.Facts] (z : FVec Ideal SZ .f32) (w : FVec Ideal SB .f32)
    (h : (Cert.Pre_finite.fn (F := Ideal) z w).1 = (fun _ => 1#1) ∧ (Cert.Pre_finite.fn (F := Ideal) z w).2 = (fun _ => 1#1)) :
    Real' z ∧ Real' w :=
  ⟨fun i => real_of_cmp (congrFun h.1 i), fun i => real_of_cmp (congrFun h.2 i)⟩

/-- The reference's array is the kernel's: both are the outputs of all heads. -/
theorem final_eq (mk : (ℓ : Loc Cert.KernelIdeal.nD Cert.KernelIdeal.τ Cert.KernelIdeal.sig) → Buf (Elt Ideal) ℓ)
    (mr : (ℓ : Loc Cert.ReferenceIdeal.nD Cert.ReferenceIdeal.τ Cert.ReferenceIdeal.sig) → Buf (Elt Ideal) ℓ)
    (c : Dev Cert.KernelIdeal.nD) (hz : Real' (Cert.KernelIdeal.Value.Z mk c)) (hw : Real' (Cert.KernelIdeal.Value.G mk c))
    (ez : Cert.ReferenceIdeal.Value.ZR mr c = Cert.KernelIdeal.Value.Z mk c)
    (ew : Cert.ReferenceIdeal.Value.GR mr c = Cert.KernelIdeal.Value.G mk c) :
    (Cert.ReferenceIdeal.Value.out_main_v42 (Cert.ReferenceIdeal.Value.STEP^[64]
        (StableHlo.entryContents Cert.ReferenceIdeal.Value.preI mr c)) : FVec Ideal SO .f32)
      = (Cert.KernelIdeal.Gen.dats mk 0 c).arrAt 7 (Cert.KernelIdeal.cfgs 0).N := by
  refine (Cert.ReferenceIdeal.Value.ref_final mr c (ez ▸ hz) (ew ▸ hw)).trans ?_
  rw [ez, ew]
  exact (Cert.KernelIdeal.Value.final mk c hz hw).symm

end Cert.Recur

end
-- ==== Proof.FiltRefValue.lean ====
/-
  The reference of the filters: the array it leaves is made up of the same taps, its positions running from 0 to 1 over the rows.
-/
module

public import proofs.«01_k».proof.Defs
public import proofs.«01_k».proof.Proof.Gen.FiltReferenceIdeal.Run
public import proofs.«01_k».proof.Proof.FiltValue
public import proofs.«01_k».proof.Proof.KernelValue

@[expose] public section

set_option maxRecDepth 16384

noncomputable section

open Idealize.ShloMosaic Idealize.ShloMosaic.TcCoe Idealize.SL.Sem

namespace Cert.FiltReferenceIdeal.Value

open Cert.FiltReferenceIdeal Cert.FiltReferenceIdeal.Gen
open Cert.Recur (Real')
open Cert.Taps (TAPS tap window)
open Cert.FiltIdeal.Value (rates float_of)

/-- The positions, from 0 to 1. -/
def times : FVec Ideal S4096 .f32 :=
  concatenate S4096 0 [⟨S4095, addf (mulf (broadcastInDim S4095 ![0] bcast_S1_S4095_0 (shapeCast S1 (id (constant (F := Ideal) S_ .f32 0x00000000#32)) shapeCasts_S_S1))
      (subf (broadcastInDim S4095 ![] bcast_S_S4095 (constant S_ .f32 0x3F800000#32)) (Host.divf (sitofp .f32 (iotaInDim S4095 32 0)) (broadcastInDim S4095 ![] bcast_S_S4095 (constant S_ .f32 0x457FF000#32)))))
    (mulf (broadcastInDim S4095 ![0] bcast_S1_S4095_0 (shapeCast S1 (id (constant (F := Ideal) S_ .f32 0x3F800000#32)) shapeCasts_S_S1))
      (Host.divf (sitofp .f32 (iotaInDim S4095 32 0)) (broadcastInDim S4095 ![] bcast_S_S4095 (constant S_ .f32 0x457FF000#32))))⟩,
    ⟨S1, broadcastInDim S1 ![] bcast_S_S1 (id (constant (F := Ideal) S_ .f32 0x3F800000#32))⟩] concatenates_S4095_S1_S4096_d0

/-- The windows of all channels. -/
def windows (T : FVec Ideal S4096 .f32) (D : FVec Ideal S2048 .f32) : FVec Ideal S4096x2048 .f32 :=
  addf (Host.exp (mulf (broadcastInDim S4096x2048 ![0, 1] bcast_S4096x1_S4096x2048_0_1 (Host.negf (broadcastInDim S4096x1 ![0] bcast_S4096_S4096x1_0 T)))
    (broadcastInDim S4096x2048 ![0, 1] bcast_S1x2048_S4096x2048_0_1 (broadcastInDim S1x2048 ![1] bcast_S2048_S1x2048_1 D))))
    (broadcastInDim S4096x2048 ![] bcast_S_S4096x2048 (constant S_ .f32 0x3D4CCCCD#32))

/-- The filters of both directions and orders. -/
def filters (h : FVec Ideal S4096x64 .f32) (w : FVec Ideal S64x8192 .f32) (X : FVec Ideal S4096x2048 .f32) : FVec Ideal S4096x2x2x2048 .f32 :=
  mulf (shapeCast S4096x2x2x2048 (Host.dotGeneral dot_S4096x64_S64x8192_S4096x8192_1_0_0_1_n_n none h w) shapeCasts_S4096x8192_S4096x2x2x2048)
    (broadcastInDim S4096x2x2x2048 ![0, 1, 2, 3] bcast_S4096x1x1x2048_S4096x2x2x2048_0_1_2_3
      (broadcastInDim S4096x1x1x2048 ![0, 3] bcast_S4096x2048_S4096x1x1x2048_0_3 X))

/-- The forward halves. -/
def fwd (f : FVec Ideal S4096x2x2x2048 .f32) : FVec Ideal S2x4096x2048 .f32 :=
  transpose S2x4096x2048 [1, 0, 2] (shapeCast S4096x2x2048 (extractStridedSlice S4096x1x2x2048 ![0, 0, 0, 0] f slices_S4096x2x2x2048_S4096x1x2x2048_0_0_0_0)
    shapeCasts_S4096x1x2x2048_S4096x2x2048) transposes_S4096x2x2048_S2x4096x2048_1_0_2

/-- The backward halves. -/
def bwd (f : FVec Ideal S4096x2x2x2048 .f32) : FVec Ideal S2x4096x2048 .f32 :=
  transpose S2x4096x2048 [1, 0, 2] (shapeCast S4096x2x2048 (extractStridedSlice S4096x1x2x2048 ![0, 1, 0, 0] f slices_S4096x2x2x2048_S4096x1x2x2048_0_1_0_0)
    shapeCasts_S4096x1x2x2048_S4096x2x2048) transposes_S4096x2x2048_S2x4096x2048_1_0_2

/-- The skip factors as a first tap. -/
def skips (b : FVec Ideal S2x2048 .f32) : FVec Ideal S2x4096x2048 .f32 :=
  concatenate S2x4096x2048 1 [⟨S2x1x2048, broadcastInDim S2x1x2048 ![0, 2] bcast_S2x2048_S2x1x2048_0_2 b⟩,
    ⟨S2x4095x2048, broadcastInDim S2x4095x2048 ![] bcast_S_S2x4095x2048 (constant (F := Ideal) S_ .f32 0x00000000#32)⟩] concatenates_S2x1x2048_S2x4095x2048_S2x4096x2048_d1

/-- The kernels, of their halves. -/
def joined (f g : FVec Ideal S2x4096x2048 .f32) : FVec Ideal S2x8192x2048 .f32 :=
  concatenate S2x8192x2048 1 [⟨S2x4096x2048, f⟩, ⟨S2x1x2048, broadcastInDim S2x1x2048 ![] bcast_S_S2x1x2048 (constant (F := Ideal) S_ .f32 0x00000000#32)⟩,
    ⟨S2x4095x2048, Host.reverse [1] (extractStridedSlice S2x4095x2048 ![0, 1, 0] g slices_S2x4096x2048_S2x4095x2048_0_1_0)⟩]
    concatenates_S2x4096x2048_S2x1x2048_S2x4095x2048_S2x8192x2048_d1

theorem ofBits_last : Ideal.ofBits .f32 0x457FF000#32 = (((4095 : ℤ) : ℝ) : EReal) := by
  simp [Ideal.ofBits, Ideal.ieee, -EReal.coe_mul]; norm_num

theorem zero_at : constant (F := Ideal) S_ .f32 0x00000000#32 ix0 = (0 : EReal) := by pointwise []

theorem one_at : constant (F := Ideal) S_ .f32 0x3F800000#32 ix0 = (1 : EReal) := by pointwise []

/-- A position. -/
theorem times_at (n : Fin 4096) : times (ix1 n) = Ideal.div (((n.val : ℤ) : ℝ) : EReal) (Ideal.ofBits .f32 0x457FF000#32) := by
  by_cases h : n.val < 4095
  · refine (concatenate_pair_apply_left (t := S4096) (s₁ := S4095) (s₂ := S1) (0 : Fin 1) _ _ _ (ix1 n) rfl (ix1 ⟨n.val, h⟩) (fun b => by fin_cases b; rfl)).trans ?_
    pointwise []
    rw [id, id, zero_at, one_at, zero_mul, zero_add, one_mul, float_of (by omega)]
  · refine (concatenate_pair_apply_right (t := S4096) (s₁ := S4095) (s₂ := S1) (0 : Fin 1) _ _ _ (ix1 n) rfl rfl (ix1 0) (fun b hb => by fin_cases b; exact absurd rfl hb) (by show 0 + 4095 = n.val; omega)).trans ?_
    pointwise []
    rw [id, one_at, show n.val = 4095 by omega, ofBits_last]
    rw [Ideal.div_coe (by norm_num), ← EReal.coe_mul]
    norm_num

theorem windows_at (T : FVec Ideal S4096 .f32) (D : FVec Ideal S2048 .f32) (n : Fin 4096) (j : Fin 2048) :
    windows T D (ix2 n j) = (Ideal.exp (-(T (ix1 n)) * D (ix1 j)) + Ideal.ofBits .f32 0x3D4CCCCD#32 : EReal) := by
  pointwise [windows]

theorem filters_at (h : FVec Ideal S4096x64 .f32) (w : FVec Ideal S64x8192 .f32) (X : FVec Ideal S4096x2048 .f32) (n : Fin 4096) (d o : Fin 2) (j : Fin 2048) :
    filters h w X (ix4 n d o j) = (∑ k : Fin 64, h (ix2 n k) * w (ix2 k ⟨(d.val * 2 + o.val) * 2048 + j.val, by omega⟩)) * X (ix2 n j) := by
  pointwise [filters]
  refine congrArg (· * X (ix2 n j)) (Finset.sum_congr rfl fun k _ => congrArg (h (ix2 n k) * ·) (congrArg w ((ix2_inj ..).2 ⟨rfl, Fin.ext ?_⟩)))
  dsimp only; omega

/-- An entry of the filters is a tap. -/
theorem tap_at (h : FVec Ideal S4096x64 .f32) (w : FVec Ideal S64x8192 .f32) (D : FVec Ideal S2048 .f32) (n : Fin 4096) (d o : Fin 2) (j : Fin 2048) :
    filters h w (windows times D) (ix4 n d o j) = tap h w D d o n j := by
  rw [filters_at, windows_at, times_at]
  rfl

theorem fwd_at (f : FVec Ideal S4096x2x2x2048 .f32) (o : Fin 2) (n : Fin 4096) (j : Fin 2048) : fwd f (ix3 o n j) = f (ix4 n 0 o j) := by
  pointwise [fwd]

theorem bwd_at (f : FVec Ideal S4096x2x2x2048 .f32) (o : Fin 2) (n : Fin 4096) (j : Fin 2048) : bwd f (ix3 o n j) = f (ix4 n 1 o j) := by
  pointwise [bwd]

theorem skips_at (b : FVec Ideal S2x2048 .f32) (o : Fin 2) (n : Fin 4096) (j : Fin 2048) :
    skips b (ix3 o n j) = if n.val = 0 then b (ix2 o j) else 0 := by
  by_cases h : n.val = 0
  · rw [if_pos h]
    refine (concatenate_pair_apply_left (t := S2x4096x2048) (s₁ := S2x1x2048) (s₂ := S2x4095x2048) (1 : Fin 3) _ _ _ (ix3 o n j) rfl (ix3 o 0 j) (fun b => by fin_cases b <;> first | exact h.symm | rfl)).trans ?_
    pointwise []
  · rw [if_neg h]
    refine (concatenate_pair_apply_right (t := S2x4096x2048) (s₁ := S2x1x2048) (s₂ := S2x4095x2048) (1 : Fin 3) _ _ _ (ix3 o n j) rfl rfl (ix3 o ⟨n.val - 1, by omega⟩ j)
      (fun b hb => by fin_cases b <;> first | exact absurd rfl hb | rfl) (by show n.val - 1 + 1 = n.val; omega)).trans ?_
    pointwise []

theorem reverse_at (X : FVec Ideal S2x4095x2048 .f32) (o : Fin 2) (r : Fin 4095) (j : Fin 2048) :
    Host.reverse [1] X (ix3 o r j) = X (ix3 o ⟨4094 - r.val, by omega⟩ j) := by
  rw [Host.reverse_apply]
  have e : r.rev = ⟨4094 - r.val, by omega⟩ := Fin.ext (by simp only [Fin.val_rev]; omega)
  rw [← e]
  refine congrArg X (funext fun a => ?_)
  fin_cases a <;> rfl

/-- An entry of the kernels. -/
theorem joined_at (f g : FVec Ideal S2x4096x2048 .f32) (o : Fin 2) (p : Fin 8192) (j : Fin 2048) :
    joined f g (ix3 o p j) = if hp : p.val < 4096 then f (ix3 o ⟨p.val, hp⟩ j) else if hq : p.val = 4096 then 0
      else g (ix3 o ⟨8192 - p.val, by omega⟩ j) := by
  by_cases hp : p.val < 4096
  · rw [dif_pos hp]
    refine concatenate_apply_piece (t := S2x8192x2048) (1 : Fin 3) _ _ _ 0 (by simp) S2x4096x2048 f rfl rfl 0 rfl (ix3 o ⟨p.val, hp⟩ j) (fun b hb => ?_) ?_
    · fin_cases b <;> first | exact absurd rfl hb | rfl
    · show 0 + p.val = p.val; omega
  · rw [dif_neg hp]
    by_cases hq : p.val = 4096
    · rw [dif_pos hq]
      refine (concatenate_apply_piece (t := S2x8192x2048) (1 : Fin 3) _ _ _ 1 (by simp) S2x1x2048 _ rfl rfl 4096 rfl (ix3 o 0 j) (fun b hb => ?_) ?_).trans ?_
      · fin_cases b <;> first | exact absurd rfl hb | rfl
      · show 4096 + 0 = p.val; omega
      · pointwise []
    · rw [dif_neg hq]
      refine (concatenate_apply_piece (t := S2x8192x2048) (1 : Fin 3) _ _ _ 2 (by simp) S2x4095x2048 _ rfl rfl 4097 rfl
        (ix3 o ⟨p.val - 4097, by omega⟩ j) (fun b hb => ?_) ?_).trans ((reverse_at _ o _ j).trans ?_)
      · fin_cases b <;> first | exact absurd rfl hb | rfl
      · show 4097 + (p.val - 4097) = p.val; omega
      · pointwise []
        refine congrArg g ((ix3_inj ..).2 ⟨rfl, Fin.ext ?_, rfl⟩); dsimp only; omega

variable (m : (ℓ : Loc nD τ sig) → Buf (Elt Ideal) ℓ)

/-- The features, the weight and the skip factors the run begins with. -/
def HR (c : Dev nD) : FVec Ideal S4096x64 .f32 := m ((c : Thread nD τ).loc main_arg0)
def WR (c : Dev nD) : FVec Ideal S64x8192 .f32 := m ((c : Thread nD τ).loc main_arg1)
def BR (c : Dev nD) : FVec Ideal S2x2048 .f32 := m ((c : Thread nD τ).loc main_arg2)

theorem res_eq (c : Dev nD) : (res_out0 m c : FVec Ideal S2x8192x2048 .f32)
    = joined (addf (fwd (filters (HR m c) (WR m c) (windows times rates))) (skips (BR m c))) (bwd (filters (HR m c) (WR m c) (windows times rates))) := rfl

/-- The reference's array. -/
theorem ref_final (c : Dev nD) : (res_out0 m c : FVec Ideal S2x8192x2048 .f32)
    = fun i => TAPS (HR m c) (WR m c) (BR m c) rates (i 0) (i 1) (i 2) := by
  rw [res_eq]
  funext y
  idx_vars y
  rw [joined_at]
  show _ = TAPS (HR m c) (WR m c) (BR m c) rates y0 y1 y2
  rw [TAPS]
  split
  · rw [show ∀ (a b : FVec Ideal S2x4096x2048 .f32) i, addf a b i = (a i + b i : EReal) from fun _ _ _ => rfl, fwd_at, tap_at, skips_at]
  · split
    · rfl
    · rw [bwd_at, tap_at]

/-- The precondition says that every feature and every entry of the weight is a real number. -/
theorem real_of_pre [Cert.Pre_finite_filt.Facts] (h : FVec Ideal S4096x64 .f32) (w : FVec Ideal S64x8192 .f32) (b : FVec Ideal S2x2048 .f32)
    (e : (Cert.Pre_finite_filt.fn (F := Ideal) h w b).1 = (fun _ => 1#1) ∧ (Cert.Pre_finite_filt.fn (F := Ideal) h w b).2 = (fun _ => 1#1)) :
    Real' h ∧ Real' w :=
  ⟨fun i => Cert.Recur.real_of_cmp (congrFun e.1 i), fun i => Cert.Recur.real_of_cmp (congrFun e.2 i)⟩

/-- The kernel and the reference of the filters leave the same array. -/
theorem final_eq (mk : (ℓ : Loc Cert.FiltIdeal.nD Cert.FiltIdeal.τ Cert.FiltIdeal.sig) → Buf (Elt Ideal) ℓ)
    (c : Dev Cert.FiltIdeal.nD) (hh : Real' (Cert.FiltIdeal.Value.HF mk c)) (hw : Real' (Cert.FiltIdeal.Value.WF mk c))
    (eh : HR m c = Cert.FiltIdeal.Value.HF mk c) (ew : WR m c = Cert.FiltIdeal.Value.WF mk c) (eb : BR m c = Cert.FiltIdeal.Value.BF mk c) :
    (res_out0 m c : FVec Ideal S2x8192x2048 .f32) = (Cert.FiltIdeal.Gen.dats mk 0 c).arrAt 4 (Cert.FiltIdeal.cfgs 0).N := by
  refine (ref_final m c).trans ?_
  rw [eh, ew, eb]
  exact (Cert.FiltIdeal.Value.final mk c hh hw).symm

end Cert.FiltReferenceIdeal.Value

end
-- ==== Proof.LnValue.lean ====
/-
  The first layer norm: the array of normalised rows the router's call leaves is the layer norm of the scaled input and
  the mixer's output.
-/
module

public import proofs.«01_k».proof.Proof.Gen.LnIdeal.Value
public import proofs.«01_k».proof.Proof.Gen.LnReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## One row -/

namespace Cert.Norm

/-- The mean of a row of 4096 entries. -/
def mean (f : Fin 4096 → EReal) : EReal := Ideal.div (∑ x : Fin 4096, f x) (Ideal.ofBits .f32 0x45800000#32)

/-- An entry of the row `f` normalised, with its gain and its offset. -/
def norm (f : Fin 4096 → EReal) (g b : EReal) (j : Fin 4096) : EReal :=
  (f j - mean f) * Ideal.rsqrt (mean (fun x => (f x - mean f) * (f x - mean f)) + Ideal.ofBits .f32 0x3727C5AC#32) * g + b

/-- The row that is normalised: the input's, scaled, with the mixer's added. -/
def row (x y : Fin 4096 → EReal) (j : Fin 4096) : EReal := Ideal.ofBits .f32 0x3F9837F0#32 * x j + y j

end Cert.Norm

/-! ## The reference -/

namespace Cert.LnReferenceIdeal.Value

open Cert.LnReferenceIdeal Cert.LnReferenceIdeal.Gen Cert.Norm

/-- The rows that are normalised. -/
def rowsR (x : FVec Ideal S16384x4096 .f32) (y : FVec Ideal S16384x4096 .bf16) : FVec Ideal S16384x4096 .f32 :=
  addf (mulf (broadcastInDim S16384x4096 ![] bcast_S_S16384x4096 (constant S_ .f32 0x3F9837F0#32)) x) (extf .f32 y bitsLt_bf16_f32)

/-- The rows' means. -/
def meanR (f : FVec Ideal S16384x4096 .f32) : FVec Ideal S16384x1 .f32 :=
  Host.divf (broadcastInDim S16384x1 ![0] bcast_S16384_S16384x1_0
    (Host.reduceAdd f (constant S_ .f32 0x00000000#32) reducesTo_S16384x4096_S16384_d1 h_S_))
    (broadcastInDim S16384x1 ![] bcast_S_S16384x1 (constant S_ .f32 0x45800000#32))

/-- The rows without their means. -/
def centred (f : FVec Ideal S16384x4096 .f32) : FVec Ideal S16384x4096 .f32 :=
  subf f (broadcastInDim S16384x4096 ![0, 1] bcast_S16384x1_S16384x4096_0_1 (meanR f))

/-- Centred rows scaled by the inverse of their spread, with the gains and the offsets. -/
def scaled (d : FVec Ideal S16384x4096 .f32) (s : FVec Ideal S16384x1 .f32) (g b : FVec Ideal S4096 .f32) : FVec Ideal S16384x4096 .f32 :=
  addf (mulf (mulf d (broadcastInDim S16384x4096 ![0, 1] bcast_S16384x1_S16384x4096_0_1 (Host.rsqrt (addf s
      (broadcastInDim S16384x1 ![] bcast_S_S16384x1 (constant S_ .f32 0x3727C5AC#32))))))
    (broadcastInDim S16384x4096 ![0, 1] bcast_S1x4096_S16384x4096_0_1 (broadcastInDim S1x4096 ![1] bcast_S4096_S1x4096_1 g)))
    (broadcastInDim S16384x4096 ![0, 1] bcast_S1x4096_S16384x4096_0_1 (broadcastInDim S1x4096 ![1] bcast_S4096_S1x4096_1 b))

/-- The reference's own term. -/
def REF (x : FVec Ideal S16384x4096 .f32) (y : FVec Ideal S16384x4096 .bf16) (g b : FVec Ideal S4096 .f32) : FVec Ideal S16384x4096 .f32 :=
  scaled (centred (rowsR x y)) (meanR (mulf (centred (rowsR x y)) (centred (rowsR x y)))) g b

theorem rowsR_at (x : FVec Ideal S16384x4096 .f32) (y : FVec Ideal S16384x4096 .bf16) (r : Fin 16384) (j : Fin 4096) :
    rowsR x y (ix2 r j) = row (fun k => x (ix2 r k)) (fun k => y (ix2 r k)) j := by
  pointwise [rowsR]
  rfl

theorem meanR_at (f : FVec Ideal S16384x4096 .f32) (r : Fin 16384) : meanR f (ix2 r 0) = mean fun x => f (ix2 r x) := by
  pointwise [meanR]
  rfl

theorem centred_at (f : FVec Ideal S16384x4096 .f32) (r : Fin 16384) (j : Fin 4096) :
    centred f (ix2 r j) = f (ix2 r j) - mean fun x => f (ix2 r x) := by
  rw [← meanR_at, centred]
  generalize meanR f = g
  pointwise []

theorem scaled_at (d : FVec Ideal S16384x4096 .f32) (s : FVec Ideal S16384x1 .f32) (g b : FVec Ideal S4096 .f32) (r : Fin 16384) (j : Fin 4096) :
    scaled d s g b (ix2 r j) = d (ix2 r j) * Ideal.rsqrt (s (ix2 r 0) + Ideal.ofBits .f32 0x3727C5AC#32) * g (ix1 j) + b (ix1 j) := by
  pointwise [scaled]

theorem squared_at (d : FVec Ideal S16384x4096 .f32) (r : Fin 16384) (j : Fin 4096) :
    (mulf d d : FVec Ideal S16384x4096 .f32) (ix2 r j) = d (ix2 r j) * d (ix2 r j) := by
  pointwise []

/-- An entry of the reference's term. -/
theorem REF_at (x : FVec Ideal S16384x4096 .f32) (y : FVec Ideal S16384x4096 .bf16) (g b : FVec Ideal S4096 .f32) (r : Fin 16384) (j : Fin 4096) :
    REF x y g b (ix2 r j) = norm (row (fun k => x (ix2 r k)) fun k => y (ix2 r k)) (g (ix1 j)) (b (ix1 j)) j := by
  rw [REF, scaled_at, meanR_at]
  simp only [squared_at, centred_at, rowsR_at]
  rfl

end Cert.LnReferenceIdeal.Value

/-! ## The kernel -/

namespace Cert.LnIdeal.Value

open Cert.LnIdeal Cert.LnIdeal.Gen Cert.Norm

variable (m : (ℓ : Loc nD τ sig) → Buf (Elt Ideal) ℓ)

/-- The windows' block indices. -/
theorem idx : ∀ t : Fin cfg0.N, win0_0.index t = ![t.val, 0] ∧ win0_1.index t = ![t.val, 0] ∧ win0_2.index t = ![0, 0] ∧
    win0_3.index t = ![0, 0] ∧ win0_7.index t = ![t.val, 0] :=
  (by decide +kernel : ∀ t : Fin grid0.N, _)

theorem x_eq (c : Dev nD) : V m c main_arg0 = m ((c : Thread nD τ).loc main_arg0) := by
  entry_read
  rfl

theorem y_eq (c : Dev nD) : V m c main_arg1 = m ((c : Thread nD τ).loc main_arg1) := by
  entry_read
  rfl

theorem g_eq (c : Dev nD) : V m c main_v10
    = shapeCast S1x4096 (m ((c : Thread nD τ).loc main_arg2) : FVec Ideal S4096 .f32) shapeCasts_S4096_S1x4096 := by
  entry_read
  rfl

theorem b_eq (c : Dev nD) : V m c main_v11
    = shapeCast S1x4096 (m ((c : Thread nD τ).loc main_arg3) : FVec Ideal S4096 .f32) shapeCasts_S4096_S1x4096 := by
  entry_read
  rfl

theorem vec_at (g : FVec Ideal S4096 .f32) (j : Fin 4096) :
    (shapeCast S1x4096 g shapeCasts_S4096_S1x4096 : FVec Ideal S1x4096 .f32) (ix2 0 j) = g (ix1 j) := by
  pointwise []

/-- Where an entry of a block of the result sits. -/
theorem out_at (t : Fin cfg0.N) (r : Fin 256) (j : Fin 4096) : ((cfg0.win 7).blk t).view.emb (ix2 r j : S256x4096.Idx)
    = (ix2 ⟨t.val * 256 + r.val, by have := t.isLt; have : cfg0.N = 64 := rfl; omega⟩ j : S16384x4096.Idx) := by
  blk_ext [idx t]

theorem in0_at (c : Dev nD) (t : Fin cfg0.N) (r : Fin 256) (j : Fin 4096) : (iblk m c 0 t : FVec Ideal S256x4096 .f32) (ix2 r j)
    = (V m c main_arg0 : FVec Ideal S16384x4096 .f32) (ix2 ⟨t.val * 256 + r.val, by have := t.isLt; have : cfg0.N = 64 := rfl; omega⟩ j) := by
  blk_ext [iblk, idx t]

theorem in1_at (c : Dev nD) (t : Fin cfg0.N) (r : Fin 256) (j : Fin 4096) : (iblk m c 1 t : FVec Ideal S256x4096 .bf16) (ix2 r j)
    = (V m c main_arg1 : FVec Ideal S16384x4096 .bf16) (ix2 ⟨t.val * 256 + r.val, by have := t.isLt; have : cfg0.N = 64 := rfl; omega⟩ j) := by
  blk_ext [iblk, idx t]

theorem in2_at (c : Dev nD) (t : Fin cfg0.N) (j : Fin 4096) : (iblk m c 2 t : FVec Ideal S1x4096 .f32) (ix2 0 j)
    = (V m c main_v10 : FVec Ideal S1x4096 .f32) (ix2 0 j) := by
  blk_ext [iblk, idx t]

theorem in3_at (c : Dev nD) (t : Fin cfg0.N) (j : Fin 4096) : (iblk m c 3 t : FVec Ideal S1x4096 .f32) (ix2 0 j)
    = (V m c main_v11 : FVec Ideal S1x4096 .f32) (ix2 0 j) := by
  blk_ext [iblk, idx t]

/-- What a step stores of its block: the rows normalised. -/
theorem stored_at (x : Vec Ideal S256x4096 .f32) (y : Vec Ideal S256x4096 .bf16) (g b : Vec Ideal S1x4096 .f32) (r : Fin 256) (j : Fin 4096) :
    k0_pay4 x y g b (ix2 r j) = norm (row (fun k => x (ix2 r k)) fun k => y (ix2 r k)) (g (ix2 0 j)) (b (ix2 0 j)) j := by
  pointwise [k0_pay4]
  rfl

/-- What a step stores is the reference's entry at the array index. -/
theorem point (c : Dev nD) (t : Fin cfg0.N) (r : Fin 256) (j : Fin 4096) :
    k0_pay4 (iblk m c 0 t) (iblk m c 1 t) (iblk m c 2 t) (iblk m c 3 t) (ix2 r j)
    = Cert.LnReferenceIdeal.Value.REF (m ((c : Thread nD τ).loc main_arg0)) (m ((c : Thread nD τ).loc main_arg1))
        (m ((c : Thread nD τ).loc main_arg2)) (m ((c : Thread nD τ).loc main_arg3))
        (ix2 ⟨t.val * 256 + r.val, by have := t.isLt; have : cfg0.N = 64 := rfl; omega⟩ j) := by
  rw [stored_at, Cert.LnReferenceIdeal.Value.REF_at, in2_at, in3_at, g_eq, b_eq, vec_at, vec_at]
  simp only [in0_at, in1_at]
  rw [x_eq, y_eq]

/-- What is left of the step's block of rows. -/
theorem left_at (c : Dev nD) (t : Fin cfg0.N) : (outsAt0 m c t.val t.isLt).1
    = k0_pay4 (iblk m c 0 t) (iblk m c 1 t) (iblk m c 2 t) (iblk m c 3 t) := by
  by_cases e0 : t.val % 64 = 0
  · rw [outsAt0_A m c t e0]
    frame_out
  · rw [outsAt0_B m c t e0]
    generalize outsAt0 m c (t.val - 1) _ = zz
    frame_out

/-- The array after the run. -/
theorem final (c : Dev nD) : (dats m 0 c).arrAt 7 (cfgs 0).N
    = Cert.LnReferenceIdeal.Value.REF (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  blk_simp
  rw [after0_7, left_at]
  idx_vars y
  rw [out_at t y0 y1]
  exact point m c t y0 y1

end Cert.LnIdeal.Value

end
-- ==== Proof.HyValue.lean ====
/-
  The projection onto the long-convolution branch's columns: the array the kernel leaves is the product of the input rows
  with the first 6144 columns of the combined weight, which is what the reference slices out of the whole product.
-/
module

public import proofs.«01_k».proof.Proof.Gen.HyIdeal.Value
public import proofs.«01_k».proof.Proof.Gen.HyReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HyIdeal.Value

open Cert.HyIdeal Cert.HyIdeal.Gen

variable (m : (ℓ : Loc nD τ sig) → Buf (Elt Ideal) ℓ)

/-- The reference's own term: the whole product, its leading columns, laid out as rows. -/
def REF (X : FVec Ideal Cert.HyReferenceIdeal.S4x4096x4096 .f32) (W : FVec Ideal Cert.HyReferenceIdeal.S4096x20512 .f32) :
    FVec Ideal Cert.HyReferenceIdeal.S16384x6144 .f32 :=
  shapeCast _ (extractStridedSlice Cert.HyReferenceIdeal.S4x4096x6144 ![0, 0, 0]
    (Host.dotGeneral Cert.HyReferenceIdeal.dot_S4x4096x4096_S4096x20512_S4x4096x20512_2_0_01_1_n_n none X W)
    Cert.HyReferenceIdeal.Gen.slices_S4x4096x20512_S4x4096x6144_0_0_0)
    Cert.HyReferenceIdeal.Gen.shapeCasts_S4x4096x6144_S16384x6144

/-- The windows' block indices. -/
theorem idx : ∀ t : Fin cfg0.N, win0_0.index t = ![t.val / 12, 0] ∧ win0_1.index t = ![0, t.val % 12] ∧
    win0_2.index t = ![t.val / 12, t.val % 12] :=
  (by decide +kernel : ∀ t : Fin grid0.N, _)

/-- The rows the region reads: the input, its leading axes joined. -/
def rowsOf (X : FVec Ideal S4x4096x4096 .f32) : FVec Ideal S16384x4096 .bf16 :=
  truncf .bf16 (shapeCast S16384x4096 X shapeCasts_S4x4096x4096_S16384x4096) bitsLt_bf16_f32

/-- The columns the region reads: a slice of the combined weight. -/
def colsOf (W : FVec Ideal S4096x20512 .f32) : FVec Ideal S4096x6144 .bf16 :=
  truncf .bf16 (extractStridedSlice S4096x6144 ![0, 0] W slices_S4096x20512_S4096x6144_0_0) bitsLt_bf16_f32

theorem rows_eq (c : Dev nD) : V m c main_v1 = rowsOf (m ((c : Thread nD τ).loc main_arg0)) := by
  entry_read
  rfl

theorem cols_eq (c : Dev nD) : V m c main_v3 = colsOf (m ((c : Thread nD τ).loc main_arg1)) := by
  entry_read
  rfl

/-- An entry of the rows. -/
theorem rows_at (X : FVec Ideal S4x4096x4096 .f32) (r : Fin 16384) (k : Fin 4096) :
    rowsOf X (ix2 r k) = X (ix3 ⟨r.val / 4096, by omega⟩ ⟨r.val % 4096, by omega⟩ k) := by
  pointwise [rowsOf]

/-- An entry of the columns. -/
theorem cols_at (W : FVec Ideal S4096x20512 .f32) (k : Fin 4096) (j : Fin 6144) :
    colsOf W (ix2 k j) = W (ix2 k ⟨j.val, by omega⟩) := by
  pointwise [colsOf]

/-- An entry of the reference's term. -/
theorem REF_at (X : FVec Ideal Cert.HyReferenceIdeal.S4x4096x4096 .f32) (W : FVec Ideal Cert.HyReferenceIdeal.S4096x20512 .f32)
    (r : Fin 16384) (j : Fin 6144) : REF X W (ix2 r j)
      = ∑ k : Fin 4096, X (ix3 ⟨r.val / 4096, by omega⟩ ⟨r.val % 4096, by omega⟩ k) * W (ix2 k ⟨j.val, by omega⟩) := by
  pointwise [REF]

/-- Where an entry of a block of the result sits. -/
theorem out_at (t : Fin cfg0.N) (r : Fin 1024) (j : Fin 512) : ((cfg0.win 2).blk t).view.emb (ix2 r j : S1024x512.Idx)
    = (ix2 ⟨t.val / 12 * 1024 + r.val, by have := t.isLt; have : cfg0.N = 192 := rfl; omega⟩ ⟨t.val % 12 * 512 + j.val, by omega⟩ : S16384x6144.Idx) := by
  blk_ext [idx t]

/-- An entry of a block of rows. -/
theorem in0_at (c : Dev nD) (t : Fin cfg0.N) (r : Fin 1024) (k : Fin 4096) :
    (iblk m c 0 t : FVec Ideal S1024x4096 .bf16) (ix2 r k)
      = (V m c main_v1 : FVec Ideal S16384x4096 .bf16) (ix2 ⟨t.val / 12 * 1024 + r.val, by have := t.isLt; have : cfg0.N = 192 := rfl; omega⟩ k) := by
  blk_ext [iblk, idx t]

/-- An entry of a block of columns. -/
theorem in1_at (c : Dev nD) (t : Fin cfg0.N) (k : Fin 4096) (j : Fin 512) :
    (iblk m c 1 t : FVec Ideal S4096x512 .bf16) (ix2 k j)
      = (V m c main_v3 : FVec Ideal S4096x6144 .bf16) (ix2 k ⟨t.val % 12 * 512 + j.val, by omega⟩) := by
  blk_ext [iblk, idx t]

/-- What the body stores at a block index is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  rw [out_at t y0 y1, REF_at]
  pointwise [k0_pay1]
  refine Finset.sum_congr rfl fun k _ => ?_
  rw [in0_at, in1_at, rows_eq, rows_at, cols_eq, cols_at]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.HyIdeal.Value

end
-- ==== Proof.MlValue.lean ====
/-
  The projection onto the recurrent mixer's columns (queries, keys, values, output gate): the array the kernel leaves is the
  product of the input rows with columns 6144 to 12287 of the combined weight, which the reference slices out of the whole product.
-/
module

public import proofs.«01_k».proof.Proof.Gen.MlIdeal.Value
public import proofs.«01_k».proof.Proof.Gen.MlReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlIdeal.Value

open Cert.MlIdeal Cert.MlIdeal.Gen

variable (m : (ℓ : Loc nD τ sig) → Buf (Elt Ideal) ℓ)

/-- The reference's own term: the whole product, its columns from 6144 on, laid out as rows. -/
def REF (X : FVec Ideal Cert.MlReferenceIdeal.S4x4096x4096 .f32) (W : FVec Ideal Cert.MlReferenceIdeal.S4096x20512 .f32) :
    FVec Ideal Cert.MlReferenceIdeal.S16384x6144 .bf16 :=
  truncf .bf16 (shapeCast _ (extractStridedSlice Cert.MlReferenceIdeal.S4x4096x6144 ![0, 0, 6144]
    (Host.dotGeneral Cert.MlReferenceIdeal.dot_S4x4096x4096_S4096x20512_S4x4096x20512_2_0_01_1_n_n none X W)
    Cert.MlReferenceIdeal.Gen.slices_S4x4096x20512_S4x4096x6144_0_0_6144)
    Cert.MlReferenceIdeal.Gen.shapeCasts_S4x4096x6144_S16384x6144) Cert.MlReferenceIdeal.Gen.bitsLt_bf16_f32

/-- The windows' block indices. -/
theorem idx : ∀ t : Fin cfg0.N, win0_0.index t = ![t.val / 12, 0] ∧ win0_1.index t = ![0, t.val % 12] ∧
    win0_2.index t = ![t.val / 12, t.val % 12] :=
  (by decide +kernel : ∀ t : Fin grid0.N, _)

/-- The rows the region reads: the input, its leading axes joined. -/
def rowsOf (X : FVec Ideal S4x4096x4096 .f32) : FVec Ideal S16384x4096 .bf16 :=
  truncf .bf16 (shapeCast S16384x4096 X shapeCasts_S4x4096x4096_S16384x4096) bitsLt_bf16_f32

/-- The columns the region reads: a slice of the combined weight. -/
def colsOf (W : FVec Ideal S4096x20512 .f32) : FVec Ideal S4096x6144 .bf16 :=
  truncf .bf16 (extractStridedSlice S4096x6144 ![0, 6144] W slices_S4096x20512_S4096x6144_0_6144) bitsLt_bf16_f32

theorem rows_eq (c : Dev nD) : V m c main_v1 = rowsOf (m ((c : Thread nD τ).loc main_arg0)) := by
  entry_read
  rfl

theorem cols_eq (c : Dev nD) : V m c main_v3 = colsOf (m ((c : Thread nD τ).loc main_arg1)) := by
  entry_read
  rfl

/-- An entry of the rows. -/
theorem rows_at (X : FVec Ideal S4x4096x4096 .f32) (r : Fin 16384) (k : Fin 4096) :
    rowsOf X (ix2 r k) = X (ix3 ⟨r.val / 4096, by omega⟩ ⟨r.val % 4096, by omega⟩ k) := by
  pointwise [rowsOf]

/-- An entry of the columns. -/
theorem cols_at (W : FVec Ideal S4096x20512 .f32) (k : Fin 4096) (j : Fin 6144) :
    colsOf W (ix2 k j) = W (ix2 k ⟨6144 + j.val, by omega⟩) := by
  pointwise [colsOf]

/-- An entry of the reference's term. -/
theorem REF_at (X : FVec Ideal Cert.MlReferenceIdeal.S4x4096x4096 .f32) (W : FVec Ideal Cert.MlReferenceIdeal.S4096x20512 .f32)
    (r : Fin 16384) (j : Fin 6144) : REF X W (ix2 r j)
      = ∑ k : Fin 4096, X (ix3 ⟨r.val / 4096, by omega⟩ ⟨r.val % 4096, by omega⟩ k) * W (ix2 k ⟨6144 + j.val, by omega⟩) := by
  pointwise [REF]

/-- Where an entry of a block of the result sits. -/
theorem out_at (t : Fin cfg0.N) (r : Fin 1024) (j : Fin 512) : ((cfg0.win 2).blk t).view.emb (ix2 r j : S1024x512.Idx)
    = (ix2 ⟨t.val / 12 * 1024 + r.val, by have := t.isLt; have : cfg0.N = 192 := rfl; omega⟩ ⟨t.val % 12 * 512 + j.val, by omega⟩ : S16384x6144.Idx) := by
  blk_ext [idx t]

/-- An entry of a block of rows. -/
theorem in0_at (c : Dev nD) (t : Fin cfg0.N) (r : Fin 1024) (k : Fin 4096) :
    (iblk m c 0 t : FVec Ideal S1024x4096 .bf16) (ix2 r k)
      = (V m c main_v1 : FVec Ideal S16384x4096 .bf16) (ix2 ⟨t.val / 12 * 1024 + r.val, by have := t.isLt; have : cfg0.N = 192 := rfl; omega⟩ k) := by
  blk_ext [iblk, idx t]

/-- An entry of a block of columns. -/
theorem in1_at (c : Dev nD) (t : Fin cfg0.N) (k : Fin 4096) (j : Fin 512) :
    (iblk m c 1 t : FVec Ideal S4096x512 .bf16) (ix2 k j)
      = (V m c main_v3 : FVec Ideal S4096x6144 .bf16) (ix2 k ⟨t.val % 12 * 512 + j.val, by omega⟩) := by
  blk_ext [iblk, idx t]

/-- What the body stores at a block index is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  rw [out_at t y0 y1, REF_at]
  pointwise [k0_pay1]
  refine Finset.sum_congr rfl fun k _ => ?_
  rw [in0_at, in1_at, rows_eq, rows_at, cols_eq, cols_at]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MlIdeal.Value

end
-- ==== Proof.GtValue.lean ====
/-
  The projection onto the merge gates' columns: the array the kernel leaves is the product of the input rows with the last
  8192 columns of the combined weight, which the reference slices out of the whole product.
-/
module

public import proofs.«01_k».proof.Proof.Gen.GtIdeal.Value
public import proofs.«01_k».proof.Proof.Gen.GtReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GtIdeal.Value

open Cert.GtIdeal Cert.GtIdeal.Gen

variable (m : (ℓ : Loc nD τ sig) → Buf (Elt Ideal) ℓ)

/-- The reference's own term: the whole product, its columns from 12320 on, laid out as rows. -/
def REF (X : FVec Ideal Cert.GtReferenceIdeal.S4x4096x4096 .f32) (W : FVec Ideal Cert.GtReferenceIdeal.S4096x20512 .f32) :
    FVec Ideal Cert.GtReferenceIdeal.S16384x8192 .bf16 :=
  truncf .bf16 (shapeCast _ (extractStridedSlice Cert.GtReferenceIdeal.S4x4096x8192 ![0, 0, 12320]
    (Host.dotGeneral Cert.GtReferenceIdeal.dot_S4x4096x4096_S4096x20512_S4x4096x20512_2_0_01_1_n_n none X W)
    Cert.GtReferenceIdeal.Gen.slices_S4x4096x20512_S4x4096x8192_0_0_12320)
    Cert.GtReferenceIdeal.Gen.shapeCasts_S4x4096x8192_S16384x8192) Cert.GtReferenceIdeal.Gen.bitsLt_bf16_f32

/-- The windows' block indices. -/
theorem idx : ∀ t : Fin cfg0.N, win0_0.index t = ![t.val / 16, 0] ∧ win0_1.index t = ![0, t.val % 16] ∧
    win0_2.index t = ![t.val / 16, t.val % 16] :=
  (by decide +kernel : ∀ t : Fin grid0.N, _)

/-- The rows the region reads: the input, its leading axes joined. -/
def rowsOf (X : FVec Ideal S4x4096x4096 .f32) : FVec Ideal S16384x4096 .bf16 :=
  truncf .bf16 (shapeCast S16384x4096 X shapeCasts_S4x4096x4096_S16384x4096) bitsLt_bf16_f32

/-- The columns the region reads: a slice of the combined weight. -/
def colsOf (W : FVec Ideal S4096x20512 .f32) : FVec Ideal S4096x8192 .bf16 :=
  truncf .bf16 (extractStridedSlice S4096x8192 ![0, 12320] W slices_S4096x20512_S4096x8192_0_12320) bitsLt_bf16_f32

theorem rows_eq (c : Dev nD) : V m c main_v1 = rowsOf (m ((c : Thread nD τ).loc main_arg0)) := by
  entry_read
  rfl

theorem cols_eq (c : Dev nD) : V m c main_v3 = colsOf (m ((c : Thread nD τ).loc main_arg1)) := by
  entry_read
  rfl

/-- An entry of the rows. -/
theorem rows_at (X : FVec Ideal S4x4096x4096 .f32) (r : Fin 16384) (k : Fin 4096) :
    rowsOf X (ix2 r k) = X (ix3 ⟨r.val / 4096, by omega⟩ ⟨r.val % 4096, by omega⟩ k) := by
  pointwise [rowsOf]

/-- An entry of the columns. -/
theorem cols_at (W : FVec Ideal S4096x20512 .f32) (k : Fin 4096) (j : Fin 8192) :
    colsOf W (ix2 k j) = W (ix2 k ⟨12320 + j.val, by omega⟩) := by
  pointwise [colsOf]

/-- An entry of the reference's term. -/
theorem REF_at (X : FVec Ideal Cert.GtReferenceIdeal.S4x4096x4096 .f32) (W : FVec Ideal Cert.GtReferenceIdeal.S4096x20512 .f32)
    (r : Fin 16384) (j : Fin 8192) : REF X W (ix2 r j)
      = ∑ k : Fin 4096, X (ix3 ⟨r.val / 4096, by omega⟩ ⟨r.val % 4096, by omega⟩ k) * W (ix2 k ⟨12320 + j.val, by omega⟩) := by
  pointwise [REF]

/-- Where an entry of a block of the result sits. -/
theorem out_at (t : Fin cfg0.N) (r : Fin 1024) (j : Fin 512) : ((cfg0.win 2).blk t).view.emb (ix2 r j : S1024x512.Idx)
    = (ix2 ⟨t.val / 16 * 1024 + r.val, by have := t.isLt; have : cfg0.N = 256 := rfl; omega⟩ ⟨t.val % 16 * 512 + j.val, by omega⟩ : S16384x8192.Idx) := by
  blk_ext [idx t]

/-- An entry of a block of rows. -/
theorem in0_at (c : Dev nD) (t : Fin cfg0.N) (r : Fin 1024) (k : Fin 4096) :
    (iblk m c 0 t : FVec Ideal S1024x4096 .bf16) (ix2 r k)
      = (V m c main_v1 : FVec Ideal S16384x4096 .bf16) (ix2 ⟨t.val / 16 * 1024 + r.val, by have := t.isLt; have : cfg0.N = 256 := rfl; omega⟩ k) := by
  blk_ext [iblk, idx t]

/-- An entry of a block of columns. -/
theorem in1_at (c : Dev nD) (t : Fin cfg0.N) (k : Fin 4096) (j : Fin 512) :
    (iblk m c 1 t : FVec Ideal S4096x512 .bf16) (ix2 k j)
      = (V m c main_v3 : FVec Ideal S4096x8192 .bf16) (ix2 k ⟨t.val % 16 * 512 + j.val, by omega⟩) := by
  blk_ext [iblk, idx t]

/-- What the body stores at a block index is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  rw [out_at t y0 y1, REF_at]
  pointwise [k0_pay1]
  refine Finset.sum_congr rfl fun k _ => ?_
  rw [in0_at, in1_at, rows_eq, rows_at, cols_eq, cols_at]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GtIdeal.Value

end
-- ==== Proof.MergeValue.lean ====
/-
  The gated merge: the array the kernel leaves is, entry by entry, the sigmoid-gated sum of the two branches' products, which
  is the reference's.
-/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- The reference's own term: each branch's product under its sigmoid gate, summed and laid out as rows. -/
def REF (A B : FVec Ideal Cert.MergeReferenceIdeal.S4x4096x2048 .f32) (PA PB : FVec Ideal Cert.MergeReferenceIdeal.S2048x4096 .f32)
    (G : FVec Ideal Cert.MergeReferenceIdeal.S4x4096x8192 .f32) : FVec Ideal Cert.MergeReferenceIdeal.S16384x4096 .bf16 :=
  truncf .bf16 (shapeCast _ (addf
    (mulf (Host.divf (broadcastInDim Cert.MergeReferenceIdeal.S4x4096x4096 ![] Cert.MergeReferenceIdeal.Gen.bcast_S_S4x4096x4096 (constant Cert.MergeReferenceIdeal.S_ .f32 0x3F800000#32))
        (addf (broadcastInDim Cert.MergeReferenceIdeal.S4x4096x4096 ![] Cert.MergeReferenceIdeal.Gen.bcast_S_S4x4096x4096 (constant Cert.MergeReferenceIdeal.S_ .f32 0x3F800000#32))
          (Host.exp (Host.negf (extractStridedSlice Cert.MergeReferenceIdeal.S4x4096x4096 ![0, 0, 0] G Cert.MergeReferenceIdeal.Gen.slices_S4x4096x8192_S4x4096x4096_0_0_0)))))
      (Host.dotGeneral Cert.MergeReferenceIdeal.dot_S4x4096x2048_S2048x4096_S4x4096x4096_2_0_01_1_n_n none A PA))
    (mulf (Host.divf (broadcastInDim Cert.MergeReferenceIdeal.S4x4096x4096 ![] Cert.MergeReferenceIdeal.Gen.bcast_S_S4x4096x4096 (constant Cert.MergeReferenceIdeal.S_ .f32 0x3F800000#32))
        (addf (broadcastInDim Cert.MergeReferenceIdeal.S4x4096x4096 ![] Cert.MergeReferenceIdeal.Gen.bcast_S_S4x4096x4096 (constant Cert.MergeReferenceIdeal.S_ .f32 0x3F800000#32))
          (Host.exp (Host.negf (extractStridedSlice Cert.MergeReferenceIdeal.S4x4096x4096 ![0, 0, 4096] G Cert.MergeReferenceIdeal.Gen.slices_S4x4096x8192_S4x4096x4096_0_0_4096)))))
      (Host.dotGeneral Cert.MergeReferenceIdeal.dot_S4x4096x2048_S2048x4096_S4x4096x4096_2_0_01_1_n_n none B PB)))
    Cert.MergeReferenceIdeal.Gen.shapeCasts_S4x4096x4096_S16384x4096) Cert.MergeReferenceIdeal.Gen.bitsLt_bf16_f32

/-- The windows' block indices. -/
theorem idx : ∀ t : Fin cfg0.N, win0_0.index t = ![t.val / 8, 0] ∧ win0_1.index t = ![t.val / 8, 0] ∧ win0_2.index t = ![0, t.val % 8] ∧
    win0_3.index t = ![0, t.val % 8] ∧ win0_4.index t = ![t.val / 8, t.val % 8] ∧ win0_5.index t = ![t.val / 8, 8 + t.val % 8] ∧
    win0_6.index t = ![t.val / 8, t.val % 8] :=
  (by decide +kernel : ∀ t : Fin grid0.N, _)

/-- A branch's rows, its leading axes joined. -/
def rowsOf (X : FVec Ideal S4x4096x2048 .f32) : FVec Ideal S16384x2048 .bf16 :=
  truncf .bf16 (shapeCast S16384x2048 X shapeCasts_S4x4096x2048_S16384x2048) bitsLt_bf16_f32

/-- The gates' rows. -/
def gatesOf (X : FVec Ideal S4x4096x8192 .f32) : FVec Ideal S16384x8192 .bf16 :=
  truncf .bf16 (shapeCast S16384x8192 X shapeCasts_S4x4096x8192_S16384x8192) bitsLt_bf16_f32

theorem hy_eq (c : Dev nD) : V m c main_v1 = rowsOf (m ((c : Thread nD τ).loc main_arg0)) := by
  entry_read
  rfl

theorem ml_eq (c : Dev nD) : V m c main_v3 = rowsOf (m ((c : Thread nD τ).loc main_arg1)) := by
  entry_read
  rfl

theorem phy_eq (c : Dev nD) : V m c main_v4 = (m ((c : Thread nD τ).loc main_arg2) : FVec Ideal S2048x4096 .f32) := by
  entry_read
  rfl

theorem pml_eq (c : Dev nD) : V m c main_v5 = (m ((c : Thread nD τ).loc main_arg3) : FVec Ideal S2048x4096 .f32) := by
  entry_read
  rfl

theorem gates_eq (c : Dev nD) : V m c main_v7 = gatesOf (m ((c : Thread nD τ).loc main_arg4)) := by
  entry_read
  rfl

/-- An entry of a branch's rows. -/
theorem rows_at (X : FVec Ideal S4x4096x2048 .f32) (r : Fin 16384) (k : Fin 2048) :
    rowsOf X (ix2 r k) = X (ix3 ⟨r.val / 4096, by omega⟩ ⟨r.val % 4096, by omega⟩ k) := by
  pointwise [rowsOf]

/-- An entry of the gates' rows. -/
theorem gates_at (X : FVec Ideal S4x4096x8192 .f32) (r : Fin 16384) (k : Fin 8192) :
    gatesOf X (ix2 r k) = X (ix3 ⟨r.val / 4096, by omega⟩ ⟨r.val % 4096, by omega⟩ k) := by
  pointwise [gatesOf]

/-- Where an entry of a block of the result sits. -/
theorem out_at (t : Fin cfg0.N) (r : Fin 1024) (j : Fin 512) : ((cfg0.win 6).blk t).view.emb (ix2 r j : S1024x512.Idx)
    = (ix2 ⟨t.val / 8 * 1024 + r.val, by have := t.isLt; have : cfg0.N = 128 := rfl; omega⟩ ⟨t.val % 8 * 512 + j.val, by omega⟩ : S16384x4096.Idx) := by
  blk_ext [idx t]

theorem in0_at (c : Dev nD) (t : Fin cfg0.N) (r : Fin 1024) (k : Fin 2048) :
    (iblk m c 0 t : FVec Ideal S1024x2048 .bf16) (ix2 r k)
      = (V m c main_v1 : FVec Ideal S16384x2048 .bf16) (ix2 ⟨t.val / 8 * 1024 + r.val, by have := t.isLt; have : cfg0.N = 128 := rfl; omega⟩ k) := by
  blk_ext [iblk, idx t]

theorem in1_at (c : Dev nD) (t : Fin cfg0.N) (r : Fin 1024) (k : Fin 2048) :
    (iblk m c 1 t : FVec Ideal S1024x2048 .bf16) (ix2 r k)
      = (V m c main_v3 : FVec Ideal S16384x2048 .bf16) (ix2 ⟨t.val / 8 * 1024 + r.val, by have := t.isLt; have : cfg0.N = 128 := rfl; omega⟩ k) := by
  blk_ext [iblk, idx t]

theorem in2_at (c : Dev nD) (t : Fin cfg0.N) (k : Fin 2048) (j : Fin 512) :
    (iblk m c 2 t : FVec Ideal S2048x512 .bf16) (ix2 k j)
      = (V m c main_v4 : FVec Ideal S2048x4096 .bf16) (ix2 k ⟨t.val % 8 * 512 + j.val, by omega⟩) := by
  blk_ext [iblk, idx t]

theorem in3_at (c : Dev nD) (t : Fin cfg0.N) (k : Fin 2048) (j : Fin 512) :
    (iblk m c 3 t : FVec Ideal S2048x512 .bf16) (ix2 k j)
      = (V m c main_v5 : FVec Ideal S2048x4096 .bf16) (ix2 k ⟨t.val % 8 * 512 + j.val, by omega⟩) := by
  blk_ext [iblk, idx t]

theorem in4_at (c : Dev nD) (t : Fin cfg0.N) (r : Fin 1024) (j : Fin 512) :
    (iblk m c 4 t : FVec Ideal S1024x512 .bf16) (ix2 r j) = (V m c main_v7 : FVec Ideal S16384x8192 .bf16)
      (ix2 ⟨t.val / 8 * 1024 + r.val, by have := t.isLt; have : cfg0.N = 128 := rfl; omega⟩ ⟨t.val % 8 * 512 + j.val, by omega⟩) := by
  blk_ext [iblk, idx t]

theorem in5_at (c : Dev nD) (t : Fin cfg0.N) (r : Fin 1024) (j : Fin 512) :
    (iblk m c 5 t : FVec Ideal S1024x512 .bf16) (ix2 r j) = (V m c main_v7 : FVec Ideal S16384x8192 .bf16)
      (ix2 ⟨t.val / 8 * 1024 + r.val, by have := t.isLt; have : cfg0.N = 128 := rfl; omega⟩ ⟨4096 + (t.val % 8 * 512 + j.val), by omega⟩) := by
  blk_ext [iblk, idx t]

/-- What the body stores at a block index is the reference's term at the array index. -/
theorem point (c : Dev nD) (t : Fin cfg0.N) (y) :
    k0_pay1 (iblk m c 0 t) (iblk m c 2 t) (iblk m c 1 t) (iblk m c 3 t) (iblk m c 4 t) (iblk m c 5 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  idx_vars y
  rw [out_at t y0 y1]
  pointwise [k0_pay1, REF]
  rw [in4_at, in5_at, gates_eq, gates_at, gates_at]
  refine Ideal.add_congr (Ideal.mul_congr rfl (Finset.sum_congr rfl fun k _ => ?_)) (Ideal.mul_congr rfl (Finset.sum_congr rfl fun k _ => ?_))
  · rw [in0_at, in2_at, hy_eq, rows_at, phy_eq]
  · rw [in1_at, in3_at, ml_eq, rows_at, pml_eq]

/-- The array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MergeIdeal.Value

end
-- ==== Proof.OutValue.lean ====
/-
  The output projection: the array the kernel leaves is the product of the merged rows with the output weight.
-/
module

public import proofs.«01_k».proof.Proof.Gen.OutIdeal.Value
public import proofs.«01_k».proof.Proof.Gen.OutReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The reference's own term: the product, laid out as rows. -/
def REF (X : FVec Ideal Cert.OutReferenceIdeal.S4x4096x4096 .f32) (W : FVec Ideal Cert.OutReferenceIdeal.S4096x4096 .f32) :
    FVec Ideal Cert.OutReferenceIdeal.S16384x4096 .bf16 :=
  truncf .bf16 (shapeCast _ (Host.dotGeneral Cert.OutReferenceIdeal.dot_S4x4096x4096_S4096x4096_S4x4096x4096_2_0_01_1_n_n none X W)
    Cert.OutReferenceIdeal.Gen.shapeCasts_S4x4096x4096_S16384x4096) Cert.OutReferenceIdeal.Gen.bitsLt_bf16_f32

/-- The windows' block indices. -/
theorem idx : ∀ t : Fin cfg0.N, win0_0.index t = ![t.val / 8, 0] ∧ win0_1.index t = ![0, t.val % 8] ∧
    win0_2.index t = ![t.val / 8, t.val % 8] :=
  (by decide +kernel : ∀ t : Fin grid0.N, _)

/-- The rows the region reads: the input, its leading axes joined. -/
def rowsOf (X : FVec Ideal S4x4096x4096 .f32) : FVec Ideal S16384x4096 .bf16 :=
  truncf .bf16 (shapeCast S16384x4096 X shapeCasts_S4x4096x4096_S16384x4096) bitsLt_bf16_f32

/-- The columns the region reads: the output weight. -/
def colsOf (W : FVec Ideal S4096x4096 .f32) : FVec Ideal S4096x4096 .bf16 :=
  truncf .bf16 W bitsLt_bf16_f32

theorem rows_eq (c : Dev nD) : V m c main_v1 = rowsOf (m ((c : Thread nD τ).loc main_arg0)) := by
  entry_read
  rfl

theorem cols_eq (c : Dev nD) : V m c main_v2 = colsOf (m ((c : Thread nD τ).loc main_arg1)) := by
  entry_read
  rfl

/-- An entry of the rows. -/
theorem rows_at (X : FVec Ideal S4x4096x4096 .f32) (r : Fin 16384) (k : Fin 4096) :
    rowsOf X (ix2 r k) = X (ix3 ⟨r.val / 4096, by omega⟩ ⟨r.val % 4096, by omega⟩ k) := by
  pointwise [rowsOf]

/-- An entry of the columns. -/
theorem cols_at (W : FVec Ideal S4096x4096 .f32) (k : Fin 4096) (j : Fin 4096) :
    colsOf W (ix2 k j) = W (ix2 k j) := by
  pointwise [colsOf]

/-- An entry of the reference's term. -/
theorem REF_at (X : FVec Ideal Cert.OutReferenceIdeal.S4x4096x4096 .f32) (W : FVec Ideal Cert.OutReferenceIdeal.S4096x4096 .f32)
    (r : Fin 16384) (j : Fin 4096) : REF X W (ix2 r j)
      = ∑ k : Fin 4096, X (ix3 ⟨r.val / 4096, by omega⟩ ⟨r.val % 4096, by omega⟩ k) * W (ix2 k j) := by
  pointwise [REF]

/-- Where an entry of a block of the result sits. -/
theorem out_at (t : Fin cfg0.N) (r : Fin 1024) (j : Fin 512) : ((cfg0.win 2).blk t).view.emb (ix2 r j : S1024x512.Idx)
    = (ix2 ⟨t.val / 8 * 1024 + r.val, by have := t.isLt; have : cfg0.N = 128 := rfl; omega⟩ ⟨t.val % 8 * 512 + j.val, by omega⟩ : S16384x4096.Idx) := by
  blk_ext [idx t]

/-- An entry of a block of rows. -/
theorem in0_at (c : Dev nD) (t : Fin cfg0.N) (r : Fin 1024) (k : Fin 4096) :
    (iblk m c 0 t : FVec Ideal S1024x4096 .bf16) (ix2 r k)
      = (V m c main_v1 : FVec Ideal S16384x4096 .bf16) (ix2 ⟨t.val / 8 * 1024 + r.val, by have := t.isLt; have : cfg0.N = 128 := rfl; omega⟩ k) := by
  blk_ext [iblk, idx t]

/-- An entry of a block of columns. -/
theorem in1_at (c : Dev nD) (t : Fin cfg0.N) (k : Fin 4096) (j : Fin 512) :
    (iblk m c 1 t : FVec Ideal S4096x512 .bf16) (ix2 k j)
      = (V m c main_v2 : FVec Ideal S4096x4096 .bf16) (ix2 k ⟨t.val % 8 * 512 + j.val, by omega⟩) := by
  blk_ext [iblk, idx t]

/-- What the body stores at a block index is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  rw [out_at t y0 y1, REF_at]
  pointwise [k0_pay1]
  refine Finset.sum_congr rfl fun k _ => ?_
  rw [in0_at, in1_at, rows_eq, rows_at, cols_eq, cols_at]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutIdeal.Value

end
-- ==== Proof.IfValue.lean ====
/-
  The projection onto the gate columns: the array the kernel leaves is the product of the input rows with the 32 gate columns of
  the combined weight, padded with zero columns to a tile's 128; the reference slices those columns out of the whole product and
  pads the rows with zeros.
-/
module

public import proofs.«01_k».proof.Proof.Gen.IfIdeal.Value
public import proofs.«01_k».proof.Proof.Gen.IfReferenceIdeal.Run
public import Idealize.ShloMosaic.Lib.Pipeline.ValueKit
public import Idealize.ShloMosaic.Lib.Claim
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.IfIdeal.Value

open Cert.IfIdeal Cert.IfIdeal.Gen

variable (m : (ℓ : Loc nD τ sig) → Buf (Elt Ideal) ℓ)

/-- The reference's own term: the whole product, its gate columns, laid out as rows and padded with zeros. -/
def REF (X : FVec Ideal Cert.IfReferenceIdeal.S4x4096x4096 .f32) (W : FVec Ideal Cert.IfReferenceIdeal.S4096x20512 .f32) :
    FVec Ideal Cert.IfReferenceIdeal.S16384x128 .f32 :=
  pad Cert.IfReferenceIdeal.S16384x128 ![0, 0] ![0, 96] ![0, 0]
    (shapeCast _ (extractStridedSlice Cert.IfReferenceIdeal.S4x4096x32 ![0, 0, 12288]
      (Host.dotGeneral Cert.IfReferenceIdeal.dot_S4x4096x4096_S4096x20512_S4x4096x20512_2_0_01_1_n_n none X W)
      Cert.IfReferenceIdeal.Gen.slices_S4x4096x20512_S4x4096x32_0_0_12288)
      Cert.IfReferenceIdeal.Gen.shapeCasts_S4x4096x32_S16384x32)
    (sitofp .f32 (constantI Cert.IfReferenceIdeal.S_ 32 0#32))
    Cert.IfReferenceIdeal.Gen.pads_S16384x32_S16384x128_000_0960 Cert.IfReferenceIdeal.Gen.h_S_

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The rows the region reads: the input, its leading axes joined. -/
def rowsOf (X : FVec Ideal S4x4096x4096 .f32) : FVec Ideal S16384x4096 .bf16 :=
  truncf .bf16 (shapeCast S16384x4096 X shapeCasts_S4x4096x4096_S16384x4096) bitsLt_bf16_f32

/-- The gate columns: a slice of the combined weight. -/
def gateOf (W : FVec Ideal S4096x20512 .f32) : FVec Ideal S4096x32 .bf16 :=
  truncf .bf16 (extractStridedSlice S4096x32 ![0, 12288] W slices_S4096x20512_S4096x32_0_12288) bitsLt_bf16_f32

/-- The columns the region reads: the gate columns, and zero columns after them. -/
def colsOf (W : FVec Ideal S4096x20512 .f32) : FVec Ideal S4096x128 .bf16 :=
  Host.scatter scatter_S4096x128_S1_S4096x32_01_n_1_0 (fun _ b => b)
    (broadcastInDim S4096x128 ![] bcast_S_S4096x128 (constant S_ .bf16 0x0000#16 : FVec Ideal S_ .bf16))
    (broadcastInDim S1 ![] bcast_S_S1 (constantI S_ 32 0#32)) (gateOf W)

theorem rows_eq (c : Dev nD) : V m c main_v6 = rowsOf (m ((c : Thread nD τ).loc main_arg0)) := by
  entry_read
  rfl

theorem cols_eq (c : Dev nD) : V m c main_v4 = colsOf (m ((c : Thread nD τ).loc main_arg1)) := by
  entry_read
  rfl

/-- An entry of the rows. -/
theorem rows_at (X : FVec Ideal S4x4096x4096 .f32) (r : Fin 16384) (k : Fin 4096) :
    rowsOf X (ix2 r k) = X (ix3 ⟨r.val / 4096, by omega⟩ ⟨r.val % 4096, by omega⟩ k) := by
  pointwise [rowsOf]

/-- An entry of the gate columns. -/
theorem gate_at (W : FVec Ideal S4096x20512 .f32) (k : Fin 4096) (j : Fin 32) :
    gateOf W (ix2 k j) = W (ix2 k ⟨12288 + j.val, by omega⟩) := by
  pointwise [gateOf]

/-- The gate columns are written from the first column on: entry `(k, j)` of the update lands at `(k, j)`. -/
theorem lands (I : IVec S1 32) (hI : ∀ i, I i = 0#32) (k : Fin 4096) (j : Fin 32) (r : Fin 4096) (l : Fin 128) :
    scatter_S4096x128_S1_S4096x32_01_n_1_0.resultIdx? (ix2 k j) I = some (ix2 r l) ↔ k = r ∧ j.val = l.val := by
  have h0 : scatter_S4096x128_S1_S4096x32_01_n_1_0.start (ix2 k j) I 0 = 0 := by
    unfold ScatterDims.start
    rw [dif_neg (by decide)]
  have h1 : scatter_S4096x128_S1_S4096x32_01_n_1_0.start (ix2 k j) I 1 = 0 := by
    unfold ScatterDims.start
    rw [dif_pos (by decide), hI]
    rfl
  have w0 : scatter_S4096x128_S1_S4096x32_01_n_1_0.window (ix2 k j) 0 = k.val := rfl
  have w1 : scatter_S4096x128_S1_S4096x32_01_n_1_0.window (ix2 k j) 1 = j.val := rfl
  refine (Routing.resultIdx?_ix2 _ _ _ _ _).trans ?_
  rw [h0, h1, w0, w1, Fin.ext_iff]
  omega

/-- An entry of the columns. -/
theorem cols_at (W : FVec Ideal S4096x20512 .f32) (k : Fin 4096) (j : Fin 128) :
    colsOf W (ix2 k j) = if h : j.val < 32 then W (ix2 k ⟨12288 + j.val, by omega⟩) else 0 := by
  have hI : ∀ i, (broadcastInDim S1 ![] bcast_S_S1 (constantI S_ 32 0#32)) i = 0#32 := fun i => rfl
  by_cases h : j.val < 32
  · rw [dif_pos h, ← gate_at W k ⟨j.val, h⟩]
    refine Routing.scatter_set_hit _ _ _ _ _ _ (fun i hi => ?_) (ix2 k ⟨j.val, h⟩) ((lands _ hI k ⟨j.val, h⟩ k j).2 ⟨rfl, rfl⟩)
    idx_vars i
    obtain ⟨e0, e1⟩ := (lands _ hI i0 i1 k j).1 hi
    exact congrArg _ ((ix2_inj ..).2 ⟨e0, Fin.ext e1⟩)
  · rw [dif_neg h]
    refine (Routing.scatter_set_miss _ _ _ _ _ fun i hi => ?_).trans ?_
    · idx_vars i
      have := ((lands _ hI i0 i1 k j).1 hi).2
      omega
    · pointwise []

/-- An entry of the reference's term. -/
theorem REF_at (X : FVec Ideal Cert.IfReferenceIdeal.S4x4096x4096 .f32) (W : FVec Ideal Cert.IfReferenceIdeal.S4096x20512 .f32)
    (r : Fin 16384) (j : Fin 128) : REF X W (ix2 r j)
      = if h : j.val < 32 then
          ∑ k : Fin 4096, X (ix3 ⟨r.val / 4096, by omega⟩ ⟨r.val % 4096, by omega⟩ k) * W (ix2 k ⟨12288 + j.val, by omega⟩)
        else 0 := by
  have e0 : (FloatOps.sitofp .f32 0#32 : Ideal .f32) = 0 := by
    show (((0#32 : BitVec 32).toInt : ℝ) : EReal) = 0
    simp
  pointwise [REF]
  rw [e0]

/-- Where an entry of a block of the result sits. -/
theorem out_at (t : Fin cfg0.N) (r : Fin 1024) (j : Fin 128) : ((cfg0.win 2).blk t).view.emb (ix2 r j : S1024x128.Idx)
    = (ix2 ⟨t.val * 1024 + r.val, by have := t.isLt; have : cfg0.N = 16 := rfl; omega⟩ j : S16384x128.Idx) := by
  blk_ext [idx t]

/-- An entry of a block of rows. -/
theorem in0_at (c : Dev nD) (t : Fin cfg0.N) (r : Fin 1024) (k : Fin 4096) :
    (iblk m c 0 t : FVec Ideal S1024x4096 .bf16) (ix2 r k)
      = (V m c main_v6 : FVec Ideal S16384x4096 .bf16) (ix2 ⟨t.val * 1024 + r.val, by have := t.isLt; have : cfg0.N = 16 := rfl; omega⟩ k) := by
  blk_ext [iblk, idx t]

/-- A block of columns is the whole array of them. -/
theorem in1_at (c : Dev nD) (t : Fin cfg0.N) (k : Fin 4096) (j : Fin 128) :
    (iblk m c 1 t : FVec Ideal S4096x128 .bf16) (ix2 k j) = (V m c main_v4 : FVec Ideal S4096x128 .bf16) (ix2 k j) := by
  have e : ((cfg0.win 1).blk t).view.emb (ix2 k j : S4096x128.Idx) = (ix2 k j : S4096x128.Idx) := by blk_ext [idx t]
  exact congrArg (V m c main_v4 : FVec Ideal S4096x128 .bf16) e

/-- What the body stores at a block index is the reference's term at the array index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  idx_vars y
  rw [out_at t y0 y1, REF_at]
  pointwise [k0_pay1]
  by_cases h : y1.val < 32
  · rw [dif_pos h]
    refine Finset.sum_congr rfl fun k _ => ?_
    rw [in0_at, in1_at, rows_eq, rows_at, cols_eq, cols_at, dif_pos h]
  · rw [dif_neg h]
    refine Finset.sum_eq_zero fun k _ => ?_
    rw [in1_at, cols_eq, cols_at, dif_neg h, mul_zero]

/-- The array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.IfIdeal.Value

end
-- ==== Proof.BwdHeads.lean ====
/-
  The backward recurrence's sequences and results: the same recurrence as the forward one, run from the last step of a batch
  row to the first with gates of its own; and the heads' outputs after the normalisation and the output gate.
-/
module

public import Idealize.ShloMosaic.Lib.Pipeline.ValueKit
public import Idealize.ShloMosaic.Lib.Claim
public import Idealize.ShloMosaic.Lib.WordCmp
public import proofs.«01_k».proof.Proof.Heads

@[expose] public section

noncomputable section

namespace Cert.Recur

open Idealize.ShloMosaic Finset

/-! ## Sums and maxima from the last entry to the first -/

theorem rev_sum {T : ℕ} (f : Fin T → EReal) : (∑ x : Fin T, f x.rev) = ∑ x : Fin T, f x := Equiv.sum_comp Fin.revPerm f

theorem rev_fold {T : ℕ} (b : EReal) (f : Fin T → EReal) : (univ.fold max b fun x : Fin T => f x.rev) = univ.fold max b fun x => f x := by
  refine eq_of_forall_ge_iff fun y => ?_
  rw [fold_max_le, fold_max_le]
  refine and_congr Iff.rfl ⟨fun h x _ => ?_, fun h x _ => h x.rev (mem_univ _)⟩
  have := h x.rev (mem_univ _)
  rwa [Fin.rev_rev] at this

/-- A selection by the order of two places of a chunk. -/
theorem select_ge {α : Type} (x i : Fin 256) (a b : α) :
    Scalar.select (IntOp.cmpi .sge (BitVec.ofNat 32 x.val) (BitVec.ofNat 32 i.val)) a b = if i ≤ x then a else b := by
  rw [Scalar.select_def]
  by_cases h : i ≤ x
  · rw [if_pos h, if_pos]
    exact (WordCmp.cmpi_sge_ofNat_eq_one_iff (by have := x.isLt; omega) (by have := i.isLt; omega)).mpr h
  · rw [if_neg h, if_neg]
    exact fun e => h ((WordCmp.cmpi_sge_ofNat_eq_one_iff (by have := x.isLt; omega) (by have := i.isLt; omega)).mp e)

/-! ## A head's sequences, the last step first -/

def qb (z : FVec Ideal SZ .f32) (b : Fin 4) (h : Fin 8) (t : ℕ) (d : Fin 128) : ℝ := qs z b h (4095 - t) d

def kb (z : FVec Ideal SZ .f32) (b : Fin 4) (h : Fin 8) (t : ℕ) (d : Fin 128) : ℝ := ks z b h (4095 - t) d

def vb (z : FVec Ideal SZ .f32) (b : Fin 4) (h : Fin 8) (t : ℕ) (j : Fin 256) : ℝ := vs z b h (4095 - t) j

/-- A head's log input gates of the backward direction. -/
def lib (z : FVec Ideal SZ .f32) (w : FVec Ideal SB .f32) (b : Fin 4) (h : Fin 8) (t : ℕ) : ℝ :=
  zr z b (4095 - t) ⟨12304 + h.val, by omega⟩ + EReal.toReal (w (ix2 2 h))

/-- What a head's forget gates of the backward direction are the logistic function of. -/
def fgb (z : FVec Ideal SZ .f32) (w : FVec Ideal SB .f32) (b : Fin 4) (h : Fin 8) (t : ℕ) : ℝ :=
  zr z b (4095 - t) ⟨12312 + h.val, by omega⟩ + EReal.toReal (w (ix2 3 h))

/-- The backward direction's output at step `t` of a batch row. -/
def hb (z : FVec Ideal SZ .f32) (w : FVec Ideal SB .f32) (b : Fin 4) (h : Fin 8) (t : ℕ) (j : Fin 256) : ℝ :=
  H (lib z w b h) (logsig ∘ fgb z w b h) (qb z b h) (kb z b h) (vb z b h) scale (4095 - t) j

/-! ## The normalisation and the output gate -/

/-- The mean of a row of 256 entries. -/
def mean (f : Fin 256 → EReal) : EReal := Ideal.div (∑ x : Fin 256, f x) (Ideal.ofBits .f32 0x43800000#32)

/-- A row's entry after the normalisation and its gate. -/
def gated (f : Fin 256 → EReal) (g o : EReal) (j : Fin 256) : EReal :=
  Ideal.logistic o * ((f j - mean f) * Ideal.rsqrt (mean (fun x => (f x - mean f) * (f x - mean f)) + Ideal.ofBits .f32 0x3727C5AC#32) * g)

/-- The norm gains' shape. -/
abbrev SG : Shape := ⟨1, ![2048]⟩

/-- The results: both directions' outputs of each head, normalised, and gated. -/
def OUTB (z : FVec Ideal SZ .f32) (w : FVec Ideal SB .f32) (p : FVec Ideal SO .f32) (g : FVec Ideal SG .f32) : FVec Ideal SO .bf16 := fun i =>
  let r : Fin 16384 := ⟨(i 0).val, (i 0).isLt⟩
  let c : Fin 2048 := ⟨(i 1).val, (i 1).isLt⟩
  let b : Fin 4 := ⟨r.val / 4096, by omega⟩
  let h : Fin 8 := ⟨c.val / 256, by omega⟩
  gated (fun x => ((hb z w b h (r.val % 4096) x : ℝ) : EReal) + p (ix2 r ⟨h.val * 256 + x.val, by omega⟩)) (g (ix1 c))
    (z (ix3 b ⟨r.val % 4096, by omega⟩ ⟨10240 + c.val, by omega⟩)) ⟨c.val % 256, by omega⟩

/-- An entry of it. -/
theorem OUTB_apply (z : FVec Ideal SZ .f32) (w : FVec Ideal SB .f32) (p : FVec Ideal SO .f32) (g : FVec Ideal SG .f32)
    (b : Fin 4) (h : Fin 8) (t : Fin 4096) (j : Fin 256) (r : Fin 16384) (c : Fin 2048) (hr : r.val = b.val * 4096 + t.val)
    (hc : c.val = h.val * 256 + j.val) :
    OUTB z w p g (ix2 r c) = gated (fun x => ((hb z w b h t.val x : ℝ) : EReal) + p (ix2 r ⟨h.val * 256 + x.val, by omega⟩)) (g (ix1 c))
      (z (ix3 b t ⟨10240 + c.val, by omega⟩)) j := by
  have eb : (⟨r.val / 4096, by omega⟩ : Fin 4) = b := Fin.ext (by dsimp only; omega)
  have eh : (⟨c.val / 256, by omega⟩ : Fin 8) = h := Fin.ext (by dsimp only; omega)
  have et : (⟨r.val % 4096, by omega⟩ : Fin 4096) = t := Fin.ext (by dsimp only; omega)
  have et' : r.val % 4096 = t.val := by omega
  have ej : (⟨c.val % 256, by omega⟩ : Fin 256) = j := Fin.ext (by dsimp only; omega)
  have e : OUTB z w p g (ix2 r c) = gated (fun x => ((hb z w ⟨r.val / 4096, by omega⟩ ⟨c.val / 256, by omega⟩ (r.val % 4096) x : ℝ) : EReal)
      + p (ix2 r ⟨c.val / 256 * 256 + x.val, by omega⟩)) (g (ix1 c))
    (z (ix3 ⟨r.val / 4096, by omega⟩ ⟨r.val % 4096, by omega⟩ ⟨10240 + c.val, by omega⟩)) ⟨c.val % 256, by omega⟩ := rfl
  have ec : c.val / 256 = h.val := by omega
  rw [e, et, ej, eb, eh, et']
  simp only [ec]

end Cert.Recur

end
-- ==== Proof.BwdChunk.lean ====
/-
  One chunk of the backward kernel: its payloads are the outputs and the state of the recurrence, whose steps run through the
  chunk's rows from the last to the first.
-/
module

public import proofs.«01_k».proof.Proof.Gen.BwdIdeal.Value
public import Idealize.ShloMosaic.Lib.Pipeline.ValueKit
public import Idealize.ShloMosaic.Lib.Claim
public import proofs.«01_k».proof.Proof.BwdHeads

@[expose] public section

set_option maxRecDepth 16384

noncomputable section

namespace Cert.BwdIdeal.Value

open Idealize.ShloMosaic Idealize.ShloMosaic.TcCoe Idealize.SL.Sem
open Idealize.ShloMosaic.Pipeline (Dat)
open Cert.BwdIdeal Cert.BwdIdeal.Gen

/-! ## One chunk of 256 steps of one head, from its blocks and the state it is given -/

open Cert.Recur

section
variable (gc : Vec Ideal S1x1x256x4 .f32) (bc : Vec Ideal S1x1x4 .f32) (gr : Vec Ideal S1x1x4x256 .f32) (br : Vec Ideal S1x4x1 .f32)
  (qb kb : Vec Ideal S256x128 .bf16) (vb : Vec Ideal S256x256 .bf16)
  (C : Vec Ideal S128x256 .f32) (n : Vec Ideal S1x128 .f32) (mx : Vec Ideal S1x1 .f32)

/-- The cumulated log forget gates of a chunk. -/
def bV : FVec Ideal S256x1 .f32 := k0_pay15 k0_pay5 (k0_pay13 gr br) (k0_pay14 gr br)

/-- The log weights of a chunk. -/
def dV : FVec Ideal S256x256 .f32 :=
  k0_pay16 k0_pay5 k0_pay6 (k0_pay10 gc bc) (k0_pay11 gr br) (k0_pay13 gr br) (k0_pay14 gr br)

/-- The row stabilisers of a chunk. -/
def mtV : FVec Ideal S256x1 .f32 :=
  k0_pay18 k0_pay5 k0_pay6 (k0_pay10 gc bc) (k0_pay11 gr br) (k0_pay13 gr br) (k0_pay14 gr br) mx

/-- The weighted scores of a chunk. -/
def sV : FVec Ideal S256x256 .f32 :=
  k0_pay22 k0_pay5 k0_pay6 (k0_pay10 gc bc) (k0_pay11 gr br) (k0_pay13 gr br) (k0_pay14 gr br) mx qb kb

/-- How much of the carried state each row keeps. -/
def wV : FVec Ideal S256x1 .f32 :=
  k0_pay23 k0_pay5 k0_pay6 (k0_pay10 gc bc) (k0_pay11 gr br) (k0_pay13 gr br) (k0_pay14 gr br) mx

/-- The outputs of a chunk. -/
def houtV : FVec Ideal S256x256 .f32 :=
  k0_pay24 (mtV gc bc gr br mx) (k0_pay19 qb) (k0_pay21 vb) (sV gc bc gr br qb kb mx) (wV gc bc gr br mx) C n

/-- The stabiliser after a chunk. -/
def mV : FVec Ideal S1x1 .f32 := k0_pay32 (k0_pay27 (k0_pay9 gc bc) (bV gr br) mx)

/-- The matrix state after a chunk. -/
def CV : FVec Ideal S128x256 .f32 :=
  k0_pay30 (k0_pay21 vb) (k0_pay28 (k0_pay9 gc bc) (bV gr br) mx (k0_pay20 kb)) (k0_pay29 (k0_pay9 gc bc) (bV gr br) mx) C

/-- The vector state after a chunk. -/
def nV : FVec Ideal S1x128 .f32 :=
  k0_pay31 (k0_pay28 (k0_pay9 gc bc) (bV gr br) mx (k0_pay20 kb)) (k0_pay29 (k0_pay9 gc bc) (bV gr br) mx) n

/-- A chunk's rows after the normalisation and the output gate. -/
def yV (ho : FVec Ideal S256x256 .f32) (hp : Vec Ideal S256x256 .f32) (ng : Vec Ideal S1x256 .f32) (ob : Vec Ideal S256x256 .bf16) :
    FVec Ideal S256x256 .bf16 := k0_pay34 (k0_pay33 ho hp) ng ob

/-- The gate blocks of a chunk that begins after `n0` steps hold the gates `li` and the forget arguments `fg`. -/
structure GateBlocks (li fg : ℕ → ℝ) (n0 : ℕ) : Prop where
  lic : ∀ x : Fin 256, gc (ix4 0 0 x.rev 2) + bc (ix3 0 0 2) = ((li (n0 + x.val) : ℝ) : EReal)
  fgc : ∀ x : Fin 256, gc (ix4 0 0 x.rev 3) + bc (ix3 0 0 3) = ((fg (n0 + x.val) : ℝ) : EReal)
  lir : ∀ x : Fin 256, gr (ix4 0 0 2 x.rev) + br (ix3 0 2 0) = ((li (n0 + x.val) : ℝ) : EReal)
  fgr : ∀ x : Fin 256, gr (ix4 0 0 3 x.rev) + br (ix3 0 3 0) = ((fg (n0 + x.val) : ℝ) : EReal)

/-- The block of queries holds the rows from `n0` on. -/
def QBlock (q : ℕ → Fin 128 → ℝ) (n0 : ℕ) : Prop :=
  ∀ (x : Fin 256) (d : Fin 128), qb (ix2 x.rev d) = ((q (n0 + x.val) d : ℝ) : EReal)

/-- The blocks of keys and values hold the rows from `n0` on. -/
structure KvBlocks (k : ℕ → Fin 128 → ℝ) (v : ℕ → Fin 256 → ℝ) (n0 : ℕ) : Prop where
  k : ∀ (x : Fin 256) (d : Fin 128), kb (ix2 x.rev d) = ((k (n0 + x.val) d : ℝ) : EReal)
  v : ∀ (x : Fin 256) (j : Fin 256), vb (ix2 x.rev j) = ((v (n0 + x.val) j : ℝ) : EReal)

/-- The state after `n0` steps. -/
structure StateIs (li lf : ℕ → ℝ) (k : ℕ → Fin 128 → ℝ) (v : ℕ → Fin 256 → ℝ) (n0 : ℕ) : Prop where
  C : ∀ (d : Fin 128) (j : Fin 256), C (ix2 d j) = ((Cst li lf k v n0 d j : ℝ) : EReal)
  n : ∀ d : Fin 128, n (ix2 0 d) = ((Nst li lf k n0 d : ℝ) : EReal)
  m : mx (ix2 0 0) = ((M li lf n0 : ℝ) : EReal)

variable {gc bc gr br qb kb vb C n mx} {li fg : ℕ → ℝ} {q k : ℕ → Fin 128 → ℝ} {v : ℕ → Fin 256 → ℝ} {n0 : ℕ}

theorem li_c (hg : GateBlocks gc bc gr br li fg n0) (x : Fin 256) :
    k0_pay9 gc bc (ix2 x.rev 0) = ((li (n0 + x.val) : ℝ) : EReal) := by
  rw [← hg.lic x]
  generalize x.rev = r
  pointwise [k0_pay9, k0_pay7]

theorem lf_c (hg : GateBlocks gc bc gr br li fg n0) (x : Fin 256) :
    k0_pay10 gc bc (ix2 x.rev 0) = ((logsig (fg (n0 + x.val)) : ℝ) : EReal) := by
  rw [← logsig_kernel, ← hg.fgc x]
  generalize x.rev = r
  pointwise [k0_pay10, k0_pay7]
  rfl

theorem li_r (hg : GateBlocks gc bc gr br li fg n0) (x : Fin 256) :
    k0_pay11 gr br (ix2 0 x.rev) = ((li (n0 + x.val) : ℝ) : EReal) := by
  rw [← hg.lir x]
  generalize x.rev = r
  pointwise [k0_pay11, k0_pay8]

/-- The log forget gate at a place of a row of gates. -/
def lfE (gr : Vec Ideal S1x1x4x256 .f32) (br : Vec Ideal S1x4x1 .f32) (x : Fin 256) : EReal :=
  min (gr (ix4 0 0 3 x) + br (ix3 0 3 0)) 0
    - Ideal.log1p (Ideal.exp (0 - max (gr (ix4 0 0 3 x) + br (ix3 0 3 0)) (-(gr (ix4 0 0 3 x) + br (ix3 0 3 0)))))

theorem bV_apply (r : Fin 256) : bV gr br (ix2 r 0) = ∑ x : Fin 256, if r ≤ x then lfE gr br x else 0 := by
  simp only [lfE]
  pointwise [bV, k0_pay15, k0_pay13, k0_pay14, k0_pay12, k0_pay8, k0_pay5]
  simp only [select_ge]
  rfl

theorem b_at (hg : GateBlocks gc bc gr br li fg n0) (i : Fin 256) :
    bV gr br (ix2 i.rev 0) = ((B (logsig ∘ fg) (n0 + i.val + 1) - B (logsig ∘ fg) n0 : ℝ) : EReal) := by
  have e : ∀ x : Fin 256, lfE gr br x.rev = (((logsig ∘ fg) (n0 + x.val) : ℝ) : EReal) := by
    intro x; rw [lfE, hg.fgr x]; exact logsig_kernel _
  rw [bV_apply, ← rev_sum (fun x => if i.rev ≤ x then lfE gr br x else 0)]
  simp only [Fin.rev_le_rev, e]
  exact cum _ _ _

theorem dV_apply (r s : Fin 256) : dV gc bc gr br (ix2 r s) = if r ≤ s then bV gr br (ix2 r 0)
      - (∑ x : Fin 256, if s ≤ x then k0_pay10 gc bc (ix2 x 0) else 0) + k0_pay11 gr br (ix2 0 s) else ⊥ := by
  rw [← ofBits_bot]
  simp only [← select_ge]
  pointwise [dV, bV, k0_pay16, k0_pay5, k0_pay6]

theorem d_at (hg : GateBlocks gc bc gr br li fg n0) (i s : Fin 256) :
    dV gc bc gr br (ix2 i.rev s.rev) = if s ≤ i then ((B (logsig ∘ fg) (n0 + i.val + 1) - B (logsig ∘ fg) (n0 + s.val + 1)
      + li (n0 + s.val) : ℝ) : EReal) else ⊥ := by
  have hs : (∑ x : Fin 256, if s.rev ≤ x then k0_pay10 gc bc (ix2 x 0) else 0)
      = ((B (logsig ∘ fg) (n0 + s.val + 1) - B (logsig ∘ fg) n0 : ℝ) : EReal) := by
    rw [← rev_sum (fun x => if s.rev ≤ x then k0_pay10 gc bc (ix2 x 0) else 0)]
    simp only [Fin.rev_le_rev, lf_c hg]
    exact cum (logsig ∘ fg) n0 s
  rw [dV_apply, b_at hg, hs, li_r hg, ← EReal.coe_sub, ← EReal.coe_add]
  refine if_congr Fin.rev_le_rev (congrArg _ ?_) rfl
  ring

theorem mtV_apply (r : Fin 256) : mtV gc bc gr br mx (ix2 r 0)
    = max (bV gr br (ix2 r 0) + mx (ix2 0 0)) (Finset.univ.fold max ⊥ fun s : Fin 256 => dV gc bc gr br (ix2 r s)) := by
  rw [← ofBits_bot]
  pointwise [mtV, dV, bV, k0_pay18, k0_pay17]

theorem mt_at (hg : GateBlocks gc bc gr br li fg n0) (hm : mx (ix2 0 0) = ((M li (logsig ∘ fg) n0 : ℝ) : EReal)) (i : Fin 256) :
    mtV gc bc gr br mx (ix2 i.rev 0) = ((M li (logsig ∘ fg) (n0 + i.val + 1) : ℝ) : EReal) := by
  rw [mtV_apply, ← rev_fold ⊥ (fun s => dV gc bc gr br (ix2 i.rev s)), b_at hg, hm, ← EReal.coe_add]
  simp only [d_at hg]
  exact rowmax _ _ _ _

theorem sV_apply (i s : Fin 256) : sV gc bc gr br qb kb mx (ix2 i s) = (∑ d : Fin 128, qb (ix2 i d) * kb (ix2 s d)) * ((scale : ℝ) : EReal)
      * Ideal.exp (dV gc bc gr br (ix2 i s) - mtV gc bc gr br mx (ix2 i 0)) := by
  rw [← ofBits_scale]
  pointwise [sV, dV, mtV, k0_pay22, k0_pay19, k0_pay20]

theorem s_at (hg : GateBlocks gc bc gr br li fg n0) (hm : mx (ix2 0 0) = ((M li (logsig ∘ fg) n0 : ℝ) : EReal))
    (hq : QBlock qb q n0) (hkv : KvBlocks kb vb k v n0) (i s : Fin 256) :
    sV gc bc gr br qb kb mx (ix2 i.rev s.rev) = if s ≤ i then ((Q q k scale (n0 + i.val) (n0 + s.val)
      * W li (logsig ∘ fg) (n0 + i.val + 1) (n0 + s.val) : ℝ) : EReal) else 0 := by
  rw [sV_apply, d_at hg, mt_at hg hm, weight]
  simp only [hq i, hkv.k s, ← EReal.coe_mul, ← coe_sum]
  by_cases h : s ≤ i
  · rw [if_pos h, if_pos h, ← EReal.coe_mul]; rfl
  · rw [if_neg h, if_neg h, mul_zero]

theorem wV_apply (i : Fin 256) : wV gc bc gr br mx (ix2 i 0) = Ideal.exp (bV gr br (ix2 i 0) + mx (ix2 0 0) - mtV gc bc gr br mx (ix2 i 0)) := by
  pointwise [wV, bV, mtV, k0_pay23, k0_pay17]

theorem w_at (hg : GateBlocks gc bc gr br li fg n0) (hm : mx (ix2 0 0) = ((M li (logsig ∘ fg) n0 : ℝ) : EReal)) (i : Fin 256) :
    wV gc bc gr br mx (ix2 i.rev 0) = ((keep li (logsig ∘ fg) n0 (n0 + i.val + 1) : ℝ) : EReal) := by
  rw [wV_apply, b_at hg, mt_at hg hm, hm, ← EReal.coe_add, ← EReal.coe_sub, Ideal.exp_coe, keep]

theorem houtV_apply (i j : Fin 256) : houtV gc bc gr br qb kb vb C n mx (ix2 i j)
      = Ideal.div (∑ x : Fin 256, sV gc bc gr br qb kb mx (ix2 i x) * vb (ix2 x j)
          + wV gc bc gr br mx (ix2 i 0) * ((∑ d : Fin 128, qb (ix2 i d) * C (ix2 d j)) * ((scale : ℝ) : EReal)))
        (max (max (∑ x : Fin 256, sV gc bc gr br qb kb mx (ix2 i x)
            + wV gc bc gr br mx (ix2 i 0) * ((∑ d : Fin 128, qb (ix2 i d) * n (ix2 0 d)) * ((scale : ℝ) : EReal)))
          (-(∑ x : Fin 256, sV gc bc gr br qb kb mx (ix2 i x)
            + wV gc bc gr br mx (ix2 i 0) * ((∑ d : Fin 128, qb (ix2 i d) * n (ix2 0 d)) * ((scale : ℝ) : EReal)))))
          (Ideal.exp (0 - mtV gc bc gr br mx (ix2 i 0)))) := by
  rw [← ofBits_scale]
  pointwise [houtV, k0_pay24, k0_pay19, k0_pay21]
  rfl

/-- The outputs of a chunk are those of its steps. -/
theorem hout_at (hg : GateBlocks gc bc gr br li fg n0) (hq : QBlock qb q n0) (hkv : KvBlocks kb vb k v n0)
    (hs : StateIs C n mx li (logsig ∘ fg) k v n0) (i j : Fin 256) :
    houtV gc bc gr br qb kb vb C n mx (ix2 i.rev j) = ((H li (logsig ∘ fg) q k v scale (n0 + i.val) j : ℝ) : EReal) := by
  rw [houtV_apply, w_at hg hs.m, mt_at hg hs.m, ← rev_sum (fun x => sV gc bc gr br qb kb mx (ix2 i.rev x) * vb (ix2 x j)),
    ← rev_sum (fun x => sV gc bc gr br qb kb mx (ix2 i.rev x))]
  simp only [s_at hg hs.m hq hkv, hq i, hkv.v, hs.C, hs.n, ← EReal.coe_mul (q _ _), ← coe_sum, ← EReal.coe_mul _ scale]
  rw [answer, answer_den, row_num, row_den, ← EReal.coe_zero, ← EReal.coe_sub, Ideal.exp_coe, zero_sub, quotient]

theorem last_lt : 255 < 256 := by decide

theorem first_row (v44 : FVec Ideal S256x1 .f32) : k0_pay25 v44 (ix2 0 0) = v44 (ix2 0 0) := by
  pointwise [k0_pay25]

theorem b_last (hg : GateBlocks gc bc gr br li fg n0) :
    k0_pay25 (bV gr br) (ix2 0 0) = ((B (logsig ∘ fg) (n0 + 256) - B (logsig ∘ fg) n0 : ℝ) : EReal) := by
  have h := b_at hg ⟨255, last_lt⟩
  rw [add_assoc] at h
  rw [← h]
  exact first_row (bV gr br)

theorem pay32_eq (v115 : FVec Ideal S1x1 .f32) : k0_pay32 v115 = v115 := by
  funext i
  idx_vars i
  pointwise [k0_pay32]

theorem pay27_apply (v19 v44 : FVec Ideal S256x1 .f32) (mx : Vec Ideal S1x1 .f32) : k0_pay27 v19 v44 mx (ix2 0 0)
    = max (k0_pay25 v44 (ix2 0 0) + mx (ix2 0 0))
      (Finset.univ.fold max (Ideal.ofBits .f32 4286578688#32) fun x : Fin 256 =>
        k0_pay25 v44 (ix2 0 0) - v44 (ix2 x 0) + v19 (ix2 x 0)) := by
  pointwise [k0_pay27, k0_pay26]

theorem pay30_apply (v19 v44 : FVec Ideal S256x1 .f32) (mx : Vec Ideal S1x1 .f32) (kb : FVec Ideal S256x128 .bf16)
    (vb : FVec Ideal S256x256 .bf16) (C : FVec Ideal S128x256 .f32) (d : Fin 128) (j : Fin 256) :
    k0_pay30 (k0_pay21 vb) (k0_pay28 v19 v44 mx (k0_pay20 kb)) (k0_pay29 v19 v44 mx) C (ix2 d j)
      = Ideal.exp (k0_pay25 v44 (ix2 0 0) + mx (ix2 0 0) - k0_pay27 v19 v44 mx (ix2 0 0)) * C (ix2 d j)
        + ∑ x : Fin 256, kb (ix2 x d) * Ideal.exp (k0_pay25 v44 (ix2 0 0) - v44 (ix2 x 0) + v19 (ix2 x 0)
          - k0_pay27 v19 v44 mx (ix2 0 0)) * vb (ix2 x j) := by
  pointwise [k0_pay30, k0_pay28, k0_pay29, k0_pay26, k0_pay21, k0_pay20]

theorem pay31_apply (v19 v44 : FVec Ideal S256x1 .f32) (mx : Vec Ideal S1x1 .f32) (kb : FVec Ideal S256x128 .bf16)
    (n : FVec Ideal S1x128 .f32) (d : Fin 128) :
    k0_pay31 (k0_pay28 v19 v44 mx (k0_pay20 kb)) (k0_pay29 v19 v44 mx) n (ix2 0 d)
      = Ideal.exp (k0_pay25 v44 (ix2 0 0) + mx (ix2 0 0) - k0_pay27 v19 v44 mx (ix2 0 0)) * n (ix2 0 d)
        + ∑ x : Fin 256, kb (ix2 x d) * Ideal.exp (k0_pay25 v44 (ix2 0 0) - v44 (ix2 x 0) + v19 (ix2 x 0)
          - k0_pay27 v19 v44 mx (ix2 0 0)) := by
  pointwise [k0_pay31, k0_pay28, k0_pay29, k0_pay26, k0_pay20]

theorem mV_apply : mV gc bc gr br mx (ix2 0 0) = max (k0_pay25 (bV gr br) (ix2 0 0) + mx (ix2 0 0))
      (Finset.univ.fold max ⊥ fun x : Fin 256 => k0_pay25 (bV gr br) (ix2 0 0) - bV gr br (ix2 x 0) + k0_pay9 gc bc (ix2 x 0)) := by
  rw [← ofBits_bot, mV, pay32_eq]; exact pay27_apply _ _ _

theorem m_at (hg : GateBlocks gc bc gr br li fg n0) (hm : mx (ix2 0 0) = ((M li (logsig ∘ fg) n0 : ℝ) : EReal)) :
    mV gc bc gr br mx (ix2 0 0) = ((M li (logsig ∘ fg) (n0 + 256) : ℝ) : EReal) := by
  rw [mV_apply, ← rev_fold ⊥ (fun x => k0_pay25 (bV gr br) (ix2 0 0) - bV gr br (ix2 x 0) + k0_pay9 gc bc (ix2 x 0)), b_last hg, hm]
  simp only [b_at hg, li_c hg, ← EReal.coe_sub, ← EReal.coe_add]
  rw [← lastmax]
  refine congrArg (max _) (congrArg (fun f => Finset.univ.fold max ⊥ f) (funext fun x => congrArg _ ?_))
  ring

/-- How much of the carried state the chunk keeps. -/
theorem keep_at (hg : GateBlocks gc bc gr br li fg n0) (hm : mx (ix2 0 0) = ((M li (logsig ∘ fg) n0 : ℝ) : EReal)) :
    Ideal.exp (k0_pay25 (bV gr br) (ix2 0 0) + mx (ix2 0 0) - mV gc bc gr br mx (ix2 0 0))
      = ((keep li (logsig ∘ fg) n0 (n0 + 256) : ℝ) : EReal) := by
  rw [b_last hg, hm, m_at hg hm, ← EReal.coe_add, ← EReal.coe_sub, Ideal.exp_coe, keep]

/-- The weight of a row in the chunk's new state. -/
def wt (gc : Vec Ideal S1x1x256x4 .f32) (bc : Vec Ideal S1x1x4 .f32) (gr : Vec Ideal S1x1x4x256 .f32) (br : Vec Ideal S1x4x1 .f32)
    (mx : Vec Ideal S1x1 .f32) (x : Fin 256) : EReal :=
  Ideal.exp (k0_pay25 (bV gr br) (ix2 0 0) - bV gr br (ix2 x 0) + k0_pay9 gc bc (ix2 x 0) - mV gc bc gr br mx (ix2 0 0))

theorem weight_at (hg : GateBlocks gc bc gr br li fg n0) (hm : mx (ix2 0 0) = ((M li (logsig ∘ fg) n0 : ℝ) : EReal)) (x : Fin 256) :
    wt gc bc gr br mx x.rev = ((W li (logsig ∘ fg) (n0 + 256) (n0 + x.val) : ℝ) : EReal) := by
  rw [wt, b_last hg, b_at hg, li_c hg, m_at hg hm, ← EReal.coe_sub, ← EReal.coe_add, ← EReal.coe_sub, Ideal.exp_coe, W]
  refine congrArg (fun y : ℝ => ((Real.exp y : ℝ) : EReal)) ?_
  ring

theorem CV_apply (d : Fin 128) (j : Fin 256) : CV gc bc gr br kb vb C mx (ix2 d j)
      = Ideal.exp (k0_pay25 (bV gr br) (ix2 0 0) + mx (ix2 0 0) - mV gc bc gr br mx (ix2 0 0)) * C (ix2 d j)
        + ∑ x : Fin 256, kb (ix2 x d) * wt gc bc gr br mx x * vb (ix2 x j) := by
  simp only [wt]
  rw [CV, mV, pay32_eq]; exact pay30_apply _ _ _ _ _ _ _ _

theorem nV_apply (d : Fin 128) : nV gc bc gr br kb n mx (ix2 0 d)
      = Ideal.exp (k0_pay25 (bV gr br) (ix2 0 0) + mx (ix2 0 0) - mV gc bc gr br mx (ix2 0 0)) * n (ix2 0 d)
        + ∑ x : Fin 256, kb (ix2 x d) * wt gc bc gr br mx x := by
  simp only [wt]
  rw [nV, mV, pay32_eq]; exact pay31_apply _ _ _ _ _ _

theorem C_at (hg : GateBlocks gc bc gr br li fg n0) (hkv : KvBlocks kb vb k v n0)
    (hs : StateIs C n mx li (logsig ∘ fg) k v n0) (d : Fin 128) (j : Fin 256) :
    CV gc bc gr br kb vb C mx (ix2 d j) = ((Cst li (logsig ∘ fg) k v (n0 + 256) d j : ℝ) : EReal) := by
  rw [CV_apply, keep_at hg hs.m, hs.C, ← rev_sum (fun x => kb (ix2 x d) * wt gc bc gr br mx x * vb (ix2 x j))]
  simp only [weight_at hg hs.m, hkv.k, hkv.v]
  exact chunk_C li (logsig ∘ fg) k v n0 d j

theorem n_at (hg : GateBlocks gc bc gr br li fg n0) (hkv : KvBlocks kb vb k v n0)
    (hs : StateIs C n mx li (logsig ∘ fg) k v n0) (d : Fin 128) :
    nV gc bc gr br kb n mx (ix2 0 d) = ((Nst li (logsig ∘ fg) k (n0 + 256) d : ℝ) : EReal) := by
  rw [nV_apply, keep_at hg hs.m, hs.n, ← rev_sum (fun x => kb (ix2 x d) * wt gc bc gr br mx x)]
  simp only [weight_at hg hs.m, hkv.k]
  exact chunk_N li (logsig ∘ fg) k n0 d

/-- The state after a chunk. -/
theorem state_step (hg : GateBlocks gc bc gr br li fg n0) (hkv : KvBlocks kb vb k v n0)
    (hs : StateIs C n mx li (logsig ∘ fg) k v n0) :
    StateIs (CV gc bc gr br kb vb C mx) (nV gc bc gr br kb n mx) (mV gc bc gr br mx) li (logsig ∘ fg) k v (n0 + 256) :=
  ⟨C_at hg hkv hs, n_at hg hkv hs, m_at hg hs.m⟩

/-- The normalised and gated rows of a chunk. -/
theorem yV_apply (ho : FVec Ideal S256x256 .f32) (hp : Vec Ideal S256x256 .f32) (ng : Vec Ideal S1x256 .f32) (ob : Vec Ideal S256x256 .bf16)
    (i j : Fin 256) : yV ho hp ng ob (ix2 i j)
      = gated (fun x => ho (ix2 i x) + hp (ix2 i x)) (ng (ix2 0 j)) (ob (ix2 i j)) j := by
  simp only [gated, mean]
  pointwise [yV, k0_pay34, k0_pay33]

end

end Cert.BwdIdeal.Value

end
-- ==== Proof.BwdPoint.lean ====
/-
  One grid point of the backward kernel: four chunks of one head, the last rows first, the state carried from the point before.
-/
module

public import proofs.«01_k».proof.Proof.Gen.BwdIdeal.Value
public import Idealize.ShloMosaic.Lib.Pipeline.ValueKit
public import Idealize.ShloMosaic.Lib.Claim
public import Idealize.ShloMosaic.Lib.Pipeline.ReadBack
public import proofs.«01_k».proof.Proof.BwdChunk

@[expose] public section

set_option maxRecDepth 16384

noncomputable section

namespace Cert.BwdIdeal.Value

open Idealize.ShloMosaic Idealize.ShloMosaic.TcCoe Idealize.SL.Sem
open Idealize.ShloMosaic.Pipeline (Dat)
open Cert.BwdIdeal Cert.BwdIdeal.Gen Cert.Recur

variable (m : (ℓ : Loc nD τ sig) → Buf (Elt Ideal) ℓ)

/-! ## The later chunks' payloads are the first one's -/

section
variable (gc : Vec Ideal S1x1x256x4 .f32) (bc : Vec Ideal S1x1x4 .f32) (gr : Vec Ideal S1x1x4x256 .f32) (br : Vec Ideal S1x4x1 .f32)
  (qb kb : Vec Ideal S256x128 .bf16) (vb : Vec Ideal S256x256 .bf16)
  (C : Vec Ideal S128x256 .f32) (n : Vec Ideal S1x128 .f32) (mx : Vec Ideal S1x1 .f32)
  (ho : FVec Ideal S256x256 .f32) (hp : Vec Ideal S256x256 .f32) (ng : Vec Ideal S1x256 .f32) (ob : Vec Ideal S256x256 .bf16)

theorem m0_eq : k0_pay32 (k0_pay27 (k0_pay9 gc bc) (k0_pay15 k0_pay5 (k0_pay13 gr br) (k0_pay14 gr br)) mx)
    = mV gc bc gr br mx := rfl
theorem n0_eq : k0_pay31 (k0_pay28 (k0_pay9 gc bc) (k0_pay15 k0_pay5 (k0_pay13 gr br) (k0_pay14 gr br)) mx (k0_pay20 kb))
    (k0_pay29 (k0_pay9 gc bc) (k0_pay15 k0_pay5 (k0_pay13 gr br) (k0_pay14 gr br)) mx) n = nV gc bc gr br kb n mx := rfl
theorem C0_eq : k0_pay30 (k0_pay21 vb) (k0_pay28 (k0_pay9 gc bc) (k0_pay15 k0_pay5 (k0_pay13 gr br) (k0_pay14 gr br)) mx (k0_pay20 kb))
    (k0_pay29 (k0_pay9 gc bc) (k0_pay15 k0_pay5 (k0_pay13 gr br) (k0_pay14 gr br)) mx) C = CV gc bc gr br kb vb C mx := rfl
theorem hout0_eq : k0_pay24
    (k0_pay18 k0_pay5 k0_pay6 (k0_pay10 gc bc) (k0_pay11 gr br) (k0_pay13 gr br) (k0_pay14 gr br) mx) (k0_pay19 qb) (k0_pay21 vb)
    (k0_pay22 k0_pay5 k0_pay6 (k0_pay10 gc bc) (k0_pay11 gr br) (k0_pay13 gr br) (k0_pay14 gr br) mx qb kb)
    (k0_pay23 k0_pay5 k0_pay6 (k0_pay10 gc bc) (k0_pay11 gr br) (k0_pay13 gr br) (k0_pay14 gr br) mx) C n
    = houtV gc bc gr br qb kb vb C n mx := rfl
theorem y0_eq : k0_pay34 (k0_pay33 ho hp) ng ob = yV ho hp ng ob := rfl

theorem m1_eq : k0_pay60 (k0_pay54 (k0_pay37 gc bc) (k0_pay42 k0_pay5 (k0_pay40 gr br) k0_pay41) mx) = mV gc bc gr br mx := rfl
theorem n1_eq : k0_pay59 (k0_pay54 (k0_pay37 gc bc) (k0_pay42 k0_pay5 (k0_pay40 gr br) k0_pay41) mx)
    (k0_pay55 (k0_pay37 gc bc) (k0_pay42 k0_pay5 (k0_pay40 gr br) k0_pay41) mx (k0_pay47 kb))
    (k0_pay56 (k0_pay42 k0_pay5 (k0_pay40 gr br) k0_pay41) mx) n = nV gc bc gr br kb n mx := rfl
theorem C1_eq : k0_pay58 (k0_pay48 vb) (k0_pay54 (k0_pay37 gc bc) (k0_pay42 k0_pay5 (k0_pay40 gr br) k0_pay41) mx)
    (k0_pay55 (k0_pay37 gc bc) (k0_pay42 k0_pay5 (k0_pay40 gr br) k0_pay41) mx (k0_pay47 kb))
    (k0_pay56 (k0_pay42 k0_pay5 (k0_pay40 gr br) k0_pay41) mx) C = CV gc bc gr br kb vb C mx := rfl
theorem hout1_eq : k0_pay51 (k0_pay44 k0_pay5 (k0_pay40 gr br) k0_pay41 mx)
    (k0_pay45 k0_pay5 k0_pay6 (k0_pay38 gc bc) (k0_pay39 gr br) (k0_pay40 gr br) k0_pay41 mx) (k0_pay46 qb) (k0_pay48 vb) (k0_pay49 qb kb)
    (k0_pay50 k0_pay5 k0_pay6 (k0_pay38 gc bc) (k0_pay39 gr br) (k0_pay40 gr br) k0_pay41 mx) C n
    = houtV gc bc gr br qb kb vb C n mx := rfl
theorem y1_eq : k0_pay65 (k0_pay63 ho hp) (k0_pay64 ho hp) (FloatOps.ofBits .f32 0x3727C5AC#32) ng ob = yV ho hp ng ob := rfl

theorem m2_eq : k0_pay90 (k0_pay83 (k0_pay68 gc bc) (k0_pay72 k0_pay5 (k0_pay67 gr br)) mx) = mV gc bc gr br mx := rfl
theorem n2_eq : k0_pay89 mx (k0_pay81 (k0_pay72 k0_pay5 (k0_pay67 gr br))) (k0_pay82 (k0_pay68 gc bc) (k0_pay72 k0_pay5 (k0_pay67 gr br)))
    (k0_pay83 (k0_pay68 gc bc) (k0_pay72 k0_pay5 (k0_pay67 gr br)) mx) (k0_pay84 (k0_pay77 kb))
    (k0_pay85 (k0_pay68 gc bc) (k0_pay72 k0_pay5 (k0_pay67 gr br)) mx) n = nV gc bc gr br kb n mx := rfl
theorem C2_eq : k0_pay88 mx (k0_pay78 vb) (k0_pay81 (k0_pay72 k0_pay5 (k0_pay67 gr br)))
    (k0_pay82 (k0_pay68 gc bc) (k0_pay72 k0_pay5 (k0_pay67 gr br)))
    (k0_pay83 (k0_pay68 gc bc) (k0_pay72 k0_pay5 (k0_pay67 gr br)) mx) (k0_pay84 (k0_pay77 kb))
    (k0_pay85 (k0_pay68 gc bc) (k0_pay72 k0_pay5 (k0_pay67 gr br)) mx) C = CV gc bc gr br kb vb C mx := rfl
theorem hout2_eq : k0_pay80 (k0_pay73 k0_pay5 k0_pay6 (k0_pay67 gr br) (k0_pay70 gc bc) (k0_pay71 gc bc))
    (k0_pay74 k0_pay5 (k0_pay67 gr br) mx) (k0_pay75 k0_pay5 k0_pay6 (k0_pay67 gr br) (k0_pay70 gc bc) (k0_pay71 gc bc) mx)
    (k0_pay76 qb) (k0_pay78 vb) (k0_pay79 qb kb) C n = houtV gc bc gr br qb kb vb C n mx := rfl
theorem y2_eq : k0_pay94 (k0_pay91 ho hp) (k0_pay92 ho hp) (k0_pay93 ho hp) (FloatOps.ofBits .f32 0x43800000#32) ng ob = yV ho hp ng ob := rfl

theorem m3_eq : k0_pay117 (k0_pay110 (k0_pay97 gc bc) (k0_pay101 k0_pay5 (k0_pay96 gr br))) (k0_pay111 (k0_pay101 k0_pay5 (k0_pay96 gr br)) mx)
    = mV gc bc gr br mx := rfl
theorem n3_eq : k0_pay116 mx (k0_pay106 kb) (k0_pay109 (k0_pay101 k0_pay5 (k0_pay96 gr br)))
    (k0_pay110 (k0_pay97 gc bc) (k0_pay101 k0_pay5 (k0_pay96 gr br))) (k0_pay111 (k0_pay101 k0_pay5 (k0_pay96 gr br)) mx) n
    = nV gc bc gr br kb n mx := rfl
theorem C3_eq : k0_pay115 mx (k0_pay106 kb) (k0_pay107 vb) (k0_pay109 (k0_pay101 k0_pay5 (k0_pay96 gr br)))
    (k0_pay110 (k0_pay97 gc bc) (k0_pay101 k0_pay5 (k0_pay96 gr br))) (k0_pay111 (k0_pay101 k0_pay5 (k0_pay96 gr br)) mx) C
    = CV gc bc gr br kb vb C mx := rfl
theorem hout3_eq : k0_pay108 (k0_pay102 k0_pay5 k0_pay6 (k0_pay96 gr br) (k0_pay99 gc bc) (k0_pay100 gc bc))
    (k0_pay103 k0_pay5 (k0_pay96 gr br) mx) (k0_pay104 k0_pay5 k0_pay6 (k0_pay96 gr br) (k0_pay99 gc bc) (k0_pay100 gc bc) mx)
    (k0_pay105 qb) (k0_pay106 kb) vb C n = houtV gc bc gr br qb kb vb C n mx := rfl
theorem y3_eq : k0_pay1 (k0_pay118 ho hp) (k0_pay119 ho hp) (k0_pay120 ho hp) ng ob = yV ho hp ng ob := rfl
end

/-! ## A grid point's blocks, chunk by chunk -/

/-- The four gate blocks of a grid point that begins after `n0` steps. -/
structure PointGates (X3 : Vec Ideal S1x1x1024x4 .f32) (bc : Vec Ideal S1x1x4 .f32) (X4 : Vec Ideal S1x1x4x1024 .f32)
    (br : Vec Ideal S1x4x1 .f32) (li fg : ℕ → ℝ) (n0 : ℕ) : Prop where
  lic : ∀ x : Fin 1024, X3 (ix4 0 0 x 2) + bc (ix3 0 0 2) = ((li (n0 + (1023 - x.val)) : ℝ) : EReal)
  fgc : ∀ x : Fin 1024, X3 (ix4 0 0 x 3) + bc (ix3 0 0 3) = ((fg (n0 + (1023 - x.val)) : ℝ) : EReal)
  lir : ∀ x : Fin 1024, X4 (ix4 0 0 2 x) + br (ix3 0 2 0) = ((li (n0 + (1023 - x.val)) : ℝ) : EReal)
  fgr : ∀ x : Fin 1024, X4 (ix4 0 0 3 x) + br (ix3 0 3 0) = ((fg (n0 + (1023 - x.val)) : ℝ) : EReal)

/-- The blocks of queries, keys and values of a grid point that begins after `n0` steps. -/
structure PointQkv (X0 X1 : Vec Ideal S1024x128 .bf16) (X2 : Vec Ideal S1024x256 .bf16)
    (q k : ℕ → Fin 128 → ℝ) (v : ℕ → Fin 256 → ℝ) (n0 : ℕ) : Prop where
  q : ∀ (x : Fin 1024) (d : Fin 128), X0 (ix2 x d) = ((q (n0 + (1023 - x.val)) d : ℝ) : EReal)
  k : ∀ (x : Fin 1024) (d : Fin 128), X1 (ix2 x d) = ((k (n0 + (1023 - x.val)) d : ℝ) : EReal)
  v : ∀ (x : Fin 1024) (j : Fin 256), X2 (ix2 x j) = ((v (n0 + (1023 - x.val)) j : ℝ) : EReal)

/-- Where a chunk's step sits among its point's. -/
theorem place {n0 n1 o : ℕ} (ho : o + 256 ≤ 1024) (hn : n1 = n0 + (768 - o)) (x : Fin 256) :
    n0 + (1023 - (o + x.rev.val)) = n1 + x.val := by
  have := x.isLt
  rw [Fin.val_rev]
  omega

section
variable {X3 : Vec Ideal S1x1x1024x4 .f32} {bc : Vec Ideal S1x1x4 .f32} {X4 : Vec Ideal S1x1x4x1024 .f32} {br : Vec Ideal S1x4x1 .f32}
  {X0 X1 : Vec Ideal S1024x128 .bf16} {X2 : Vec Ideal S1024x256 .bf16}
  {li fg : ℕ → ℝ} {q k : ℕ → Fin 128 → ℝ} {v : ℕ → Fin 256 → ℝ} {n0 n1 : ℕ}
  {gc : Vec Ideal S1x1x256x4 .f32} {gr : Vec Ideal S1x1x4x256 .f32} {qb kb : Vec Ideal S256x128 .bf16} {vb : Vec Ideal S256x256 .bf16}

/-- The rows from `o` on of a point's gate blocks. -/
theorem gates_sub (h : PointGates X3 bc X4 br li fg n0) (o : ℕ) (ho : o + 256 ≤ 1024) (hn : n1 = n0 + (768 - o))
    (hc : ∀ (x : Fin 256) (a : Fin 4), gc (ix4 0 0 x a) = X3 (ix4 0 0 ⟨o + x.val, by omega⟩ a))
    (hr : ∀ (a : Fin 4) (x : Fin 256), gr (ix4 0 0 a x) = X4 (ix4 0 0 a ⟨o + x.val, by omega⟩)) :
    GateBlocks gc bc gr br li fg n1 := by
  refine ⟨fun x => ?_, fun x => ?_, fun x => ?_, fun x => ?_⟩
  · rw [hc, h.lic, place ho hn]
  · rw [hc, h.fgc, place ho hn]
  · rw [hr, h.lir, place ho hn]
  · rw [hr, h.fgr, place ho hn]

/-- The rows from `o` on of a point's queries. -/
theorem q_sub (h : PointQkv X0 X1 X2 q k v n0) (o : ℕ) (ho : o + 256 ≤ 1024) (hn : n1 = n0 + (768 - o))
    (hq : ∀ (x : Fin 256) (d : Fin 128), qb (ix2 x d) = X0 (ix2 ⟨o + x.val, by omega⟩ d)) : QBlock qb q n1 := by
  intro x d
  rw [hq, h.q, place ho hn]

/-- The rows from `o` on of a point's keys and values. -/
theorem kv_sub (h : PointQkv X0 X1 X2 q k v n0) (o : ℕ) (ho : o + 256 ≤ 1024) (hn : n1 = n0 + (768 - o))
    (hk : ∀ (x : Fin 256) (d : Fin 128), kb (ix2 x d) = X1 (ix2 ⟨o + x.val, by omega⟩ d))
    (hv : ∀ (x : Fin 256) (d : Fin 256), vb (ix2 x d) = X2 (ix2 ⟨o + x.val, by omega⟩ d)) : KvBlocks kb vb k v n1 := by
  refine ⟨fun x d => ?_, fun x d => ?_⟩
  · rw [hk, h.k, place ho hn]
  · rw [hv, h.v, place ho hn]
end

/-- What a grid point leaves behind: the state after its 1024 steps and their normalised and gated outputs. -/
structure PointIs (o : Vec Ideal S1024x256 .bf16 × Vec Ideal S128x256 .f32 × Vec Ideal S1x128 .f32 × Vec Ideal S1x1 .f32)
    (P : Vec Ideal S1024x256 .f32) (O : Vec Ideal S1024x256 .bf16) (N : Vec Ideal S1x256 .f32)
    (li lf : ℕ → ℝ) (q k : ℕ → Fin 128 → ℝ) (v : ℕ → Fin 256 → ℝ) (n0 : ℕ) : Prop where
  state : StateIs o.2.1 o.2.2.1 o.2.2.2 li lf k v (n0 + 1024)
  out : ∀ y : S1024x256.Idx, o.1 y = gated (fun x => ((H li lf q k v scale (n0 + (1023 - (y 0).val)) x : ℝ) : EReal)
    + P (ix2 (y 0) x)) (N (ix2 0 (y 1))) (O (ix2 (y 0) (y 1))) (y 1)

section
variable {bc : Vec Ideal S1x1x4 .f32} {br : Vec Ideal S1x4x1 .f32}
  {P : Vec Ideal S1024x256 .f32} {O : Vec Ideal S1024x256 .bf16} {N : Vec Ideal S1x256 .f32}
  {li fg : ℕ → ℝ} {q k : ℕ → Fin 128 → ℝ} {v : ℕ → Fin 256 → ℝ} {n0 n1 : ℕ}
  {gc : Vec Ideal S1x1x256x4 .f32} {gr : Vec Ideal S1x1x4x256 .f32} {qb kb : Vec Ideal S256x128 .bf16} {vb : Vec Ideal S256x256 .bf16}
  {C : Vec Ideal S128x256 .f32} {n : Vec Ideal S1x128 .f32} {mx : Vec Ideal S1x1 .f32}
  {hp : Vec Ideal S256x256 .f32} {ng : Vec Ideal S1x256 .f32} {ob : Vec Ideal S256x256 .bf16}

/-- An entry of a chunk's rows, at its place in the point. -/
theorem out_row (o : ℕ) (ho : o + 256 ≤ 1024) (hn : n1 = n0 + (768 - o)) (hg : GateBlocks gc bc gr br li fg n1) (hq : QBlock qb q n1)
    (hkv : KvBlocks kb vb k v n1) (hs : StateIs C n mx li (logsig ∘ fg) k v n1)
    (hpb : ∀ (x : Fin 256) (d : Fin 256), hp (ix2 x d) = P (ix2 ⟨o + x.val, by omega⟩ d))
    (hob : ∀ (x : Fin 256) (d : Fin 256), ob (ix2 x d) = O (ix2 ⟨o + x.val, by omega⟩ d))
    (hng : ∀ d : Fin 256, ng (ix2 0 d) = N (ix2 0 d)) (i : Fin 256) (r : Fin 1024) (j : Fin 256) (hr : r.val = o + i.val) :
    yV (houtV gc bc gr br qb kb vb C n mx) hp ng ob (ix2 i j) = gated (fun x => ((H li (logsig ∘ fg) q k v scale (n0 + (1023 - r.val)) x : ℝ) : EReal)
      + P (ix2 r x)) (N (ix2 0 j)) (O (ix2 r j)) j := by
  have er : (⟨o + i.val, by omega⟩ : Fin 1024) = r := Fin.ext hr.symm
  have e : ∀ y : Fin 256, houtV gc bc gr br qb kb vb C n mx (ix2 i y) + hp (ix2 i y)
      = ((H li (logsig ∘ fg) q k v scale (n0 + (1023 - r.val)) y : ℝ) : EReal) + P (ix2 r y) := by
    intro y
    have h := hout_at hg hq hkv hs i.rev y
    have p := place ho hn i.rev
    rw [Fin.rev_rev] at h p
    rw [h, hpb, er, hr, p]
  have eo : ob (ix2 i j) = O (ix2 r j) := (hob _ _).trans (by rw [er])
  rw [yV_apply]
  simp only [e, eo, hng]

theorem out_tile (o : ℕ) (ho : o + 256 ≤ 1024) (hn : n1 = n0 + (768 - o)) (hg : GateBlocks gc bc gr br li fg n1) (hq : QBlock qb q n1)
    (hkv : KvBlocks kb vb k v n1) (hs : StateIs C n mx li (logsig ∘ fg) k v n1)
    (hpb : ∀ (x : Fin 256) (d : Fin 256), hp (ix2 x d) = P (ix2 ⟨o + x.val, by omega⟩ d))
    (hob : ∀ (x : Fin 256) (d : Fin 256), ob (ix2 x d) = O (ix2 ⟨o + x.val, by omega⟩ d))
    (hng : ∀ d : Fin 256, ng (ix2 0 d) = N (ix2 0 d)) (x : S256x256.Idx)
    {r : Fin 1024} {j : Fin 256} (hr : r.val = o + (x 0).val) (hj : j.val = (x 1).val) :
    yV (houtV gc bc gr br qb kb vb C n mx) hp ng ob x = gated (fun x => ((H li (logsig ∘ fg) q k v scale (n0 + (1023 - r.val)) x : ℝ) : EReal)
      + P (ix2 r x)) (N (ix2 0 j)) (O (ix2 r j)) j := by
  obtain rfl : j = x 1 := Fin.ext hj
  rw [eq_ix2 x]
  exact out_row o ho hn hg hq hkv hs hpb hob hng (x 0) r (x 1) hr
end

set_option maxHeartbeats 1600000 in
/-- A later point of a head: the state it is given is the one the point before leaves. -/
theorem point_B (c : Dev nD) (t : Fin cfg0.N) (e0 : ¬ t.val % 4 = 0) {li fg : ℕ → ℝ} {q k : ℕ → Fin 128 → ℝ} {v : ℕ → Fin 256 → ℝ} {n0 : ℕ}
    (gg : PointGates (iblk m c 3 t) (iblk m c 5 t) (iblk m c 4 t) (iblk m c 6 t) li fg n0)
    (bb : PointQkv (iblk m c 0 t) (iblk m c 1 t) (iblk m c 2 t) q k v n0)
    (ss : StateIs (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 li (logsig ∘ fg) k v n0) :
    PointIs (outsAt0 m c t.val t.isLt) (iblk m c 7 t) (iblk m c 8 t) (iblk m c 9 t) li (logsig ∘ fg) q k v n0 := by
  revert ss
  rw [outsAt0_B m c t e0]
  generalize outsAt0 m c (t.val - 1) _ = zz
  intro ss
  constructor
  · frame_out
    simp only [m0_eq, n0_eq, C0_eq, hout0_eq, y0_eq, m1_eq, n1_eq, C1_eq, hout1_eq, y1_eq, m2_eq, n2_eq, C2_eq, hout2_eq, y2_eq, m3_eq, n3_eq, C3_eq, hout3_eq, y3_eq, read_unread_whole]
    rw [show n0 + 1024 = n0 + 256 + 256 + 256 + 256 by omega]
    refine state_step (gates_sub gg 0 (by omega) (by omega) ?_ ?_) (kv_sub bb 0 (by omega) (by omega) ?_ ?_) (state_step (gates_sub gg 256 (by omega) (by omega) ?_ ?_) (kv_sub bb 256 (by omega) (by omega) ?_ ?_) (state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss)))
    all_goals (intro x a; pointwise)
  · intro y
    frame_out
    simp only [m0_eq, n0_eq, C0_eq, hout0_eq, y0_eq, m1_eq, n1_eq, C1_eq, hout1_eq, y1_eq, m2_eq, n2_eq, C2_eq, hout2_eq, y2_eq, m3_eq, n3_eq, C3_eq, hout3_eq, y3_eq, read_unread_whole]
    canon_tiles x h
    · refine out_tile 0 (by omega) (n1 := n0 + 256 + 256 + 256) (by omega) ?_ ?_ ?_ ?_ ?_ ?_ ?_ x ?_ ?_
      · refine gates_sub gg 0 (by omega) (by omega) ?_ ?_ <;> (intro x a; pointwise)
      · refine q_sub bb 0 (by omega) (by omega) ?_; intro x a; pointwise
      · refine kv_sub bb 0 (by omega) (by omega) ?_ ?_ <;> (intro x a; pointwise)
      · refine state_step (gates_sub gg 256 (by omega) (by omega) ?_ ?_) (kv_sub bb 256 (by omega) (by omega) ?_ ?_) (state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss)) <;> (intro x a; pointwise)
      · intro x a; pointwise
      · intro x a; pointwise
      · intro a; pointwise
      · omega
      · omega
    · refine out_tile 256 (by omega) (n1 := n0 + 256 + 256) (by omega) ?_ ?_ ?_ ?_ ?_ ?_ ?_ x ?_ ?_
      · refine gates_sub gg 256 (by omega) (by omega) ?_ ?_ <;> (intro x a; pointwise)
      · refine q_sub bb 256 (by omega) (by omega) ?_; intro x a; pointwise
      · refine kv_sub bb 256 (by omega) (by omega) ?_ ?_ <;> (intro x a; pointwise)
      · refine state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss) <;> (intro x a; pointwise)
      · intro x a; pointwise
      · intro x a; pointwise
      · intro a; pointwise
      · omega
      · omega
    · refine out_tile 512 (by omega) (n1 := n0 + 256) (by omega) ?_ ?_ ?_ ?_ ?_ ?_ ?_ x ?_ ?_
      · refine gates_sub gg 512 (by omega) (by omega) ?_ ?_ <;> (intro x a; pointwise)
      · refine q_sub bb 512 (by omega) (by omega) ?_; intro x a; pointwise
      · refine kv_sub bb 512 (by omega) (by omega) ?_ ?_ <;> (intro x a; pointwise)
      · refine state_step (gates_sub gg 768 (by omega) (by omega) ?_ ?_) (kv_sub bb 768 (by omega) (by omega) ?_ ?_) ss <;> (intro x a; pointwise)
      · intro x a; pointwise
      · intro x a; pointwise
      · intro a; pointwise
      · omega
      · omega
    · refine out_tile 768 (by omega) (n1 := n0) (by omega) ?_ ?_ ?_ ?_ ?_ ?_ ?_ x ?_ ?_
      · refine gates_sub gg 768 (by omega) (by omega) ?_ ?_ <;> (intro x a; pointwise)
      · refine q_sub bb 768 (by omega) (by omega) ?_; intro x a; pointwise
      · refine kv_sub bb 768 (by omega) (by omega) ?_ ?_ <;> (intro x a; pointwise)
      · exact ss
      · intro x a; pointwise
      · intro x a; pointwise
      · intro a; pointwise
      · omega
      · omega

set_option maxHeartbeats 1600000 in
/-- The first point of a head starts from the zero state. -/
theorem point_A (c : Dev nD) (t : Fin cfg0.N) (e0 : t.val % 4 = 0) {li fg : ℕ → ℝ} {q k : ℕ → Fin 128 → ℝ} {v : ℕ → Fin 256 → ℝ} {n0 : ℕ}
    (gg : PointGates (iblk m c 3 t) (iblk m c 5 t) (iblk m c 4 t) (iblk m c 6 t) li fg n0)
    (bb : PointQkv (iblk m c 0 t) (iblk m c 1 t) (iblk m c 2 t) q k v n0)
    (ss : StateIs (k0_pay2 : FVec Ideal S128x256 .f32) (k0_pay3 : FVec Ideal S1x128 .f32) (k0_pay4 : FVec Ideal S1x1 .f32) li (logsig ∘ fg) k v n0) :
    PointIs (outsAt0 m c t.val t.isLt) (iblk m c 7 t) (iblk m c 8 t) (iblk m c 9 t) li (logsig ∘ fg) q k v n0 := by
  rw [outsAt0_A m c t e0]
  constructor
  · frame_out
    simp only [m0_eq, n0_eq, C0_eq, hout0_eq, y0_eq, m1_eq, n1_eq, C1_eq, hout1_eq, y1_eq, m2_eq, n2_eq, C2_eq, hout2_eq, y2_eq, m3_eq, n3_eq, C3_eq, hout3_eq, y3_eq]
    rw [show n0 + 1024 = n0 + 256 + 256 + 256 + 256 by omega]
    refine state_step (gates_sub gg 0 (by omega) (by omega) ?_ ?_) (kv_sub bb 0 (by omega) (by omega) ?_ ?_) (state_step (gates_sub gg 256 (by omega) (by omega) ?_ ?_) (kv_sub bb 256 (by omega) (by omega) ?_ ?_) (state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss)))
    all_goals (intro x a; pointwise)
  · intro y
    frame_out
    simp only [m0_eq, n0_eq, C0_eq, hout0_eq, y0_eq, m1_eq, n1_eq, C1_eq, hout1_eq, y1_eq, m2_eq, n2_eq, C2_eq, hout2_eq, y2_eq, m3_eq, n3_eq, C3_eq, hout3_eq, y3_eq]
    canon_tiles x h
    · refine out_tile 0 (by omega) (n1 := n0 + 256 + 256 + 256) (by omega) ?_ ?_ ?_ ?_ ?_ ?_ ?_ x ?_ ?_
      · refine gates_sub gg 0 (by omega) (by omega) ?_ ?_ <;> (intro x a; pointwise)
      · refine q_sub bb 0 (by omega) (by omega) ?_; intro x a; pointwise
      · refine kv_sub bb 0 (by omega) (by omega) ?_ ?_ <;> (intro x a; pointwise)
      · refine state_step (gates_sub gg 256 (by omega) (by omega) ?_ ?_) (kv_sub bb 256 (by omega) (by omega) ?_ ?_) (state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss)) <;> (intro x a; pointwise)
      · intro x a; pointwise
      · intro x a; pointwise
      · intro a; pointwise
      · omega
      · omega
    · refine out_tile 256 (by omega) (n1 := n0 + 256 + 256) (by omega) ?_ ?_ ?_ ?_ ?_ ?_ ?_ x ?_ ?_
      · refine gates_sub gg 256 (by omega) (by omega) ?_ ?_ <;> (intro x a; pointwise)
      · refine q_sub bb 256 (by omega) (by omega) ?_; intro x a; pointwise
      · refine kv_sub bb 256 (by omega) (by omega) ?_ ?_ <;> (intro x a; pointwise)
      · refine state_step (gates_sub gg 512 (by omega) (by omega) ?_ ?_) (kv_sub bb 512 (by omega) (by omega) ?_ ?_) (state_step (gates_sub gg 768 (by omega) (by omega) ?_ ?_) (kv_sub bb 768 (by omega) (by omega) ?_ ?_) ss) <;> (intro x a; pointwise)
      · intro x a; pointwise
      · intro x a; pointwise
      · intro a; pointwise
      · omega
      · omega
    · refine out_tile 512 (by omega) (n1 := n0 + 256) (by omega) ?_ ?_ ?_ ?_ ?_ ?_ ?_ x ?_ ?_
      · refine gates_sub gg 512 (by omega) (by omega) ?_ ?_ <;> (intro x a; pointwise)
      · refine q_sub bb 512 (by omega) (by omega) ?_; intro x a; pointwise
      · refine kv_sub bb 512 (by omega) (by omega) ?_ ?_ <;> (intro x a; pointwise)
      · refine state_step (gates_sub gg 768 (by omega) (by omega) ?_ ?_) (kv_sub bb 768 (by omega) (by omega) ?_ ?_) ss <;> (intro x a; pointwise)
      · intro x a; pointwise
      · intro x a; pointwise
      · intro a; pointwise
      · omega
      · omega
    · refine out_tile 768 (by omega) (n1 := n0) (by omega) ?_ ?_ ?_ ?_ ?_ ?_ ?_ x ?_ ?_
      · refine gates_sub gg 768 (by omega) (by omega) ?_ ?_ <;> (intro x a; pointwise)
      · refine q_sub bb 768 (by omega) (by omega) ?_; intro x a; pointwise
      · refine kv_sub bb 768 (by omega) (by omega) ?_ ?_ <;> (intro x a; pointwise)
      · exact ss
      · intro x a; pointwise
      · intro x a; pointwise
      · intro a; pointwise
      · omega
      · omega

end Cert.BwdIdeal.Value

end
-- ==== Proof.BwdFinal.lean ====
/-
  The kernel of the backward recurrence: the array it leaves holds the heads' outputs, joined with the forward ones, normalised
  and gated.
-/
module

public import proofs.«01_k».proof.Proof.Gen.BwdIdeal.Value
public import Idealize.ShloMosaic.Lib.Pipeline.ValueKit
public import Idealize.ShloMosaic.Lib.Claim
public import proofs.«01_k».proof.Proof.BwdPoint
public import proofs.«01_k».proof.Proof.KernelFinal

@[expose] public section

set_option maxRecDepth 16384

noncomputable section

namespace Cert.BwdIdeal.Value

open Idealize.ShloMosaic Idealize.ShloMosaic.TcCoe Idealize.SL.Sem
open Idealize.ShloMosaic.Pipeline (Dat)
open Cert.BwdIdeal Cert.BwdIdeal.Gen

variable (m : (ℓ : Loc nD τ sig) → Buf (Elt Ideal) ℓ)

open Cert.Recur

/-! ## The windows' blocks -/

/-- The grid's points: batch row, head, quarter of the sequence, the last quarter first. -/
theorem idx : ∀ t : Fin cfg0.N, win0_0.index t = ![t.val / 32 * 4 + (3 - t.val % 4), t.val / 4 % 8] ∧
    win0_1.index t = ![t.val / 32 * 4 + (3 - t.val % 4), 8 + t.val / 4 % 8] ∧ win0_2.index t = ![t.val / 32 * 4 + (3 - t.val % 4), 8 + t.val / 4 % 8] ∧
    win0_3.index t = ![t.val / 32, t.val / 4 % 8, 3 - t.val % 4, 0] ∧ win0_4.index t = ![t.val / 32, t.val / 4 % 8, 0, 3 - t.val % 4] ∧
    win0_5.index t = ![t.val / 4 % 8, 0, 0] ∧ win0_6.index t = ![t.val / 4 % 8, 0, 0] ∧
    win0_7.index t = ![t.val / 32 * 4 + (3 - t.val % 4), t.val / 4 % 8] ∧
    win0_8.index t = ![t.val / 32 * 4 + (3 - t.val % 4), 16 + t.val / 4 % 8] ∧ win0_9.index t = ![0, t.val / 4 % 8] ∧
    win0_10.index t = ![t.val / 32 * 4 + (3 - t.val % 4), t.val / 4 % 8] :=
  (by decide +kernel : ∀ t : Fin grid0.N, _)

/-- The norm gains as a row. -/
def ngOf (g : FVec Ideal S2048 .f32) : FVec Ideal S1x2048 .f32 := shapeCast S1x2048 g shapeCasts_S2048_S1x2048

theorem v2_eq (c : Dev nD) : V m c main_v2 = Cert.KernelIdeal.Value.zOf (m ((c : Thread nD τ).loc main_arg0)) := by
  entry_read
  rfl

theorem v5_eq (c : Dev nD) : V m c main_v5 = Cert.KernelIdeal.Value.gcOf (m ((c : Thread nD τ).loc main_arg0)) := by
  entry_read
  rfl

theorem v6_eq (c : Dev nD) : V m c main_v6 = Cert.KernelIdeal.Value.grOf (m ((c : Thread nD τ).loc main_arg0)) := by
  entry_read
  rfl

theorem v8_eq (c : Dev nD) : V m c main_v8 = Cert.KernelIdeal.Value.bcOf (m ((c : Thread nD τ).loc main_arg1)) := by
  entry_read
  rfl

theorem v10_eq (c : Dev nD) : V m c main_v10 = Cert.KernelIdeal.Value.brOf (m ((c : Thread nD τ).loc main_arg1)) := by
  entry_read
  rfl

theorem v11_eq (c : Dev nD) : V m c main_v11 = ngOf (m ((c : Thread nD τ).loc main_arg3)) := by
  entry_read
  rfl

theorem arg2_eq (c : Dev nD) : V m c main_arg2 = m ((c : Thread nD τ).loc main_arg2) := by
  entry_read
  rfl

theorem ngOf_at (g : FVec Ideal S2048 .f32) (j : Fin 2048) : ngOf g (ix2 0 j) = g (ix1 j) := by
  pointwise [ngOf]

theorem lt_N (t : Fin cfg0.N) : t.val < 128 := t.isLt

theorem in0_at (c : Dev nD) (t : Fin cfg0.N) (x : Fin 1024) (d : Fin 128) : (iblk m c 0 t : FVec Ideal S1024x128 .bf16) (ix2 x d)
    = (V m c main_v2 : FVec Ideal S16384x6144 .bf16) (ix2 ⟨(t.val / 32 * 4 + (3 - t.val % 4)) * 1024 + x.val, by have := lt_N t; omega⟩
        ⟨t.val / 4 % 8 * 128 + d.val, by omega⟩) := by
  blk_ext [iblk, idx t]

theorem in1_at (c : Dev nD) (t : Fin cfg0.N) (x : Fin 1024) (d : Fin 128) : (iblk m c 1 t : FVec Ideal S1024x128 .bf16) (ix2 x d)
    = (V m c main_v2 : FVec Ideal S16384x6144 .bf16) (ix2 ⟨(t.val / 32 * 4 + (3 - t.val % 4)) * 1024 + x.val, by have := lt_N t; omega⟩
        ⟨(8 + t.val / 4 % 8) * 128 + d.val, by omega⟩) := by
  blk_ext [iblk, idx t]

theorem in2_at (c : Dev nD) (t : Fin cfg0.N) (x : Fin 1024) (j : Fin 256) : (iblk m c 2 t : FVec Ideal S1024x256 .bf16) (ix2 x j)
    = (V m c main_v2 : FVec Ideal S16384x6144 .bf16) (ix2 ⟨(t.val / 32 * 4 + (3 - t.val % 4)) * 1024 + x.val, by have := lt_N t; omega⟩
        ⟨(8 + t.val / 4 % 8) * 256 + j.val, by omega⟩) := by
  blk_ext [iblk, idx t]

theorem in3_at (c : Dev nD) (t : Fin cfg0.N) (x : Fin 1024) (g : Fin 4) : (iblk m c 3 t : FVec Ideal S1x1x1024x4 .f32) (ix4 0 0 x g)
    = (V m c main_v5 : FVec Ideal S4x8x4096x4 .f32) (ix4 ⟨t.val / 32, by have := lt_N t; omega⟩ ⟨t.val / 4 % 8, by omega⟩
        ⟨(3 - t.val % 4) * 1024 + x.val, by omega⟩ g) := by
  blk_ext [iblk, idx t]

theorem in4_at (c : Dev nD) (t : Fin cfg0.N) (g : Fin 4) (x : Fin 1024) : (iblk m c 4 t : FVec Ideal S1x1x4x1024 .f32) (ix4 0 0 g x)
    = (V m c main_v6 : FVec Ideal S4x8x4x4096 .f32) (ix4 ⟨t.val / 32, by have := lt_N t; omega⟩ ⟨t.val / 4 % 8, by omega⟩ g
        ⟨(3 - t.val % 4) * 1024 + x.val, by omega⟩) := by
  blk_ext [iblk, idx t]

theorem in5_at (c : Dev nD) (t : Fin cfg0.N) (g : Fin 4) : (iblk m c 5 t : FVec Ideal S1x1x4 .f32) (ix3 0 0 g)
    = (V m c main_v8 : FVec Ideal S8x1x4 .f32) (ix3 ⟨t.val / 4 % 8, by omega⟩ 0 g) := by
  blk_ext [iblk, idx t]

theorem in6_at (c : Dev nD) (t : Fin cfg0.N) (g : Fin 4) : (iblk m c 6 t : FVec Ideal S1x4x1 .f32) (ix3 0 g 0)
    = (V m c main_v10 : FVec Ideal S8x4x1 .f32) (ix3 ⟨t.val / 4 % 8, by omega⟩ g 0) := by
  blk_ext [iblk, idx t]

theorem in7_at (c : Dev nD) (t : Fin cfg0.N) (x : Fin 1024) (j : Fin 256) : (iblk m c 7 t : FVec Ideal S1024x256 .f32) (ix2 x j)
    = (V m c main_arg2 : FVec Ideal S16384x2048 .f32) (ix2 ⟨(t.val / 32 * 4 + (3 - t.val % 4)) * 1024 + x.val, by have := lt_N t; omega⟩
        ⟨t.val / 4 % 8 * 256 + j.val, by omega⟩) := by
  blk_ext [iblk, idx t]

theorem in8_at (c : Dev nD) (t : Fin cfg0.N) (x : Fin 1024) (j : Fin 256) : (iblk m c 8 t : FVec Ideal S1024x256 .bf16) (ix2 x j)
    = (V m c main_v2 : FVec Ideal S16384x6144 .bf16) (ix2 ⟨(t.val / 32 * 4 + (3 - t.val % 4)) * 1024 + x.val, by have := lt_N t; omega⟩
        ⟨(16 + t.val / 4 % 8) * 256 + j.val, by omega⟩) := by
  blk_ext [iblk, idx t]

theorem in9_at (c : Dev nD) (t : Fin cfg0.N) (j : Fin 256) : (iblk m c 9 t : FVec Ideal S1x256 .f32) (ix2 0 j)
    = (V m c main_v11 : FVec Ideal S1x2048 .f32) (ix2 0 ⟨t.val / 4 % 8 * 256 + j.val, by omega⟩) := by
  blk_ext [iblk, idx t]

/-! ## The blocks are the heads' sequences -/

/-- The projection. -/
def Z (c : Dev nD) : FVec Ideal SZ .f32 := m ((c : Thread nD τ).loc main_arg0)

/-- The gate biases. -/
def G (c : Dev nD) : FVec Ideal SB .f32 := m ((c : Thread nD τ).loc main_arg1)

/-- The forward outputs. -/
def P (c : Dev nD) : FVec Ideal SO .f32 := m ((c : Thread nD τ).loc main_arg2)

/-- The norm gains. -/
def NG (c : Dev nD) : FVec Ideal SG .f32 := m ((c : Thread nD τ).loc main_arg3)

/-- A point's batch row. -/
def bat (t : Fin cfg0.N) : Fin 4 := ⟨t.val / 32, by have := lt_N t; omega⟩

/-- A point's head. -/
def hd (t : Fin cfg0.N) : Fin 8 := ⟨t.val / 4 % 8, by omega⟩

theorem qkv_is (c : Dev nD) (t : Fin cfg0.N) (hz : Real' (Z m c)) :
    PointQkv (iblk m c 0 t) (iblk m c 1 t) (iblk m c 2 t) (qb (Z m c) (bat t) (hd t)) (kb (Z m c) (bat t) (hd t)) (vb (Z m c) (bat t) (hd t))
      (t.val % 4 * 1024) := by
  have lt := lt_N t
  refine ⟨fun x d => ?_, fun x d => ?_, fun x d => ?_⟩
  · refine (in0_at m c t x d).trans ?_
    rw [v2_eq, Cert.KernelIdeal.Value.zOf_at]
    refine z_eq hz _ _ _ _ _ _ ?_ ?_ ?_ <;> simp only [bat, hd] <;> omega
  · refine (in1_at m c t x d).trans ?_
    rw [v2_eq, Cert.KernelIdeal.Value.zOf_at]
    refine z_eq hz _ _ _ _ _ _ ?_ ?_ ?_ <;> simp only [bat, hd] <;> omega
  · refine (in2_at m c t x d).trans ?_
    rw [v2_eq, Cert.KernelIdeal.Value.zOf_at]
    refine z_eq hz _ _ _ _ _ _ ?_ ?_ ?_ <;> simp only [bat, hd] <;> omega

/-- Where a row's step sits in the batch row. -/
theorem back (t : Fin cfg0.N) (x : Fin 1024) : (3 - t.val % 4) * 1024 + x.val = 4095 - (t.val % 4 * 1024 + (1023 - x.val)) := by
  omega

theorem gates_is (c : Dev nD) (t : Fin cfg0.N) (hz : Real' (Z m c)) (hw : Real' (G m c)) :
    PointGates (iblk m c 3 t) (iblk m c 5 t) (iblk m c 4 t) (iblk m c 6 t) (lib (Z m c) (G m c) (bat t) (hd t))
      (fgb (Z m c) (G m c) (bat t) (hd t)) (t.val % 4 * 1024) := by
  refine ⟨fun x => ?_, fun x => ?_, fun x => ?_, fun x => ?_⟩
  · refine (Ideal.add_congr (in3_at m c t x 2) (in5_at m c t 2)).trans ?_
    rw [v5_eq, v8_eq, Cert.KernelIdeal.Value.gcOf_at, Cert.KernelIdeal.Value.bcOf_at]
    exact Cert.KernelIdeal.Value.gate_sum hz hw _ _ _ _ 2 _ (back t x) (show 12304 + t.val / 4 % 8 = 12288 + (2 * 8 + t.val / 4 % 8) by omega)
  · refine (Ideal.add_congr (in3_at m c t x 3) (in5_at m c t 3)).trans ?_
    rw [v5_eq, v8_eq, Cert.KernelIdeal.Value.gcOf_at, Cert.KernelIdeal.Value.bcOf_at]
    exact Cert.KernelIdeal.Value.gate_sum hz hw _ _ _ _ 3 _ (back t x) (show 12312 + t.val / 4 % 8 = 12288 + (3 * 8 + t.val / 4 % 8) by omega)
  · refine (Ideal.add_congr (in4_at m c t 2 x) (in6_at m c t 2)).trans ?_
    rw [v6_eq, v10_eq, Cert.KernelIdeal.Value.grOf_at, Cert.KernelIdeal.Value.brOf_at]
    exact Cert.KernelIdeal.Value.gate_sum hz hw _ _ _ _ 2 _ (back t x) (show 12304 + t.val / 4 % 8 = 12288 + (2 * 8 + t.val / 4 % 8) by omega)
  · refine (Ideal.add_congr (in4_at m c t 3 x) (in6_at m c t 3)).trans ?_
    rw [v6_eq, v10_eq, Cert.KernelIdeal.Value.grOf_at, Cert.KernelIdeal.Value.brOf_at]
    exact Cert.KernelIdeal.Value.gate_sum hz hw _ _ _ _ 3 _ (back t x) (show 12312 + t.val / 4 % 8 = 12288 + (3 * 8 + t.val / 4 % 8) by omega)

/-- The zero state is the state before the first step. -/
theorem zero_state (li lf : ℕ → ℝ) (k : ℕ → Fin 128 → ℝ) (v : ℕ → Fin 256 → ℝ) :
    StateIs (k0_pay2 : FVec Ideal S128x256 .f32) (k0_pay3 : FVec Ideal S1x128 .f32) (k0_pay4 : FVec Ideal S1x1 .f32) li lf k v 0 := by
  refine ⟨fun d j => ?_, fun d => ?_, ?_⟩
  · rw [Cst_zero, EReal.coe_zero]; pointwise [k0_pay2]
  · rw [Nst_zero, EReal.coe_zero]; pointwise [k0_pay3]
  · rw [M_zero, EReal.coe_zero]; pointwise [k0_pay4]

/-- What a grid point leaves behind is the recurrence's, by induction along the points of a head. -/
theorem points (c : Dev nD) (hz : Real' (Z m c)) (hw : Real' (G m c)) (n : ℕ) : ∀ (h : n < cfg0.N),
    PointIs (outsAt0 m c n h) (iblk m c 7 ⟨n, h⟩) (iblk m c 8 ⟨n, h⟩) (iblk m c 9 ⟨n, h⟩)
      (lib (Z m c) (G m c) (bat ⟨n, h⟩) (hd ⟨n, h⟩)) (logsig ∘ fgb (Z m c) (G m c) (bat ⟨n, h⟩) (hd ⟨n, h⟩))
      (qb (Z m c) (bat ⟨n, h⟩) (hd ⟨n, h⟩)) (kb (Z m c) (bat ⟨n, h⟩) (hd ⟨n, h⟩)) (vb (Z m c) (bat ⟨n, h⟩) (hd ⟨n, h⟩)) (n % 4 * 1024) := by
  induction n with
  | zero =>
    intro h
    exact point_A m c ⟨0, h⟩ rfl (gates_is m c ⟨0, h⟩ hz hw) (qkv_is m c ⟨0, h⟩ hz) (zero_state _ _ _ _)
  | succ n ih =>
    intro h
    by_cases e : (n + 1) % 4 = 0
    · refine point_A m c ⟨n + 1, h⟩ e (gates_is m c ⟨n + 1, h⟩ hz hw) (qkv_is m c ⟨n + 1, h⟩ hz) ?_
      rw [e]
      exact zero_state _ _ _ _
    · refine point_B m c ⟨n + 1, h⟩ e (gates_is m c ⟨n + 1, h⟩ hz hw) (qkv_is m c ⟨n + 1, h⟩ hz) ?_
      have i := (ih (Nat.lt_of_succ_lt h)).state
      have eb : bat ⟨n, Nat.lt_of_succ_lt h⟩ = bat ⟨n + 1, h⟩ := Fin.ext (by simp only [bat]; omega)
      have eh : hd ⟨n, Nat.lt_of_succ_lt h⟩ = hd ⟨n + 1, h⟩ := Fin.ext (by simp only [hd]; omega)
      have en : n % 4 * 1024 + 1024 = (n + 1) % 4 * 1024 := by omega
      rw [eb, eh, en] at i
      exact i

/-- Where an entry of a block of the result sits. -/
theorem out_at (t : Fin cfg0.N) (x : Fin 1024) (j : Fin 256) : ((cfg0.win 10).blk t).view.emb (ix2 x j : S1024x256.Idx)
    = (ix2 ⟨(t.val / 32 * 4 + (3 - t.val % 4)) * 1024 + x.val, by have := lt_N t; omega⟩ ⟨t.val / 4 % 8 * 256 + j.val, by omega⟩ : S16384x2048.Idx) := by
  blk_ext [idx t]

/-- Equal rows, gains and gates give equal entries. -/
theorem gated_congr {f f' : Fin 256 → EReal} {g g' o o' : EReal} (hf : ∀ x, f x = f' x) (hg : g = g') (ho : o = o') (j : Fin 256) :
    gated f g o j = gated f' g' o' j := by
  rw [show f = f' from funext hf, hg, ho]

/-- The array after the run. -/
theorem final (c : Dev nD) (hz : Real' (Z m c)) (hw : Real' (G m c)) :
    (dats m 0 c).arrAt 10 (cfgs 0).N = OUTB (Z m c) (G m c) (P m c) (NG m c) := by
  refine (dats m 0 c).arrAt_eq_of_covers 10 _ (by decide +kernel) fun t _ y => ?_
  blk_simp
  rw [after0_10]
  refine ((points m c hz hw t.val t.isLt).out y).trans ?_
  symm
  idx_vars y
  refine (congrArg (OUTB (Z m c) (G m c) (P m c) (NG m c)) (out_at t y0 y1)).trans ?_
  have lt := lt_N t
  have y0l : y0.val < 1024 := y0.isLt
  refine (OUTB_apply _ _ _ _ (bat t) (hd t) ⟨(3 - t.val % 4) * 1024 + y0.val, by omega⟩ y1 _ _ ?_ ?_).trans ?_
  · show (t.val / 32 * 4 + (3 - t.val % 4)) * 1024 + y0.val = t.val / 32 * 4096 + ((3 - t.val % 4) * 1024 + y0.val)
    omega
  · rfl
  · refine gated_congr (fun x => ?_) ?_ ?_ y1
    · refine Ideal.add_congr ?_ ((congrFun (arg2_eq m c) _).symm.trans (in7_at m c t y0 x).symm)
      rw [hb]
      exact congrArg (fun n => ((H _ _ _ _ _ scale n x : ℝ) : EReal))
        (show 4095 - ((3 - t.val % 4) * 1024 + y0.val) = t.val % 4 * 1024 + (1023 - y0.val) by omega)
    · refine Eq.trans ?_ (in9_at m c t y1).symm
      rw [v11_eq, ngOf_at]
      rfl
    · refine Eq.trans ?_ (in8_at m c t y0 y1).symm
      rw [v2_eq, Cert.KernelIdeal.Value.zOf_at]
      refine congrArg (Z m c) ?_
      have e0 : bat t = ⟨((t.val / 32 * 4 + (3 - t.val % 4)) * 1024 + y0.val) / 4096, by omega⟩ := Fin.ext (by simp only [bat]; omega)
      have e1 : (⟨(3 - t.val % 4) * 1024 + y0.val, by omega⟩ : Fin 4096) = ⟨((t.val / 32 * 4 + (3 - t.val % 4)) * 1024 + y0.val) % 4096, by omega⟩ :=
        Fin.ext (by dsimp only; omega)
      rw [e0, e1]
      exact congrArg (ix3 _ _) (Fin.ext (by
        have y1l : y1.val < 256 := y1.isLt
        show 10240 + (t.val / 4 % 8 * 256 + y1.val) = 6144 + ((16 + t.val / 4 % 8) * 256 + y1.val)
        omega))

end Cert.BwdIdeal.Value

end
-- ==== Proof.BwdRefChunk.lean ====
/-
  One trip of the backward reference's loop over chunks of 64 steps: its operations are those of the forward reference's loop,
  and they compute the outputs and the state of the recurrence over the sequences it is given.
-/
module

public import proofs.«01_k».proof.Proof.Gen.BwdReferenceIdeal.Run
public import proofs.«01_k».proof.Proof.RefChunk

@[expose] public section

set_option maxRecDepth 16384

noncomputable section

namespace Cert.BwdReferenceIdeal.Value

open Idealize.ShloMosaic Idealize.ShloMosaic.TcCoe Idealize.SL.Sem Idealize.ShloMosaic.StableHlo
open Cert.BwdReferenceIdeal Cert.BwdReferenceIdeal.Gen
open Cert.Recur

/-! ## The chunks' inputs and the state they are given -/

/-- What the loop reads and never changes: the chunks of queries, keys, values and gates, and the mask. -/
structure Inputs (V : Valuation τ sig (Elt Ideal)) (li lf : Fin 4 → Fin 8 → ℕ → ℝ) (q k : Fin 4 → Fin 8 → ℕ → Fin 128 → ℝ)
    (v : Fin 4 → Fin 8 → ℕ → Fin 256 → ℝ) : Prop where
  q : ∀ (c : Fin 64) (b : Fin 4) (h : Fin 8) (x : Fin 64) (d : Fin 128),
    (V (Proc.devRef .tc main_v43_0) : FVec Ideal S64x4x8x64x128 .f32) (ix5 c b h x d) = ((q b h (c.val * 64 + x.val) d : ℝ) : EReal)
  k : ∀ (c : Fin 64) (b : Fin 4) (h : Fin 8) (x : Fin 64) (d : Fin 128),
    (V (Proc.devRef .tc main_v43_1) : FVec Ideal S64x4x8x64x128 .f32) (ix5 c b h x d) = ((k b h (c.val * 64 + x.val) d : ℝ) : EReal)
  v : ∀ (c : Fin 64) (b : Fin 4) (h : Fin 8) (x : Fin 64) (d : Fin 256),
    (V (Proc.devRef .tc main_v43_2) : FVec Ideal S64x4x8x64x256 .f32) (ix5 c b h x d) = ((v b h (c.val * 64 + x.val) d : ℝ) : EReal)
  li : ∀ (c : Fin 64) (b : Fin 4) (h : Fin 8) (x : Fin 64),
    (V (Proc.devRef .tc main_v43_3) : FVec Ideal S64x4x8x64 .f32) (ix4 c b h x) = ((li b h (c.val * 64 + x.val) : ℝ) : EReal)
  lf : ∀ (c : Fin 64) (b : Fin 4) (h : Fin 8) (x : Fin 64),
    (V (Proc.devRef .tc main_v43_4) : FVec Ideal S64x4x8x64 .f32) (ix4 c b h x) = ((lf b h (c.val * 64 + x.val) : ℝ) : EReal)
  mask : ∀ i s : Fin 64, (V (Proc.devRef .tc main_v43_5) : IVec S64x64 1) (ix2 i s) = if s ≤ i then 1#1 else 0#1

/-- What the loop carries into chunk `c`: the state after the chunks before it. -/
structure Carried (V : Valuation τ sig (Elt Ideal)) (li lf : Fin 4 → Fin 8 → ℕ → ℝ) (k : Fin 4 → Fin 8 → ℕ → Fin 128 → ℝ)
    (v : Fin 4 → Fin 8 → ℕ → Fin 256 → ℝ) (c : ℕ) : Prop where
  ctr : V (Proc.devRef .tc main_v43_6) = fun _ => BitVec.ofNat 32 c
  C : ∀ (b : Fin 4) (h : Fin 8) (d : Fin 128) (j : Fin 256),
    (V (Proc.devRef .tc main_v43_7) : FVec Ideal S4x8x128x256 .f32) (ix4 b h d j) = ((Cst (li b h) (lf b h) (k b h) (v b h) (c * 64) d j : ℝ) : EReal)
  n : ∀ (b : Fin 4) (h : Fin 8) (d : Fin 128),
    (V (Proc.devRef .tc main_v43_8) : FVec Ideal S4x8x128 .f32) (ix3 b h d) = ((Nst (li b h) (lf b h) (k b h) (c * 64) d : ℝ) : EReal)
  m : ∀ (b : Fin 4) (h : Fin 8),
    (V (Proc.devRef .tc main_v43_9) : FVec Ideal S4x8 .f32) (ix2 b h) = ((M (li b h) (lf b h) (c * 64) : ℝ) : EReal)

variable {V : Valuation τ sig (Elt Ideal)} {li lf : Fin 4 → Fin 8 → ℕ → ℝ} {q k : Fin 4 → Fin 8 → ℕ → Fin 128 → ℝ}
  {v : Fin 4 → Fin 8 → ℕ → Fin 256 → ℝ} {c : Fin 64}

/-! ## One trip -/

theorem q_at (hI : Inputs V li lf q k v) (hC : Carried V li lf k v c.val) (b : Fin 4) (h : Fin 8) (x : Fin 64) (d : Fin 128) :
    (res_main_while0b_v84 V : FVec Ideal S4x8x64x128 .f32) (ix4 b h x d) = ((q b h (c.val * 64 + x.val) d : ℝ) : EReal) := by
  rw [← hI.q, res_main_while0b_v84, hC.ctr]
  exact Cert.ReferenceIdeal.Value.slice_rows _ c b h x d

theorem k_at (hI : Inputs V li lf q k v) (hC : Carried V li lf k v c.val) (b : Fin 4) (h : Fin 8) (x : Fin 64) (d : Fin 128) :
    (res_main_while0b_v85 V : FVec Ideal S4x8x64x128 .f32) (ix4 b h x d) = ((k b h (c.val * 64 + x.val) d : ℝ) : EReal) := by
  rw [← hI.k, res_main_while0b_v85, hC.ctr]
  exact Cert.ReferenceIdeal.Value.slice_rows _ c b h x d

theorem v_at (hI : Inputs V li lf q k v) (hC : Carried V li lf k v c.val) (b : Fin 4) (h : Fin 8) (x : Fin 64) (j : Fin 256) :
    (res_main_while0b_v86 V : FVec Ideal S4x8x64x256 .f32) (ix4 b h x j) = ((v b h (c.val * 64 + x.val) j : ℝ) : EReal) := by
  rw [← hI.v, res_main_while0b_v86, hC.ctr]
  exact Cert.ReferenceIdeal.Value.slice_values _ c b h x j

theorem li_at (hI : Inputs V li lf q k v) (hC : Carried V li lf k v c.val) (b : Fin 4) (h : Fin 8) (x : Fin 64) :
    (res_main_while0b_v87 V : FVec Ideal S4x8x64 .f32) (ix3 b h x) = ((li b h (c.val * 64 + x.val) : ℝ) : EReal) := by
  rw [← hI.li, res_main_while0b_v87, hC.ctr]
  exact Cert.ReferenceIdeal.Value.slice_gates _ c b h x

theorem b_at (hI : Inputs V li lf q k v) (hC : Carried V li lf k v c.val) (b : Fin 4) (h : Fin 8) (i : Fin 64) :
    (res_main_while0b_v89 V : FVec Ideal S4x8x64 .f32) (ix3 b h i)
      = ((B (lf b h) (c.val * 64 + i.val + 1) - B (lf b h) (c.val * 64) : ℝ) : EReal) := by
  rw [res_main_while0b_v89, hC.ctr, ← cum]
  refine (Cert.ReferenceIdeal.Value.cumsum_at _ b h i).trans (Finset.sum_congr rfl fun s _ => ?_)
  rw [← hI.lf]
  exact if_congr Iff.rfl (Cert.ReferenceIdeal.Value.slice_gates _ c b h s) rfl

theorem d_at (hI : Inputs V li lf q k v) (hC : Carried V li lf k v c.val) (b : Fin 4) (h : Fin 8) (i s : Fin 64) :
    (res_main_while0b_v98 V : FVec Ideal S4x8x64x64 .f32) (ix4 b h i s)
      = if s ≤ i then ((B (lf b h) (c.val * 64 + i.val + 1) - B (lf b h) (c.val * 64 + s.val + 1) + li b h (c.val * 64 + s.val) : ℝ) : EReal)
        else ⊥ := by
  rw [res_main_while0b_v98]
  refine (Cert.ReferenceIdeal.Value.d_apply _ _ _ b h i s).trans ?_
  rw [hI.mask, Cert.ReferenceIdeal.Value.select_mask, b_at hI hC, b_at hI hC, li_at hI hC, ofBits_bot, ← EReal.coe_sub, ← EReal.coe_add]
  refine if_congr Iff.rfl (congrArg _ ?_) rfl
  ring

theorem inter_at (hI : Inputs V li lf q k v) (hC : Carried V li lf k v c.val) (b : Fin 4) (h : Fin 8) (i : Fin 64) :
    (res_main_while0b_v101 V : FVec Ideal S4x8x64 .f32) (ix3 b h i)
      = ((B (lf b h) (c.val * 64 + i.val + 1) - B (lf b h) (c.val * 64) + M (li b h) (lf b h) (c.val * 64) : ℝ) : EReal) := by
  rw [EReal.coe_add, ← b_at hI hC, ← hC.m]
  pointwise [res_main_while0b_v101]

theorem mt_at (hI : Inputs V li lf q k v) (hC : Carried V li lf k v c.val) (b : Fin 4) (h : Fin 8) (i : Fin 64) :
    (res_main_while0b_v103 V : FVec Ideal S4x8x64 .f32) (ix3 b h i) = ((M (li b h) (lf b h) (c.val * 64 + i.val + 1) : ℝ) : EReal) := by
  rw [← rowmax, ← inter_at hI hC, res_main_while0b_v103]
  simp only [← d_at hI hC]
  exact Cert.ReferenceIdeal.Value.mt_apply _ _ b h i

theorem w_at (hI : Inputs V li lf q k v) (hC : Carried V li lf k v c.val) (b : Fin 4) (h : Fin 8) (i : Fin 64) :
    (res_main_while0b_v111 V : FVec Ideal S4x8x64 .f32) (ix3 b h i)
      = ((keep (li b h) (lf b h) (c.val * 64) (c.val * 64 + i.val + 1) : ℝ) : EReal) := by
  rw [res_main_while0b_v111]
  refine (Cert.ReferenceIdeal.Value.w_apply _ _ b h i).trans ?_
  rw [inter_at hI hC, mt_at hI hC, ← EReal.coe_sub, Ideal.exp_coe, keep]

theorem s_at (hI : Inputs V li lf q k v) (hC : Carried V li lf k v c.val) (b : Fin 4) (h : Fin 8) (i s : Fin 64) :
    (res_main_while0b_v109 V : FVec Ideal S4x8x64x64 .f32) (ix4 b h i s)
      = if s ≤ i then ((Q (q b h) (k b h) 1 (c.val * 64 + i.val) (c.val * 64 + s.val)
          * W (li b h) (lf b h) (c.val * 64 + i.val + 1) (c.val * 64 + s.val) : ℝ) : EReal) else 0 := by
  rw [res_main_while0b_v109]
  refine (Cert.ReferenceIdeal.Value.s_apply _ _ _ _ b h i s).trans ?_
  rw [d_at hI hC, mt_at hI hC, weight]
  simp only [q_at hI hC, k_at hI hC, ← EReal.coe_mul]
  rw [← coe_sum, mul_ite, mul_zero, ← EReal.coe_mul, Q, mul_one]

theorem blast_at (hI : Inputs V li lf q k v) (hC : Carried V li lf k v c.val) (b : Fin 4) (h : Fin 8) :
    (res_main_while0b_v130 V : FVec Ideal S4x8 .f32) (ix2 b h) = ((B (lf b h) (c.val * 64 + 64) - B (lf b h) (c.val * 64) : ℝ) : EReal) := by
  refine Eq.trans ?_ (b_at hI hC b h 63)
  pointwise [res_main_while0b_v130]

theorem wlog_at (hI : Inputs V li lf q k v) (hC : Carried V li lf k v c.val) (b : Fin 4) (h : Fin 8) (s : Fin 64) :
    (res_main_while0b_v134 V : FVec Ideal S4x8x64 .f32) (ix3 b h s)
      = ((B (lf b h) (c.val * 64 + 64) - B (lf b h) (c.val * 64 + s.val + 1) + li b h (c.val * 64 + s.val) : ℝ) : EReal) := by
  rw [res_main_while0b_v134]
  refine (Cert.ReferenceIdeal.Value.wlog_apply _ _ _ b h s).trans ?_
  rw [blast_at hI hC, b_at hI hC, li_at hI hC, ← EReal.coe_sub, ← EReal.coe_add]
  congr 1
  ring

theorem mnew_at (hI : Inputs V li lf q k v) (hC : Carried V li lf k v c.val) (b : Fin 4) (h : Fin 8) :
    (res_main_while0b_v137 V : FVec Ideal S4x8 .f32) (ix2 b h) = ((M (li b h) (lf b h) (c.val * 64 + 64) : ℝ) : EReal) := by
  rw [← lastmax (T := 64), EReal.coe_add, ← blast_at hI hC, ← hC.m, res_main_while0b_v137]
  simp only [← wlog_at hI hC]
  exact Cert.ReferenceIdeal.Value.mnew_apply _ _ _ b h

theorem kw_at (hI : Inputs V li lf q k v) (hC : Carried V li lf k v c.val) (b : Fin 4) (h : Fin 8) (s : Fin 64) (d : Fin 128) :
    (res_main_while0b_v144 V : FVec Ideal S4x8x64x128 .f32) (ix4 b h s d)
      = ((k b h (c.val * 64 + s.val) d : ℝ) : EReal) * ((W (li b h) (lf b h) (c.val * 64 + 64) (c.val * 64 + s.val) : ℝ) : EReal) := by
  rw [res_main_while0b_v144]
  refine (Cert.ReferenceIdeal.Value.kw_apply _ _ _ b h s d).trans ?_
  rw [k_at hI hC, wlog_at hI hC, mnew_at hI hC, ← EReal.coe_sub, Ideal.exp_coe, W]

theorem decay_at (hI : Inputs V li lf q k v) (hC : Carried V li lf k v c.val) (b : Fin 4) (h : Fin 8) :
    (res_main_while0b_v147 V : FVec Ideal S4x8 .f32) (ix2 b h) = ((keep (li b h) (lf b h) (c.val * 64) (c.val * 64 + 64) : ℝ) : EReal) := by
  rw [res_main_while0b_v147]
  refine (Cert.ReferenceIdeal.Value.decay_apply _ _ _ b h).trans ?_
  rw [blast_at hI hC, hC.m, mnew_at hI hC, ← EReal.coe_add, ← EReal.coe_sub, Ideal.exp_coe, keep]

/-- The outputs of a trip. -/
theorem hout_at (hI : Inputs V li lf q k v) (hC : Carried V li lf k v c.val) (b : Fin 4) (h : Fin 8) (i : Fin 64) (j : Fin 256) :
    Cert.ReferenceIdeal.Value.houtR (res_main_while0b_v111 V) (res_main_while0b_v103 V) (res_main_while0b_v84 V) (res_main_while0b_v86 V) (res_main_while0b_v109 V)
      (V (Proc.devRef .tc main_v43_7)) (V (Proc.devRef .tc main_v43_8)) (ix4 b h i j)
      = ((H (li b h) (lf b h) (q b h) (k b h) (v b h) 1 (c.val * 64 + i.val) j : ℝ) : EReal) := by
  have ans : (∑ d : Fin 128, q b h (c.val * 64 + i.val) d * Cst (li b h) (lf b h) (k b h) (v b h) (c.val * 64) d j)
      = num (li b h) (lf b h) (q b h) (k b h) (v b h) 1 (c.val * 64) (c.val * 64 + i.val) j := by
    rw [← answer, mul_one]
  have ansd : (∑ d : Fin 128, q b h (c.val * 64 + i.val) d * Nst (li b h) (lf b h) (k b h) (c.val * 64) d)
      = den (li b h) (lf b h) (q b h) (k b h) 1 (c.val * 64) (c.val * 64 + i.val) := by
    rw [← answer_den, mul_one]
  rw [Cert.ReferenceIdeal.Value.hout_apply]
  simp only [q_at hI hC, v_at hI hC, s_at hI hC, w_at hI hC, mt_at hI hC, hC.C, hC.n]
  simp only [← EReal.coe_mul (q b h _ _)]
  rw [← coe_sum, ← coe_sum, ans, ansd, row_num, row_den, ← EReal.coe_neg (Recur.M _ _ _), Ideal.exp_coe, quotient]

/-- The state a trip leaves. -/
theorem step_carried (hI : Inputs V li lf q k v) (hC : Carried V li lf k v c.val) : Carried (STEP V) li lf k v (c.val + 1) where
  ctr := by
    rw [STEP_main_v43_6, step_main_v43_6, hC.ctr]
    funext i
    show BitVec.ofNat 32 c.val + 1#32 = BitVec.ofNat 32 (c.val + 1)
    rw [BitVec.ofNat_add]
  C := fun b h d j => by
    rw [STEP_main_v43_7, show (c.val + 1) * 64 = c.val * 64 + 64 by ring, ← chunk_C (T := 64), ← hC.C, ← decay_at hI hC]
    simp only [← kw_at hI hC, ← v_at hI hC]
    exact Cert.ReferenceIdeal.Value.C_apply _ _ _ _ b h d j
  n := fun b h d => by
    rw [STEP_main_v43_8, show (c.val + 1) * 64 = c.val * 64 + 64 by ring, ← chunk_N (T := 64), ← hC.n, ← decay_at hI hC]
    simp only [← kw_at hI hC]
    exact Cert.ReferenceIdeal.Value.n_apply _ _ _ b h d
  m := fun b h => by
    rw [STEP_main_v43_9, show (c.val + 1) * 64 = c.val * 64 + 64 by ring, ← mnew_at hI hC]
    rfl

/-- The inputs stay as they are. -/
theorem step_inputs (hI : Inputs V li lf q k v) : Inputs (STEP V) li lf q k v where
  q := by rw [STEP_main_v43_0]; exact hI.q
  k := by rw [STEP_main_v43_1]; exact hI.k
  v := by rw [STEP_main_v43_2]; exact hI.v
  li := by rw [STEP_main_v43_3]; exact hI.li
  lf := by rw [STEP_main_v43_4]; exact hI.lf
  mask := by rw [STEP_main_v43_5]; exact hI.mask

/-- The outputs a trip adds to those of the trips before. -/
theorem step_out (hI : Inputs V li lf q k v) (hC : Carried V li lf k v c.val) (c' : Fin 64) (b : Fin 4) (h : Fin 8) (x : Fin 64) (j : Fin 256) :
    (STEP V (Proc.devRef .tc main_v43_10) : FVec Ideal S64x4x8x64x256 .f32) (ix5 c' b h x j)
      = if c' = c then ((H (li b h) (lf b h) (q b h) (k b h) (v b h) 1 (c.val * 64 + x.val) j : ℝ) : EReal)
        else (V (Proc.devRef .tc main_v43_10) : FVec Ideal S64x4x8x64x256 .f32) (ix5 c' b h x j) := by
  rw [STEP_main_v43_10, step_main_v43_10, hC.ctr, ← hout_at hI hC]
  exact Cert.ReferenceIdeal.Value.put_apply _ _ c c' b h x j

/-- What the loop has made after `n` trips. -/
theorem after_trips (hI : Inputs V li lf q k v) (hC : Carried V li lf k v 0) (n : ℕ) (hn : n ≤ 64) :
    Inputs (STEP^[n] V) li lf q k v ∧ Carried (STEP^[n] V) li lf k v n
      ∧ ∀ (c : Fin 64) (b : Fin 4) (h : Fin 8) (x : Fin 64) (j : Fin 256), c.val < n →
        (STEP^[n] V (Proc.devRef .tc main_v43_10) : FVec Ideal S64x4x8x64x256 .f32) (ix5 c b h x j)
          = ((H (li b h) (lf b h) (q b h) (k b h) (v b h) 1 (c.val * 64 + x.val) j : ℝ) : EReal) := by
  induction n with
  | zero => exact ⟨hI, hC, fun c b h x j hc => absurd hc (Nat.not_lt_zero _)⟩
  | succ n ih =>
    obtain ⟨hI', hC', ho⟩ := ih (by omega)
    have hC'' : Carried (STEP^[n] V) li lf k v (⟨n, by omega⟩ : Fin 64).val := hC'
    rw [Function.iterate_succ_apply']
    refine ⟨step_inputs hI', step_carried hI' hC'', fun c b h x j hc => ?_⟩
    rw [step_out hI' hC'']
    by_cases e : c = ⟨n, by omega⟩
    · rw [if_pos e, e]
    · rw [if_neg e]
      exact ho c b h x j (by have : c.val ≠ n := fun e' => e (Fin.ext e'); omega)

end Cert.BwdReferenceIdeal.Value

end
-- ==== Proof.BwdRefValue.lean ====
/-
  The backward reference's result: both directions' outputs of all heads, normalised, and gated.
-/
module

public import proofs.«01_k».proof.Proof.BwdRefChunk
public import proofs.«01_k».proof.Proof.BwdHeads
public import proofs.«01_k».proof.Proof.RefValue

@[expose] public section

set_option maxRecDepth 16384

noncomputable section

namespace Cert.BwdReferenceIdeal.Value

open Idealize.ShloMosaic Idealize.ShloMosaic.TcCoe Idealize.SL.Sem Idealize.ShloMosaic.StableHlo
open Cert.BwdReferenceIdeal Cert.BwdReferenceIdeal.Gen
open Cert.Recur

/-! ## What the operations before the loop make of the arguments -/

/-- The chunks of queries, the last step first. -/
def qR (z : FVec Ideal S4x4096x20512 .f32) : FVec Ideal S64x4x8x64x128 .f32 :=
  transpose S64x4x8x64x128 [2, 0, 1, 3, 4] (shapeCast S4x8x64x64x128 (Host.reverse [2] (mulf (transpose S4x8x4096x128 [0, 2, 1, 3]
    (shapeCast S4x4096x8x128 (extractStridedSlice S4x4096x1024 ![0, 0, 6144] z slices_S4x4096x20512_S4x4096x1024_0_0_6144)
      shapeCasts_S4x4096x1024_S4x4096x8x128) transposes_S4x4096x8x128_S4x8x4096x128_0_2_1_3)
    (broadcastInDim S4x8x4096x128 ![] bcast_S_S4x8x4096x128 (constant S_ .f32 0x3DB504F3#32))))
    shapeCasts_S4x8x4096x128_S4x8x64x64x128) transposes_S4x8x64x64x128_S64x4x8x64x128_2_0_1_3_4

/-- The chunks of keys, the last step first. -/
def kR (z : FVec Ideal S4x4096x20512 .f32) : FVec Ideal S64x4x8x64x128 .f32 :=
  transpose S64x4x8x64x128 [2, 0, 1, 3, 4] (shapeCast S4x8x64x64x128 (Host.reverse [2] (transpose S4x8x4096x128 [0, 2, 1, 3]
    (shapeCast S4x4096x8x128 (extractStridedSlice S4x4096x1024 ![0, 0, 7168] z slices_S4x4096x20512_S4x4096x1024_0_0_7168)
      shapeCasts_S4x4096x1024_S4x4096x8x128) transposes_S4x4096x8x128_S4x8x4096x128_0_2_1_3))
    shapeCasts_S4x8x4096x128_S4x8x64x64x128) transposes_S4x8x64x64x128_S64x4x8x64x128_2_0_1_3_4

/-- The chunks of values, the last step first. -/
def vR (z : FVec Ideal S4x4096x20512 .f32) : FVec Ideal S64x4x8x64x256 .f32 :=
  transpose S64x4x8x64x256 [2, 0, 1, 3, 4] (shapeCast S4x8x64x64x256 (Host.reverse [2] (transpose S4x8x4096x256 [0, 2, 1, 3]
    (shapeCast S4x4096x8x256 (extractStridedSlice S4x4096x2048 ![0, 0, 8192] z slices_S4x4096x20512_S4x4096x2048_0_0_8192)
      shapeCasts_S4x4096x2048_S4x4096x8x256) transposes_S4x4096x8x256_S4x8x4096x256_0_2_1_3))
    shapeCasts_S4x8x4096x256_S4x8x64x64x256) transposes_S4x8x64x64x256_S64x4x8x64x256_2_0_1_3_4

/-- The log input gates. -/
def liR (z : FVec Ideal S4x4096x20512 .f32) (w : FVec Ideal S4x8 .f32) : FVec Ideal S4x8x4096 .f32 :=
  shapeCast S4x8x4096 (extractStridedSlice S1x4x8x4096 ![2, 0, 0, 0] (Cert.ReferenceIdeal.Value.gR z w) slices_S4x4x8x4096_S1x4x8x4096_2_0_0_0)
    shapeCasts_S1x4x8x4096_S4x8x4096

/-- What the forget gates are the logistic function of. -/
def fgR (z : FVec Ideal S4x4096x20512 .f32) (w : FVec Ideal S4x8 .f32) : FVec Ideal S4x8x4096 .f32 :=
  shapeCast S4x8x4096 (extractStridedSlice S1x4x8x4096 ![3, 0, 0, 0] (Cert.ReferenceIdeal.Value.gR z w) slices_S4x4x8x4096_S1x4x8x4096_3_0_0_0)
    shapeCasts_S1x4x8x4096_S4x8x4096

variable (m : (ℓ : Loc nD τ sig) → Buf (Elt Ideal) ℓ) (c : Dev nD)

/-- The projection. -/
def ZR : FVec Ideal S4x4096x20512 .f32 := m ((c : Thread nD τ).loc main_arg0)

/-- The gate biases. -/
def GR : FVec Ideal S4x8 .f32 := m ((c : Thread nD τ).loc main_arg1)

/-- The forward outputs. -/
def PR : FVec Ideal S16384x2048 .f32 := m ((c : Thread nD τ).loc main_arg2)

/-- The norm gains. -/
def NR : FVec Ideal S2048 .f32 := m ((c : Thread nD τ).loc main_arg3)

set_option maxHeartbeats 2000000 in
theorem entry_q : entryContents preI m c (Proc.devRef .tc main_v43_0) = qR (ZR m c) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_k : entryContents preI m c (Proc.devRef .tc main_v43_1) = kR (ZR m c) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_v : entryContents preI m c (Proc.devRef .tc main_v43_2) = vR (ZR m c) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_li : entryContents preI m c (Proc.devRef .tc main_v43_3) = Cert.ReferenceIdeal.Value.cut (Host.reverse [2] (liR (ZR m c) (GR m c))) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_lf : entryContents preI m c (Proc.devRef .tc main_v43_4) = Cert.ReferenceIdeal.Value.cut (Host.reverse [2] (Cert.ReferenceIdeal.Value.lfR (fgR (ZR m c) (GR m c)))) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_mask : entryContents preI m c (Proc.devRef .tc main_v43_5) = Cert.ReferenceIdeal.Value.maskR := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_C : (entryContents preI m c (Proc.devRef .tc main_v43_7) : FVec Ideal S4x8x128x256 .f32)
    = broadcastInDim S4x8x128x256 ![] bcast_S_S4x8x128x256 (constant (F := Ideal) S_ .f32 0x00000000#32) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_n : (entryContents preI m c (Proc.devRef .tc main_v43_8) : FVec Ideal S4x8x128 .f32)
    = broadcastInDim S4x8x128 ![] bcast_S_S4x8x128 (constant (F := Ideal) S_ .f32 0x00000000#32) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

set_option maxHeartbeats 2000000 in
theorem entry_m : (entryContents preI m c (Proc.devRef .tc main_v43_9) : FVec Ideal S4x8 .f32)
    = broadcastInDim S4x8 ![] bcast_S_S4x8 (constant (F := Ideal) S_ .f32 0x00000000#32) := by
  simp only [preI, entryContents, afterL_cons, afterL_nil, hostOps0, hostOps0_1, hostOps0_2, hostOps0_3, hostOps0_4, hostOps0_5, hostOps0_6, hostOps0_7, hostOps0_8, hostOps0_9, hostOps0_10, hostOps0_11]
  after_results_entrywise []

/-! ## What they are -/

variable {z : FVec Ideal SZ .f32} {w : FVec Ideal SB .f32}

/-- An entry of an array read from the end of its third axis. -/
theorem rev4_at {n : ℕ} {α : Type} (X : (⟨4, ![4, 8, 4096, n]⟩ : Shape).Idx → α) (b : Fin 4) (h : Fin 8) (t : Fin 4096) (d : Fin n) :
    Host.reverse (s := ⟨4, ![4, 8, 4096, n]⟩) [2] X (ix4 b h t d) = X (ix4 b h ⟨4095 - t.val, by omega⟩ d) := by
  rw [Host.reverse_apply]
  have e : t.rev = ⟨4095 - t.val, by omega⟩ := Fin.ext (by simp only [Fin.val_rev]; omega)
  rw [← e]
  refine congrArg X (funext fun a => ?_)
  fin_cases a <;> rfl

/-- An entry of a sequence of gates read from its end. -/
theorem rev_apply (X : FVec Ideal S4x8x4096 .f32) (b : Fin 4) (h : Fin 8) (t : Fin 4096) :
    Host.reverse [2] X (ix3 b h t) = X (ix3 b h ⟨4095 - t.val, by omega⟩) := by
  rw [Host.reverse_apply]
  have e : t.rev = ⟨4095 - t.val, by omega⟩ := Fin.ext (by simp only [Fin.val_rev]; omega)
  rw [← e]
  refine congrArg X (funext fun a => ?_)
  fin_cases a <;> rfl

/-- An entry of a sequence cut into chunks. -/
theorem cut128_at (X : FVec Ideal S4x8x4096x128 .f32) (c : Fin 64) (b : Fin 4) (h : Fin 8) (x : Fin 64) (d : Fin 128) :
    transpose S64x4x8x64x128 [2, 0, 1, 3, 4] (shapeCast S4x8x64x64x128 X shapeCasts_S4x8x4096x128_S4x8x64x64x128)
      transposes_S4x8x64x64x128_S64x4x8x64x128_2_0_1_3_4 (ix5 c b h x d) = X (ix4 b h ⟨c.val * 64 + x.val, by omega⟩ d) := by
  pointwise []

theorem cut256_at (X : FVec Ideal S4x8x4096x256 .f32) (c : Fin 64) (b : Fin 4) (h : Fin 8) (x : Fin 64) (d : Fin 256) :
    transpose S64x4x8x64x256 [2, 0, 1, 3, 4] (shapeCast S4x8x64x64x256 X shapeCasts_S4x8x4096x256_S4x8x64x64x256)
      transposes_S4x8x64x64x256_S64x4x8x64x256_2_0_1_3_4 (ix5 c b h x d) = X (ix4 b h ⟨c.val * 64 + x.val, by omega⟩ d) := by
  pointwise []

theorem qR_apply (hz : Real' z) (c : Fin 64) (b : Fin 4) (h : Fin 8) (x : Fin 64) (d : Fin 128) :
    qR z (ix5 c b h x d) = ((qb z b h (c.val * 64 + x.val) d * scale : ℝ) : EReal) := by
  refine (cut128_at _ c b h x d).trans ((rev4_at _ b h _ d).trans ?_)
  pointwise []
  rw [z_eq hz _ b _ (4095 - (c.val * 64 + x.val)) _ ⟨6144 + (h.val * 128 + d.val), by omega⟩ (by first | rfl | (dsimp only; omega)) (by first | rfl | (dsimp only; omega)) (by first | rfl | (dsimp only; omega)),
    ofBits_scale, ← EReal.coe_mul]
  rfl

theorem kR_apply (hz : Real' z) (c : Fin 64) (b : Fin 4) (h : Fin 8) (x : Fin 64) (d : Fin 128) :
    kR z (ix5 c b h x d) = ((kb z b h (c.val * 64 + x.val) d : ℝ) : EReal) := by
  refine (cut128_at _ c b h x d).trans ((rev4_at _ b h _ d).trans ?_)
  pointwise []
  exact z_eq hz _ b _ (4095 - (c.val * 64 + x.val)) _ ⟨7168 + (h.val * 128 + d.val), by omega⟩ (by first | rfl | (dsimp only; omega)) (by first | rfl | (dsimp only; omega)) (by first | rfl | (dsimp only; omega))

theorem vR_apply (hz : Real' z) (c : Fin 64) (b : Fin 4) (h : Fin 8) (x : Fin 64) (d : Fin 256) :
    vR z (ix5 c b h x d) = ((vb z b h (c.val * 64 + x.val) d : ℝ) : EReal) := by
  refine (cut256_at _ c b h x d).trans ((rev4_at _ b h _ d).trans ?_)
  pointwise []
  exact z_eq hz _ b _ (4095 - (c.val * 64 + x.val)) _ ⟨8192 + (h.val * 256 + d.val), by omega⟩ (by first | rfl | (dsimp only; omega)) (by first | rfl | (dsimp only; omega)) (by first | rfl | (dsimp only; omega))

theorem liR_apply (hz : Real' z) (hw : Real' w) (b : Fin 4) (h : Fin 8) (t : Fin 4096) (n : ℕ) (hn : t.val = 4095 - n) :
    liR z w (ix3 b h t) = ((lib z w b h n : ℝ) : EReal) := by
  rw [liR]
  generalize hg : Cert.ReferenceIdeal.Value.gR z w = g
  pointwise []
  rw [← hg, Cert.ReferenceIdeal.Value.gR_apply, z_eq hz _ b _ (4095 - n) _ ⟨12304 + h.val, by omega⟩ (by first | rfl | (dsimp only; omega)) hn (by first | rfl | (dsimp only; omega)), toReal_eq hw, ← EReal.coe_add]
  rfl

theorem fgR_apply (hz : Real' z) (hw : Real' w) (b : Fin 4) (h : Fin 8) (t : Fin 4096) (n : ℕ) (hn : t.val = 4095 - n) :
    fgR z w (ix3 b h t) = ((fgb z w b h n : ℝ) : EReal) := by
  rw [fgR]
  generalize hg : Cert.ReferenceIdeal.Value.gR z w = g
  pointwise []
  rw [← hg, Cert.ReferenceIdeal.Value.gR_apply, z_eq hz _ b _ (4095 - n) _ ⟨12312 + h.val, by omega⟩ (by first | rfl | (dsimp only; omega)) hn (by first | rfl | (dsimp only; omega)), toReal_eq hw, ← EReal.coe_add]
  rfl

/-- The chunks at the loop's entry. -/
theorem inputs_entry (hz : Real' (ZR m c)) (hw : Real' (GR m c)) : Inputs (entryContents preI m c) (lib (ZR m c) (GR m c))
    (fun b h => logsig ∘ fgb (ZR m c) (GR m c) b h) (fun b h t d => qb (ZR m c) b h t d * scale) (kb (ZR m c)) (vb (ZR m c)) where
  q := fun e b h x d => by rw [entry_q]; exact qR_apply hz e b h x d
  k := fun e b h x d => by rw [entry_k]; exact kR_apply hz e b h x d
  v := fun e b h x d => by rw [entry_v]; exact vR_apply hz e b h x d
  li := fun e b h x => by
    rw [entry_li]
    exact (Cert.ReferenceIdeal.Value.cut_apply _ e b h x).trans ((rev_apply _ b h _).trans (liR_apply hz hw b h _ _ rfl))
  lf := fun e b h x => by
    rw [entry_lf]
    exact (Cert.ReferenceIdeal.Value.cut_apply _ e b h x).trans ((rev_apply _ b h _).trans (Cert.ReferenceIdeal.Value.lfR_apply _ b h _ _ (fgR_apply hz hw b h _ _ rfl)))
  mask := fun i s => by rw [entry_mask]; exact Cert.ReferenceIdeal.Value.maskR_apply i s

/-- The state at the loop's entry. -/
theorem carried_entry (li lf : Fin 4 → Fin 8 → ℕ → ℝ) (k : Fin 4 → Fin 8 → ℕ → Fin 128 → ℝ) (v : Fin 4 → Fin 8 → ℕ → Fin 256 → ℝ) :
    Carried (entryContents preI m c) li lf k v 0 where
  ctr := ctr_entry m c
  C := fun b h d j => by
    rw [entry_C, Nat.zero_mul, Cst_zero, EReal.coe_zero]; pointwise []
  n := fun b h d => by
    rw [entry_n, Nat.zero_mul, Nst_zero, EReal.coe_zero]; pointwise []
  m := fun b h => by
    rw [entry_m, Nat.zero_mul, M_zero, EReal.coe_zero]; pointwise []

/-! ## The operations after the loop -/

/-- The forward outputs and the backward ones. -/
def joined (p : FVec Ideal S16384x2048 .f32) (X : FVec Ideal S64x4x8x64x256 .f32) : FVec Ideal S4x8x4096x256 .f32 :=
  addf (transpose S4x8x4096x256 [0, 2, 1, 3] (shapeCast S4x4096x8x256 (shapeCast S4x4096x2048 p shapeCasts_S16384x2048_S4x4096x2048)
    shapeCasts_S4x4096x2048_S4x4096x8x256) transposes_S4x4096x8x256_S4x8x4096x256_0_2_1_3)
    (Host.reverse [2] (shapeCast S4x8x4096x256 (transpose S4x8x64x64x256 [1, 2, 0, 3, 4] X transposes_S64x4x8x64x256_S4x8x64x64x256_1_2_0_3_4)
      shapeCasts_S4x8x64x64x256_S4x8x4096x256))

/-- The rows' means. -/
def meanR (f : FVec Ideal S4x8x4096x256 .f32) : FVec Ideal S4x8x4096x1 .f32 :=
  Host.divf (broadcastInDim S4x8x4096x1 ![0, 1, 2] bcast_S4x8x4096_S4x8x4096x1_0_1_2
    (Host.reduceAdd f (constant S_ .f32 0x00000000#32) reducesTo_S4x8x4096x256_S4x8x4096_d3 h_S_))
    (broadcastInDim S4x8x4096x1 ![] bcast_S_S4x8x4096x1 (constant S_ .f32 0x43800000#32))

/-- The rows without their means. -/
def centred (f : FVec Ideal S4x8x4096x256 .f32) : FVec Ideal S4x8x4096x256 .f32 :=
  subf f (broadcastInDim S4x8x4096x256 ![0, 1, 2, 3] bcast_S4x8x4096x1_S4x8x4096x256_0_1_2_3 (meanR f))

/-- The rows scaled by the inverse of their spread. -/
def normed (d : FVec Ideal S4x8x4096x256 .f32) (s : FVec Ideal S4x8x4096x1 .f32) : FVec Ideal S4x8x4096x256 .f32 :=
  mulf d (broadcastInDim S4x8x4096x256 ![0, 1, 2, 3] bcast_S4x8x4096x1_S4x8x4096x256_0_1_2_3 (Host.rsqrt (addf s
    (broadcastInDim S4x8x4096x1 ![] bcast_S_S4x8x4096x1 (constant S_ .f32 0x3727C5AC#32)))))

/-- The output gate. -/
def sigR (z : FVec Ideal S4x4096x20512 .f32) : FVec Ideal S4x4096x2048 .f32 :=
  Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf
      (extractStridedSlice S4x4096x2048 ![0, 0, 10240] z slices_S4x4096x20512_S4x4096x2048_0_0_10240))))

/-- The gated rows. -/
def outR (s : FVec Ideal S4x4096x2048 .f32) (f : FVec Ideal S4x8x4096x256 .f32) (g : FVec Ideal S2048 .f32) : FVec Ideal S16384x2048 .bf16 :=
  truncf .bf16 (shapeCast S16384x2048 (mulf s (mulf (shapeCast S4x4096x2048 (transpose S4x4096x8x256 [0, 2, 1, 3] f
    transposes_S4x8x4096x256_S4x4096x8x256_0_2_1_3) shapeCasts_S4x4096x8x256_S4x4096x2048)
    (broadcastInDim S4x4096x2048 ![0, 1, 2] bcast_S1x1x2048_S4x4096x2048_0_1_2 (broadcastInDim S1x1x2048 ![2] bcast_S2048_S1x1x2048_2 g))))
    shapeCasts_S4x4096x2048_S16384x2048) bitsLt_bf16_f32

theorem joined_at (p : FVec Ideal S16384x2048 .f32) (X : FVec Ideal S64x4x8x64x256 .f32) (b : Fin 4) (h : Fin 8) (t : Fin 4096) (j : Fin 256)
    (r : Fin 16384) (col : Fin 2048) (e x : Fin 64) (hr : r.val = b.val * 4096 + t.val) (hcol : col.val = h.val * 256 + j.val)
    (ht : 4095 - t.val = e.val * 64 + x.val) : joined p X (ix4 b h t j) = p (ix2 r col) + X (ix5 e b h x j) := by
  refine congrArg₂ (· + ·) ?_ ((rev4_at _ b h t j).trans ?_)
  · pointwise []
    refine congrArg p ((ix2_inj ..).2 ⟨Fin.ext ?_, Fin.ext ?_⟩) <;> dsimp only <;> omega
  · pointwise []
    refine congrArg X ((ix5_inj ..).2 ⟨Fin.ext ?_, Fin.ext ?_, Fin.ext ?_, Fin.ext ?_, Fin.ext ?_⟩) <;> dsimp only <;> omega

theorem meanR_at (f : FVec Ideal S4x8x4096x256 .f32) (b : Fin 4) (h : Fin 8) (t : Fin 4096) :
    meanR f (ix4 b h t 0) = mean fun x => f (ix4 b h t x) := by
  pointwise [meanR]
  rfl

theorem centred_at (f : FVec Ideal S4x8x4096x256 .f32) (b : Fin 4) (h : Fin 8) (t : Fin 4096) (j : Fin 256) :
    centred f (ix4 b h t j) = f (ix4 b h t j) - mean fun x => f (ix4 b h t x) := by
  rw [← meanR_at, centred]
  generalize meanR f = g
  pointwise []

theorem normed_at (d : FVec Ideal S4x8x4096x256 .f32) (s : FVec Ideal S4x8x4096x1 .f32) (b : Fin 4) (h : Fin 8) (t : Fin 4096) (j : Fin 256) :
    normed d s (ix4 b h t j) = d (ix4 b h t j) * Ideal.rsqrt (s (ix4 b h t 0) + Ideal.ofBits .f32 0x3727C5AC#32) := by
  pointwise [normed]

theorem sigR_at (z : FVec Ideal S4x4096x20512 .f32) (b : Fin 4) (t : Fin 4096) (col : Fin 2048) :
    sigR z (ix3 b t col) = Ideal.logistic (z (ix3 b t ⟨10240 + col.val, by omega⟩)) := by
  pointwise [sigR]
  rfl

theorem outR_at (s : FVec Ideal S4x4096x2048 .f32) (f : FVec Ideal S4x8x4096x256 .f32) (g : FVec Ideal S2048 .f32) (b : Fin 4) (h : Fin 8)
    (t : Fin 4096) (j : Fin 256) (r : Fin 16384) (col : Fin 2048) (hr : r.val = b.val * 4096 + t.val) (hcol : col.val = h.val * 256 + j.val) :
    outR s f g (ix2 r col) = s (ix3 b t col) * (f (ix4 b h t j) * g (ix1 col)) := by
  pointwise [outR]
  refine congrArg₂ (· * ·) (congrArg s ((ix3_inj ..).2 ⟨Fin.ext ?_, Fin.ext ?_, Fin.ext ?_⟩)) (congrArg₂ (· * ·)
    (congrArg f ((ix4_inj ..).2 ⟨Fin.ext ?_, Fin.ext ?_, Fin.ext ?_, Fin.ext ?_⟩)) (congrArg g ((ix1_inj ..).2 (Fin.ext ?_)))) <;> dsimp only <;> omega

theorem out_eq (V0 : Valuation τ sig (Elt Ideal)) : (out_main_v83 V0 : FVec Ideal S16384x2048 .bf16)
    = outR (sigR (V0 (Proc.devRef .tc main_arg0))) (normed
      (centred (joined (V0 (Proc.devRef .tc main_arg2)) (V0 (Proc.devRef .tc main_v43_10))))
      (meanR (mulf (centred (joined (V0 (Proc.devRef .tc main_arg2)) (V0 (Proc.devRef .tc main_v43_10))))
        (centred (joined (V0 (Proc.devRef .tc main_arg2)) (V0 (Proc.devRef .tc main_v43_10)))))))
      (V0 (Proc.devRef .tc main_arg3)) := rfl

/-- An entry of the result, where the joined outputs of its row are `f`. -/
theorem out_at (z : FVec Ideal S4x4096x20512 .f32) (J : FVec Ideal S4x8x4096x256 .f32) (g : FVec Ideal S2048 .f32) (b : Fin 4) (h : Fin 8)
    (t : Fin 4096) (j : Fin 256) (r : Fin 16384) (col : Fin 2048) (hr : r.val = b.val * 4096 + t.val) (hcol : col.val = h.val * 256 + j.val)
    (f : Fin 256 → EReal) (hf : ∀ x, J (ix4 b h t x) = f x) :
    outR (sigR z) (normed (centred J) (meanR (mulf (centred J) (centred J)))) g (ix2 r col)
      = gated f (g (ix1 col)) (z (ix3 b t ⟨10240 + col.val, by omega⟩)) j := by
  have e : (fun x => J (ix4 b h t x)) = f := funext hf
  have ec : ∀ x, centred J (ix4 b h t x) = f x - mean f := fun x => by rw [centred_at, hf, e]
  rw [outR_at _ _ _ b h t j r col hr hcol, sigR_at, normed_at, meanR_at, ec]
  have es : (fun x => mulf (centred J) (centred J) (ix4 b h t x)) = fun x => (f x - mean f) * (f x - mean f) :=
    funext fun x => congrArg₂ (· * ·) (ec x) (ec x)
  rw [es]
  rfl

/-- The operations after the loop, on the recurrence's outputs. -/
theorem out_of (z : FVec Ideal SZ .f32) (w : FVec Ideal SB .f32) (p : FVec Ideal SO .f32) (g : FVec Ideal SG .f32) (X : FVec Ideal S64x4x8x64x256 .f32)
    (hX : ∀ (e : Fin 64) (b : Fin 4) (h : Fin 8) (x : Fin 64) (j : Fin 256), X (ix5 e b h x j)
      = ((H (lib z w b h) (logsig ∘ fgb z w b h) (qb z b h) (kb z b h) (vb z b h) scale (e.val * 64 + x.val) j : ℝ) : EReal)) (i : S16384x2048.Idx) :
    outR (sigR z) (normed (centred (joined p X)) (meanR (mulf (centred (joined p X)) (centred (joined p X))))) g i = OUTB z w p g i := by
  generalize hJ : joined p X = J
  idx_vars i
  have h0 : i0.val < 16384 := i0.isLt
  have h1 : i1.val < 2048 := i1.isLt
  refine Eq.trans ?_ (OUTB_apply z w p g ⟨i0.val / 4096, by omega⟩ ⟨i1.val / 256, by omega⟩ ⟨i0.val % 4096, by omega⟩ ⟨i1.val % 256, by omega⟩ i0 i1
    (by dsimp only; omega) (by dsimp only; omega)).symm
  refine out_at z J g ⟨i0.val / 4096, by omega⟩ ⟨i1.val / 256, by omega⟩ ⟨i0.val % 4096, by omega⟩ ⟨i1.val % 256, by omega⟩ i0 i1
    (by dsimp only; omega) (by dsimp only; omega) _ fun x => ?_
  rw [← hJ]
  refine (joined_at p X _ ⟨i1.val / 256, by omega⟩ _ x i0 ⟨i1.val / 256 * 256 + x.val, by omega⟩ ⟨(4095 - i0.val % 4096) / 64, by omega⟩
    ⟨(4095 - i0.val % 4096) % 64, by omega⟩ (by dsimp only; omega) rfl (by dsimp only; omega)).trans ?_
  rw [hX, hb, add_comm]
  have e : (4095 - i0.val % 4096) / 64 * 64 + (4095 - i0.val % 4096) % 64 = 4095 - i0.val % 4096 := by omega
  simp only [e]

/-- The outputs of all trips. -/
theorem trips (hz : Real' (ZR m c)) (hw : Real' (GR m c)) (e : Fin 64) (b : Fin 4) (h : Fin 8) (x : Fin 64) (j : Fin 256) :
    (STEP^[64] (entryContents preI m c) (Proc.devRef .tc main_v43_10) : FVec Ideal S64x4x8x64x256 .f32) (ix5 e b h x j)
      = ((H (lib (ZR m c) (GR m c) b h) (logsig ∘ fgb (ZR m c) (GR m c) b h) (qb (ZR m c) b h) (kb (ZR m c) b h) (vb (ZR m c) b h) scale
        (e.val * 64 + x.val) j : ℝ) : EReal) := by
  rw [(after_trips (inputs_entry m c hz hw) (carried_entry m c _ _ _ _) 64 le_rfl).2.2 _ _ _ _ _ (by omega), Cert.ReferenceIdeal.Value.H_scale]

/-- The result is both directions' outputs of all heads, normalised and gated. -/
theorem ref_final (hz : Real' (ZR m c)) (hw : Real' (GR m c)) :
    (out_main_v83 (STEP^[64] (entryContents preI m c)) : FVec Ideal S16384x2048 .bf16) = OUTB (ZR m c) (GR m c) (PR m c) (NR m c) := by
  have hX := trips m c hz hw
  have a0 := iter_main_arg0 m c 64
  have a2 := iter_main_arg2 m c 64
  have a3 := iter_main_arg3 m c 64
  revert hX a0 a2 a3
  generalize STEP^[64] (entryContents preI m c) = V0
  intro hX a0 a2 a3
  rw [out_eq, a0, a2, a3]
  exact funext (out_of (ZR m c) (GR m c) (PR m c) (NR m c) _ hX)

end Cert.BwdReferenceIdeal.Value

end
-- ==== Proof.BwdValue.lean ====
/-
  The kernel and the reference of the backward recurrence leave the same array where every entry of the projection and every
  gate bias is a real number.
-/
module

public import proofs.«01_k».proof.Defs
public import proofs.«01_k».proof.Proof.BwdFinal
public import proofs.«01_k».proof.Proof.BwdRefValue
public import proofs.«01_k».proof.Proof.KernelValue

@[expose] public section

noncomputable section

namespace Cert.Recur

open Idealize.ShloMosaic

/-- The precondition says that every entry of the projection and every gate bias is a real number. -/
theorem real_of_pre_bwd [Cert.Pre_finite_bwd.Facts] (z : FVec Ideal SZ .f32) (w : FVec Ideal SB .f32) (p : FVec Ideal SO .f32) (g : FVec Ideal SG .f32)
    (h : (Cert.Pre_finite_bwd.fn (F := Ideal) z w p g).1 = (fun _ => 1#1) ∧ (Cert.Pre_finite_bwd.fn (F := Ideal) z w p g).2 = (fun _ => 1#1)) :
    Real' z ∧ Real' w :=
  ⟨fun i => real_of_cmp (congrFun h.1 i), fun i => real_of_cmp (congrFun h.2 i)⟩

/-- The reference's array is the kernel's: both are the outputs of all heads, normalised and gated. -/
theorem final_eq_bwd (mk : (ℓ : Loc Cert.BwdIdeal.nD Cert.BwdIdeal.τ Cert.BwdIdeal.sig) → Buf (Elt Ideal) ℓ)
    (mr : (ℓ : Loc Cert.BwdReferenceIdeal.nD Cert.BwdReferenceIdeal.τ Cert.BwdReferenceIdeal.sig) → Buf (Elt Ideal) ℓ)
    (c : Dev Cert.BwdIdeal.nD) (hz : Real' (Cert.BwdIdeal.Value.Z mk c)) (hw : Real' (Cert.BwdIdeal.Value.G mk c))
    (ez : Cert.BwdReferenceIdeal.Value.ZR mr c = Cert.BwdIdeal.Value.Z mk c)
    (ew : Cert.BwdReferenceIdeal.Value.GR mr c = Cert.BwdIdeal.Value.G mk c)
    (ep : Cert.BwdReferenceIdeal.Value.PR mr c = Cert.BwdIdeal.Value.P mk c)
    (eg : Cert.BwdReferenceIdeal.Value.NR mr c = Cert.BwdIdeal.Value.NG mk c) :
    (Cert.BwdReferenceIdeal.Value.out_main_v83 (Cert.BwdReferenceIdeal.Value.STEP^[64]
        (StableHlo.entryContents Cert.BwdReferenceIdeal.Value.preI mr c)) : FVec Ideal SO .bf16)
      = (Cert.BwdIdeal.Gen.dats mk 0 c).arrAt 10 (Cert.BwdIdeal.cfgs 0).N := by
  refine (Cert.BwdReferenceIdeal.Value.ref_final mr c (ez ▸ hz) (ew ▸ hw)).trans ?_
  rw [ez, ew, ep, eg]
  exact (Cert.BwdIdeal.Value.final mk c hz hw).symm

end Cert.Recur

end
-- ==== Proof.lean ====
/- The proof of the claim: the frames of every program, and what each call of the layer computes.
   The mathematics is in the value modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Hy
public import proofs.«01_k».proof.Proof.Gen.Hy.Skeleton
public import proofs.«01_k».proof.Proof.Gen.Hy.Launch
public import proofs.«01_k».proof.Proof.Gen.Hy.Points
public import proofs.«01_k».proof.Proof.Gen.Hy.Frame
public import proofs.«01_k».proof.Proof.Gen.HyIdeal
public import proofs.«01_k».proof.Proof.Gen.HyIdeal.Skeleton
public import proofs.«01_k».proof.Proof.Gen.HyIdeal.Launch
public import proofs.«01_k».proof.Proof.Gen.HyIdeal.Points
public import proofs.«01_k».proof.Proof.Gen.HyIdeal.Frame
public import proofs.«01_k».proof.Proof.Gen.HyIdeal.Value
public import proofs.«01_k».proof.Proof.Gen.HyReferenceIdeal
public import proofs.«01_k».proof.Proof.Gen.HyReferenceIdeal.Run
public import proofs.«01_k».proof.Proof.Gen.Ml
public import proofs.«01_k».proof.Proof.Gen.Ml.Skeleton
public import proofs.«01_k».proof.Proof.Gen.Ml.Launch
public import proofs.«01_k».proof.Proof.Gen.Ml.Points
public import proofs.«01_k».proof.Proof.Gen.Ml.Frame
public import proofs.«01_k».proof.Proof.Gen.MlIdeal
public import proofs.«01_k».proof.Proof.Gen.MlIdeal.Skeleton
public import proofs.«01_k».proof.Proof.Gen.MlIdeal.Launch
public import proofs.«01_k».proof.Proof.Gen.MlIdeal.Points
public import proofs.«01_k».proof.Proof.Gen.MlIdeal.Frame
public import proofs.«01_k».proof.Proof.Gen.MlIdeal.Value
public import proofs.«01_k».proof.Proof.Gen.MlReferenceIdeal
public import proofs.«01_k».proof.Proof.Gen.MlReferenceIdeal.Run
public import proofs.«01_k».proof.Proof.Gen.Gt
public import proofs.«01_k».proof.Proof.Gen.Gt.Skeleton
public import proofs.«01_k».proof.Proof.Gen.Gt.Launch
public import proofs.«01_k».proof.Proof.Gen.Gt.Points
public import proofs.«01_k».proof.Proof.Gen.Gt.Frame
public import proofs.«01_k».proof.Proof.Gen.GtIdeal
public import proofs.«01_k».proof.Proof.Gen.GtIdeal.Skeleton
public import proofs.«01_k».proof.Proof.Gen.GtIdeal.Launch
public import proofs.«01_k».proof.Proof.Gen.GtIdeal.Points
public import proofs.«01_k».proof.Proof.Gen.GtIdeal.Frame
public import proofs.«01_k».proof.Proof.Gen.GtIdeal.Value
public import proofs.«01_k».proof.Proof.Gen.GtReferenceIdeal
public import proofs.«01_k».proof.Proof.Gen.GtReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.If
public import proofs.«01_k».proof.Proof.Gen.If.Skeleton
public import proofs.«01_k».proof.Proof.Gen.If.Launch
public import proofs.«01_k».proof.Proof.Gen.If.Points
public import proofs.«01_k».proof.Proof.Gen.If.Frame
public import proofs.«01_k».proof.Proof.Gen.IfIdeal
public import proofs.«01_k».proof.Proof.Gen.IfIdeal.Skeleton
public import proofs.«01_k».proof.Proof.Gen.IfIdeal.Launch
public import proofs.«01_k».proof.Proof.Gen.IfIdeal.Points
public import proofs.«01_k».proof.Proof.Gen.IfIdeal.Frame
public import proofs.«01_k».proof.Proof.Gen.IfIdeal.Value
public import proofs.«01_k».proof.Proof.Gen.IfReferenceIdeal
public import proofs.«01_k».proof.Proof.Gen.IfReferenceIdeal.Run
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdIdeal.Value
public import proofs.«01_k».proof.Proof.Gen.BwdReferenceIdeal
public import proofs.«01_k».proof.Proof.Gen.BwdReferenceIdeal.Run
public import proofs.«01_k».proof.Proof.Gen.Filt
public import proofs.«01_k».proof.Proof.Gen.Filt.Skeleton
public import proofs.«01_k».proof.Proof.Gen.Filt.Launch
public import proofs.«01_k».proof.Proof.Gen.Filt.Points
public import proofs.«01_k».proof.Proof.Gen.Filt.Frame
public import proofs.«01_k».proof.Proof.Gen.FiltIdeal
public import proofs.«01_k».proof.Proof.Gen.FiltIdeal.Skeleton
public import proofs.«01_k».proof.Proof.Gen.FiltIdeal.Launch
public import proofs.«01_k».proof.Proof.Gen.FiltIdeal.Points
public import proofs.«01_k».proof.Proof.Gen.FiltIdeal.Frame
public import proofs.«01_k».proof.Proof.Gen.FiltIdeal.Value
public import proofs.«01_k».proof.Proof.Gen.FiltReferenceIdeal
public import proofs.«01_k».proof.Proof.Gen.FiltReferenceIdeal.Run
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnReferenceIdeal
public import proofs.«01_k».proof.Proof.Gen.LnReferenceIdeal.Run
public import proofs.«01_k».proof.Proof.Gen.Pre_finite
public import proofs.«01_k».proof.Proof.Gen.Pre_finite_bwd
public import proofs.«01_k».proof.Proof.Gen.Pre_finite_filt
public import proofs.«01_k».proof.Proof.FiltRefValue
public import proofs.«01_k».proof.Proof.LnValue
public import proofs.«01_k».proof.Proof.HyValue
public import proofs.«01_k».proof.Proof.MlValue
public import proofs.«01_k».proof.Proof.GtValue
public import proofs.«01_k».proof.Proof.MergeValue
public import proofs.«01_k».proof.Proof.OutValue
public import proofs.«01_k».proof.Proof.IfValue
public import proofs.«01_k».proof.Proof.BwdValue
public import proofs.«01_k».proof.Proof.KernelValue
public import Idealize.ShloMosaic.Adequacy
public import Idealize.ShloMosaic.Init

@[expose] public section

noncomputable section

namespace Cert.Proof

open Idealize.ShloMosaic Idealize.SL.Sem

set_option backward.isDefEq.respectTransparency false in
/-- The reference of the recurrence runs and leaves its arguments. -/
theorem reference_Kernel : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

set_option backward.isDefEq.respectTransparency false in
/-- The reference of this call runs and leaves its arguments. -/
theorem reference_Hy : quiescent_HyReferenceIdeal (hHyReferenceIdeal := Cert.HyReferenceIdeal.Gen.facts) := fun m g _ =>
  (θ_run _ _ _).mono (fun r h => ⟨fun c => (h c).2, sem_eq_zero_of_no_sems rfl r.2⟩) (Cert.HyReferenceIdeal.Value.run m g)

set_option backward.isDefEq.respectTransparency false in
/-- The two programs of this call leave the same array. -/
theorem algebraic_Hy : algebraic_HyIdeal_HyReferenceIdeal (hHyIdeal := Cert.HyIdeal.Gen.facts) (hHyReferenceIdeal := Cert.HyReferenceIdeal.Gen.facts) := by
  pair_intro
  · run_from Cert.HyIdeal.Gen.run_main m g
  · hlo_run
    exact (Cert.HyIdeal.Value.final m c).symm

set_option backward.isDefEq.respectTransparency false in
/-- The reference of this call runs and leaves its arguments. -/
theorem reference_Ml : quiescent_MlReferenceIdeal (hMlReferenceIdeal := Cert.MlReferenceIdeal.Gen.facts) := fun m g _ =>
  (θ_run _ _ _).mono (fun r h => ⟨fun c => (h c).2, sem_eq_zero_of_no_sems rfl r.2⟩) (Cert.MlReferenceIdeal.Value.run m g)

set_option backward.isDefEq.respectTransparency false in
/-- The two programs of this call leave the same array. -/
theorem algebraic_Ml : algebraic_MlIdeal_MlReferenceIdeal (hMlIdeal := Cert.MlIdeal.Gen.facts) (hMlReferenceIdeal := Cert.MlReferenceIdeal.Gen.facts) := by
  pair_intro
  · run_from Cert.MlIdeal.Gen.run_main m g
  · hlo_run
    exact (Cert.MlIdeal.Value.final m c).symm

set_option backward.isDefEq.respectTransparency false in
/-- The reference of this call runs and leaves its arguments. -/
theorem reference_Gt : quiescent_GtReferenceIdeal (hGtReferenceIdeal := Cert.GtReferenceIdeal.Gen.facts) := fun m g _ =>
  (θ_run _ _ _).mono (fun r h => ⟨fun c => (h c).2, sem_eq_zero_of_no_sems rfl r.2⟩) (Cert.GtReferenceIdeal.Value.run m g)

set_option backward.isDefEq.respectTransparency false in
/-- The two programs of this call leave the same array. -/
theorem algebraic_Gt : algebraic_GtIdeal_GtReferenceIdeal (hGtIdeal := Cert.GtIdeal.Gen.facts) (hGtReferenceIdeal := Cert.GtReferenceIdeal.Gen.facts) := by
  pair_intro
  · run_from Cert.GtIdeal.Gen.run_main m g
  · hlo_run
    exact (Cert.GtIdeal.Value.final m c).symm

set_option backward.isDefEq.respectTransparency false in
/-- The reference of this call runs and leaves its arguments. -/
theorem reference_Merge : quiescent_MergeReferenceIdeal (hMergeReferenceIdeal := Cert.MergeReferenceIdeal.Gen.facts) := fun m g _ =>
  (θ_run _ _ _).mono (fun r h => ⟨fun c => (h c).2, sem_eq_zero_of_no_sems rfl r.2⟩) (Cert.MergeReferenceIdeal.Value.run m g)

set_option backward.isDefEq.respectTransparency false in
/-- The two programs of this call leave the same array. -/
theorem algebraic_Merge : algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · hlo_run
    exact (Cert.MergeIdeal.Value.final m c).symm

set_option backward.isDefEq.respectTransparency false in
/-- The reference of this call runs and leaves its arguments. -/
theorem reference_Out : quiescent_OutReferenceIdeal (hOutReferenceIdeal := Cert.OutReferenceIdeal.Gen.facts) := fun m g _ =>
  (θ_run _ _ _).mono (fun r h => ⟨fun c => (h c).2, sem_eq_zero_of_no_sems rfl r.2⟩) (Cert.OutReferenceIdeal.Value.run m g)

set_option backward.isDefEq.respectTransparency false in
/-- The two programs of this call leave the same array. -/
theorem algebraic_Out : algebraic_OutIdeal_OutReferenceIdeal (hOutIdeal := Cert.OutIdeal.Gen.facts) (hOutReferenceIdeal := Cert.OutReferenceIdeal.Gen.facts) := by
  pair_intro
  · run_from Cert.OutIdeal.Gen.run_main m g
  · hlo_run
    exact (Cert.OutIdeal.Value.final m c).symm

set_option backward.isDefEq.respectTransparency false in
/-- The reference of this call runs and leaves its arguments. -/
theorem reference_If : quiescent_IfReferenceIdeal (hIfReferenceIdeal := Cert.IfReferenceIdeal.Gen.facts) := fun m g _ =>
  (θ_run _ _ _).mono (fun r h => ⟨fun c => (h c).2, sem_eq_zero_of_no_sems rfl r.2⟩) (Cert.IfReferenceIdeal.Value.run m g)

set_option backward.isDefEq.respectTransparency false in
/-- The two programs of this call leave the same array. -/
theorem algebraic_If : algebraic_IfIdeal_IfReferenceIdeal (hIfIdeal := Cert.IfIdeal.Gen.facts) (hIfReferenceIdeal := Cert.IfReferenceIdeal.Gen.facts) := by
  pair_intro
  · run_from Cert.IfIdeal.Gen.run_main m g
  · hlo_run
    exact (Cert.IfIdeal.Value.final m c).symm

set_option backward.isDefEq.respectTransparency false in
/-- The reference of this call runs and leaves its arguments. -/
theorem reference_Ln : quiescent_LnReferenceIdeal (hLnReferenceIdeal := Cert.LnReferenceIdeal.Gen.facts) := fun m g _ =>
  (θ_run _ _ _).mono (fun r h => ⟨fun c => (h c).2, sem_eq_zero_of_no_sems rfl r.2⟩) (Cert.LnReferenceIdeal.Value.run m g)

set_option backward.isDefEq.respectTransparency false in
/-- The two programs of this call leave the same array. -/
theorem algebraic_Ln : algebraic_LnIdeal_LnReferenceIdeal (hLnIdeal := Cert.LnIdeal.Gen.facts) (hLnReferenceIdeal := Cert.LnReferenceIdeal.Gen.facts) := by
  pair_intro
  · run_from Cert.LnIdeal.Value.run_blocks m g
  · hlo_run
    exact (Cert.LnIdeal.Value.final m c).symm

set_option backward.isDefEq.respectTransparency false in
/-- The kernel and the reference of the recurrence leave the same array. -/
theorem algebraic_Kernel : algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · refine (θ_run _ _ _).mono (fun r h c => ⟨(h c).1.trans ?_, (h c).2⟩) (Cert.ReferenceIdeal.Value.run m' g')
    have hc := hagree c
    have hr := Cert.Recur.real_of_pre _ _ (hpre c)
    exact Cert.Recur.final_eq m m' c hr.1 hr.2 hc.1 hc.2

set_option backward.isDefEq.respectTransparency false in
/-- The reference of the backward recurrence runs and leaves its arguments. -/
theorem reference_Bwd : quiescent_BwdReferenceIdeal (hBwdReferenceIdeal := Cert.BwdReferenceIdeal.Gen.facts) := fun m g _ =>
  (θ_run _ _ _).mono (fun r h => ⟨fun c => (h c).2, sem_eq_zero_of_no_sems rfl r.2⟩) (Cert.BwdReferenceIdeal.Value.run m g)

set_option backward.isDefEq.respectTransparency false in
/-- The kernel and the reference of the backward recurrence leave the same array. -/
theorem algebraic_Bwd : algebraic_BwdIdeal_BwdReferenceIdeal_pre_finite_bwd (hBwdIdeal := Cert.BwdIdeal.Gen.facts)
    (hBwdReferenceIdeal := Cert.BwdReferenceIdeal.Gen.facts) (hPre_finite_bwd := Cert.Pre_finite_bwd.Gen.facts) := by
  pair_intro
  · run_from Cert.BwdIdeal.Gen.run_main m g
  · refine (θ_run _ _ _).mono (fun r h c => ⟨(h c).1.trans ?_, (h c).2⟩) (Cert.BwdReferenceIdeal.Value.run m' g')
    have hc := hagree c
    have hr := Cert.Recur.real_of_pre_bwd _ _ _ _ (hpre c)
    exact Cert.Recur.final_eq_bwd m m' c hr.1 hr.2 hc.1 hc.2.1 hc.2.2.1 hc.2.2.2

set_option backward.isDefEq.respectTransparency false in
/-- The reference of the filters runs and leaves its arguments. -/
theorem reference_Filt : quiescent_FiltReferenceIdeal (hFiltReferenceIdeal := Cert.FiltReferenceIdeal.Gen.facts) := fun m g _ =>
  (θ_run _ _ _).mono (fun r h => ⟨fun c => (h c).2, sem_eq_zero_of_no_sems rfl r.2⟩) (Cert.FiltReferenceIdeal.Value.run m g)

set_option backward.isDefEq.respectTransparency false in
/-- The kernel and the reference of the filters leave the same array. -/
theorem algebraic_Filt : algebraic_FiltIdeal_FiltReferenceIdeal_pre_finite_filt (hFiltIdeal := Cert.FiltIdeal.Gen.facts)
    (hFiltReferenceIdeal := Cert.FiltReferenceIdeal.Gen.facts) (hPre_finite_filt := Cert.Pre_finite_filt.Gen.facts) := by
  pair_intro
  · run_from Cert.FiltIdeal.Value.run_blocks m g
  · refine (θ_run _ _ _).mono (fun r h c => ⟨(h c).1.trans ?_, (h c).2⟩) (Cert.FiltReferenceIdeal.Value.run m' g')
    have hc := hagree c
    have hr := Cert.FiltReferenceIdeal.Value.real_of_pre _ _ _ (hpre c)
    exact Cert.FiltReferenceIdeal.Value.final_eq m' m c hr.1 hr.2 hc.1 hc.2.1 hc.2.2

/-- Every conjunct of the claim. -/
theorem claim : Cert.Claim := ⟨Cert.Kernel.Gen.facts, Cert.KernelIdeal.Gen.facts, Cert.ReferenceIdeal.Gen.facts, Cert.Hy.Gen.facts, Cert.HyIdeal.Gen.facts, Cert.HyReferenceIdeal.Gen.facts, Cert.Ml.Gen.facts, Cert.MlIdeal.Gen.facts, Cert.MlReferenceIdeal.Gen.facts, Cert.Gt.Gen.facts, Cert.GtIdeal.Gen.facts, Cert.GtReferenceIdeal.Gen.facts, Cert.Merge.Gen.facts, Cert.MergeIdeal.Gen.facts, Cert.MergeReferenceIdeal.Gen.facts, Cert.Out.Gen.facts, Cert.OutIdeal.Gen.facts, Cert.OutReferenceIdeal.Gen.facts, Cert.If.Gen.facts, Cert.IfIdeal.Gen.facts, Cert.IfReferenceIdeal.Gen.facts, Cert.Bwd.Gen.facts, Cert.BwdIdeal.Gen.facts, Cert.BwdReferenceIdeal.Gen.facts, Cert.Filt.Gen.facts, Cert.FiltIdeal.Gen.facts, Cert.FiltReferenceIdeal.Gen.facts, Cert.Ln.Gen.facts, Cert.LnIdeal.Gen.facts, Cert.LnReferenceIdeal.Gen.facts, Cert.Pre_finite.Gen.facts, Cert.Pre_finite_bwd.Gen.facts, Cert.Pre_finite_filt.Gen.facts,
  fun m ρ _ => Cert.Kernel.Gen.frame m ρ,
  fun m ρ _ => Cert.KernelIdeal.Gen.frame m ρ,
  fun m ρ _ => Cert.KernelIdeal.Gen.frame m ρ,
  reference_Kernel,
  fun m g _ => reference_Kernel m g trivial,
  fun m ρ _ => Cert.Hy.Gen.frame m ρ,
  fun m ρ _ => Cert.HyIdeal.Gen.frame m ρ,
  reference_Hy,
  fun m ρ _ => Cert.Ml.Gen.frame m ρ,
  fun m ρ _ => Cert.MlIdeal.Gen.frame m ρ,
  reference_Ml,
  fun m ρ _ => Cert.Gt.Gen.frame m ρ,
  fun m ρ _ => Cert.GtIdeal.Gen.frame m ρ,
  reference_Gt,
  fun m ρ _ => Cert.Merge.Gen.frame m ρ,
  fun m ρ _ => Cert.MergeIdeal.Gen.frame m ρ,
  reference_Merge,
  fun m ρ _ => Cert.Out.Gen.frame m ρ,
  fun m ρ _ => Cert.OutIdeal.Gen.frame m ρ,
  reference_Out,
  fun m ρ _ => Cert.If.Gen.frame m ρ,
  fun m ρ _ => Cert.IfIdeal.Gen.frame m ρ,
  reference_If,
  fun m ρ _ => Cert.Bwd.Gen.frame m ρ,
  fun m ρ _ => Cert.BwdIdeal.Gen.frame m ρ,
  fun m ρ _ => Cert.BwdIdeal.Gen.frame m ρ,
  reference_Bwd,
  fun m g _ => reference_Bwd m g trivial,
  fun m ρ _ => Cert.Filt.Gen.frame m ρ,
  fun m ρ _ => Cert.FiltIdeal.Gen.frame m ρ,
  fun m ρ _ => Cert.FiltIdeal.Gen.frame m ρ,
  reference_Filt,
  fun m g _ => reference_Filt m g trivial,
  fun m ρ _ => Cert.Ln.Gen.frame m ρ,
  fun m ρ _ => Cert.LnIdeal.Gen.frame m ρ,
  reference_Ln,
  trivial,
  algebraic_Kernel,
  trivial,
  algebraic_Hy,
  trivial,
  algebraic_Ml,
  trivial,
  algebraic_Gt,
  trivial,
  algebraic_Merge,
  trivial,
  algebraic_Out,
  trivial,
  algebraic_If,
  trivial,
  algebraic_Bwd,
  trivial,
  algebraic_Filt,
  trivial,
  algebraic_Ln⟩

end Cert.Proof

end
